-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptReferenceIdeal (m : (ℓ : Loc Cert.NormPromptReferenceIdeal.nD Cert.NormPromptReferenceIdeal.τ Cert.NormPromptReferenceIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleReferenceIdeal (m : (ℓ : Loc Cert.NormSampleReferenceIdeal.nD Cert.NormSampleReferenceIdeal.τ Cert.NormSampleReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvReferenceIdeal (m : (ℓ : Loc Cert.ProjKvReferenceIdeal.nD Cert.ProjKvReferenceIdeal.τ Cert.ProjKvReferenceIdeal.sig) → Buf (Elt Ideal) ℓ) : Prop :=
  True

def Pre_ProjGlu (m : (ℓ : Loc Cert.ProjGlu.nD Cert.ProjGlu.τ Cert.ProjGlu.sig) → Buf (Elt Bits) ℓ) : Prop :=
  True

def Pre_ProjGluIdeal (m : (ℓ : Loc Cert.ProjGluIdeal.nD Cert.ProjGluIdeal.τ Cert.ProjGluIdeal.sig) → Buf (Elt Ideal) ℓ) : Prop :=
  True

def Pre_ProjGluReferenceIdeal (m : (ℓ : Loc Cert.ProjGluReferenceIdeal.nD Cert.ProjGluReferenceIdeal.τ Cert.ProjGluReferenceIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleReferenceIdeal (m : (ℓ : Loc Cert.ConvSampleReferenceIdeal.nD Cert.ConvSampleReferenceIdeal.τ Cert.ConvSampleReferenceIdeal.sig) → Buf (Elt Ideal) ℓ) : Prop :=
  True

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleReferenceIdeal (m : (ℓ : Loc Cert.AttnSampleReferenceIdeal.nD Cert.AttnSampleReferenceIdeal.τ Cert.AttnSampleReferenceIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQReferenceIdeal (m : (ℓ : Loc Cert.ProjQReferenceIdeal.nD Cert.ProjQReferenceIdeal.τ Cert.ProjQReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ r.2.sem = fun _ => 0)

def quiescent_NormPromptReferenceIdeal [hNormPromptReferenceIdeal : Cert.NormPromptReferenceIdeal.Facts] : Prop :=
  ∀ (m : (ℓ : Loc Cert.NormPromptReferenceIdeal.nD Cert.NormPromptReferenceIdeal.τ Cert.NormPromptReferenceIdeal.sig) → Buf (Elt Ideal) ℓ) (g : Dev Cert.NormPromptReferenceIdeal.nD → PrngReg), Pre_NormPromptReferenceIdeal m →
    θ_run (Cert.NormPromptReferenceIdeal.defs (F := Ideal)) (onTc (τ := Cert.NormPromptReferenceIdeal.τ) (Cert.NormPromptReferenceIdeal.main (F := Ideal))) ⟨m, fun _ => 0, g⟩ (fun r => (∀ c : Dev Cert.NormPromptReferenceIdeal.nD,
      r.2.mem ((c.tc : Thread Cert.NormPromptReferenceIdeal.nD Cert.NormPromptReferenceIdeal.τ).loc Cert.NormPromptReferenceIdeal.main_arg0) = m ((c.tc : Thread Cert.NormPromptReferenceIdeal.nD Cert.NormPromptReferenceIdeal.τ).loc Cert.NormPromptReferenceIdeal.main_arg0)
      ∧ r.2.mem ((c.tc : Thread Cert.NormPromptReferenceIdeal.nD Cert.NormPromptReferenceIdeal.τ).loc Cert.NormPromptReferenceIdeal.main_arg1) = m ((c.tc : Thread Cert.NormPromptReferenceIdeal.nD Cert.NormPromptReferenceIdeal.τ).loc Cert.NormPromptReferenceIdeal.main_arg1))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleReferenceIdeal [hNormSampleReferenceIdeal : Cert.NormSampleReferenceIdeal.Facts] : Prop :=
  ∀ (m : (ℓ : Loc Cert.NormSampleReferenceIdeal.nD Cert.NormSampleReferenceIdeal.τ Cert.NormSampleReferenceIdeal.sig) → Buf (Elt Ideal) ℓ) (g : Dev Cert.NormSampleReferenceIdeal.nD → PrngReg), Pre_NormSampleReferenceIdeal m →
    θ_run (Cert.NormSampleReferenceIdeal.defs (F := Ideal)) (onTc (τ := Cert.NormSampleReferenceIdeal.τ) (Cert.NormSampleReferenceIdeal.main (F := Ideal))) ⟨m, fun _ => 0, g⟩ (fun r => (∀ c : Dev Cert.NormSampleReferenceIdeal.nD,
      r.2.mem ((c.tc : Thread Cert.NormSampleReferenceIdeal.nD Cert.NormSampleReferenceIdeal.τ).loc Cert.NormSampleReferenceIdeal.main_arg0) = m ((c.tc : Thread Cert.NormSampleReferenceIdeal.nD Cert.NormSampleReferenceIdeal.τ).loc Cert.NormSampleReferenceIdeal.main_arg0)
      ∧ r.2.mem ((c.tc : Thread Cert.NormSampleReferenceIdeal.nD Cert.NormSampleReferenceIdeal.τ).loc Cert.NormSampleReferenceIdeal.main_arg1) = m ((c.tc : Thread Cert.NormSampleReferenceIdeal.nD Cert.NormSampleReferenceIdeal.τ).loc Cert.NormSampleReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ r.2.sem = fun _ => 0)

def quiescent_ProjKvReferenceIdeal [hProjKvReferenceIdeal : Cert.ProjKvReferenceIdeal.Facts] : Prop :=
  ∀ (m : (ℓ : Loc Cert.ProjKvReferenceIdeal.nD Cert.ProjKvReferenceIdeal.τ Cert.ProjKvReferenceIdeal.sig) → Buf (Elt Ideal) ℓ) (g : Dev Cert.ProjKvReferenceIdeal.nD → PrngReg), Pre_ProjKvReferenceIdeal m →
    θ_run (Cert.ProjKvReferenceIdeal.defs (F := Ideal)) (onTc (τ := Cert.ProjKvReferenceIdeal.τ) (Cert.ProjKvReferenceIdeal.main (F := Ideal))) ⟨m, fun _ => 0, g⟩ (fun r => (∀ c : Dev Cert.ProjKvReferenceIdeal.nD,
      r.2.mem ((c.tc : Thread Cert.ProjKvReferenceIdeal.nD Cert.ProjKvReferenceIdeal.τ).loc Cert.ProjKvReferenceIdeal.main_arg0) = m ((c.tc : Thread Cert.ProjKvReferenceIdeal.nD Cert.ProjKvReferenceIdeal.τ).loc Cert.ProjKvReferenceIdeal.main_arg0)
      ∧ r.2.mem ((c.tc : Thread Cert.ProjKvReferenceIdeal.nD Cert.ProjKvReferenceIdeal.τ).loc Cert.ProjKvReferenceIdeal.main_arg1) = m ((c.tc : Thread Cert.ProjKvReferenceIdeal.nD Cert.ProjKvReferenceIdeal.τ).loc Cert.ProjKvReferenceIdeal.main_arg1))
      ∧ r.2.sem = fun _ => 0)

def quiescent_ProjGlu [hProjGlu : Cert.ProjGlu.Facts] : Prop :=
  ∀ (m : (ℓ : Loc Cert.ProjGlu.nD Cert.ProjGlu.τ Cert.ProjGlu.sig) → Buf (Elt Bits) ℓ) (g : Dev Cert.ProjGlu.nD → PrngReg), Pre_ProjGlu m →
    θ_run (Cert.ProjGlu.defs (F := Bits)) (onTc (τ := Cert.ProjGlu.τ) (Cert.ProjGlu.main (F := Bits))) ⟨m, fun _ => 0, g⟩ (fun r => (∀ c : Dev Cert.ProjGlu.nD,
      r.2.mem ((c.tc : Thread Cert.ProjGlu.nD Cert.ProjGlu.τ).loc Cert.ProjGlu.main_arg0) = m ((c.tc : Thread Cert.ProjGlu.nD Cert.ProjGlu.τ).loc Cert.ProjGlu.main_arg0)
      ∧ r.2.mem ((c.tc : Thread Cert.ProjGlu.nD Cert.ProjGlu.τ).loc Cert.ProjGlu.main_arg1) = m ((c.tc : Thread Cert.ProjGlu.nD Cert.ProjGlu.τ).loc Cert.ProjGlu.main_arg1))
      ∧ r.2.sem = fun _ => 0)

def quiescent_ProjGluIdeal [hProjGluIdeal : Cert.ProjGluIdeal.Facts] : Prop :=
  ∀ (m : (ℓ : Loc Cert.ProjGluIdeal.nD Cert.ProjGluIdeal.τ Cert.ProjGluIdeal.sig) → Buf (Elt Ideal) ℓ) (g : Dev Cert.ProjGluIdeal.nD → PrngReg), Pre_ProjGluIdeal m →
    θ_run (Cert.ProjGluIdeal.defs (F := Ideal)) (onTc (τ := Cert.ProjGluIdeal.τ) (Cert.ProjGluIdeal.main (F := Ideal))) ⟨m, fun _ => 0, g⟩ (fun r => (∀ c : Dev Cert.ProjGluIdeal.nD,
      r.2.mem ((c.tc : Thread Cert.ProjGluIdeal.nD Cert.ProjGluIdeal.τ).loc Cert.ProjGluIdeal.main_arg0) = m ((c.tc : Thread Cert.ProjGluIdeal.nD Cert.ProjGluIdeal.τ).loc Cert.ProjGluIdeal.main_arg0)
      ∧ r.2.mem ((c.tc : Thread Cert.ProjGluIdeal.nD Cert.ProjGluIdeal.τ).loc Cert.ProjGluIdeal.main_arg1) = m ((c.tc : Thread Cert.ProjGluIdeal.nD Cert.ProjGluIdeal.τ).loc Cert.ProjGluIdeal.main_arg1))
      ∧ r.2.sem = fun _ => 0)

def quiescent_ProjGluReferenceIdeal [hProjGluReferenceIdeal : Cert.ProjGluReferenceIdeal.Facts] : Prop :=
  ∀ (m : (ℓ : Loc Cert.ProjGluReferenceIdeal.nD Cert.ProjGluReferenceIdeal.τ Cert.ProjGluReferenceIdeal.sig) → Buf (Elt Ideal) ℓ) (g : Dev Cert.ProjGluReferenceIdeal.nD → PrngReg), Pre_ProjGluReferenceIdeal m →
    θ_run (Cert.ProjGluReferenceIdeal.defs (F := Ideal)) (onTc (τ := Cert.ProjGluReferenceIdeal.τ) (Cert.ProjGluReferenceIdeal.main (F := Ideal))) ⟨m, fun _ => 0, g⟩ (fun r => (∀ c : Dev Cert.ProjGluReferenceIdeal.nD,
      r.2.mem ((c.tc : Thread Cert.ProjGluReferenceIdeal.nD Cert.ProjGluReferenceIdeal.τ).loc Cert.ProjGluReferenceIdeal.main_arg0) = m ((c.tc : Thread Cert.ProjGluReferenceIdeal.nD Cert.ProjGluReferenceIdeal.τ).loc Cert.ProjGluReferenceIdeal.main_arg0)
      ∧ r.2.mem ((c.tc : Thread Cert.ProjGluReferenceIdeal.nD Cert.ProjGluReferenceIdeal.τ).loc Cert.ProjGluReferenceIdeal.main_arg1) = m ((c.tc : Thread Cert.ProjGluReferenceIdeal.nD Cert.ProjGluReferenceIdeal.τ).loc Cert.ProjGluReferenceIdeal.main_arg1))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3)
      ∧ r.2.mem ((c.tc : Thread Cert.ConvSample.nD Cert.ConvSample.τ).loc Cert.ConvSample.main_arg4) = m ((c.tc : Thread Cert.ConvSample.nD Cert.ConvSample.τ).loc Cert.ConvSample.main_arg4)
      ∧ r.2.mem ((c.tc : Thread Cert.ConvSample.nD Cert.ConvSample.τ).loc Cert.ConvSample.main_arg5) = m ((c.tc : Thread Cert.ConvSample.nD Cert.ConvSample.τ).loc Cert.ConvSample.main_arg5))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
      ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
      ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5))
      ∧ r.2.sem = fun _ => 0)

def quiescent_ConvSampleReferenceIdeal [hConvSampleReferenceIdeal : Cert.ConvSampleReferenceIdeal.Facts] : Prop :=
  ∀ (m : (ℓ : Loc Cert.ConvSampleReferenceIdeal.nD Cert.ConvSampleReferenceIdeal.τ Cert.ConvSampleReferenceIdeal.sig) → Buf (Elt Ideal) ℓ) (g : Dev Cert.ConvSampleReferenceIdeal.nD → PrngReg), Pre_ConvSampleReferenceIdeal m →
    θ_run (Cert.ConvSampleReferenceIdeal.defs (F := Ideal)) (onTc (τ := Cert.ConvSampleReferenceIdeal.τ) (Cert.ConvSampleReferenceIdeal.main (F := Ideal))) ⟨m, fun _ => 0, g⟩ (fun r => (∀ c : Dev Cert.ConvSampleReferenceIdeal.nD,
      r.2.mem ((c.tc : Thread Cert.ConvSampleReferenceIdeal.nD Cert.ConvSampleReferenceIdeal.τ).loc Cert.ConvSampleReferenceIdeal.main_arg0) = m ((c.tc : Thread Cert.ConvSampleReferenceIdeal.nD Cert.ConvSampleReferenceIdeal.τ).loc Cert.ConvSampleReferenceIdeal.main_arg0)
      ∧ r.2.mem ((c.tc : Thread Cert.ConvSampleReferenceIdeal.nD Cert.ConvSampleReferenceIdeal.τ).loc Cert.ConvSampleReferenceIdeal.main_arg1) = m ((c.tc : Thread Cert.ConvSampleReferenceIdeal.nD Cert.ConvSampleReferenceIdeal.τ).loc Cert.ConvSampleReferenceIdeal.main_arg1)
      ∧ r.2.mem ((c.tc : Thread Cert.ConvSampleReferenceIdeal.nD Cert.ConvSampleReferenceIdeal.τ).loc Cert.ConvSampleReferenceIdeal.main_arg2) = m ((c.tc : Thread Cert.ConvSampleReferenceIdeal.nD Cert.ConvSampleReferenceIdeal.τ).loc Cert.ConvSampleReferenceIdeal.main_arg2)
      ∧ r.2.mem ((c.tc : Thread Cert.ConvSampleReferenceIdeal.nD Cert.ConvSampleReferenceIdeal.τ).loc Cert.ConvSampleReferenceIdeal.main_arg3) = m ((c.tc : Thread Cert.ConvSampleReferenceIdeal.nD Cert.ConvSampleReferenceIdeal.τ).loc Cert.ConvSampleReferenceIdeal.main_arg3)
      ∧ r.2.mem ((c.tc : Thread Cert.ConvSampleReferenceIdeal.nD Cert.ConvSampleReferenceIdeal.τ).loc Cert.ConvSampleReferenceIdeal.main_arg4) = m ((c.tc : Thread Cert.ConvSampleReferenceIdeal.nD Cert.ConvSampleReferenceIdeal.τ).loc Cert.ConvSampleReferenceIdeal.main_arg4)
      ∧ r.2.mem ((c.tc : Thread Cert.ConvSampleReferenceIdeal.nD Cert.ConvSampleReferenceIdeal.τ).loc Cert.ConvSampleReferenceIdeal.main_arg5) = m ((c.tc : Thread Cert.ConvSampleReferenceIdeal.nD Cert.ConvSampleReferenceIdeal.τ).loc Cert.ConvSampleReferenceIdeal.main_arg5))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3)
      ∧ r.2.mem ((c.tc : Thread Cert.AttnSample.nD Cert.AttnSample.τ).loc Cert.AttnSample.main_arg4) = m ((c.tc : Thread Cert.AttnSample.nD Cert.AttnSample.τ).loc Cert.AttnSample.main_arg4)
      ∧ r.2.mem ((c.tc : Thread Cert.AttnSample.nD Cert.AttnSample.τ).loc Cert.AttnSample.main_arg5) = m ((c.tc : Thread Cert.AttnSample.nD Cert.AttnSample.τ).loc Cert.AttnSample.main_arg5))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
      ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ r.2.sem = fun _ => 0)

def quiescent_AttnSampleReferenceIdeal [hAttnSampleReferenceIdeal : Cert.AttnSampleReferenceIdeal.Facts] : Prop :=
  ∀ (m : (ℓ : Loc Cert.AttnSampleReferenceIdeal.nD Cert.AttnSampleReferenceIdeal.τ Cert.AttnSampleReferenceIdeal.sig) → Buf (Elt Ideal) ℓ) (g : Dev Cert.AttnSampleReferenceIdeal.nD → PrngReg), Pre_AttnSampleReferenceIdeal m →
    θ_run (Cert.AttnSampleReferenceIdeal.defs (F := Ideal)) (onTc (τ := Cert.AttnSampleReferenceIdeal.τ) (Cert.AttnSampleReferenceIdeal.main (F := Ideal))) ⟨m, fun _ => 0, g⟩ (fun r => (∀ c : Dev Cert.AttnSampleReferenceIdeal.nD,
      r.2.mem ((c.tc : Thread Cert.AttnSampleReferenceIdeal.nD Cert.AttnSampleReferenceIdeal.τ).loc Cert.AttnSampleReferenceIdeal.main_arg0) = m ((c.tc : Thread Cert.AttnSampleReferenceIdeal.nD Cert.AttnSampleReferenceIdeal.τ).loc Cert.AttnSampleReferenceIdeal.main_arg0)
      ∧ r.2.mem ((c.tc : Thread Cert.AttnSampleReferenceIdeal.nD Cert.AttnSampleReferenceIdeal.τ).loc Cert.AttnSampleReferenceIdeal.main_arg1) = m ((c.tc : Thread Cert.AttnSampleReferenceIdeal.nD Cert.AttnSampleReferenceIdeal.τ).loc Cert.AttnSampleReferenceIdeal.main_arg1)
      ∧ r.2.mem ((c.tc : Thread Cert.AttnSampleReferenceIdeal.nD Cert.AttnSampleReferenceIdeal.τ).loc Cert.AttnSampleReferenceIdeal.main_arg2) = m ((c.tc : Thread Cert.AttnSampleReferenceIdeal.nD Cert.AttnSampleReferenceIdeal.τ).loc Cert.AttnSampleReferenceIdeal.main_arg2)
      ∧ r.2.mem ((c.tc : Thread Cert.AttnSampleReferenceIdeal.nD Cert.AttnSampleReferenceIdeal.τ).loc Cert.AttnSampleReferenceIdeal.main_arg3) = m ((c.tc : Thread Cert.AttnSampleReferenceIdeal.nD Cert.AttnSampleReferenceIdeal.τ).loc Cert.AttnSampleReferenceIdeal.main_arg3)
      ∧ r.2.mem ((c.tc : Thread Cert.AttnSampleReferenceIdeal.nD Cert.AttnSampleReferenceIdeal.τ).loc Cert.AttnSampleReferenceIdeal.main_arg4) = m ((c.tc : Thread Cert.AttnSampleReferenceIdeal.nD Cert.AttnSampleReferenceIdeal.τ).loc Cert.AttnSampleReferenceIdeal.main_arg4)
      ∧ r.2.mem ((c.tc : Thread Cert.AttnSampleReferenceIdeal.nD Cert.AttnSampleReferenceIdeal.τ).loc Cert.AttnSampleReferenceIdeal.main_arg5) = m ((c.tc : Thread Cert.AttnSampleReferenceIdeal.nD Cert.AttnSampleReferenceIdeal.τ).loc Cert.AttnSampleReferenceIdeal.main_arg5))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ r.2.sem = fun _ => 0)

def quiescent_ProjQReferenceIdeal [hProjQReferenceIdeal : Cert.ProjQReferenceIdeal.Facts] : Prop :=
  ∀ (m : (ℓ : Loc Cert.ProjQReferenceIdeal.nD Cert.ProjQReferenceIdeal.τ Cert.ProjQReferenceIdeal.sig) → Buf (Elt Ideal) ℓ) (g : Dev Cert.ProjQReferenceIdeal.nD → PrngReg), Pre_ProjQReferenceIdeal m →
    θ_run (Cert.ProjQReferenceIdeal.defs (F := Ideal)) (onTc (τ := Cert.ProjQReferenceIdeal.τ) (Cert.ProjQReferenceIdeal.main (F := Ideal))) ⟨m, fun _ => 0, g⟩ (fun r => (∀ c : Dev Cert.ProjQReferenceIdeal.nD,
      r.2.mem ((c.tc : Thread Cert.ProjQReferenceIdeal.nD Cert.ProjQReferenceIdeal.τ).loc Cert.ProjQReferenceIdeal.main_arg0) = m ((c.tc : Thread Cert.ProjQReferenceIdeal.nD Cert.ProjQReferenceIdeal.τ).loc Cert.ProjQReferenceIdeal.main_arg0)
      ∧ r.2.mem ((c.tc : Thread Cert.ProjQReferenceIdeal.nD Cert.ProjQReferenceIdeal.τ).loc Cert.ProjQReferenceIdeal.main_arg1) = m ((c.tc : Thread Cert.ProjQReferenceIdeal.nD Cert.ProjQReferenceIdeal.τ).loc Cert.ProjQReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)
      ∧ m' ((c.tc : Thread Cert.FfnOutReferenceIdeal.nD Cert.FfnOutReferenceIdeal.τ).loc Cert.FfnOutReferenceIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v1) = v0 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2))

def preserves_NormPrompt_NormPromptIdeal : Prop :=
  True

def algebraic_NormPromptIdeal_NormPromptReferenceIdeal [hNormPromptIdeal : Cert.NormPromptIdeal.Facts] [hNormPromptReferenceIdeal : Cert.NormPromptReferenceIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptReferenceIdeal.nD Cert.NormPromptReferenceIdeal.τ Cert.NormPromptReferenceIdeal.sig) → Buf (Elt Ideal) ℓ) (g' : Dev Cert.NormPromptReferenceIdeal.nD → PrngReg), Pre_NormPromptIdeal m →
    (∀ c : Dev Cert.NormPromptIdeal.nD,
      m' ((c.tc : Thread Cert.NormPromptReferenceIdeal.nD Cert.NormPromptReferenceIdeal.τ).loc Cert.NormPromptReferenceIdeal.main_arg0) = m ((c.tc : Thread Cert.NormPromptIdeal.nD Cert.NormPromptIdeal.τ).loc Cert.NormPromptIdeal.main_arg0)
      ∧ m' ((c.tc : Thread Cert.NormPromptReferenceIdeal.nD Cert.NormPromptReferenceIdeal.τ).loc Cert.NormPromptReferenceIdeal.main_arg1) = m ((c.tc : Thread Cert.NormPromptIdeal.nD Cert.NormPromptIdeal.τ).loc Cert.NormPromptIdeal.main_arg1)) →
    ∃ (v0 : (c : Dev Cert.NormPromptIdeal.nD) → Buf (Elt Ideal) ((c.tc : Thread Cert.NormPromptIdeal.nD Cert.NormPromptIdeal.τ).loc Cert.NormPromptIdeal.main_v1)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v1) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ θ_run (Cert.NormPromptReferenceIdeal.defs (F := Ideal)) (onTc (τ := Cert.NormPromptReferenceIdeal.τ) (Cert.NormPromptReferenceIdeal.main (F := Ideal))) ⟨m', fun _ => 0, g'⟩ (fun r => ∀ c : Dev Cert.NormPromptReferenceIdeal.nD,
          r.2.mem ((c.tc : Thread Cert.NormPromptReferenceIdeal.nD Cert.NormPromptReferenceIdeal.τ).loc Cert.NormPromptReferenceIdeal.main_v13) = v0 c
          ∧ r.2.mem ((c.tc : Thread Cert.NormPromptReferenceIdeal.nD Cert.NormPromptReferenceIdeal.τ).loc Cert.NormPromptReferenceIdeal.main_arg0) = m' ((c.tc : Thread Cert.NormPromptReferenceIdeal.nD Cert.NormPromptReferenceIdeal.τ).loc Cert.NormPromptReferenceIdeal.main_arg0)
          ∧ r.2.mem ((c.tc : Thread Cert.NormPromptReferenceIdeal.nD Cert.NormPromptReferenceIdeal.τ).loc Cert.NormPromptReferenceIdeal.main_arg1) = m' ((c.tc : Thread Cert.NormPromptReferenceIdeal.nD Cert.NormPromptReferenceIdeal.τ).loc Cert.NormPromptReferenceIdeal.main_arg1))

def preserves_NormSample_NormSampleIdeal : Prop :=
  True

def algebraic_NormSampleIdeal_NormSampleReferenceIdeal [hNormSampleIdeal : Cert.NormSampleIdeal.Facts] [hNormSampleReferenceIdeal : Cert.NormSampleReferenceIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleReferenceIdeal.nD Cert.NormSampleReferenceIdeal.τ Cert.NormSampleReferenceIdeal.sig) → Buf (Elt Ideal) ℓ) (g' : Dev Cert.NormSampleReferenceIdeal.nD → PrngReg), Pre_NormSampleIdeal m →
    (∀ c : Dev Cert.NormSampleIdeal.nD,
      m' ((c.tc : Thread Cert.NormSampleReferenceIdeal.nD Cert.NormSampleReferenceIdeal.τ).loc Cert.NormSampleReferenceIdeal.main_arg0) = m ((c.tc : Thread Cert.NormSampleIdeal.nD Cert.NormSampleIdeal.τ).loc Cert.NormSampleIdeal.main_arg0)
      ∧ m' ((c.tc : Thread Cert.NormSampleReferenceIdeal.nD Cert.NormSampleReferenceIdeal.τ).loc Cert.NormSampleReferenceIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v1) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleReferenceIdeal.defs (F := Ideal)) (onTc (τ := Cert.NormSampleReferenceIdeal.τ) (Cert.NormSampleReferenceIdeal.main (F := Ideal))) ⟨m', fun _ => 0, g'⟩ (fun r => ∀ c : Dev Cert.NormSampleReferenceIdeal.nD,
          r.2.mem ((c.tc : Thread Cert.NormSampleReferenceIdeal.nD Cert.NormSampleReferenceIdeal.τ).loc Cert.NormSampleReferenceIdeal.main_v13) = v0 c
          ∧ r.2.mem ((c.tc : Thread Cert.NormSampleReferenceIdeal.nD Cert.NormSampleReferenceIdeal.τ).loc Cert.NormSampleReferenceIdeal.main_arg0) = m' ((c.tc : Thread Cert.NormSampleReferenceIdeal.nD Cert.NormSampleReferenceIdeal.τ).loc Cert.NormSampleReferenceIdeal.main_arg0)
          ∧ r.2.mem ((c.tc : Thread Cert.NormSampleReferenceIdeal.nD Cert.NormSampleReferenceIdeal.τ).loc Cert.NormSampleReferenceIdeal.main_arg1) = m' ((c.tc : Thread Cert.NormSampleReferenceIdeal.nD Cert.NormSampleReferenceIdeal.τ).loc Cert.NormSampleReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v2_0)) (v1 : (c : Dev Cert.GatesIdeal.nD) → Buf (Elt Ideal) ((c.tc : Thread Cert.GatesIdeal.nD Cert.GatesIdeal.τ).loc Cert.GatesIdeal.main_v2_2)) (v2 : (c : Dev Cert.GatesIdeal.nD) → Buf (Elt Ideal) ((c.tc : Thread Cert.GatesIdeal.nD Cert.GatesIdeal.τ).loc Cert.GatesIdeal.main_v2_3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2_0) = v0 c
          ∧ r.2.mem ((c.tc : Thread Cert.GatesIdeal.nD Cert.GatesIdeal.τ).loc Cert.GatesIdeal.main_v2_2) = v1 c
          ∧ r.2.mem ((c.tc : Thread Cert.GatesIdeal.nD Cert.GatesIdeal.τ).loc Cert.GatesIdeal.main_v2_3) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v7) = v0 c
          ∧ r.2.mem ((c.tc : Thread Cert.GatesReferenceIdeal.nD Cert.GatesReferenceIdeal.τ).loc Cert.GatesReferenceIdeal.main_v8) = v1 c
          ∧ r.2.mem ((c.tc : Thread Cert.GatesReferenceIdeal.nD Cert.GatesReferenceIdeal.τ).loc Cert.GatesReferenceIdeal.main_v9) = v2 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7_0)) (v1 : (c : Dev Cert.MergeIdeal.nD) → Buf (Elt Ideal) ((c.tc : Thread Cert.MergeIdeal.nD Cert.MergeIdeal.τ).loc Cert.MergeIdeal.main_v7_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7_0) = v0 c
          ∧ r.2.mem ((c.tc : Thread Cert.MergeIdeal.nD Cert.MergeIdeal.τ).loc Cert.MergeIdeal.main_v7_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v9) = v0 c
          ∧ r.2.mem ((c.tc : Thread Cert.MergeReferenceIdeal.nD Cert.MergeReferenceIdeal.τ).loc Cert.MergeReferenceIdeal.main_v11) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_v4) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_ProjKv_ProjKvIdeal : Prop :=
  True

def algebraic_ProjKvIdeal_ProjKvReferenceIdeal [hProjKvIdeal : Cert.ProjKvIdeal.Facts] [hProjKvReferenceIdeal : Cert.ProjKvReferenceIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvReferenceIdeal.nD Cert.ProjKvReferenceIdeal.τ Cert.ProjKvReferenceIdeal.sig) → Buf (Elt Ideal) ℓ) (g' : Dev Cert.ProjKvReferenceIdeal.nD → PrngReg), Pre_ProjKvIdeal m →
    (∀ c : Dev Cert.ProjKvIdeal.nD,
      m' ((c.tc : Thread Cert.ProjKvReferenceIdeal.nD Cert.ProjKvReferenceIdeal.τ).loc Cert.ProjKvReferenceIdeal.main_arg0) = m ((c.tc : Thread Cert.ProjKvIdeal.nD Cert.ProjKvIdeal.τ).loc Cert.ProjKvIdeal.main_arg0)
      ∧ m' ((c.tc : Thread Cert.ProjKvReferenceIdeal.nD Cert.ProjKvReferenceIdeal.τ).loc Cert.ProjKvReferenceIdeal.main_arg1) = m ((c.tc : Thread Cert.ProjKvIdeal.nD Cert.ProjKvIdeal.τ).loc Cert.ProjKvIdeal.main_arg1)) →
    ∃ (v0 : (c : Dev Cert.ProjKvIdeal.nD) → Buf (Elt Ideal) ((c.tc : Thread Cert.ProjKvIdeal.nD Cert.ProjKvIdeal.τ).loc Cert.ProjKvIdeal.main_v32_0)) (v1 : (c : Dev Cert.ProjKvIdeal.nD) → Buf (Elt Ideal) ((c.tc : Thread Cert.ProjKvIdeal.nD Cert.ProjKvIdeal.τ).loc Cert.ProjKvIdeal.main_v32_1)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v32_0) = v0 c
          ∧ r.2.mem ((c.tc : Thread Cert.ProjKvIdeal.nD Cert.ProjKvIdeal.τ).loc Cert.ProjKvIdeal.main_v32_1) = v1 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ θ_run (Cert.ProjKvReferenceIdeal.defs (F := Ideal)) (onTc (τ := Cert.ProjKvReferenceIdeal.τ) (Cert.ProjKvReferenceIdeal.main (F := Ideal))) ⟨m', fun _ => 0, g'⟩ (fun r => ∀ c : Dev Cert.ProjKvReferenceIdeal.nD,
          r.2.mem ((c.tc : Thread Cert.ProjKvReferenceIdeal.nD Cert.ProjKvReferenceIdeal.τ).loc Cert.ProjKvReferenceIdeal.main_v40) = v0 c
          ∧ r.2.mem ((c.tc : Thread Cert.ProjKvReferenceIdeal.nD Cert.ProjKvReferenceIdeal.τ).loc Cert.ProjKvReferenceIdeal.main_v42) = v1 c
          ∧ r.2.mem ((c.tc : Thread Cert.ProjKvReferenceIdeal.nD Cert.ProjKvReferenceIdeal.τ).loc Cert.ProjKvReferenceIdeal.main_arg0) = m' ((c.tc : Thread Cert.ProjKvReferenceIdeal.nD Cert.ProjKvReferenceIdeal.τ).loc Cert.ProjKvReferenceIdeal.main_arg0)
          ∧ r.2.mem ((c.tc : Thread Cert.ProjKvReferenceIdeal.nD Cert.ProjKvReferenceIdeal.τ).loc Cert.ProjKvReferenceIdeal.main_arg1) = m' ((c.tc : Thread Cert.ProjKvReferenceIdeal.nD Cert.ProjKvReferenceIdeal.τ).loc Cert.ProjKvReferenceIdeal.main_arg1))

def preserves_ProjGlu_ProjGluIdeal : Prop :=
  True

def algebraic_ProjGluIdeal_ProjGluReferenceIdeal [hProjGluIdeal : Cert.ProjGluIdeal.Facts] [hProjGluReferenceIdeal : Cert.ProjGluReferenceIdeal.Facts] : Prop :=
  ∀ (m : (ℓ : Loc Cert.ProjGluIdeal.nD Cert.ProjGluIdeal.τ Cert.ProjGluIdeal.sig) → Buf (Elt Ideal) ℓ) (g : Dev Cert.ProjGluIdeal.nD → PrngReg)
    (m' : (ℓ : Loc Cert.ProjGluReferenceIdeal.nD Cert.ProjGluReferenceIdeal.τ Cert.ProjGluReferenceIdeal.sig) → Buf (Elt Ideal) ℓ) (g' : Dev Cert.ProjGluReferenceIdeal.nD → PrngReg), Pre_ProjGluIdeal m →
    (∀ c : Dev Cert.ProjGluIdeal.nD,
      m' ((c.tc : Thread Cert.ProjGluReferenceIdeal.nD Cert.ProjGluReferenceIdeal.τ).loc Cert.ProjGluReferenceIdeal.main_arg0) = m ((c.tc : Thread Cert.ProjGluIdeal.nD Cert.ProjGluIdeal.τ).loc Cert.ProjGluIdeal.main_arg0)
      ∧ m' ((c.tc : Thread Cert.ProjGluReferenceIdeal.nD Cert.ProjGluReferenceIdeal.τ).loc Cert.ProjGluReferenceIdeal.main_arg1) = m ((c.tc : Thread Cert.ProjGluIdeal.nD Cert.ProjGluIdeal.τ).loc Cert.ProjGluIdeal.main_arg1)) →
    ∃ (v0 : (c : Dev Cert.ProjGluIdeal.nD) → Buf (Elt Ideal) ((c.tc : Thread Cert.ProjGluIdeal.nD Cert.ProjGluIdeal.τ).loc Cert.ProjGluIdeal.main_v1)),
      θ_run (Cert.ProjGluIdeal.defs (F := Ideal)) (onTc (τ := Cert.ProjGluIdeal.τ) (Cert.ProjGluIdeal.main (F := Ideal))) ⟨m, fun _ => 0, g⟩ (fun r => ∀ c : Dev Cert.ProjGluIdeal.nD,
          r.2.mem ((c.tc : Thread Cert.ProjGluIdeal.nD Cert.ProjGluIdeal.τ).loc Cert.ProjGluIdeal.main_v1) = v0 c
          ∧ r.2.mem ((c.tc : Thread Cert.ProjGluIdeal.nD Cert.ProjGluIdeal.τ).loc Cert.ProjGluIdeal.main_arg0) = m ((c.tc : Thread Cert.ProjGluIdeal.nD Cert.ProjGluIdeal.τ).loc Cert.ProjGluIdeal.main_arg0)
          ∧ r.2.mem ((c.tc : Thread Cert.ProjGluIdeal.nD Cert.ProjGluIdeal.τ).loc Cert.ProjGluIdeal.main_arg1) = m ((c.tc : Thread Cert.ProjGluIdeal.nD Cert.ProjGluIdeal.τ).loc Cert.ProjGluIdeal.main_arg1))
      ∧ θ_run (Cert.ProjGluReferenceIdeal.defs (F := Ideal)) (onTc (τ := Cert.ProjGluReferenceIdeal.τ) (Cert.ProjGluReferenceIdeal.main (F := Ideal))) ⟨m', fun _ => 0, g'⟩ (fun r => ∀ c : Dev Cert.ProjGluReferenceIdeal.nD,
          r.2.mem ((c.tc : Thread Cert.ProjGluReferenceIdeal.nD Cert.ProjGluReferenceIdeal.τ).loc Cert.ProjGluReferenceIdeal.main_v10) = v0 c
          ∧ r.2.mem ((c.tc : Thread Cert.ProjGluReferenceIdeal.nD Cert.ProjGluReferenceIdeal.τ).loc Cert.ProjGluReferenceIdeal.main_arg0) = m' ((c.tc : Thread Cert.ProjGluReferenceIdeal.nD Cert.ProjGluReferenceIdeal.τ).loc Cert.ProjGluReferenceIdeal.main_arg0)
          ∧ r.2.mem ((c.tc : Thread Cert.ProjGluReferenceIdeal.nD Cert.ProjGluReferenceIdeal.τ).loc Cert.ProjGluReferenceIdeal.main_arg1) = m' ((c.tc : Thread Cert.ProjGluReferenceIdeal.nD Cert.ProjGluReferenceIdeal.τ).loc Cert.ProjGluReferenceIdeal.main_arg1))

def preserves_ConvSample_ConvSampleIdeal : Prop :=
  True

def algebraic_ConvSampleIdeal_ConvSampleReferenceIdeal [hConvSampleIdeal : Cert.ConvSampleIdeal.Facts] [hConvSampleReferenceIdeal : Cert.ConvSampleReferenceIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleReferenceIdeal.nD Cert.ConvSampleReferenceIdeal.τ Cert.ConvSampleReferenceIdeal.sig) → Buf (Elt Ideal) ℓ) (g' : Dev Cert.ConvSampleReferenceIdeal.nD → PrngReg), Pre_ConvSampleIdeal m →
    (∀ c : Dev Cert.ConvSampleIdeal.nD,
      m' ((c.tc : Thread Cert.ConvSampleReferenceIdeal.nD Cert.ConvSampleReferenceIdeal.τ).loc Cert.ConvSampleReferenceIdeal.main_arg0) = m ((c.tc : Thread Cert.ConvSampleIdeal.nD Cert.ConvSampleIdeal.τ).loc Cert.ConvSampleIdeal.main_arg0)
      ∧ m' ((c.tc : Thread Cert.ConvSampleReferenceIdeal.nD Cert.ConvSampleReferenceIdeal.τ).loc Cert.ConvSampleReferenceIdeal.main_arg1) = m ((c.tc : Thread Cert.ConvSampleIdeal.nD Cert.ConvSampleIdeal.τ).loc Cert.ConvSampleIdeal.main_arg1)
      ∧ m' ((c.tc : Thread Cert.ConvSampleReferenceIdeal.nD Cert.ConvSampleReferenceIdeal.τ).loc Cert.ConvSampleReferenceIdeal.main_arg2) = m ((c.tc : Thread Cert.ConvSampleIdeal.nD Cert.ConvSampleIdeal.τ).loc Cert.ConvSampleIdeal.main_arg2)
      ∧ m' ((c.tc : Thread Cert.ConvSampleReferenceIdeal.nD Cert.ConvSampleReferenceIdeal.τ).loc Cert.ConvSampleReferenceIdeal.main_arg3) = m ((c.tc : Thread Cert.ConvSampleIdeal.nD Cert.ConvSampleIdeal.τ).loc Cert.ConvSampleIdeal.main_arg3)
      ∧ m' ((c.tc : Thread Cert.ConvSampleReferenceIdeal.nD Cert.ConvSampleReferenceIdeal.τ).loc Cert.ConvSampleReferenceIdeal.main_arg4) = m ((c.tc : Thread Cert.ConvSampleIdeal.nD Cert.ConvSampleIdeal.τ).loc Cert.ConvSampleIdeal.main_arg4)
      ∧ m' ((c.tc : Thread Cert.ConvSampleReferenceIdeal.nD Cert.ConvSampleReferenceIdeal.τ).loc Cert.ConvSampleReferenceIdeal.main_arg5) = m ((c.tc : Thread Cert.ConvSampleIdeal.nD Cert.ConvSampleIdeal.τ).loc Cert.ConvSampleIdeal.main_arg5)) →
    ∃ (v0 : (c : Dev Cert.ConvSampleIdeal.nD) → Buf (Elt Ideal) ((c.tc : Thread Cert.ConvSampleIdeal.nD Cert.ConvSampleIdeal.τ).loc Cert.ConvSampleIdeal.main_v7_1)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v7_1) = v0 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
          ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
          ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5))
      ∧ θ_run (Cert.ConvSampleReferenceIdeal.defs (F := Ideal)) (onTc (τ := Cert.ConvSampleReferenceIdeal.τ) (Cert.ConvSampleReferenceIdeal.main (F := Ideal))) ⟨m', fun _ => 0, g'⟩ (fun r => ∀ c : Dev Cert.ConvSampleReferenceIdeal.nD,
          r.2.mem ((c.tc : Thread Cert.ConvSampleReferenceIdeal.nD Cert.ConvSampleReferenceIdeal.τ).loc Cert.ConvSampleReferenceIdeal.main_v4) = v0 c
          ∧ r.2.mem ((c.tc : Thread Cert.ConvSampleReferenceIdeal.nD Cert.ConvSampleReferenceIdeal.τ).loc Cert.ConvSampleReferenceIdeal.main_arg0) = m' ((c.tc : Thread Cert.ConvSampleReferenceIdeal.nD Cert.ConvSampleReferenceIdeal.τ).loc Cert.ConvSampleReferenceIdeal.main_arg0)
          ∧ r.2.mem ((c.tc : Thread Cert.ConvSampleReferenceIdeal.nD Cert.ConvSampleReferenceIdeal.τ).loc Cert.ConvSampleReferenceIdeal.main_arg1) = m' ((c.tc : Thread Cert.ConvSampleReferenceIdeal.nD Cert.ConvSampleReferenceIdeal.τ).loc Cert.ConvSampleReferenceIdeal.main_arg1)
          ∧ r.2.mem ((c.tc : Thread Cert.ConvSampleReferenceIdeal.nD Cert.ConvSampleReferenceIdeal.τ).loc Cert.ConvSampleReferenceIdeal.main_arg2) = m' ((c.tc : Thread Cert.ConvSampleReferenceIdeal.nD Cert.ConvSampleReferenceIdeal.τ).loc Cert.ConvSampleReferenceIdeal.main_arg2)
          ∧ r.2.mem ((c.tc : Thread Cert.ConvSampleReferenceIdeal.nD Cert.ConvSampleReferenceIdeal.τ).loc Cert.ConvSampleReferenceIdeal.main_arg3) = m' ((c.tc : Thread Cert.ConvSampleReferenceIdeal.nD Cert.ConvSampleReferenceIdeal.τ).loc Cert.ConvSampleReferenceIdeal.main_arg3)
          ∧ r.2.mem ((c.tc : Thread Cert.ConvSampleReferenceIdeal.nD Cert.ConvSampleReferenceIdeal.τ).loc Cert.ConvSampleReferenceIdeal.main_arg4) = m' ((c.tc : Thread Cert.ConvSampleReferenceIdeal.nD Cert.ConvSampleReferenceIdeal.τ).loc Cert.ConvSampleReferenceIdeal.main_arg4)
          ∧ r.2.mem ((c.tc : Thread Cert.ConvSampleReferenceIdeal.nD Cert.ConvSampleReferenceIdeal.τ).loc Cert.ConvSampleReferenceIdeal.main_arg5) = m' ((c.tc : Thread Cert.ConvSampleReferenceIdeal.nD Cert.ConvSampleReferenceIdeal.τ).loc Cert.ConvSampleReferenceIdeal.main_arg5))

def preserves_AttnSample_AttnSampleIdeal : Prop :=
  True

def algebraic_AttnSampleIdeal_AttnSampleReferenceIdeal [hAttnSampleIdeal : Cert.AttnSampleIdeal.Facts] [hAttnSampleReferenceIdeal : Cert.AttnSampleReferenceIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleReferenceIdeal.nD Cert.AttnSampleReferenceIdeal.τ Cert.AttnSampleReferenceIdeal.sig) → Buf (Elt Ideal) ℓ) (g' : Dev Cert.AttnSampleReferenceIdeal.nD → PrngReg), Pre_AttnSampleIdeal m →
    (∀ c : Dev Cert.AttnSampleIdeal.nD,
      m' ((c.tc : Thread Cert.AttnSampleReferenceIdeal.nD Cert.AttnSampleReferenceIdeal.τ).loc Cert.AttnSampleReferenceIdeal.main_arg0) = m ((c.tc : Thread Cert.AttnSampleIdeal.nD Cert.AttnSampleIdeal.τ).loc Cert.AttnSampleIdeal.main_arg0)
      ∧ m' ((c.tc : Thread Cert.AttnSampleReferenceIdeal.nD Cert.AttnSampleReferenceIdeal.τ).loc Cert.AttnSampleReferenceIdeal.main_arg1) = m ((c.tc : Thread Cert.AttnSampleIdeal.nD Cert.AttnSampleIdeal.τ).loc Cert.AttnSampleIdeal.main_arg1)
      ∧ m' ((c.tc : Thread Cert.AttnSampleReferenceIdeal.nD Cert.AttnSampleReferenceIdeal.τ).loc Cert.AttnSampleReferenceIdeal.main_arg2) = m ((c.tc : Thread Cert.AttnSampleIdeal.nD Cert.AttnSampleIdeal.τ).loc Cert.AttnSampleIdeal.main_arg2)
      ∧ m' ((c.tc : Thread Cert.AttnSampleReferenceIdeal.nD Cert.AttnSampleReferenceIdeal.τ).loc Cert.AttnSampleReferenceIdeal.main_arg3) = m ((c.tc : Thread Cert.AttnSampleIdeal.nD Cert.AttnSampleIdeal.τ).loc Cert.AttnSampleIdeal.main_arg3)
      ∧ m' ((c.tc : Thread Cert.AttnSampleReferenceIdeal.nD Cert.AttnSampleReferenceIdeal.τ).loc Cert.AttnSampleReferenceIdeal.main_arg4) = m ((c.tc : Thread Cert.AttnSampleIdeal.nD Cert.AttnSampleIdeal.τ).loc Cert.AttnSampleIdeal.main_arg4)
      ∧ m' ((c.tc : Thread Cert.AttnSampleReferenceIdeal.nD Cert.AttnSampleReferenceIdeal.τ).loc Cert.AttnSampleReferenceIdeal.main_arg5) = m ((c.tc : Thread Cert.AttnSampleIdeal.nD Cert.AttnSampleIdeal.τ).loc Cert.AttnSampleIdeal.main_arg5)) →
    ∃ (v0 : (c : Dev Cert.AttnSampleIdeal.nD) → Buf (Elt Ideal) ((c.tc : Thread Cert.AttnSampleIdeal.nD Cert.AttnSampleIdeal.τ).loc Cert.AttnSampleIdeal.main_v8_1)) (v1 : (c : Dev Cert.AttnSampleIdeal.nD) → Buf (Elt Ideal) ((c.tc : Thread Cert.AttnSampleIdeal.nD Cert.AttnSampleIdeal.τ).loc Cert.AttnSampleIdeal.main_v8_2)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v8_1) = v0 c
          ∧ r.2.mem ((c.tc : Thread Cert.AttnSampleIdeal.nD Cert.AttnSampleIdeal.τ).loc Cert.AttnSampleIdeal.main_v8_2) = v1 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
          ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
          ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ θ_run (Cert.AttnSampleReferenceIdeal.defs (F := Ideal)) (onTc (τ := Cert.AttnSampleReferenceIdeal.τ) (Cert.AttnSampleReferenceIdeal.main (F := Ideal))) ⟨m', fun _ => 0, g'⟩ (fun r => ∀ c : Dev Cert.AttnSampleReferenceIdeal.nD,
          r.2.mem ((c.tc : Thread Cert.AttnSampleReferenceIdeal.nD Cert.AttnSampleReferenceIdeal.τ).loc Cert.AttnSampleReferenceIdeal.main_v4) = v0 c
          ∧ r.2.mem ((c.tc : Thread Cert.AttnSampleReferenceIdeal.nD Cert.AttnSampleReferenceIdeal.τ).loc Cert.AttnSampleReferenceIdeal.main_v9) = v1 c
          ∧ r.2.mem ((c.tc : Thread Cert.AttnSampleReferenceIdeal.nD Cert.AttnSampleReferenceIdeal.τ).loc Cert.AttnSampleReferenceIdeal.main_arg0) = m' ((c.tc : Thread Cert.AttnSampleReferenceIdeal.nD Cert.AttnSampleReferenceIdeal.τ).loc Cert.AttnSampleReferenceIdeal.main_arg0)
          ∧ r.2.mem ((c.tc : Thread Cert.AttnSampleReferenceIdeal.nD Cert.AttnSampleReferenceIdeal.τ).loc Cert.AttnSampleReferenceIdeal.main_arg1) = m' ((c.tc : Thread Cert.AttnSampleReferenceIdeal.nD Cert.AttnSampleReferenceIdeal.τ).loc Cert.AttnSampleReferenceIdeal.main_arg1)
          ∧ r.2.mem ((c.tc : Thread Cert.AttnSampleReferenceIdeal.nD Cert.AttnSampleReferenceIdeal.τ).loc Cert.AttnSampleReferenceIdeal.main_arg2) = m' ((c.tc : Thread Cert.AttnSampleReferenceIdeal.nD Cert.AttnSampleReferenceIdeal.τ).loc Cert.AttnSampleReferenceIdeal.main_arg2)
          ∧ r.2.mem ((c.tc : Thread Cert.AttnSampleReferenceIdeal.nD Cert.AttnSampleReferenceIdeal.τ).loc Cert.AttnSampleReferenceIdeal.main_arg3) = m' ((c.tc : Thread Cert.AttnSampleReferenceIdeal.nD Cert.AttnSampleReferenceIdeal.τ).loc Cert.AttnSampleReferenceIdeal.main_arg3)
          ∧ r.2.mem ((c.tc : Thread Cert.AttnSampleReferenceIdeal.nD Cert.AttnSampleReferenceIdeal.τ).loc Cert.AttnSampleReferenceIdeal.main_arg4) = m' ((c.tc : Thread Cert.AttnSampleReferenceIdeal.nD Cert.AttnSampleReferenceIdeal.τ).loc Cert.AttnSampleReferenceIdeal.main_arg4)
          ∧ r.2.mem ((c.tc : Thread Cert.AttnSampleReferenceIdeal.nD Cert.AttnSampleReferenceIdeal.τ).loc Cert.AttnSampleReferenceIdeal.main_arg5) = m' ((c.tc : Thread Cert.AttnSampleReferenceIdeal.nD Cert.AttnSampleReferenceIdeal.τ).loc Cert.AttnSampleReferenceIdeal.main_arg5))

def preserves_ProjQ_ProjQIdeal : Prop :=
  True

def algebraic_ProjQIdeal_ProjQReferenceIdeal [hProjQIdeal : Cert.ProjQIdeal.Facts] [hProjQReferenceIdeal : Cert.ProjQReferenceIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQReferenceIdeal.nD Cert.ProjQReferenceIdeal.τ Cert.ProjQReferenceIdeal.sig) → Buf (Elt Ideal) ℓ) (g' : Dev Cert.ProjQReferenceIdeal.nD → PrngReg), Pre_ProjQIdeal m →
    (∀ c : Dev Cert.ProjQIdeal.nD,
      m' ((c.tc : Thread Cert.ProjQReferenceIdeal.nD Cert.ProjQReferenceIdeal.τ).loc Cert.ProjQReferenceIdeal.main_arg0) = m ((c.tc : Thread Cert.ProjQIdeal.nD Cert.ProjQIdeal.τ).loc Cert.ProjQIdeal.main_arg0)
      ∧ m' ((c.tc : Thread Cert.ProjQReferenceIdeal.nD Cert.ProjQReferenceIdeal.τ).loc Cert.ProjQReferenceIdeal.main_arg1) = m ((c.tc : Thread Cert.ProjQIdeal.nD Cert.ProjQIdeal.τ).loc Cert.ProjQIdeal.main_arg1)) →
    ∃ (v0 : (c : Dev Cert.ProjQIdeal.nD) → Buf (Elt Ideal) ((c.tc : Thread Cert.ProjQIdeal.nD Cert.ProjQIdeal.τ).loc Cert.ProjQIdeal.main_v35)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v35) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ θ_run (Cert.ProjQReferenceIdeal.defs (F := Ideal)) (onTc (τ := Cert.ProjQReferenceIdeal.τ) (Cert.ProjQReferenceIdeal.main (F := Ideal))) ⟨m', fun _ => 0, g'⟩ (fun r => ∀ c : Dev Cert.ProjQReferenceIdeal.nD,
          r.2.mem ((c.tc : Thread Cert.ProjQReferenceIdeal.nD Cert.ProjQReferenceIdeal.τ).loc Cert.ProjQReferenceIdeal.main_v41) = v0 c
          ∧ r.2.mem ((c.tc : Thread Cert.ProjQReferenceIdeal.nD Cert.ProjQReferenceIdeal.τ).loc Cert.ProjQReferenceIdeal.main_arg0) = m' ((c.tc : Thread Cert.ProjQReferenceIdeal.nD Cert.ProjQReferenceIdeal.τ).loc Cert.ProjQReferenceIdeal.main_arg0)
          ∧ r.2.mem ((c.tc : Thread Cert.ProjQReferenceIdeal.nD Cert.ProjQReferenceIdeal.τ).loc Cert.ProjQReferenceIdeal.main_arg1) = m' ((c.tc : Thread Cert.ProjQReferenceIdeal.nD Cert.ProjQReferenceIdeal.τ).loc Cert.ProjQReferenceIdeal.main_arg1))

def Claim : Prop :=
  ∃ (hKernel : Cert.Kernel.Facts) (hKernelIdeal : Cert.KernelIdeal.Facts) (hReferenceIdeal : Cert.ReferenceIdeal.Facts) (hFfnOut : Cert.FfnOut.Facts) (hFfnOutIdeal : Cert.FfnOutIdeal.Facts) (hFfnOutReferenceIdeal : Cert.FfnOutReferenceIdeal.Facts) (hNormPrompt : Cert.NormPrompt.Facts) (hNormPromptIdeal : Cert.NormPromptIdeal.Facts) (hNormPromptReferenceIdeal : Cert.NormPromptReferenceIdeal.Facts) (hNormSample : Cert.NormSample.Facts) (hNormSampleIdeal : Cert.NormSampleIdeal.Facts) (hNormSampleReferenceIdeal : Cert.NormSampleReferenceIdeal.Facts) (hGates : Cert.Gates.Facts) (hGatesIdeal : Cert.GatesIdeal.Facts) (hGatesReferenceIdeal : Cert.GatesReferenceIdeal.Facts) (hMerge : Cert.Merge.Facts) (hMergeIdeal : Cert.MergeIdeal.Facts) (hMergeReferenceIdeal : Cert.MergeReferenceIdeal.Facts) (hOutProj : Cert.OutProj.Facts) (hOutProjIdeal : Cert.OutProjIdeal.Facts) (hOutProjReferenceIdeal : Cert.OutProjReferenceIdeal.Facts) (hProjKv : Cert.ProjKv.Facts) (hProjKvIdeal : Cert.ProjKvIdeal.Facts) (hProjKvReferenceIdeal : Cert.ProjKvReferenceIdeal.Facts) (hProjGlu : Cert.ProjGlu.Facts) (hProjGluIdeal : Cert.ProjGluIdeal.Facts) (hProjGluReferenceIdeal : Cert.ProjGluReferenceIdeal.Facts) (hConvSample : Cert.ConvSample.Facts) (hConvSampleIdeal : Cert.ConvSampleIdeal.Facts) (hConvSampleReferenceIdeal : Cert.ConvSampleReferenceIdeal.Facts) (hAttnSample : Cert.AttnSample.Facts) (hAttnSampleIdeal : Cert.AttnSampleIdeal.Facts) (hAttnSampleReferenceIdeal : Cert.AttnSampleReferenceIdeal.Facts) (hProjQ : Cert.ProjQ.Facts) (hProjQIdeal : Cert.ProjQIdeal.Facts) (hProjQReferenceIdeal : Cert.ProjQReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_NormPrompt (hNormPrompt := hNormPrompt)
    ∧ quiescent_NormPromptIdeal (hNormPromptIdeal := hNormPromptIdeal)
    ∧ quiescent_NormPromptReferenceIdeal (hNormPromptReferenceIdeal := hNormPromptReferenceIdeal)
    ∧ quiescent_NormSample (hNormSample := hNormSample)
    ∧ quiescent_NormSampleIdeal (hNormSampleIdeal := hNormSampleIdeal)
    ∧ quiescent_NormSampleReferenceIdeal (hNormSampleReferenceIdeal := hNormSampleReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_ProjKv (hProjKv := hProjKv)
    ∧ quiescent_ProjKvIdeal (hProjKvIdeal := hProjKvIdeal)
    ∧ quiescent_ProjKvReferenceIdeal (hProjKvReferenceIdeal := hProjKvReferenceIdeal)
    ∧ quiescent_ProjGlu (hProjGlu := hProjGlu)
    ∧ quiescent_ProjGluIdeal (hProjGluIdeal := hProjGluIdeal)
    ∧ quiescent_ProjGluReferenceIdeal (hProjGluReferenceIdeal := hProjGluReferenceIdeal)
    ∧ quiescent_ConvSample (hConvSample := hConvSample)
    ∧ quiescent_ConvSampleIdeal (hConvSampleIdeal := hConvSampleIdeal)
    ∧ quiescent_ConvSampleReferenceIdeal (hConvSampleReferenceIdeal := hConvSampleReferenceIdeal)
    ∧ quiescent_AttnSample (hAttnSample := hAttnSample)
    ∧ quiescent_AttnSampleIdeal (hAttnSampleIdeal := hAttnSampleIdeal)
    ∧ quiescent_AttnSampleReferenceIdeal (hAttnSampleReferenceIdeal := hAttnSampleReferenceIdeal)
    ∧ quiescent_ProjQ (hProjQ := hProjQ)
    ∧ quiescent_ProjQIdeal (hProjQIdeal := hProjQIdeal)
    ∧ quiescent_ProjQReferenceIdeal (hProjQReferenceIdeal := hProjQReferenceIdeal)
    ∧ preserves_Kernel_KernelIdeal
    ∧ algebraic_KernelIdeal_ReferenceIdeal (hKernelIdeal := hKernelIdeal) (hReferenceIdeal := hReferenceIdeal)
    ∧ preserves_FfnOut_FfnOutIdeal
    ∧ algebraic_FfnOutIdeal_FfnOutReferenceIdeal (hFfnOutIdeal := hFfnOutIdeal) (hFfnOutReferenceIdeal := hFfnOutReferenceIdeal)
    ∧ preserves_NormPrompt_NormPromptIdeal
    ∧ algebraic_NormPromptIdeal_NormPromptReferenceIdeal (hNormPromptIdeal := hNormPromptIdeal) (hNormPromptReferenceIdeal := hNormPromptReferenceIdeal)
    ∧ preserves_NormSample_NormSampleIdeal
    ∧ algebraic_NormSampleIdeal_NormSampleReferenceIdeal (hNormSampleIdeal := hNormSampleIdeal) (hNormSampleReferenceIdeal := hNormSampleReferenceIdeal)
    ∧ preserves_Gates_GatesIdeal
    ∧ algebraic_GatesIdeal_GatesReferenceIdeal (hGatesIdeal := hGatesIdeal) (hGatesReferenceIdeal := hGatesReferenceIdeal)
    ∧ preserves_Merge_MergeIdeal
    ∧ algebraic_MergeIdeal_MergeReferenceIdeal (hMergeIdeal := hMergeIdeal) (hMergeReferenceIdeal := hMergeReferenceIdeal)
    ∧ preserves_OutProj_OutProjIdeal
    ∧ algebraic_OutProjIdeal_OutProjReferenceIdeal (hOutProjIdeal := hOutProjIdeal) (hOutProjReferenceIdeal := hOutProjReferenceIdeal)
    ∧ preserves_ProjKv_ProjKvIdeal
    ∧ algebraic_ProjKvIdeal_ProjKvReferenceIdeal (hProjKvIdeal := hProjKvIdeal) (hProjKvReferenceIdeal := hProjKvReferenceIdeal)
    ∧ preserves_ProjGlu_ProjGluIdeal
    ∧ algebraic_ProjGluIdeal_ProjGluReferenceIdeal (hProjGluIdeal := hProjGluIdeal) (hProjGluReferenceIdeal := hProjGluReferenceIdeal)
    ∧ preserves_ConvSample_ConvSampleIdeal
    ∧ algebraic_ConvSampleIdeal_ConvSampleReferenceIdeal (hConvSampleIdeal := hConvSampleIdeal) (hConvSampleReferenceIdeal := hConvSampleReferenceIdeal)
    ∧ preserves_AttnSample_AttnSampleIdeal
    ∧ algebraic_AttnSampleIdeal_AttnSampleReferenceIdeal (hAttnSampleIdeal := hAttnSampleIdeal) (hAttnSampleReferenceIdeal := hAttnSampleReferenceIdeal)
    ∧ preserves_ProjQ_ProjQIdeal
    ∧ algebraic_ProjQIdeal_ProjQReferenceIdeal (hProjQIdeal := hProjQIdeal) (hProjQReferenceIdeal := hProjQReferenceIdeal)
-- ==== Kernel.lean ====
abbrev S8704x4096 : Shape := ⟨2, ![8704, 4096]⟩
abbrev S4096x22016 : Shape := ⟨2, ![4096, 22016]⟩
abbrev S11008x4096 : Shape := ⟨2, ![11008, 4096]⟩
abbrev S4096x11008 : Shape := ⟨2, ![4096, 11008]⟩
abbrev S8704x11008 : Shape := ⟨2, ![8704, 11008]⟩
abbrev S2x2176x4096 : Shape := ⟨3, ![2, 2176, 4096]⟩
abbrev S2 : Shape := ⟨1, ![2]⟩
abbrev S2x4096x256 : Shape := ⟨3, ![2, 4096, 256]⟩
abbrev S2x64x4096 : Shape := ⟨3, ![2, 64, 4096]⟩
abbrev S2x2176x256 : Shape := ⟨3, ![2, 2176, 256]⟩
abbrev S1 : Shape := ⟨1, ![1]⟩
abbrev S_ : Shape := ⟨0, ![]⟩
abbrev S1x2176x4096 : Shape := ⟨3, ![1, 2176, 4096]⟩
abbrev S2176x4096 : Shape := ⟨2, ![2176, 4096]⟩
abbrev S1x4096x256 : Shape := ⟨3, ![1, 4096, 256]⟩
abbrev S4096x256 : Shape := ⟨2, ![4096, 256]⟩
abbrev S1x64x4096 : Shape := ⟨3, ![1, 64, 4096]⟩
abbrev S64x4096 : Shape := ⟨2, ![64, 4096]⟩
abbrev S2176x256 : Shape := ⟨2, ![2176, 256]⟩
abbrev S1x2176x256 : Shape := ⟨3, ![1, 2176, 256]⟩

abbrev nBuf : Space → Nat
  | .hbm => 10
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S4096x22016, .f32⟩
  | .hbm, ⟨2, _⟩ => ⟨S11008x4096, .f32⟩
  | .hbm, ⟨3, _⟩ => ⟨S8704x4096, .bf16⟩
  | .hbm, ⟨4, _⟩ => ⟨S4096x11008, .f32⟩
  | .hbm, ⟨5, _⟩ => ⟨S4096x11008, .bf16⟩
  | .hbm, ⟨6, _⟩ => ⟨S4096x11008, .f32⟩
  | .hbm, ⟨7, _⟩ => ⟨S4096x11008, .bf16⟩
  | .hbm, ⟨8, _⟩ => ⟨S8704x11008, .bf16⟩
  | .hbm, ⟨9, _⟩ => ⟨S11008x4096, .bf16⟩
  | .local _ .vmem, ⟨0, _⟩ => ⟨S2x2176x4096, .bf16⟩
  | .local _ .vmem, ⟨1, _⟩ => ⟨S2x4096x256, .bf16⟩
  | .local _ .vmem, ⟨2, _⟩ => ⟨S2x4096x256, .bf16⟩
  | .local _ .vmem, ⟨3, _⟩ => ⟨S2x64x4096, .f32⟩
  | .local _ .vmem, ⟨4, _⟩ => ⟨S2x2176x256, .bf16⟩
  | .local _ .vmem, ⟨5, _⟩ => ⟨S2x64x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped10 : Ref sig .tc := ⟨.vmem, 5, rfl⟩

abbrev nD : Nat := 1
abbrev τ : Topo := Topo.v7x

variable {F : FTy → Type} [FloatOps F]

abbrev grid0 : Pipeline.Grid := .none

def k0_off1 : Fin 1 → Nat :=
  let c0_i32_28_r0 : BitVec 32 := 0#32
  let c2_i32_r0 : BitVec 32 := 2#32
  let v32_r0 : BitVec 32 := Scalar.remui c0_i32_28_r0 c2_i32_r0
  ![v32_r0.toNat]
def k0_off2 : Fin 3 → Nat :=
  let c0_i32_28_r0 : BitVec 32 := 0#32
  let c2_i32_r0 : BitVec 32 := 2#32
  let v32_r0 : BitVec 32 := Scalar.remui c0_i32_28_r0 c2_i32_r0
  let c0_i32_29_r0 : BitVec 32 := 0#32
  let c0_i32_30_r0 : BitVec 32 := 0#32
  ![v32_r0.toNat, 0, 0]
def k0_off3 : Fin 3 → Nat :=
  let c0_i32_35_r0 : BitVec 32 := 0#32
  let c2_i32_36_r0 : BitVec 32 := 2#32
  let v39_r0 : BitVec 32 := Scalar.remui c0_i32_35_r0 c2_i32_36_r0
  let c0_i32_37_r0 : BitVec 32 := 0#32
  let c0_i32_38_r0 : BitVec 32 := 0#32
  ![v39_r0.toNat, 0, 0]
def k0_off4 : Fin 3 → Nat :=
  let c0_i32_51_r0 : BitVec 32 := 0#32
  let c2_i32_52_r0 : BitVec 32 := 2#32
  let v53_r0 : BitVec 32 := Scalar.remui c0_i32_51_r0 c2_i32_52_r0
  let c0_i32_53_r0 : BitVec 32 := 0#32
  let c0_i32_54_r0 : BitVec 32 := 0#32
  ![v53_r0.toNat, 0, 0]
@[reducible] def k0_t1_loop : Scf.Loop 32 :=
  let c0_i32_69_r0 : BitVec 32 := 0#32
  let c172_i32_r0 : BitVec 32 := 172#32
  let v60_r0 : BitVec 32 := Scalar.addi c0_i32_69_r0 c172_i32_r0
  let c1_i32_70_r0 : BitVec 32 := 1#32
  ⟨c0_i32_69_r0, v60_r0, c1_i32_70_r0⟩
def k0_off5 (arg7_r0 : BitVec 32) : Fin 1 → Nat :=
  let c2_i32_254_r0 : BitVec 32 := 2#32
  let v388_r0 : BitVec 32 := Scalar.remui arg7_r0 c2_i32_254_r0
  ![v388_r0.toNat]
def k0_cond1 (k0_t1 : Fin k0_t1_loop.trips) (arg20_r0 : BitVec 32) : BitVec 1 :=
  let c0_i32_118_r0 : BitVec 32 := 0#32
  let v122_r0 : BitVec 32 := Scalar.addi arg20_r0 c0_i32_118_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c4_i32_130_r0 : BitVec 32 := 4#32
  let v135_r0 : BitVec 1 := Scalar.cmpi .eq v134_r0 c4_i32_130_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v153_r0 : BitVec 1 := Scalar.cmpi .ne v122_r0 v142_r0
  let c0_i32_69_r0 : BitVec 32 := 0#32
  let c1_i32_70_r0 : BitVec 32 := 1#32
  let arg6_r0 : BitVec 32 := Scf.iv c0_i32_69_r0 c1_i32_70_r0 k0_t1
  let c171_i32_146_r0 : BitVec 32 := 171#32
  let v154_r0 : BitVec 1 := Scalar.cmpi .sge arg6_r0 c171_i32_146_r0
  let true_147_r0 : BitVec 1 := 1#1
  let v155_r0 : BitVec 1 := Scalar.xori v154_r0 true_147_r0
  let v156_r0 : BitVec 1 := Scalar.andi v153_r0 v155_r0
  let true_148_r0 : BitVec 1 := 1#1
  let v157_r0 : BitVec 1 := Scalar.andi v156_r0 true_148_r0
  let v158_r0 : BitVec 32 := Scalar.extui v157_r0
  let c0_i32_149_r0 : BitVec 32 := 0#32
  let v159_r0 : BitVec 1 := Scalar.cmpi .ne v158_r0 c0_i32_149_r0
  v159_r0

def k0_off6 (arg7_r0 : BitVec 32) : Fin 3 → Nat :=
  let c2_i32_254_r0 : BitVec 32 := 2#32
  let v388_r0 : BitVec 32 := Scalar.remui arg7_r0 c2_i32_254_r0
  let c0_i32_256_r0 : BitVec 32 := 0#32
  let c0_i32_257_r0 : BitVec 32 := 0#32
  ![v388_r0.toNat, 0, 0]
def k0_off7 (arg20_r0 : BitVec 32) : Fin 2 → Nat :=
  let c2176_i32_255_r0 : BitVec 32 := 2176#32
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c4_i32_130_r0 : BitVec 32 := 4#32
  let v135_r0 : BitVec 1 := Scalar.cmpi .eq v134_r0 c4_i32_130_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v389_r0 : BitVec 32 := Scalar.muli c2176_i32_255_r0 v142_r0
  let c0_i32_258_r0 : BitVec 32 := 0#32
  ![v389_r0.toNat, 0]
def k0_off8 (arg9_r0 : BitVec 32) : Fin 1 → Nat :=
  let c2_i32_254_r0 : BitVec 32 := 2#32
  let v388_r0 : BitVec 32 := Scalar.remui arg9_r0 c2_i32_254_r0
  ![v388_r0.toNat]
def k0_cond2 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c4_i32_130_r0 : BitVec 32 := 4#32
  let v135_r0 : BitVec 1 := Scalar.cmpi .eq v134_r0 c4_i32_130_r0
  let c1_i32_132_r0 : BitVec 32 := 1#32
  let v137_r0 : BitVec 32 := Scalar.addi arg19_r0 c1_i32_132_r0
  let v138_r0 : BitVec 32 := Scalar.select v135_r0 v137_r0 arg19_r0
  let c43_i32_133_r0 : BitVec 32 := 43#32
  let v139_r0 : BitVec 1 := Scalar.cmpi .eq v138_r0 c43_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let v163_r0 : BitVec 1 := Scalar.cmpi .ne v121_r0 v141_r0
  let c0_i32_69_r0 : BitVec 32 := 0#32
  let c1_i32_70_r0 : BitVec 32 := 1#32
  let arg6_r0 : BitVec 32 := Scf.iv c0_i32_69_r0 c1_i32_70_r0 k0_t1
  let c171_i32_152_r0 : BitVec 32 := 171#32
  let v164_r0 : BitVec 1 := Scalar.cmpi .sge arg6_r0 c171_i32_152_r0
  let true_153_r0 : BitVec 1 := 1#1
  let v165_r0 : BitVec 1 := Scalar.xori v164_r0 true_153_r0
  let v166_r0 : BitVec 1 := Scalar.andi v163_r0 v165_r0
  let true_154_r0 : BitVec 1 := 1#1
  let v167_r0 : BitVec 1 := Scalar.andi v166_r0 true_154_r0
  let v168_r0 : BitVec 32 := Scalar.extui v167_r0
  let c0_i32_155_r0 : BitVec 32 := 0#32
  let v169_r0 : BitVec 1 := Scalar.cmpi .ne v168_r0 c0_i32_155_r0
  v169_r0

def k0_off9 (arg9_r0 : BitVec 32) : Fin 3 → Nat :=
  let c2_i32_254_r0 : BitVec 32 := 2#32
  let v388_r0 : BitVec 32 := Scalar.remui arg9_r0 c2_i32_254_r0
  let c0_i32_256_r0 : BitVec 32 := 0#32
  let c0_i32_257_r0 : BitVec 32 := 0#32
  ![v388_r0.toNat, 0, 0]
def k0_off10 (arg19_r0 : BitVec 32) (arg20_r0 : BitVec 32) : Fin 2 → Nat :=
  let c0_i32_258_r0 : BitVec 32 := 0#32
  let c256_i32_255_r0 : BitVec 32 := 256#32
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c4_i32_130_r0 : BitVec 32 := 4#32
  let v135_r0 : BitVec 1 := Scalar.cmpi .eq v134_r0 c4_i32_130_r0
  let c1_i32_132_r0 : BitVec 32 := 1#32
  let v137_r0 : BitVec 32 := Scalar.addi arg19_r0 c1_i32_132_r0
  let v138_r0 : BitVec 32 := Scalar.select v135_r0 v137_r0 arg19_r0
  let c43_i32_133_r0 : BitVec 32 := 43#32
  let v139_r0 : BitVec 1 := Scalar.cmpi .eq v138_r0 c43_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let v389_r0 : BitVec 32 := Scalar.muli c256_i32_255_r0 v141_r0
  ![0, v389_r0.toNat]
def k0_off11 (arg11_r0 : BitVec 32) : Fin 1 → Nat :=
  let c2_i32_254_r0 : BitVec 32 := 2#32
  let v388_r0 : BitVec 32 := Scalar.remui arg11_r0 c2_i32_254_r0
  ![v388_r0.toNat]
def k0_cond3 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c4_i32_130_r0 : BitVec 32 := 4#32
  let v135_r0 : BitVec 1 := Scalar.cmpi .eq v134_r0 c4_i32_130_r0
  let c1_i32_132_r0 : BitVec 32 := 1#32
  let v137_r0 : BitVec 32 := Scalar.addi arg19_r0 c1_i32_132_r0
  let v138_r0 : BitVec 32 := Scalar.select v135_r0 v137_r0 arg19_r0
  let c43_i32_133_r0 : BitVec 32 := 43#32
  let v139_r0 : BitVec 1 := Scalar.cmpi .eq v138_r0 c43_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let v173_r0 : BitVec 1 := Scalar.cmpi .ne v121_r0 v141_r0
  let c0_i32_69_r0 : BitVec 32 := 0#32
  let c1_i32_70_r0 : BitVec 32 := 1#32
  let arg6_r0 : BitVec 32 := Scf.iv c0_i32_69_r0 c1_i32_70_r0 k0_t1
  let c171_i32_158_r0 : BitVec 32 := 171#32
  let v174_r0 : BitVec 1 := Scalar.cmpi .sge arg6_r0 c171_i32_158_r0
  let true_159_r0 : BitVec 1 := 1#1
  let v175_r0 : BitVec 1 := Scalar.xori v174_r0 true_159_r0
  let v176_r0 : BitVec 1 := Scalar.andi v173_r0 v175_r0
  let true_160_r0 : BitVec 1 := 1#1
  let v177_r0 : BitVec 1 := Scalar.andi v176_r0 true_160_r0
  let v178_r0 : BitVec 32 := Scalar.extui v177_r0
  let c0_i32_161_r0 : BitVec 32 := 0#32
  let v179_r0 : BitVec 1 := Scalar.cmpi .ne v178_r0 c0_i32_161_r0
  v179_r0

def k0_off12 (arg11_r0 : BitVec 32) : Fin 3 → Nat :=
  let c2_i32_254_r0 : BitVec 32 := 2#32
  let v388_r0 : BitVec 32 := Scalar.remui arg11_r0 c2_i32_254_r0
  let c0_i32_256_r0 : BitVec 32 := 0#32
  let c0_i32_257_r0 : BitVec 32 := 0#32
  ![v388_r0.toNat, 0, 0]
def k0_off13 (arg19_r0 : BitVec 32) (arg20_r0 : BitVec 32) : Fin 2 → Nat :=
  let c0_i32_258_r0 : BitVec 32 := 0#32
  let c256_i32_255_r0 : BitVec 32 := 256#32
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c4_i32_130_r0 : BitVec 32 := 4#32
  let v135_r0 : BitVec 1 := Scalar.cmpi .eq v134_r0 c4_i32_130_r0
  let c1_i32_132_r0 : BitVec 32 := 1#32
  let v137_r0 : BitVec 32 := Scalar.addi arg19_r0 c1_i32_132_r0
  let v138_r0 : BitVec 32 := Scalar.select v135_r0 v137_r0 arg19_r0
  let c43_i32_133_r0 : BitVec 32 := 43#32
  let v139_r0 : BitVec 1 := Scalar.cmpi .eq v138_r0 c43_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let v389_r0 : BitVec 32 := Scalar.muli c256_i32_255_r0 v141_r0
  ![0, v389_r0.toNat]
def k0_off14 (arg13_r0 : BitVec 32) : Fin 1 → Nat :=
  let c2_i32_254_r0 : BitVec 32 := 2#32
  let v388_r0 : BitVec 32 := Scalar.remui arg13_r0 c2_i32_254_r0
  ![v388_r0.toNat]
def k0_cond4 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let c4_i32_164_r0 : BitVec 32 := 4#32
  let v183_r0 : BitVec 32 := Scalar.muli v121_r0 c4_i32_164_r0
  let c0_i32_118_r0 : BitVec 32 := 0#32
  let v122_r0 : BitVec 32 := Scalar.addi arg20_r0 c0_i32_118_r0
  let v184_r0 : BitVec 32 := Scalar.addi v183_r0 v122_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c4_i32_130_r0 : BitVec 32 := 4#32
  let v135_r0 : BitVec 1 := Scalar.cmpi .eq v134_r0 c4_i32_130_r0
  let c1_i32_132_r0 : BitVec 32 := 1#32
  let v137_r0 : BitVec 32 := Scalar.addi arg19_r0 c1_i32_132_r0
  let v138_r0 : BitVec 32 := Scalar.select v135_r0 v137_r0 arg19_r0
  let c43_i32_133_r0 : BitVec 32 := 43#32
  let v139_r0 : BitVec 1 := Scalar.cmpi .eq v138_r0 c43_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let c4_i32_165_r0 : BitVec 32 := 4#32
  let v185_r0 : BitVec 32 := Scalar.muli v141_r0 c4_i32_165_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v186_r0 : BitVec 32 := Scalar.addi v185_r0 v142_r0
  let v187_r0 : BitVec 1 := Scalar.cmpi .ne v184_r0 v186_r0
  let c0_i32_69_r0 : BitVec 32 := 0#32
  let c1_i32_70_r0 : BitVec 32 := 1#32
  let arg6_r0 : BitVec 32 := Scf.iv c0_i32_69_r0 c1_i32_70_r0 k0_t1
  let c171_i32_166_r0 : BitVec 32 := 171#32
  let v188_r0 : BitVec 1 := Scalar.cmpi .sge arg6_r0 c171_i32_166_r0
  let true_167_r0 : BitVec 1 := 1#1
  let v189_r0 : BitVec 1 := Scalar.xori v188_r0 true_167_r0
  let v190_r0 : BitVec 1 := Scalar.andi v187_r0 v189_r0
  let true_168_r0 : BitVec 1 := 1#1
  let v191_r0 : BitVec 1 := Scalar.andi v190_r0 true_168_r0
  let v192_r0 : BitVec 32 := Scalar.extui v191_r0
  let c0_i32_169_r0 : BitVec 32 := 0#32
  let v193_r0 : BitVec 1 := Scalar.cmpi .ne v192_r0 c0_i32_169_r0
  v193_r0

def k0_off15 (arg13_r0 : BitVec 32) : Fin 3 → Nat :=
  let c2_i32_254_r0 : BitVec 32 := 2#32
  let v388_r0 : BitVec 32 := Scalar.remui arg13_r0 c2_i32_254_r0
  let c0_i32_257_r0 : BitVec 32 := 0#32
  let c0_i32_258_r0 : BitVec 32 := 0#32
  ![v388_r0.toNat, 0, 0]
def k0_off16 (arg19_r0 : BitVec 32) (arg20_r0 : BitVec 32) : Fin 2 → Nat :=
  let c64_i32_256_r0 : BitVec 32 := 64#32
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c4_i32_130_r0 : BitVec 32 := 4#32
  let v135_r0 : BitVec 1 := Scalar.cmpi .eq v134_r0 c4_i32_130_r0
  let c1_i32_132_r0 : BitVec 32 := 1#32
  let v137_r0 : BitVec 32 := Scalar.addi arg19_r0 c1_i32_132_r0
  let v138_r0 : BitVec 32 := Scalar.select v135_r0 v137_r0 arg19_r0
  let c43_i32_133_r0 : BitVec 32 := 43#32
  let v139_r0 : BitVec 1 := Scalar.cmpi .eq v138_r0 c43_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let c4_i32_255_r0 : BitVec 32 := 4#32
  let v389_r0 : BitVec 32 := Scalar.muli v141_r0 c4_i32_255_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v390_r0 : BitVec 32 := Scalar.addi v389_r0 v142_r0
  let v391_r0 : BitVec 32 := Scalar.muli c64_i32_256_r0 v390_r0
  let c0_i32_259_r0 : BitVec 32 := 0#32
  ![v391_r0.toNat, 0]
def k0_off17 (arg8_r0 : BitVec 32) : Fin 1 → Nat :=
  let c2_i32_255_r0 : BitVec 32 := 2#32
  let v389_r0 : BitVec 32 := Scalar.remui arg8_r0 c2_i32_255_r0
  ![v389_r0.toNat]
def k0_cond5 (k0_t1 : Fin k0_t1_loop.trips) (arg20_r0 : BitVec 32) : BitVec 1 :=
  let c0_i32_118_r0 : BitVec 32 := 0#32
  let v122_r0 : BitVec 32 := Scalar.addi arg20_r0 c0_i32_118_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c3_i32_122_r0 : BitVec 32 := 3#32
  let v126_r0 : BitVec 32 := Scalar.select v125_r0 c3_i32_122_r0 v124_r0
  let c0_i32_127_r0 : BitVec 32 := 0#32
  let v132_r0 : BitVec 32 := Scalar.addi v126_r0 c0_i32_127_r0
  let v211_r0 : BitVec 1 := Scalar.cmpi .ne v122_r0 v132_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let v212_r0 : BitVec 1 := Scalar.ori v211_r0 v119_r0
  let c0_i32_178_r0 : BitVec 32 := 0#32
  let v213_r0 : BitVec 1 := Scalar.cmpi .sge arg6_r0 c0_i32_178_r0
  let v214_r0 : BitVec 1 := Scalar.andi v212_r0 v213_r0
  let v215_r0 : BitVec 32 := Scalar.extui v214_r0
  let c0_i32_179_r0 : BitVec 32 := 0#32
  let v216_r0 : BitVec 1 := Scalar.cmpi .ne v215_r0 c0_i32_179_r0
  v216_r0

def k0_off18 (arg8_r0 : BitVec 32) : Fin 3 → Nat :=
  let c2_i32_255_r0 : BitVec 32 := 2#32
  let v389_r0 : BitVec 32 := Scalar.remui arg8_r0 c2_i32_255_r0
  let c0_i32_256_r0 : BitVec 32 := 0#32
  let c0_i32_257_r0 : BitVec 32 := 0#32
  ![v389_r0.toNat, 0, 0]
def k0_off19 (arg20_r0 : BitVec 32) : Fin 2 → Nat :=
  let c2176_i32_254_r0 : BitVec 32 := 2176#32
  let c0_i32_118_r0 : BitVec 32 := 0#32
  let v122_r0 : BitVec 32 := Scalar.addi arg20_r0 c0_i32_118_r0
  let v388_r0 : BitVec 32 := Scalar.muli c2176_i32_254_r0 v122_r0
  let c0_i32_258_r0 : BitVec 32 := 0#32
  ![v388_r0.toNat, 0]
def k0_off20 (arg10_r0 : BitVec 32) : Fin 1 → Nat :=
  let c2_i32_255_r0 : BitVec 32 := 2#32
  let v389_r0 : BitVec 32 := Scalar.remui arg10_r0 c2_i32_255_r0
  ![v389_r0.toNat]
def k0_cond6 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c42_i32_125_r0 : BitVec 32 := 42#32
  let v130_r0 : BitVec 32 := Scalar.select v129_r0 c42_i32_125_r0 v128_r0
  let c0_i32_126_r0 : BitVec 32 := 0#32
  let v131_r0 : BitVec 32 := Scalar.addi v130_r0 c0_i32_126_r0
  let v217_r0 : BitVec 1 := Scalar.cmpi .ne v121_r0 v131_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let v218_r0 : BitVec 1 := Scalar.ori v217_r0 v119_r0
  let c0_i32_180_r0 : BitVec 32 := 0#32
  let v219_r0 : BitVec 1 := Scalar.cmpi .sge arg6_r0 c0_i32_180_r0
  let v220_r0 : BitVec 1 := Scalar.andi v218_r0 v219_r0
  let v221_r0 : BitVec 32 := Scalar.extui v220_r0
  let c0_i32_181_r0 : BitVec 32 := 0#32
  let v222_r0 : BitVec 1 := Scalar.cmpi .ne v221_r0 c0_i32_181_r0
  v222_r0

def k0_off21 (arg10_r0 : BitVec 32) : Fin 3 → Nat :=
  let c2_i32_255_r0 : BitVec 32 := 2#32
  let v389_r0 : BitVec 32 := Scalar.remui arg10_r0 c2_i32_255_r0
  let c0_i32_256_r0 : BitVec 32 := 0#32
  let c0_i32_257_r0 : BitVec 32 := 0#32
  ![v389_r0.toNat, 0, 0]
def k0_off22 (arg19_r0 : BitVec 32) : Fin 2 → Nat :=
  let c0_i32_258_r0 : BitVec 32 := 0#32
  let c256_i32_254_r0 : BitVec 32 := 256#32
  let c0_i32_117_r0 : BitVec 32 := 0#32
  let v121_r0 : BitVec 32 := Scalar.addi arg19_r0 c0_i32_117_r0
  let v388_r0 : BitVec 32 := Scalar.muli c256_i32_254_r0 v121_r0
  ![0, v388_r0.toNat]
def k0_off23 (arg12_r0 : BitVec 32) : Fin 1 → Nat :=
  let c2_i32_255_r0 : BitVec 32 := 2#32
  let v389_r0 : BitVec 32 := Scalar.remui arg12_r0 c2_i32_255_r0
  ![v389_r0.toNat]
def k0_cond7 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c42_i32_125_r0 : BitVec 32 := 42#32
  let v130_r0 : BitVec 32 := Scalar.select v129_r0 c42_i32_125_r0 v128_r0
  let c0_i32_126_r0 : BitVec 32 := 0#32
  let v131_r0 : BitVec 32 := Scalar.addi v130_r0 c0_i32_126_r0
  let v223_r0 : BitVec 1 := Scalar.cmpi .ne v121_r0 v131_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let v224_r0 : BitVec 1 := Scalar.ori v223_r0 v119_r0
  let c0_i32_182_r0 : BitVec 32 := 0#32
  let v225_r0 : BitVec 1 := Scalar.cmpi .sge arg6_r0 c0_i32_182_r0
  let v226_r0 : BitVec 1 := Scalar.andi v224_r0 v225_r0
  let v227_r0 : BitVec 32 := Scalar.extui v226_r0
  let c0_i32_183_r0 : BitVec 32 := 0#32
  let v228_r0 : BitVec 1 := Scalar.cmpi .ne v227_r0 c0_i32_183_r0
  v228_r0

def k0_off24 (arg12_r0 : BitVec 32) : Fin 3 → Nat :=
  let c2_i32_255_r0 : BitVec 32 := 2#32
  let v389_r0 : BitVec 32 := Scalar.remui arg12_r0 c2_i32_255_r0
  let c0_i32_256_r0 : BitVec 32 := 0#32
  let c0_i32_257_r0 : BitVec 32 := 0#32
  ![v389_r0.toNat, 0, 0]
def k0_off25 (arg19_r0 : BitVec 32) : Fin 2 → Nat :=
  let c0_i32_258_r0 : BitVec 32 := 0#32
  let c256_i32_254_r0 : BitVec 32 := 256#32
  let c0_i32_117_r0 : BitVec 32 := 0#32
  let v121_r0 : BitVec 32 := Scalar.addi arg19_r0 c0_i32_117_r0
  let v388_r0 : BitVec 32 := Scalar.muli c256_i32_254_r0 v121_r0
  ![0, v388_r0.toNat]
def k0_off26 (arg14_r0 : BitVec 32) : Fin 1 → Nat :=
  let c2_i32_256_r0 : BitVec 32 := 2#32
  let v391_r0 : BitVec 32 := Scalar.remui arg14_r0 c2_i32_256_r0
  ![v391_r0.toNat]
def k0_cond8 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let c4_i32_164_r0 : BitVec 32 := 4#32
  let v183_r0 : BitVec 32 := Scalar.muli v121_r0 c4_i32_164_r0
  let c0_i32_118_r0 : BitVec 32 := 0#32
  let v122_r0 : BitVec 32 := Scalar.addi arg20_r0 c0_i32_118_r0
  let v184_r0 : BitVec 32 := Scalar.addi v183_r0 v122_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c42_i32_125_r0 : BitVec 32 := 42#32
  let v130_r0 : BitVec 32 := Scalar.select v129_r0 c42_i32_125_r0 v128_r0
  let c0_i32_126_r0 : BitVec 32 := 0#32
  let v131_r0 : BitVec 32 := Scalar.addi v130_r0 c0_i32_126_r0
  let c4_i32_184_r0 : BitVec 32 := 4#32
  let v229_r0 : BitVec 32 := Scalar.muli v131_r0 c4_i32_184_r0
  let c3_i32_122_r0 : BitVec 32 := 3#32
  let v126_r0 : BitVec 32 := Scalar.select v125_r0 c3_i32_122_r0 v124_r0
  let c0_i32_127_r0 : BitVec 32 := 0#32
  let v132_r0 : BitVec 32 := Scalar.addi v126_r0 c0_i32_127_r0
  let v230_r0 : BitVec 32 := Scalar.addi v229_r0 v132_r0
  let v231_r0 : BitVec 1 := Scalar.cmpi .ne v184_r0 v230_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let v232_r0 : BitVec 1 := Scalar.ori v231_r0 v119_r0
  let c0_i32_185_r0 : BitVec 32 := 0#32
  let v233_r0 : BitVec 1 := Scalar.cmpi .sge arg6_r0 c0_i32_185_r0
  let v234_r0 : BitVec 1 := Scalar.andi v232_r0 v233_r0
  let v235_r0 : BitVec 32 := Scalar.extui v234_r0
  let c0_i32_186_r0 : BitVec 32 := 0#32
  let v236_r0 : BitVec 1 := Scalar.cmpi .ne v235_r0 c0_i32_186_r0
  v236_r0

def k0_off27 (arg14_r0 : BitVec 32) : Fin 3 → Nat :=
  let c2_i32_256_r0 : BitVec 32 := 2#32
  let v391_r0 : BitVec 32 := Scalar.remui arg14_r0 c2_i32_256_r0
  let c0_i32_257_r0 : BitVec 32 := 0#32
  let c0_i32_258_r0 : BitVec 32 := 0#32
  ![v391_r0.toNat, 0, 0]
def k0_off28 (arg19_r0 : BitVec 32) (arg20_r0 : BitVec 32) : Fin 2 → Nat :=
  let c64_i32_255_r0 : BitVec 32 := 64#32
  let c0_i32_117_r0 : BitVec 32 := 0#32
  let v121_r0 : BitVec 32 := Scalar.addi arg19_r0 c0_i32_117_r0
  let c4_i32_254_r0 : BitVec 32 := 4#32
  let v388_r0 : BitVec 32 := Scalar.muli v121_r0 c4_i32_254_r0
  let c0_i32_118_r0 : BitVec 32 := 0#32
  let v122_r0 : BitVec 32 := Scalar.addi arg20_r0 c0_i32_118_r0
  let v389_r0 : BitVec 32 := Scalar.addi v388_r0 v122_r0
  let v390_r0 : BitVec 32 := Scalar.muli c64_i32_255_r0 v389_r0
  let c0_i32_259_r0 : BitVec 32 := 0#32
  ![v390_r0.toNat, 0]
def k0_off29 (arg14_r0 : BitVec 32) : Fin 3 → Nat :=
  let c2_i32_195_r0 : BitVec 32 := 2#32
  let v256_r0 : BitVec 32 := Scalar.remui arg14_r0 c2_i32_195_r0
  let v259_r0 : Index := Scalar.indexCast v256_r0
  let c0_r0 : Index := 0#32
  let c0_198_r0 : Index := 0#32
  ![v259_r0.toNat, 0, 0]

def k0_chk2 (arg14_r0 : BitVec 32) : Prop :=
  (∀ a, (k0_off29 arg14_r0) a + S1x64x4096.size a ≤ S2x64x4096.size a)
theorem k0_off29_inb : ∀ (arg14_r0 : BitVec 32) (k0_hw2 : k0_chk2 arg14_r0), ∀ a, (k0_off29 arg14_r0) a + S1x64x4096.size a ≤ S2x64x4096.size a := fun arg14_r0 k0_hw2 => k0_hw2

def k0_off30 (arg17_r0 : BitVec 32) : Fin 3 → Nat :=
  let c2_i32_197_r0 : BitVec 32 := 2#32
  let v258_r0 : BitVec 32 := Scalar.remui arg17_r0 c2_i32_197_r0
  let v263_r0 : Index := Scalar.indexCast v258_r0
  let c0_199_r0 : Index := 0#32
  let c0_200_r0 : Index := 0#32
  ![v263_r0.toNat, 0, 0]

def k0_chk3 (arg17_r0 : BitVec 32) : Prop :=
  (∀ a, (k0_off30 arg17_r0) a + S1x64x4096.size a ≤ S2x64x4096.size a) ∧
  (∀ (hinb : ∀ a, (k0_off30 arg17_r0) a + S1x64x4096.size a ≤ S2x64x4096.size a), (Rect.unit (s := S2x64x4096) (k0_off30 arg17_r0) S1x64x4096.size hinb).PackedRows (EltTy.packing .bf16))
theorem k0_off30_inb : ∀ (arg17_r0 : BitVec 32) (k0_hw3 : k0_chk3 arg17_r0), ∀ a, (k0_off30 arg17_r0) a + S1x64x4096.size a ≤ S2x64x4096.size a := fun arg17_r0 k0_hw3 => k0_hw3.1
theorem k0_off30_packedbf16 : ∀ (arg17_r0 : BitVec 32) (k0_hw3 : k0_chk3 arg17_r0), (Rect.unit (s := S2x64x4096) (k0_off30 arg17_r0) S1x64x4096.size (k0_off30_inb arg17_r0 k0_hw3)).PackedRows (EltTy.packing .bf16) := fun arg17_r0 k0_hw3 => k0_hw3.2 (k0_off30_inb arg17_r0 k0_hw3)

def k0_off31 (arg8_r0 : BitVec 32) : Fin 3 → Nat :=
  let c2_i32_192_r0 : BitVec 32 := 2#32
  let v253_r0 : BitVec 32 := Scalar.remui arg8_r0 c2_i32_192_r0
  let v267_r0 : Index := Scalar.indexCast v253_r0
  let c0_201_r0 : Index := 0#32
  let c0_202_r0 : Index := 0#32
  ![v267_r0.toNat, 0, 0]

def k0_chk4 (arg8_r0 : BitVec 32) : Prop :=
  (∀ a, (k0_off31 arg8_r0) a + S1x2176x4096.size a ≤ S2x2176x4096.size a)
theorem k0_off31_inb : ∀ (arg8_r0 : BitVec 32) (k0_hw4 : k0_chk4 arg8_r0), ∀ a, (k0_off31 arg8_r0) a + S1x2176x4096.size a ≤ S2x2176x4096.size a := fun arg8_r0 k0_hw4 => k0_hw4

def k0_off32 (arg10_r0 : BitVec 32) : Fin 3 → Nat :=
  let c2_i32_193_r0 : BitVec 32 := 2#32
  let v254_r0 : BitVec 32 := Scalar.remui arg10_r0 c2_i32_193_r0
  let v270_r0 : Index := Scalar.indexCast v254_r0
  let c0_203_r0 : Index := 0#32
  let c0_204_r0 : Index := 0#32
  ![v270_r0.toNat, 0, 0]

def k0_chk5 (arg10_r0 : BitVec 32) : Prop :=
  (∀ a, (k0_off32 arg10_r0) a + S1x4096x256.size a ≤ S2x4096x256.size a)
theorem k0_off32_inb : ∀ (arg10_r0 : BitVec 32) (k0_hw5 : k0_chk5 arg10_r0), ∀ a, (k0_off32 arg10_r0) a + S1x4096x256.size a ≤ S2x4096x256.size a := fun arg10_r0 k0_hw5 => k0_hw5

def k0_off33 (arg12_r0 : BitVec 32) : Fin 3 → Nat :=
  let c2_i32_194_r0 : BitVec 32 := 2#32
  let v255_r0 : BitVec 32 := Scalar.remui arg12_r0 c2_i32_194_r0
  let v274_r0 : Index := Scalar.indexCast v255_r0
  let c0_205_r0 : Index := 0#32
  let c0_206_r0 : Index := 0#32
  ![v274_r0.toNat, 0, 0]

def k0_chk6 (arg12_r0 : BitVec 32) : Prop :=
  (∀ a, (k0_off33 arg12_r0) a + S1x4096x256.size a ≤ S2x4096x256.size a)
theorem k0_off33_inb : ∀ (arg12_r0 : BitVec 32) (k0_hw6 : k0_chk6 arg12_r0), ∀ a, (k0_off33 arg12_r0) a + S1x4096x256.size a ≤ S2x4096x256.size a := fun arg12_r0 k0_hw6 => k0_hw6

def k0_off34 (arg15_r0 : BitVec 32) : Fin 3 → Nat :=
  let c2_i32_196_r0 : BitVec 32 := 2#32
  let v257_r0 : BitVec 32 := Scalar.remui arg15_r0 c2_i32_196_r0
  let v282_r0 : Index := Scalar.indexCast v257_r0
  let c0_208_r0 : Index := 0#32
  let c0_209_r0 : Index := 0#32
  ![v282_r0.toNat, 0, 0]

def k0_chk7 (arg15_r0 : BitVec 32) : Prop :=
  (∀ a, (k0_off34 arg15_r0) a + S1x2176x256.size a ≤ S2x2176x256.size a) ∧
  (∀ (hinb : ∀ a, (k0_off34 arg15_r0) a + S1x2176x256.size a ≤ S2x2176x256.size a), (Rect.unit (s := S2x2176x256) (k0_off34 arg15_r0) S1x2176x256.size hinb).PackedRows (EltTy.packing .bf16))
theorem k0_off34_inb : ∀ (arg15_r0 : BitVec 32) (k0_hw7 : k0_chk7 arg15_r0), ∀ a, (k0_off34 arg15_r0) a + S1x2176x256.size a ≤ S2x2176x256.size a := fun arg15_r0 k0_hw7 => k0_hw7.1
theorem k0_off34_packedbf16 : ∀ (arg15_r0 : BitVec 32) (k0_hw7 : k0_chk7 arg15_r0), (Rect.unit (s := S2x2176x256) (k0_off34 arg15_r0) S1x2176x256.size (k0_off34_inb arg15_r0 k0_hw7)).PackedRows (EltTy.packing .bf16) := fun arg15_r0 k0_hw7 => k0_hw7.2 (k0_off34_inb arg15_r0 k0_hw7)

def k0_off35 (arg15_r0 : BitVec 32) : Fin 1 → Nat :=
  let c2_i32_254_r0 : BitVec 32 := 2#32
  let v388_r0 : BitVec 32 := Scalar.remui arg15_r0 c2_i32_254_r0
  ![v388_r0.toNat]
def k0_cond15 (k0_t1 : Fin k0_t1_loop.trips) (arg19_r0 : BitVec 32) (arg20_r0 : BitVec 32) : BitVec 1 :=
  let c0_i32_118_r0 : BitVec 32 := 0#32
  let v122_r0 : BitVec 32 := Scalar.addi arg20_r0 c0_i32_118_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c4_i32_130_r0 : BitVec 32 := 4#32
  let v135_r0 : BitVec 1 := Scalar.cmpi .eq v134_r0 c4_i32_130_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v306_r0 : BitVec 1 := Scalar.cmpi .ne v122_r0 v142_r0
  let c0_i32_117_r0 : BitVec 32 := 0#32
  let v121_r0 : BitVec 32 := Scalar.addi arg19_r0 c0_i32_117_r0
  let c1_i32_132_r0 : BitVec 32 := 1#32
  let v137_r0 : BitVec 32 := Scalar.addi arg19_r0 c1_i32_132_r0
  let v138_r0 : BitVec 32 := Scalar.select v135_r0 v137_r0 arg19_r0
  let c43_i32_133_r0 : BitVec 32 := 43#32
  let v139_r0 : BitVec 1 := Scalar.cmpi .eq v138_r0 c43_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let v307_r0 : BitVec 1 := Scalar.cmpi .ne v121_r0 v141_r0
  let v308_r0 : BitVec 1 := Scalar.ori v306_r0 v307_r0
  let c0_i32_69_r0 : BitVec 32 := 0#32
  let c1_i32_70_r0 : BitVec 32 := 1#32
  let arg6_r0 : BitVec 32 := Scf.iv c0_i32_69_r0 c1_i32_70_r0 k0_t1
  let c171_i32_r0 : BitVec 32 := 171#32
  let v120_r0 : BitVec 1 := Scalar.cmpi .eq arg6_r0 c171_i32_r0
  let v309_r0 : BitVec 1 := Scalar.ori v308_r0 v120_r0
  let v310_r0 : BitVec 32 := Scalar.extui v309_r0
  let c0_i32_217_r0 : BitVec 32 := 0#32
  let v311_r0 : BitVec 1 := Scalar.cmpi .ne v310_r0 c0_i32_217_r0
  v311_r0

def k0_off36 (arg19_r0 : BitVec 32) (arg20_r0 : BitVec 32) : Fin 2 → Nat :=
  let c2176_i32_255_r0 : BitVec 32 := 2176#32
  let c0_i32_118_r0 : BitVec 32 := 0#32
  let v122_r0 : BitVec 32 := Scalar.addi arg20_r0 c0_i32_118_r0
  let v389_r0 : BitVec 32 := Scalar.muli c2176_i32_255_r0 v122_r0
  let c256_i32_256_r0 : BitVec 32 := 256#32
  let c0_i32_117_r0 : BitVec 32 := 0#32
  let v121_r0 : BitVec 32 := Scalar.addi arg19_r0 c0_i32_117_r0
  let v390_r0 : BitVec 32 := Scalar.muli c256_i32_256_r0 v121_r0
  ![v389_r0.toNat, v390_r0.toNat]
def k0_off37 (arg15_r0 : BitVec 32) : Fin 3 → Nat :=
  let c2_i32_254_r0 : BitVec 32 := 2#32
  let v388_r0 : BitVec 32 := Scalar.remui arg15_r0 c2_i32_254_r0
  let c0_i32_257_r0 : BitVec 32 := 0#32
  let c0_i32_258_r0 : BitVec 32 := 0#32
  ![v388_r0.toNat, 0, 0]
def k0_off38 (arg17_r0 : BitVec 32) : Fin 1 → Nat :=
  let c2_i32_254_r0 : BitVec 32 := 2#32
  let v388_r0 : BitVec 32 := Scalar.remui arg17_r0 c2_i32_254_r0
  ![v388_r0.toNat]
def k0_cond16 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let c4_i32_174_r0 : BitVec 32 := 4#32
  let v203_r0 : BitVec 32 := Scalar.muli v121_r0 c4_i32_174_r0
  let c0_i32_118_r0 : BitVec 32 := 0#32
  let v122_r0 : BitVec 32 := Scalar.addi arg20_r0 c0_i32_118_r0
  let v204_r0 : BitVec 32 := Scalar.addi v203_r0 v122_r0
  let true_129_r0 : BitVec 1 := 1#1
  let c1_i32_128_r0 : BitVec 32 := 1#32
  let v133_r0 : BitVec 32 := Scalar.addi arg20_r0 c1_i32_128_r0
  let v134_r0 : BitVec 32 := Scalar.select true_129_r0 v133_r0 arg20_r0
  let c4_i32_130_r0 : BitVec 32 := 4#32
  let v135_r0 : BitVec 1 := Scalar.cmpi .eq v134_r0 c4_i32_130_r0
  let c1_i32_132_r0 : BitVec 32 := 1#32
  let v137_r0 : BitVec 32 := Scalar.addi arg19_r0 c1_i32_132_r0
  let v138_r0 : BitVec 32 := Scalar.select v135_r0 v137_r0 arg19_r0
  let c43_i32_133_r0 : BitVec 32 := 43#32
  let v139_r0 : BitVec 1 := Scalar.cmpi .eq v138_r0 c43_i32_133_r0
  let c0_i32_134_r0 : BitVec 32 := 0#32
  let v140_r0 : BitVec 32 := Scalar.select v139_r0 c0_i32_134_r0 v138_r0
  let c0_i32_135_r0 : BitVec 32 := 0#32
  let v141_r0 : BitVec 32 := Scalar.addi v140_r0 c0_i32_135_r0
  let c4_i32_175_r0 : BitVec 32 := 4#32
  let v205_r0 : BitVec 32 := Scalar.muli v141_r0 c4_i32_175_r0
  let c0_i32_131_r0 : BitVec 32 := 0#32
  let v136_r0 : BitVec 32 := Scalar.select v135_r0 c0_i32_131_r0 v134_r0
  let c0_i32_136_r0 : BitVec 32 := 0#32
  let v142_r0 : BitVec 32 := Scalar.addi v136_r0 c0_i32_136_r0
  let v206_r0 : BitVec 32 := Scalar.addi v205_r0 v142_r0
  let v315_r0 : BitVec 1 := Scalar.cmpi .ne v204_r0 v206_r0
  let c0_i32_69_r0 : BitVec 32 := 0#32
  let c1_i32_70_r0 : BitVec 32 := 1#32
  let arg6_r0 : BitVec 32 := Scf.iv c0_i32_69_r0 c1_i32_70_r0 k0_t1
  let c171_i32_r0 : BitVec 32 := 171#32
  let v120_r0 : BitVec 1 := Scalar.cmpi .eq arg6_r0 c171_i32_r0
  let v316_r0 : BitVec 1 := Scalar.ori v315_r0 v120_r0
  let v317_r0 : BitVec 32 := Scalar.extui v316_r0
  let c0_i32_220_r0 : BitVec 32 := 0#32
  let v318_r0 : BitVec 1 := Scalar.cmpi .ne v317_r0 c0_i32_220_r0
  v318_r0

def k0_off39 (arg19_r0 : BitVec 32) (arg20_r0 : BitVec 32) : Fin 2 → Nat :=
  let c64_i32_256_r0 : BitVec 32 := 64#32
  let c0_i32_117_r0 : BitVec 32 := 0#32
  let v121_r0 : BitVec 32 := Scalar.addi arg19_r0 c0_i32_117_r0
  let c4_i32_255_r0 : BitVec 32 := 4#32
  let v389_r0 : BitVec 32 := Scalar.muli v121_r0 c4_i32_255_r0
  let c0_i32_118_r0 : BitVec 32 := 0#32
  let v122_r0 : BitVec 32 := Scalar.addi arg20_r0 c0_i32_118_r0
  let v390_r0 : BitVec 32 := Scalar.addi v389_r0 v122_r0
  let v391_r0 : BitVec 32 := Scalar.muli c64_i32_256_r0 v390_r0
  let c0_i32_257_r0 : BitVec 32 := 0#32
  ![v391_r0.toNat, 0]
def k0_off40 (arg17_r0 : BitVec 32) : Fin 3 → Nat :=
  let c2_i32_254_r0 : BitVec 32 := 2#32
  let v388_r0 : BitVec 32 := Scalar.remui arg17_r0 c2_i32_254_r0
  let c0_i32_258_r0 : BitVec 32 := 0#32
  let c0_i32_259_r0 : BitVec 32 := 0#32
  ![v388_r0.toNat, 0, 0]
def k0_off41 (arg16_r0 : BitVec 32) : Fin 1 → Nat :=
  let c2_i32_254_r0 : BitVec 32 := 2#32
  let v388_r0 : BitVec 32 := Scalar.remui arg16_r0 c2_i32_254_r0
  ![v388_r0.toNat]
def k0_cond21 (k0_t1 : Fin k0_t1_loop.trips) (arg19_r0 : BitVec 32) (arg20_r0 : BitVec 32) : BitVec 1 :=
  let c0_i32_118_r0 : BitVec 32 := 0#32
  let v122_r0 : BitVec 32 := Scalar.addi arg20_r0 c0_i32_118_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c3_i32_122_r0 : BitVec 32 := 3#32
  let v126_r0 : BitVec 32 := Scalar.select v125_r0 c3_i32_122_r0 v124_r0
  let c0_i32_127_r0 : BitVec 32 := 0#32
  let v132_r0 : BitVec 32 := Scalar.addi v126_r0 c0_i32_127_r0
  let v346_r0 : BitVec 1 := Scalar.cmpi .ne v122_r0 v132_r0
  let c0_i32_117_r0 : BitVec 32 := 0#32
  let v121_r0 : BitVec 32 := Scalar.addi arg19_r0 c0_i32_117_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c42_i32_125_r0 : BitVec 32 := 42#32
  let v130_r0 : BitVec 32 := Scalar.select v129_r0 c42_i32_125_r0 v128_r0
  let c0_i32_126_r0 : BitVec 32 := 0#32
  let v131_r0 : BitVec 32 := Scalar.addi v130_r0 c0_i32_126_r0
  let v347_r0 : BitVec 1 := Scalar.cmpi .ne v121_r0 v131_r0
  let v348_r0 : BitVec 1 := Scalar.ori v346_r0 v347_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let true_235_r0 : BitVec 1 := 1#1
  let v349_r0 : BitVec 1 := Scalar.xori v119_r0 true_235_r0
  let v350_r0 : BitVec 1 := Scalar.andi v348_r0 v349_r0
  let v351_r0 : BitVec 32 := Scalar.extui v350_r0
  let c0_i32_236_r0 : BitVec 32 := 0#32
  let v352_r0 : BitVec 1 := Scalar.cmpi .ne v351_r0 c0_i32_236_r0
  v352_r0

def k0_off42 (arg19_r0 : BitVec 32) (arg20_r0 : BitVec 32) : Fin 2 → Nat :=
  let c2176_i32_255_r0 : BitVec 32 := 2176#32
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c3_i32_122_r0 : BitVec 32 := 3#32
  let v126_r0 : BitVec 32 := Scalar.select v125_r0 c3_i32_122_r0 v124_r0
  let c0_i32_127_r0 : BitVec 32 := 0#32
  let v132_r0 : BitVec 32 := Scalar.addi v126_r0 c0_i32_127_r0
  let v389_r0 : BitVec 32 := Scalar.muli c2176_i32_255_r0 v132_r0
  let c256_i32_256_r0 : BitVec 32 := 256#32
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c42_i32_125_r0 : BitVec 32 := 42#32
  let v130_r0 : BitVec 32 := Scalar.select v129_r0 c42_i32_125_r0 v128_r0
  let c0_i32_126_r0 : BitVec 32 := 0#32
  let v131_r0 : BitVec 32 := Scalar.addi v130_r0 c0_i32_126_r0
  let v390_r0 : BitVec 32 := Scalar.muli c256_i32_256_r0 v131_r0
  ![v389_r0.toNat, v390_r0.toNat]
def k0_off43 (arg16_r0 : BitVec 32) : Fin 3 → Nat :=
  let c2_i32_254_r0 : BitVec 32 := 2#32
  let v388_r0 : BitVec 32 := Scalar.remui arg16_r0 c2_i32_254_r0
  let c0_i32_257_r0 : BitVec 32 := 0#32
  let c0_i32_258_r0 : BitVec 32 := 0#32
  ![v388_r0.toNat, 0, 0]
def k0_off44 (arg18_r0 : BitVec 32) : Fin 1 → Nat :=
  let c2_i32_254_r0 : BitVec 32 := 2#32
  let v388_r0 : BitVec 32 := Scalar.remui arg18_r0 c2_i32_254_r0
  ![v388_r0.toNat]
def k0_cond22 (k0_t1 : Fin k0_t1_loop.trips) (arg19_r0 : BitVec 32) (arg20_r0 : BitVec 32) : BitVec 1 :=
  let c0_i32_117_r0 : BitVec 32 := 0#32
  let v121_r0 : BitVec 32 := Scalar.addi arg19_r0 c0_i32_117_r0
  let c4_i32_174_r0 : BitVec 32 := 4#32
  let v203_r0 : BitVec 32 := Scalar.muli v121_r0 c4_i32_174_r0
  let c0_i32_118_r0 : BitVec 32 := 0#32
  let v122_r0 : BitVec 32 := Scalar.addi arg20_r0 c0_i32_118_r0
  let v204_r0 : BitVec 32 := Scalar.addi v203_r0 v122_r0
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c42_i32_125_r0 : BitVec 32 := 42#32
  let v130_r0 : BitVec 32 := Scalar.select v129_r0 c42_i32_125_r0 v128_r0
  let c0_i32_126_r0 : BitVec 32 := 0#32
  let v131_r0 : BitVec 32 := Scalar.addi v130_r0 c0_i32_126_r0
  let c4_i32_189_r0 : BitVec 32 := 4#32
  let v245_r0 : BitVec 32 := Scalar.muli v131_r0 c4_i32_189_r0
  let c3_i32_122_r0 : BitVec 32 := 3#32
  let v126_r0 : BitVec 32 := Scalar.select v125_r0 c3_i32_122_r0 v124_r0
  let c0_i32_127_r0 : BitVec 32 := 0#32
  let v132_r0 : BitVec 32 := Scalar.addi v126_r0 c0_i32_127_r0
  let v246_r0 : BitVec 32 := Scalar.addi v245_r0 v132_r0
  let v356_r0 : BitVec 1 := Scalar.cmpi .ne v204_r0 v246_r0
  let c0_i32_69_r0 : BitVec 32 := 0#32
  let c1_i32_70_r0 : BitVec 32 := 1#32
  let arg6_r0 : BitVec 32 := Scf.iv c0_i32_69_r0 c1_i32_70_r0 k0_t1
  let c0_i32_116_r0 : BitVec 32 := 0#32
  let v119_r0 : BitVec 1 := Scalar.cmpi .eq arg6_r0 c0_i32_116_r0
  let true_239_r0 : BitVec 1 := 1#1
  let v357_r0 : BitVec 1 := Scalar.xori v119_r0 true_239_r0
  let v358_r0 : BitVec 1 := Scalar.andi v356_r0 v357_r0
  let v359_r0 : BitVec 32 := Scalar.extui v358_r0
  let c0_i32_240_r0 : BitVec 32 := 0#32
  let v360_r0 : BitVec 1 := Scalar.cmpi .ne v359_r0 c0_i32_240_r0
  v360_r0

def k0_off45 (arg19_r0 : BitVec 32) (arg20_r0 : BitVec 32) : Fin 2 → Nat :=
  let c64_i32_256_r0 : BitVec 32 := 64#32
  let true_120_r0 : BitVec 1 := 1#1
  let c1_i32_119_r0 : BitVec 32 := 1#32
  let v123_r0 : BitVec 32 := Scalar.subi arg20_r0 c1_i32_119_r0
  let v124_r0 : BitVec 32 := Scalar.select true_120_r0 v123_r0 arg20_r0
  let c_m1_i32_121_r0 : BitVec 32 := 4294967295#32
  let v125_r0 : BitVec 1 := Scalar.cmpi .eq v124_r0 c_m1_i32_121_r0
  let c1_i32_123_r0 : BitVec 32 := 1#32
  let v127_r0 : BitVec 32 := Scalar.subi arg19_r0 c1_i32_123_r0
  let v128_r0 : BitVec 32 := Scalar.select v125_r0 v127_r0 arg19_r0
  let c_m1_i32_124_r0 : BitVec 32 := 4294967295#32
  let v129_r0 : BitVec 1 := Scalar.cmpi .eq v128_r0 c_m1_i32_124_r0
  let c42_i32_125_r0 : BitVec 32 := 42#32
  let v130_r0 : BitVec 32 := Scalar.select v129_r0 c42_i32_125_r0 v128_r0
  let c0_i32_126_r0 : BitVec 32 := 0#32
  let v131_r0 : BitVec 32 := Scalar.addi v130_r0 c0_i32_126_r0
  let c4_i32_255_r0 : BitVec 32 := 4#32
  let v389_r0 : BitVec 32 := Scalar.muli v131_r0 c4_i32_255_r0
  let c3_i32_122_r0 : BitVec 32 := 3#32
  let v126_r0 : BitVec 32 := Scalar.select v125_r0 c3_i32_122_r0 v124_r0
  let c0_i32_127_r0 : BitVec 32 := 0#32
  let v132_r0 : BitVec 32 := Scalar.addi v126_r0 c0_i32_127_r0
  let v390_r0 : BitVec 32 := Scalar.addi v389_r0 v132_r0
  let v391_r0 : BitVec 32 := Scalar.muli c64_i32_256_r0 v390_r0
  let c0_i32_257_r0 : BitVec 32 := 0#32
  ![v391_r0.toNat, 0]
def k0_off46 (arg18_r0 : BitVec 32) : Fin 3 → Nat :=
  let c2_i32_254_r0 : BitVec 32 := 2#32
  let v388_r0 : BitVec 32 := Scalar.remui arg18_r0 c2_i32_254_r0
  let c0_i32_258_r0 : BitVec 32 := 0#32
  let c0_i32_259_r0 : BitVec 32 := 0#32
  ![v388_r0.toNat, 0, 0]

def k0_chk1_0 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  (∀ (k0_h1 : k0_cond1 k0_t1 arg20_r0 = 1#1), ∀ a, (k0_off5 arg7_r0) a + S1.size a ≤ S2.size a) ∧
  (∀ (k0_h1 : k0_cond1 k0_t1 arg20_r0 = 1#1), ∀ a, (k0_off6 arg7_r0) a + S1x2176x4096.size a ≤ S2x2176x4096.size a) ∧
  (∀ (k0_h1 : k0_cond1 k0_t1 arg20_r0 = 1#1), ∀ a, (k0_off7 arg20_r0) a + S2176x4096.size a ≤ S8704x4096.size a) ∧
  (∀ (k0_h1 : k0_cond1 k0_t1 arg20_r0 = 1#1), ∀ (hinb : ∀ a, (k0_off7 arg20_r0) a + S2176x4096.size a ≤ S8704x4096.size a), (Rect.unit (s := S8704x4096) (k0_off7 arg20_r0) S2176x4096.size hinb).WholeWords (EltTy.packing .bf16)) ∧
  (∀ (k0_h1 : k0_cond1 k0_t1 arg20_r0 = 1#1), ∀ (hinb : ∀ a, (k0_off6 arg7_r0) a + S1x2176x4096.size a ≤ S2x2176x4096.size a), (Rect.unit (s := S2x2176x4096) (k0_off6 arg7_r0) S1x2176x4096.size hinb).WholeWords (EltTy.packing .bf16)) ∧
  (∀ (k0_h2 : k0_cond2 k0_t1 arg19_r0 arg20_r0 = 1#1), ∀ a, (k0_off8 arg9_r0) a + S1.size a ≤ S2.size a) ∧
  (∀ (k0_h2 : k0_cond2 k0_t1 arg19_r0 arg20_r0 = 1#1), ∀ a, (k0_off9 arg9_r0) a + S1x4096x256.size a ≤ S2x4096x256.size a) ∧
  (∀ (k0_h2 : k0_cond2 k0_t1 arg19_r0 arg20_r0 = 1#1), ∀ a, (k0_off10 arg19_r0 arg20_r0) a + S4096x256.size a ≤ S4096x11008.size a) ∧
  (∀ (k0_h2 : k0_cond2 k0_t1 arg19_r0 arg20_r0 = 1#1), ∀ (hinb : ∀ a, (k0_off10 arg19_r0 arg20_r0) a + S4096x256.size a ≤ S4096x11008.size a), (Rect.unit (s := S4096x11008) (k0_off10 arg19_r0 arg20_r0) S4096x256.size hinb).WholeWords (EltTy.packing .bf16)) ∧
  (∀ (k0_h2 : k0_cond2 k0_t1 arg19_r0 arg20_r0 = 1#1), ∀ (hinb : ∀ a, (k0_off9 arg9_r0) a + S1x4096x256.size a ≤ S2x4096x256.size a), (Rect.unit (s := S2x4096x256) (k0_off9 arg9_r0) S1x4096x256.size hinb).WholeWords (EltTy.packing .bf16)) ∧
  (∀ (k0_h3 : k0_cond3 k0_t1 arg19_r0 arg20_r0 = 1#1), ∀ a, (k0_off11 arg11_r0) a + S1.size a ≤ S2.size a) ∧
  (∀ (k0_h3 : k0_cond3 k0_t1 arg19_r0 arg20_r0 = 1#1), ∀ a, (k0_off12 arg11_r0) a + S1x4096x256.size a ≤ S2x4096x256.size a) ∧
  (∀ (k0_h3 : k0_cond3 k0_t1 arg19_r0 arg20_r0 = 1#1), ∀ a, (k0_off13 arg19_r0 arg20_r0) a + S4096x256.size a ≤ S4096x11008.size a) ∧
  (∀ (k0_h3 : k0_cond3 k0_t1 arg19_r0 arg20_r0 = 1#1), ∀ (hinb : ∀ a, (k0_off13 arg19_r0 arg20_r0) a + S4096x256.size a ≤ S4096x11008.size a), (Rect.unit (s := S4096x11008) (k0_off13 arg19_r0 arg20_r0) S4096x256.size hinb).WholeWords (EltTy.packing .bf16)) ∧
  (∀ (k0_h3 : k0_cond3 k0_t1 arg19_r0 arg20_r0 = 1#1), ∀ (hinb : ∀ a, (k0_off12 arg11_r0) a + S1x4096x256.size a ≤ S2x4096x256.size a), (Rect.unit (s := S2x4096x256) (k0_off12 arg11_r0) S1x4096x256.size hinb).WholeWords (EltTy.packing .bf16)) ∧
  (∀ (k0_h4 : k0_cond4 k0_t1 arg19_r0 arg20_r0 = 1#1), ∀ a, (k0_off14 arg13_r0) a + S1.size a ≤ S2.size a) ∧
  (∀ (k0_h4 : k0_cond4 k0_t1 arg19_r0 arg20_r0 = 1#1), ∀ a, (k0_off15 arg13_r0) a + S1x64x4096.size a ≤ S2x64x4096.size a) ∧
  (∀ (k0_h4 : k0_cond4 k0_t1 arg19_r0 arg20_r0 = 1#1), ∀ a, (k0_off16 arg19_r0 arg20_r0) a + S64x4096.size a ≤ S11008x4096.size a) ∧
  (∀ (k0_h5 : k0_cond5 k0_t1 arg20_r0 = 1#1), ∀ a, (k0_off17 arg8_r0) a + S1.size a ≤ S2.size a) ∧
  (∀ (k0_h5 : k0_cond5 k0_t1 arg20_r0 = 1#1), ∀ a, (k0_off18 arg8_r0) a + S1x2176x4096.size a ≤ S2x2176x4096.size a) ∧
  (∀ (k0_h5 : k0_cond5 k0_t1 arg20_r0 = 1#1), ∀ a, (k0_off19 arg20_r0) a + S2176x4096.size a ≤ S8704x4096.size a) ∧
  (∀ (k0_h5 : k0_cond5 k0_t1 arg20_r0 = 1#1), ∀ (hinb : ∀ a, (k0_off19 arg20_r0) a + S2176x4096.size a ≤ S8704x4096.size a), (Rect.unit (s := S8704x4096) (k0_off19 arg20_r0) S2176x4096.size hinb).WholeWords (EltTy.packing .bf16)) ∧
  (∀ (k0_h5 : k0_cond5 k0_t1 arg20_r0 = 1#1), ∀ (hinb : ∀ a, (k0_off18 arg8_r0) a + S1x2176x4096.size a ≤ S2x2176x4096.size a), (Rect.unit (s := S2x2176x4096) (k0_off18 arg8_r0) S1x2176x4096.size hinb).WholeWords (EltTy.packing .bf16)) ∧
  (∀ (k0_h6 : k0_cond6 k0_t1 arg19_r0 arg20_r0 = 1#1), ∀ a, (k0_off20 arg10_r0) a + S1.size a ≤ S2.size a) ∧
  (∀ (k0_h6 : k0_cond6 k0_t1 arg19_r0 arg20_r0 = 1#1), ∀ a, (k0_off21 arg10_r0) a + S1x4096x256.size a ≤ S2x4096x256.size a) ∧
  (∀ (k0_h6 : k0_cond6 k0_t1 arg19_r0 arg20_r0 = 1#1), ∀ a, (k0_off22 arg19_r0) a + S4096x256.size a ≤ S4096x11008.size a) ∧
  (∀ (k0_h6 : k0_cond6 k0_t1 arg19_r0 arg20_r0 = 1#1), ∀ (hinb : ∀ a, (k0_off22 arg19_r0) a + S4096x256.size a ≤ S4096x11008.size a), (Rect.unit (s := S4096x11008) (k0_off22 arg19_r0) S4096x256.size hinb).WholeWords (EltTy.packing .bf16)) ∧
  (∀ (k0_h6 : k0_cond6 k0_t1 arg19_r0 arg20_r0 = 1#1), ∀ (hinb : ∀ a, (k0_off21 arg10_r0) a + S1x4096x256.size a ≤ S2x4096x256.size a), (Rect.unit (s := S2x4096x256) (k0_off21 arg10_r0) S1x4096x256.size hinb).WholeWords (EltTy.packing .bf16)) ∧
  (∀ (k0_h7 : k0_cond7 k0_t1 arg19_r0 arg20_r0 = 1#1), ∀ a, (k0_off23 arg12_r0) a + S1.size a ≤ S2.size a) ∧
  (∀ (k0_h7 : k0_cond7 k0_t1 arg19_r0 arg20_r0 = 1#1), ∀ a, (k0_off24 arg12_r0) a + S1x4096x256.size a ≤ S2x4096x256.size a) ∧
  (∀ (k0_h7 : k0_cond7 k0_t1 arg19_r0 arg20_r0 = 1#1), ∀ a, (k0_off25 arg19_r0) a + S4096x256.size a ≤ S4096x11008.size a) ∧
  (∀ (k0_h7 : k0_cond7 k0_t1 arg19_r0 arg20_r0 = 1#1), ∀ (hinb : ∀ a, (k0_off25 arg19_r0) a + S4096x256.size a ≤ S4096x11008.size a), (Rect.unit (s := S4096x11008) (k0_off25 arg19_r0) S4096x256.size hinb).WholeWords (EltTy.packing .bf16))
def k0_chk1_1 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  (∀ (k0_h7 : k0_cond7 k0_t1 arg19_r0 arg20_r0 = 1#1), ∀ (hinb : ∀ a, (k0_off24 arg12_r0) a + S1x4096x256.size a ≤ S2x4096x256.size a), (Rect.unit (s := S2x4096x256) (k0_off24 arg12_r0) S1x4096x256.size hinb).WholeWords (EltTy.packing .bf16)) ∧
  (∀ (k0_h8 : k0_cond8 k0_t1 arg19_r0 arg20_r0 = 1#1), ∀ a, (k0_off26 arg14_r0) a + S1.size a ≤ S2.size a) ∧
  (∀ (k0_h8 : k0_cond8 k0_t1 arg19_r0 arg20_r0 = 1#1), ∀ a, (k0_off27 arg14_r0) a + S1x64x4096.size a ≤ S2x64x4096.size a) ∧
  (∀ (k0_h8 : k0_cond8 k0_t1 arg19_r0 arg20_r0 = 1#1), ∀ a, (k0_off28 arg19_r0 arg20_r0) a + S64x4096.size a ≤ S11008x4096.size a) ∧
  (∀ (k0_h15 : k0_cond15 k0_t1 arg19_r0 arg20_r0 = 1#1), ∀ a, (k0_off35 arg15_r0) a + S1.size a ≤ S2.size a) ∧
  (∀ (k0_h15 : k0_cond15 k0_t1 arg19_r0 arg20_r0 = 1#1), ∀ a, (k0_off36 arg19_r0 arg20_r0) a + S2176x256.size a ≤ S8704x11008.size a) ∧
  (∀ (k0_h15 : k0_cond15 k0_t1 arg19_r0 arg20_r0 = 1#1), ∀ a, (k0_off37 arg15_r0) a + S1x2176x256.size a ≤ S2x2176x256.size a) ∧
  (∀ (k0_h15 : k0_cond15 k0_t1 arg19_r0 arg20_r0 = 1#1), ∀ (hinb : ∀ a, (k0_off37 arg15_r0) a + S1x2176x256.size a ≤ S2x2176x256.size a), (Rect.unit (s := S2x2176x256) (k0_off37 arg15_r0) S1x2176x256.size hinb).WholeWords (EltTy.packing .bf16)) ∧
  (∀ (k0_h15 : k0_cond15 k0_t1 arg19_r0 arg20_r0 = 1#1), ∀ (hinb : ∀ a, (k0_off36 arg19_r0 arg20_r0) a + S2176x256.size a ≤ S8704x11008.size a), (Rect.unit (s := S8704x11008) (k0_off36 arg19_r0 arg20_r0) S2176x256.size hinb).WholeWords (EltTy.packing .bf16)) ∧
  (∀ (k0_h16 : k0_cond16 k0_t1 arg19_r0 arg20_r0 = 1#1), ∀ a, (k0_off38 arg17_r0) a + S1.size a ≤ S2.size a) ∧
  (∀ (k0_h16 : k0_cond16 k0_t1 arg19_r0 arg20_r0 = 1#1), ∀ a, (k0_off39 arg19_r0 arg20_r0) a + S64x4096.size a ≤ S11008x4096.size a) ∧
  (∀ (k0_h16 : k0_cond16 k0_t1 arg19_r0 arg20_r0 = 1#1), ∀ a, (k0_off40 arg17_r0) a + S1x64x4096.size a ≤ S2x64x4096.size a) ∧
  (∀ (k0_h16 : k0_cond16 k0_t1 arg19_r0 arg20_r0 = 1#1), ∀ (hinb : ∀ a, (k0_off40 arg17_r0) a + S1x64x4096.size a ≤ S2x64x4096.size a), (Rect.unit (s := S2x64x4096) (k0_off40 arg17_r0) S1x64x4096.size hinb).WholeWords (EltTy.packing .bf16)) ∧
  (∀ (k0_h16 : k0_cond16 k0_t1 arg19_r0 arg20_r0 = 1#1), ∀ (hinb : ∀ a, (k0_off39 arg19_r0 arg20_r0) a + S64x4096.size a ≤ S11008x4096.size a), (Rect.unit (s := S11008x4096) (k0_off39 arg19_r0 arg20_r0) S64x4096.size hinb).WholeWords (EltTy.packing .bf16)) ∧
  (∀ (k0_h21 : k0_cond21 k0_t1 arg19_r0 arg20_r0 = 1#1), ∀ a, (k0_off41 arg16_r0) a + S1.size a ≤ S2.size a) ∧
  (∀ (k0_h21 : k0_cond21 k0_t1 arg19_r0 arg20_r0 = 1#1), ∀ a, (k0_off42 arg19_r0 arg20_r0) a + S2176x256.size a ≤ S8704x11008.size a) ∧
  (∀ (k0_h21 : k0_cond21 k0_t1 arg19_r0 arg20_r0 = 1#1), ∀ a, (k0_off43 arg16_r0) a + S1x2176x256.size a ≤ S2x2176x256.size a) ∧
  (∀ (k0_h21 : k0_cond21 k0_t1 arg19_r0 arg20_r0 = 1#1), ∀ (hinb : ∀ a, (k0_off43 arg16_r0) a + S1x2176x256.size a ≤ S2x2176x256.size a), (Rect.unit (s := S2x2176x256) (k0_off43 arg16_r0) S1x2176x256.size hinb).WholeWords (EltTy.packing .bf16)) ∧
  (∀ (k0_h21 : k0_cond21 k0_t1 arg19_r0 arg20_r0 = 1#1), ∀ (hinb : ∀ a, (k0_off42 arg19_r0 arg20_r0) a + S2176x256.size a ≤ S8704x11008.size a), (Rect.unit (s := S8704x11008) (k0_off42 arg19_r0 arg20_r0) S2176x256.size hinb).WholeWords (EltTy.packing .bf16)) ∧
  (∀ (k0_h22 : k0_cond22 k0_t1 arg19_r0 arg20_r0 = 1#1), ∀ a, (k0_off44 arg18_r0) a + S1.size a ≤ S2.size a) ∧
  (∀ (k0_h22 : k0_cond22 k0_t1 arg19_r0 arg20_r0 = 1#1), ∀ a, (k0_off45 arg19_r0 arg20_r0) a + S64x4096.size a ≤ S11008x4096.size a) ∧
  (∀ (k0_h22 : k0_cond22 k0_t1 arg19_r0 arg20_r0 = 1#1), ∀ a, (k0_off46 arg18_r0) a + S1x64x4096.size a ≤ S2x64x4096.size a) ∧
  (∀ (k0_h22 : k0_cond22 k0_t1 arg19_r0 arg20_r0 = 1#1), ∀ (hinb : ∀ a, (k0_off46 arg18_r0) a + S1x64x4096.size a ≤ S2x64x4096.size a), (Rect.unit (s := S2x64x4096) (k0_off46 arg18_r0) S1x64x4096.size hinb).WholeWords (EltTy.packing .bf16)) ∧
  (∀ (k0_h22 : k0_cond22 k0_t1 arg19_r0 arg20_r0 = 1#1), ∀ (hinb : ∀ a, (k0_off45 arg19_r0 arg20_r0) a + S64x4096.size a ≤ S11008x4096.size a), (Rect.unit (s := S11008x4096) (k0_off45 arg19_r0 arg20_r0) S64x4096.size hinb).WholeWords (EltTy.packing .bf16))
def k0_chk1 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) : Prop :=
  k0_chk1_0 k0_t1 arg7_r0 arg8_r0 arg9_r0 arg10_r0 arg11_r0 arg12_r0 arg13_r0 arg14_r0 arg15_r0 arg16_r0 arg17_r0 arg18_r0 arg19_r0 arg20_r0 ∧
  k0_chk1_1 k0_t1 arg7_r0 arg8_r0 arg9_r0 arg10_r0 arg11_r0 arg12_r0 arg13_r0 arg14_r0 arg15_r0 arg16_r0 arg17_r0 arg18_r0 arg19_r0 arg20_r0
theorem k0_off5_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h1 : k0_cond1 k0_t1 arg20_r0 = 1#1), ∀ a, (k0_off5 arg7_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h1 => k0_hw1.1.1 k0_h1
theorem k0_off6_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h1 : k0_cond1 k0_t1 arg20_r0 = 1#1), ∀ a, (k0_off6 arg7_r0) a + S1x2176x4096.size a ≤ S2x2176x4096.size a := fun k0_t1 arg7_r0 arg8_r0 arg9_r0 arg10_r0 arg11_r0 arg12_r0 arg13_r0 arg14_r0 arg15_r0 arg16_r0 arg17_r0 arg18_r0 arg19_r0 arg20_r0 k0_hw1 k0_h1 => k0_hw1.1.2.1 k0_h1
theorem k0_off7_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h1 : k0_cond1 k0_t1 arg20_r0 = 1#1), ∀ a, (k0_off7 arg20_r0) a + S2176x4096.size a ≤ S8704x4096.size a := fun k0_t1 arg7_r0 arg8_r0 arg9_r0 arg10_r0 arg11_r0 arg12_r0 arg13_r0 arg14_r0 arg15_r0 arg16_r0 arg17_r0 arg18_r0 arg19_r0 arg20_r0 k0_hw1 k0_h1 => k0_hw1.1.2.2.1 k0_h1
theorem k0_off7_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h1 : k0_cond1 k0_t1 arg20_r0 = 1#1), (Rect.unit (s := S8704x4096) (k0_off7 arg20_r0) S2176x4096.size (k0_off7_inb k0_t1 arg7_r0 arg8_r0 arg9_r0 arg10_r0 arg11_r0 arg12_r0 arg13_r0 arg14_r0 arg15_r0 arg16_r0 arg17_r0 arg18_r0 arg19_r0 arg20_r0 k0_hw1 k0_h1)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h1 => k0_hw1.1.2.2.2.1 k0_h1 (k0_off7_inb k0_t1 arg7_r0 arg8_r0 arg9_r0 arg10_r0 arg11_r0 arg12_r0 arg13_r0 arg14_r0 arg15_r0 arg16_r0 arg17_r0 arg18_r0 arg19_r0 arg20_r0 k0_hw1 k0_h1)
theorem k0_off6_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h1 : k0_cond1 k0_t1 arg20_r0 = 1#1), (Rect.unit (s := S2x2176x4096) (k0_off6 arg7_r0) S1x2176x4096.size (k0_off6_inb k0_t1 arg7_r0 arg8_r0 arg9_r0 arg10_r0 arg11_r0 arg12_r0 arg13_r0 arg14_r0 arg15_r0 arg16_r0 arg17_r0 arg18_r0 arg19_r0 arg20_r0 k0_hw1 k0_h1)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h1 => k0_hw1.1.2.2.2.2.1 k0_h1 (k0_off6_inb k0_t1 arg7_r0 arg8_r0 arg9_r0 arg10_r0 arg11_r0 arg12_r0 arg13_r0 arg14_r0 arg15_r0 arg16_r0 arg17_r0 arg18_r0 arg19_r0 arg20_r0 k0_hw1 k0_h1)
theorem k0_off8_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h2 : k0_cond2 k0_t1 arg19_r0 arg20_r0 = 1#1), ∀ a, (k0_off8 arg9_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h2 => k0_hw1.1.2.2.2.2.2.1 k0_h2
theorem k0_off9_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h2 : k0_cond2 k0_t1 arg19_r0 arg20_r0 = 1#1), ∀ a, (k0_off9 arg9_r0) a + S1x4096x256.size a ≤ S2x4096x256.size a := fun k0_t1 arg7_r0 arg8_r0 arg9_r0 arg10_r0 arg11_r0 arg12_r0 arg13_r0 arg14_r0 arg15_r0 arg16_r0 arg17_r0 arg18_r0 arg19_r0 arg20_r0 k0_hw1 k0_h2 => k0_hw1.1.2.2.2.2.2.2.1 k0_h2
theorem k0_off10_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h2 : k0_cond2 k0_t1 arg19_r0 arg20_r0 = 1#1), ∀ a, (k0_off10 arg19_r0 arg20_r0) a + S4096x256.size a ≤ S4096x11008.size a := fun k0_t1 arg7_r0 arg8_r0 arg9_r0 arg10_r0 arg11_r0 arg12_r0 arg13_r0 arg14_r0 arg15_r0 arg16_r0 arg17_r0 arg18_r0 arg19_r0 arg20_r0 k0_hw1 k0_h2 => k0_hw1.1.2.2.2.2.2.2.2.1 k0_h2
theorem k0_off10_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h2 : k0_cond2 k0_t1 arg19_r0 arg20_r0 = 1#1), (Rect.unit (s := S4096x11008) (k0_off10 arg19_r0 arg20_r0) S4096x256.size (k0_off10_inb k0_t1 arg7_r0 arg8_r0 arg9_r0 arg10_r0 arg11_r0 arg12_r0 arg13_r0 arg14_r0 arg15_r0 arg16_r0 arg17_r0 arg18_r0 arg19_r0 arg20_r0 k0_hw1 k0_h2)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h2 => k0_hw1.1.2.2.2.2.2.2.2.2.1 k0_h2 (k0_off10_inb k0_t1 arg7_r0 arg8_r0 arg9_r0 arg10_r0 arg11_r0 arg12_r0 arg13_r0 arg14_r0 arg15_r0 arg16_r0 arg17_r0 arg18_r0 arg19_r0 arg20_r0 k0_hw1 k0_h2)
theorem k0_off9_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h2 : k0_cond2 k0_t1 arg19_r0 arg20_r0 = 1#1), (Rect.unit (s := S2x4096x256) (k0_off9 arg9_r0) S1x4096x256.size (k0_off9_inb k0_t1 arg7_r0 arg8_r0 arg9_r0 arg10_r0 arg11_r0 arg12_r0 arg13_r0 arg14_r0 arg15_r0 arg16_r0 arg17_r0 arg18_r0 arg19_r0 arg20_r0 k0_hw1 k0_h2)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h2 => k0_hw1.1.2.2.2.2.2.2.2.2.2.1 k0_h2 (k0_off9_inb k0_t1 arg7_r0 arg8_r0 arg9_r0 arg10_r0 arg11_r0 arg12_r0 arg13_r0 arg14_r0 arg15_r0 arg16_r0 arg17_r0 arg18_r0 arg19_r0 arg20_r0 k0_hw1 k0_h2)
theorem k0_off11_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h3 : k0_cond3 k0_t1 arg19_r0 arg20_r0 = 1#1), ∀ a, (k0_off11 arg11_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h3 => k0_hw1.1.2.2.2.2.2.2.2.2.2.2.1 k0_h3
theorem k0_off12_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h3 : k0_cond3 k0_t1 arg19_r0 arg20_r0 = 1#1), ∀ a, (k0_off12 arg11_r0) a + S1x4096x256.size a ≤ S2x4096x256.size a := fun k0_t1 arg7_r0 arg8_r0 arg9_r0 arg10_r0 arg11_r0 arg12_r0 arg13_r0 arg14_r0 arg15_r0 arg16_r0 arg17_r0 arg18_r0 arg19_r0 arg20_r0 k0_hw1 k0_h3 => k0_hw1.1.2.2.2.2.2.2.2.2.2.2.2.1 k0_h3
theorem k0_off13_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h3 : k0_cond3 k0_t1 arg19_r0 arg20_r0 = 1#1), ∀ a, (k0_off13 arg19_r0 arg20_r0) a + S4096x256.size a ≤ S4096x11008.size a := fun k0_t1 arg7_r0 arg8_r0 arg9_r0 arg10_r0 arg11_r0 arg12_r0 arg13_r0 arg14_r0 arg15_r0 arg16_r0 arg17_r0 arg18_r0 arg19_r0 arg20_r0 k0_hw1 k0_h3 => k0_hw1.1.2.2.2.2.2.2.2.2.2.2.2.2.1 k0_h3
theorem k0_off13_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h3 : k0_cond3 k0_t1 arg19_r0 arg20_r0 = 1#1), (Rect.unit (s := S4096x11008) (k0_off13 arg19_r0 arg20_r0) S4096x256.size (k0_off13_inb k0_t1 arg7_r0 arg8_r0 arg9_r0 arg10_r0 arg11_r0 arg12_r0 arg13_r0 arg14_r0 arg15_r0 arg16_r0 arg17_r0 arg18_r0 arg19_r0 arg20_r0 k0_hw1 k0_h3)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h3 => k0_hw1.1.2.2.2.2.2.2.2.2.2.2.2.2.2.1 k0_h3 (k0_off13_inb k0_t1 arg7_r0 arg8_r0 arg9_r0 arg10_r0 arg11_r0 arg12_r0 arg13_r0 arg14_r0 arg15_r0 arg16_r0 arg17_r0 arg18_r0 arg19_r0 arg20_r0 k0_hw1 k0_h3)
theorem k0_off12_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h3 : k0_cond3 k0_t1 arg19_r0 arg20_r0 = 1#1), (Rect.unit (s := S2x4096x256) (k0_off12 arg11_r0) S1x4096x256.size (k0_off12_inb k0_t1 arg7_r0 arg8_r0 arg9_r0 arg10_r0 arg11_r0 arg12_r0 arg13_r0 arg14_r0 arg15_r0 arg16_r0 arg17_r0 arg18_r0 arg19_r0 arg20_r0 k0_hw1 k0_h3)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h3 => k0_hw1.1.2.2.2.2.2.2.2.2.2.2.2.2.2.2.1 k0_h3 (k0_off12_inb k0_t1 arg7_r0 arg8_r0 arg9_r0 arg10_r0 arg11_r0 arg12_r0 arg13_r0 arg14_r0 arg15_r0 arg16_r0 arg17_r0 arg18_r0 arg19_r0 arg20_r0 k0_hw1 k0_h3)
theorem k0_off14_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h4 : k0_cond4 k0_t1 arg19_r0 arg20_r0 = 1#1), ∀ a, (k0_off14 arg13_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h4 => k0_hw1.1.2.2.2.2.2.2.2.2.2.2.2.2.2.2.2.1 k0_h4
theorem k0_off15_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h4 : k0_cond4 k0_t1 arg19_r0 arg20_r0 = 1#1), ∀ a, (k0_off15 arg13_r0) a + S1x64x4096.size a ≤ S2x64x4096.size a := fun k0_t1 arg7_r0 arg8_r0 arg9_r0 arg10_r0 arg11_r0 arg12_r0 arg13_r0 arg14_r0 arg15_r0 arg16_r0 arg17_r0 arg18_r0 arg19_r0 arg20_r0 k0_hw1 k0_h4 => k0_hw1.1.2.2.2.2.2.2.2.2.2.2.2.2.2.2.2.2.1 k0_h4
theorem k0_off16_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h4 : k0_cond4 k0_t1 arg19_r0 arg20_r0 = 1#1), ∀ a, (k0_off16 arg19_r0 arg20_r0) a + S64x4096.size a ≤ S11008x4096.size a := fun k0_t1 arg7_r0 arg8_r0 arg9_r0 arg10_r0 arg11_r0 arg12_r0 arg13_r0 arg14_r0 arg15_r0 arg16_r0 arg17_r0 arg18_r0 arg19_r0 arg20_r0 k0_hw1 k0_h4 => k0_hw1.1.2.2.2.2.2.2.2.2.2.2.2.2.2.2.2.2.2.1 k0_h4
theorem k0_off17_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h5 : k0_cond5 k0_t1 arg20_r0 = 1#1), ∀ a, (k0_off17 arg8_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.2.2.1 k0_h5
theorem k0_off18_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h5 : k0_cond5 k0_t1 arg20_r0 = 1#1), ∀ a, (k0_off18 arg8_r0) a + S1x2176x4096.size a ≤ S2x2176x4096.size a := fun k0_t1 arg7_r0 arg8_r0 arg9_r0 arg10_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.2.2.2.1 k0_h5
theorem k0_off19_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h5 : k0_cond5 k0_t1 arg20_r0 = 1#1), ∀ a, (k0_off19 arg20_r0) a + S2176x4096.size a ≤ S8704x4096.size a := fun k0_t1 arg7_r0 arg8_r0 arg9_r0 arg10_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.2.2.2.2.1 k0_h5
theorem k0_off19_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h5 : k0_cond5 k0_t1 arg20_r0 = 1#1), (Rect.unit (s := S8704x4096) (k0_off19 arg20_r0) S2176x4096.size (k0_off19_inb k0_t1 arg7_r0 arg8_r0 arg9_r0 arg10_r0 arg11_r0 arg12_r0 arg13_r0 arg14_r0 arg15_r0 arg16_r0 arg17_r0 arg18_r0 arg19_r0 arg20_r0 k0_hw1 k0_h5)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.2.2.2.2.2.1 k0_h5 (k0_off19_inb k0_t1 arg7_r0 arg8_r0 arg9_r0 arg10_r0 arg11_r0 arg12_r0 arg13_r0 arg14_r0 arg15_r0 arg16_r0 arg17_r0 arg18_r0 arg19_r0 arg20_r0 k0_hw1 k0_h5)
theorem k0_off18_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h5 : k0_cond5 k0_t1 arg20_r0 = 1#1), (Rect.unit (s := S2x2176x4096) (k0_off18 arg8_r0) S1x2176x4096.size (k0_off18_inb k0_t1 arg7_r0 arg8_r0 arg9_r0 arg10_r0 arg11_r0 arg12_r0 arg13_r0 arg14_r0 arg15_r0 arg16_r0 arg17_r0 arg18_r0 arg19_r0 arg20_r0 k0_hw1 k0_h5)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h5 => k0_hw1.1.2.2.2.2.2.2.2.2.2.2.2.2.2.2.2.2.2.2.2.2.2.2.1 k0_h5 (k0_off18_inb k0_t1 arg7_r0 arg8_r0 arg9_r0 arg10_r0 arg11_r0 arg12_r0 arg13_r0 arg14_r0 arg15_r0 arg16_r0 arg17_r0 arg18_r0 arg19_r0 arg20_r0 k0_hw1 k0_h5)
theorem k0_off20_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h6 : k0_cond6 k0_t1 arg19_r0 arg20_r0 = 1#1), ∀ a, (k0_off20 arg10_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.2.2.1 k0_h6
theorem k0_off21_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h6 : k0_cond6 k0_t1 arg19_r0 arg20_r0 = 1#1), ∀ a, (k0_off21 arg10_r0) a + S1x4096x256.size a ≤ S2x4096x256.size a := fun k0_t1 arg7_r0 arg8_r0 arg9_r0 arg10_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.2.2.2.1 k0_h6
theorem k0_off22_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h6 : k0_cond6 k0_t1 arg19_r0 arg20_r0 = 1#1), ∀ a, (k0_off22 arg19_r0) a + S4096x256.size a ≤ S4096x11008.size a := fun k0_t1 arg7_r0 arg8_r0 arg9_r0 arg10_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.2.2.2.2.1 k0_h6
theorem k0_off22_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h6 : k0_cond6 k0_t1 arg19_r0 arg20_r0 = 1#1), (Rect.unit (s := S4096x11008) (k0_off22 arg19_r0) S4096x256.size (k0_off22_inb k0_t1 arg7_r0 arg8_r0 arg9_r0 arg10_r0 arg11_r0 arg12_r0 arg13_r0 arg14_r0 arg15_r0 arg16_r0 arg17_r0 arg18_r0 arg19_r0 arg20_r0 k0_hw1 k0_h6)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.2.2.2.2.2.1 k0_h6 (k0_off22_inb k0_t1 arg7_r0 arg8_r0 arg9_r0 arg10_r0 arg11_r0 arg12_r0 arg13_r0 arg14_r0 arg15_r0 arg16_r0 arg17_r0 arg18_r0 arg19_r0 arg20_r0 k0_hw1 k0_h6)
theorem k0_off21_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h6 : k0_cond6 k0_t1 arg19_r0 arg20_r0 = 1#1), (Rect.unit (s := S2x4096x256) (k0_off21 arg10_r0) S1x4096x256.size (k0_off21_inb k0_t1 arg7_r0 arg8_r0 arg9_r0 arg10_r0 arg11_r0 arg12_r0 arg13_r0 arg14_r0 arg15_r0 arg16_r0 arg17_r0 arg18_r0 arg19_r0 arg20_r0 k0_hw1 k0_h6)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h6 => k0_hw1.1.2.2.2.2.2.2.2.2.2.2.2.2.2.2.2.2.2.2.2.2.2.2.2.2.2.2.2.1 k0_h6 (k0_off21_inb k0_t1 arg7_r0 arg8_r0 arg9_r0 arg10_r0 arg11_r0 arg12_r0 arg13_r0 arg14_r0 arg15_r0 arg16_r0 arg17_r0 arg18_r0 arg19_r0 arg20_r0 k0_hw1 k0_h6)
theorem k0_off23_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h7 : k0_cond7 k0_t1 arg19_r0 arg20_r0 = 1#1), ∀ a, (k0_off23 arg12_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.2.2.2.2.2.1 k0_h7
theorem k0_off24_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h7 : k0_cond7 k0_t1 arg19_r0 arg20_r0 = 1#1), ∀ a, (k0_off24 arg12_r0) a + S1x4096x256.size a ≤ S2x4096x256.size a := fun k0_t1 arg7_r0 arg8_r0 arg9_r0 arg10_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.2.2.2.2.2.2.1 k0_h7
theorem k0_off25_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h7 : k0_cond7 k0_t1 arg19_r0 arg20_r0 = 1#1), ∀ a, (k0_off25 arg19_r0) a + S4096x256.size a ≤ S4096x11008.size a := fun k0_t1 arg7_r0 arg8_r0 arg9_r0 arg10_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.2.2.2.2.2.2.2.1 k0_h7
theorem k0_off25_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h7 : k0_cond7 k0_t1 arg19_r0 arg20_r0 = 1#1), (Rect.unit (s := S4096x11008) (k0_off25 arg19_r0) S4096x256.size (k0_off25_inb k0_t1 arg7_r0 arg8_r0 arg9_r0 arg10_r0 arg11_r0 arg12_r0 arg13_r0 arg14_r0 arg15_r0 arg16_r0 arg17_r0 arg18_r0 arg19_r0 arg20_r0 k0_hw1 k0_h7)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h7 => k0_hw1.1.2.2.2.2.2.2.2.2.2.2.2.2.2.2.2.2.2.2.2.2.2.2.2.2.2.2.2.2.2.2.2 k0_h7 (k0_off25_inb k0_t1 arg7_r0 arg8_r0 arg9_r0 arg10_r0 arg11_r0 arg12_r0 arg13_r0 arg14_r0 arg15_r0 arg16_r0 arg17_r0 arg18_r0 arg19_r0 arg20_r0 k0_hw1 k0_h7)
theorem k0_off24_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h7 : k0_cond7 k0_t1 arg19_r0 arg20_r0 = 1#1), (Rect.unit (s := S2x4096x256) (k0_off24 arg12_r0) S1x4096x256.size (k0_off24_inb k0_t1 arg7_r0 arg8_r0 arg9_r0 arg10_r0 arg11_r0 arg12_r0 arg13_r0 arg14_r0 arg15_r0 arg16_r0 arg17_r0 arg18_r0 arg19_r0 arg20_r0 k0_hw1 k0_h7)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h7 => k0_hw1.2.1 k0_h7 (k0_off24_inb k0_t1 arg7_r0 arg8_r0 arg9_r0 arg10_r0 arg11_r0 arg12_r0 arg13_r0 arg14_r0 arg15_r0 arg16_r0 arg17_r0 arg18_r0 arg19_r0 arg20_r0 k0_hw1 k0_h7)
theorem k0_off26_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), ∀ a, (k0_off26 arg14_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h8 => k0_hw1.2.2.1 k0_h8
theorem k0_off27_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), ∀ a, (k0_off27 arg14_r0) a + S1x64x4096.size a ≤ S2x64x4096.size a := fun k0_t1 arg7_r0 arg8_r0 arg9_r0 arg10_r0 arg11_r0 arg12_r0 arg13_r0 arg14_r0 arg15_r0 arg16_r0 arg17_r0 arg18_r0 arg19_r0 arg20_r0 k0_hw1 k0_h8 => k0_hw1.2.2.2.1 k0_h8
theorem k0_off28_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h8 : k0_cond8 k0_t1 arg19_r0 arg20_r0 = 1#1), ∀ a, (k0_off28 arg19_r0 arg20_r0) a + S64x4096.size a ≤ S11008x4096.size a := fun k0_t1 arg7_r0 arg8_r0 arg9_r0 arg10_r0 arg11_r0 arg12_r0 arg13_r0 arg14_r0 arg15_r0 arg16_r0 arg17_r0 arg18_r0 arg19_r0 arg20_r0 k0_hw1 k0_h8 => k0_hw1.2.2.2.2.1 k0_h8
theorem k0_off35_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h15 : k0_cond15 k0_t1 arg19_r0 arg20_r0 = 1#1), ∀ a, (k0_off35 arg15_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h15 => k0_hw1.2.2.2.2.2.1 k0_h15
theorem k0_off36_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h15 : k0_cond15 k0_t1 arg19_r0 arg20_r0 = 1#1), ∀ a, (k0_off36 arg19_r0 arg20_r0) a + S2176x256.size a ≤ S8704x11008.size a := fun k0_t1 arg7_r0 arg8_r0 arg9_r0 arg10_r0 arg11_r0 arg12_r0 arg13_r0 arg14_r0 arg15_r0 arg16_r0 arg17_r0 arg18_r0 arg19_r0 arg20_r0 k0_hw1 k0_h15 => k0_hw1.2.2.2.2.2.2.1 k0_h15
theorem k0_off37_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h15 : k0_cond15 k0_t1 arg19_r0 arg20_r0 = 1#1), ∀ a, (k0_off37 arg15_r0) a + S1x2176x256.size a ≤ S2x2176x256.size a := fun k0_t1 arg7_r0 arg8_r0 arg9_r0 arg10_r0 arg11_r0 arg12_r0 arg13_r0 arg14_r0 arg15_r0 arg16_r0 arg17_r0 arg18_r0 arg19_r0 arg20_r0 k0_hw1 k0_h15 => k0_hw1.2.2.2.2.2.2.2.1 k0_h15
theorem k0_off37_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h15 : k0_cond15 k0_t1 arg19_r0 arg20_r0 = 1#1), (Rect.unit (s := S2x2176x256) (k0_off37 arg15_r0) S1x2176x256.size (k0_off37_inb k0_t1 arg7_r0 arg8_r0 arg9_r0 arg10_r0 arg11_r0 arg12_r0 arg13_r0 arg14_r0 arg15_r0 arg16_r0 arg17_r0 arg18_r0 arg19_r0 arg20_r0 k0_hw1 k0_h15)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h15 => k0_hw1.2.2.2.2.2.2.2.2.1 k0_h15 (k0_off37_inb k0_t1 arg7_r0 arg8_r0 arg9_r0 arg10_r0 arg11_r0 arg12_r0 arg13_r0 arg14_r0 arg15_r0 arg16_r0 arg17_r0 arg18_r0 arg19_r0 arg20_r0 k0_hw1 k0_h15)
theorem k0_off36_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h15 : k0_cond15 k0_t1 arg19_r0 arg20_r0 = 1#1), (Rect.unit (s := S8704x11008) (k0_off36 arg19_r0 arg20_r0) S2176x256.size (k0_off36_inb k0_t1 arg7_r0 arg8_r0 arg9_r0 arg10_r0 arg11_r0 arg12_r0 arg13_r0 arg14_r0 arg15_r0 arg16_r0 arg17_r0 arg18_r0 arg19_r0 arg20_r0 k0_hw1 k0_h15)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h15 => k0_hw1.2.2.2.2.2.2.2.2.2.1 k0_h15 (k0_off36_inb k0_t1 arg7_r0 arg8_r0 arg9_r0 arg10_r0 arg11_r0 arg12_r0 arg13_r0 arg14_r0 arg15_r0 arg16_r0 arg17_r0 arg18_r0 arg19_r0 arg20_r0 k0_hw1 k0_h15)
theorem k0_off38_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h16 : k0_cond16 k0_t1 arg19_r0 arg20_r0 = 1#1), ∀ a, (k0_off38 arg17_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h16 => k0_hw1.2.2.2.2.2.2.2.2.2.2.1 k0_h16
theorem k0_off39_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h16 : k0_cond16 k0_t1 arg19_r0 arg20_r0 = 1#1), ∀ a, (k0_off39 arg19_r0 arg20_r0) a + S64x4096.size a ≤ S11008x4096.size a := fun k0_t1 arg7_r0 arg8_r0 arg9_r0 arg10_r0 arg11_r0 arg12_r0 arg13_r0 arg14_r0 arg15_r0 arg16_r0 arg17_r0 arg18_r0 arg19_r0 arg20_r0 k0_hw1 k0_h16 => k0_hw1.2.2.2.2.2.2.2.2.2.2.2.1 k0_h16
theorem k0_off40_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h16 : k0_cond16 k0_t1 arg19_r0 arg20_r0 = 1#1), ∀ a, (k0_off40 arg17_r0) a + S1x64x4096.size a ≤ S2x64x4096.size a := fun k0_t1 arg7_r0 arg8_r0 arg9_r0 arg10_r0 arg11_r0 arg12_r0 arg13_r0 arg14_r0 arg15_r0 arg16_r0 arg17_r0 arg18_r0 arg19_r0 arg20_r0 k0_hw1 k0_h16 => k0_hw1.2.2.2.2.2.2.2.2.2.2.2.2.1 k0_h16
theorem k0_off40_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h16 : k0_cond16 k0_t1 arg19_r0 arg20_r0 = 1#1), (Rect.unit (s := S2x64x4096) (k0_off40 arg17_r0) S1x64x4096.size (k0_off40_inb k0_t1 arg7_r0 arg8_r0 arg9_r0 arg10_r0 arg11_r0 arg12_r0 arg13_r0 arg14_r0 arg15_r0 arg16_r0 arg17_r0 arg18_r0 arg19_r0 arg20_r0 k0_hw1 k0_h16)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h16 => k0_hw1.2.2.2.2.2.2.2.2.2.2.2.2.2.1 k0_h16 (k0_off40_inb k0_t1 arg7_r0 arg8_r0 arg9_r0 arg10_r0 arg11_r0 arg12_r0 arg13_r0 arg14_r0 arg15_r0 arg16_r0 arg17_r0 arg18_r0 arg19_r0 arg20_r0 k0_hw1 k0_h16)
theorem k0_off39_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h16 : k0_cond16 k0_t1 arg19_r0 arg20_r0 = 1#1), (Rect.unit (s := S11008x4096) (k0_off39 arg19_r0 arg20_r0) S64x4096.size (k0_off39_inb k0_t1 arg7_r0 arg8_r0 arg9_r0 arg10_r0 arg11_r0 arg12_r0 arg13_r0 arg14_r0 arg15_r0 arg16_r0 arg17_r0 arg18_r0 arg19_r0 arg20_r0 k0_hw1 k0_h16)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h16 => k0_hw1.2.2.2.2.2.2.2.2.2.2.2.2.2.2.1 k0_h16 (k0_off39_inb k0_t1 arg7_r0 arg8_r0 arg9_r0 arg10_r0 arg11_r0 arg12_r0 arg13_r0 arg14_r0 arg15_r0 arg16_r0 arg17_r0 arg18_r0 arg19_r0 arg20_r0 k0_hw1 k0_h16)
theorem k0_off41_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h21 : k0_cond21 k0_t1 arg19_r0 arg20_r0 = 1#1), ∀ a, (k0_off41 arg16_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h21 => k0_hw1.2.2.2.2.2.2.2.2.2.2.2.2.2.2.2.1 k0_h21
theorem k0_off42_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h21 : k0_cond21 k0_t1 arg19_r0 arg20_r0 = 1#1), ∀ a, (k0_off42 arg19_r0 arg20_r0) a + S2176x256.size a ≤ S8704x11008.size a := fun k0_t1 arg7_r0 arg8_r0 arg9_r0 arg10_r0 arg11_r0 arg12_r0 arg13_r0 arg14_r0 arg15_r0 arg16_r0 arg17_r0 arg18_r0 arg19_r0 arg20_r0 k0_hw1 k0_h21 => k0_hw1.2.2.2.2.2.2.2.2.2.2.2.2.2.2.2.2.1 k0_h21
theorem k0_off43_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h21 : k0_cond21 k0_t1 arg19_r0 arg20_r0 = 1#1), ∀ a, (k0_off43 arg16_r0) a + S1x2176x256.size a ≤ S2x2176x256.size a := fun k0_t1 arg7_r0 arg8_r0 arg9_r0 arg10_r0 arg11_r0 arg12_r0 arg13_r0 arg14_r0 arg15_r0 arg16_r0 arg17_r0 arg18_r0 arg19_r0 arg20_r0 k0_hw1 k0_h21 => k0_hw1.2.2.2.2.2.2.2.2.2.2.2.2.2.2.2.2.2.1 k0_h21
theorem k0_off43_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h21 : k0_cond21 k0_t1 arg19_r0 arg20_r0 = 1#1), (Rect.unit (s := S2x2176x256) (k0_off43 arg16_r0) S1x2176x256.size (k0_off43_inb k0_t1 arg7_r0 arg8_r0 arg9_r0 arg10_r0 arg11_r0 arg12_r0 arg13_r0 arg14_r0 arg15_r0 arg16_r0 arg17_r0 arg18_r0 arg19_r0 arg20_r0 k0_hw1 k0_h21)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h21 => k0_hw1.2.2.2.2.2.2.2.2.2.2.2.2.2.2.2.2.2.2.1 k0_h21 (k0_off43_inb k0_t1 arg7_r0 arg8_r0 arg9_r0 arg10_r0 arg11_r0 arg12_r0 arg13_r0 arg14_r0 arg15_r0 arg16_r0 arg17_r0 arg18_r0 arg19_r0 arg20_r0 k0_hw1 k0_h21)
theorem k0_off42_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h21 : k0_cond21 k0_t1 arg19_r0 arg20_r0 = 1#1), (Rect.unit (s := S8704x11008) (k0_off42 arg19_r0 arg20_r0) S2176x256.size (k0_off42_inb k0_t1 arg7_r0 arg8_r0 arg9_r0 arg10_r0 arg11_r0 arg12_r0 arg13_r0 arg14_r0 arg15_r0 arg16_r0 arg17_r0 arg18_r0 arg19_r0 arg20_r0 k0_hw1 k0_h21)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h21 => k0_hw1.2.2.2.2.2.2.2.2.2.2.2.2.2.2.2.2.2.2.2.1 k0_h21 (k0_off42_inb k0_t1 arg7_r0 arg8_r0 arg9_r0 arg10_r0 arg11_r0 arg12_r0 arg13_r0 arg14_r0 arg15_r0 arg16_r0 arg17_r0 arg18_r0 arg19_r0 arg20_r0 k0_hw1 k0_h21)
theorem k0_off44_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h22 : k0_cond22 k0_t1 arg19_r0 arg20_r0 = 1#1), ∀ a, (k0_off44 arg18_r0) a + S1.size a ≤ S2.size a := fun k0_t1 arg7_r0 arg8_r0 arg9_r0 arg10_r0 arg11_r0 arg12_r0 arg13_r0 arg14_r0 arg15_r0 arg16_r0 arg17_r0 arg18_r0 arg19_r0 arg20_r0 k0_hw1 k0_h22 => k0_hw1.2.2.2.2.2.2.2.2.2.2.2.2.2.2.2.2.2.2.2.2.1 k0_h22
theorem k0_off45_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h22 : k0_cond22 k0_t1 arg19_r0 arg20_r0 = 1#1), ∀ a, (k0_off45 arg19_r0 arg20_r0) a + S64x4096.size a ≤ S11008x4096.size a := fun k0_t1 arg7_r0 arg8_r0 arg9_r0 arg10_r0 arg11_r0 arg12_r0 arg13_r0 arg14_r0 arg15_r0 arg16_r0 arg17_r0 arg18_r0 arg19_r0 arg20_r0 k0_hw1 k0_h22 => k0_hw1.2.2.2.2.2.2.2.2.2.2.2.2.2.2.2.2.2.2.2.2.2.1 k0_h22
theorem k0_off46_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h22 : k0_cond22 k0_t1 arg19_r0 arg20_r0 = 1#1), ∀ a, (k0_off46 arg18_r0) a + S1x64x4096.size a ≤ S2x64x4096.size a := fun k0_t1 arg7_r0 arg8_r0 arg9_r0 arg10_r0 arg11_r0 arg12_r0 arg13_r0 arg14_r0 arg15_r0 arg16_r0 arg17_r0 arg18_r0 arg19_r0 arg20_r0 k0_hw1 k0_h22 => k0_hw1.2.2.2.2.2.2.2.2.2.2.2.2.2.2.2.2.2.2.2.2.2.2.1 k0_h22
theorem k0_off46_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h22 : k0_cond22 k0_t1 arg19_r0 arg20_r0 = 1#1), (Rect.unit (s := S2x64x4096) (k0_off46 arg18_r0) S1x64x4096.size (k0_off46_inb k0_t1 arg7_r0 arg8_r0 arg9_r0 arg10_r0 arg11_r0 arg12_r0 arg13_r0 arg14_r0 arg15_r0 arg16_r0 arg17_r0 arg18_r0 arg19_r0 arg20_r0 k0_hw1 k0_h22)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h22 => k0_hw1.2.2.2.2.2.2.2.2.2.2.2.2.2.2.2.2.2.2.2.2.2.2.2.1 k0_h22 (k0_off46_inb k0_t1 arg7_r0 arg8_r0 arg9_r0 arg10_r0 arg11_r0 arg12_r0 arg13_r0 arg14_r0 arg15_r0 arg16_r0 arg17_r0 arg18_r0 arg19_r0 arg20_r0 k0_hw1 k0_h22)
theorem k0_off45_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (k0_hw1 : k0_chk1 k0_t1 arg7_r0 arg8_r0 arg9_r0 arg10_r0 arg11_r0 arg12_r0 arg13_r0 arg14_r0 arg15_r0 arg16_r0 arg17_r0 arg18_r0 arg19_r0 arg20_r0), ∀ (k0_h22 : k0_cond22 k0_t1 arg19_r0 arg20_r0 = 1#1), (Rect.unit (s := S11008x4096) (k0_off45 arg19_r0 arg20_r0) S64x4096.size (k0_off45_inb k0_t1 arg7_r0 arg8_r0 arg9_r0 arg10_r0 arg11_r0 arg12_r0 arg13_r0 arg14_r0 arg15_r0 arg16_r0 arg17_r0 arg18_r0 arg19_r0 arg20_r0 k0_hw1 k0_h22)).WholeWords (EltTy.packing .bf16) := fun k0_t1 arg7_r0 arg8_r0 arg9_r0 arg10_r0 arg11_r0 arg12_r0 arg13_r0 arg14_r0 arg15_r0 arg16_r0 arg17_r0 arg18_r0 arg19_r0 arg20_r0 k0_hw1 k0_h22 => k0_hw1.2.2.2.2.2.2.2.2.2.2.2.2.2.2.2.2.2.2.2.2.2.2.2.2 k0_h22 (k0_off45_inb k0_t1 arg7_r0 arg8_r0 arg9_r0 arg10_r0 arg11_r0 arg12_r0 arg13_r0 arg14_r0 arg15_r0 arg16_r0 arg17_r0 arg18_r0 arg19_r0 arg20_r0 k0_hw1 k0_h22)

def k0_off47 (v61_9_r0 : BitVec 32) : Fin 1 → Nat :=
  let c2_i32_108_r0 : BitVec 32 := 2#32
  let v102_r0 : BitVec 32 := Scalar.remui v61_9_r0 c2_i32_108_r0
  ![v102_r0.toNat]

def k0_off48 (v61_13_r0 : BitVec 32) (v61_12_r0 : BitVec 32) : Fin 2 → Nat :=
  let c2176_i32_r0 : BitVec 32 := 2176#32
  let true_73_r0 : BitVec 1 := 1#1
  let c1_i32_72_r0 : BitVec 32 := 1#32
  let v62_r0 : BitVec 32 := Scalar.subi v61_13_r0 c1_i32_72_r0
  let v63_r0 : BitVec 32 := Scalar.select true_73_r0 v62_r0 v61_13_r0
  let c_m1_i32_74_r0 : BitVec 32 := 4294967295#32
  let v64_r0 : BitVec 1 := Scalar.cmpi .eq v63_r0 c_m1_i32_74_r0
  let c3_i32_75_r0 : BitVec 32 := 3#32
  let v65_r0 : BitVec 32 := Scalar.select v64_r0 c3_i32_75_r0 v63_r0
  let c0_i32_80_r0 : BitVec 32 := 0#32
  let v71_r0 : BitVec 32 := Scalar.addi v65_r0 c0_i32_80_r0
  let v103_r0 : BitVec 32 := Scalar.muli c2176_i32_r0 v71_r0
  let c256_i32_r0 : BitVec 32 := 256#32
  let c1_i32_76_r0 : BitVec 32 := 1#32
  let v66_r0 : BitVec 32 := Scalar.subi v61_12_r0 c1_i32_76_r0
  let v67_r0 : BitVec 32 := Scalar.select v64_r0 v66_r0 v61_12_r0
  let c_m1_i32_77_r0 : BitVec 32 := 4294967295#32
  let v68_r0 : BitVec 1 := Scalar.cmpi .eq v67_r0 c_m1_i32_77_r0
  let c42_i32_78_r0 : BitVec 32 := 42#32
  let v69_r0 : BitVec 32 := Scalar.select v68_r0 c42_i32_78_r0 v67_r0
  let c0_i32_79_r0 : BitVec 32 := 0#32
  let v70_r0 : BitVec 32 := Scalar.addi v69_r0 c0_i32_79_r0
  let v104_r0 : BitVec 32 := Scalar.muli c256_i32_r0 v70_r0
  ![v103_r0.toNat, v104_r0.toNat]

def k0_off49 (v61_9_r0 : BitVec 32) : Fin 3 → Nat :=
  let c2_i32_108_r0 : BitVec 32 := 2#32
  let v102_r0 : BitVec 32 := Scalar.remui v61_9_r0 c2_i32_108_r0
  let c0_i32_109_r0 : BitVec 32 := 0#32
  let c0_i32_110_r0 : BitVec 32 := 0#32
  ![v102_r0.toNat, 0, 0]

def k0_chk8 (v61_9_r0 : BitVec 32) : Prop :=
  (∀ a, (k0_off47 v61_9_r0) a + S1.size a ≤ S2.size a) ∧
  (∀ a, (k0_off49 v61_9_r0) a + S1x2176x256.size a ≤ S2x2176x256.size a) ∧
  (∀ (hinb : ∀ a, (k0_off49 v61_9_r0) a + S1x2176x256.size a ≤ S2x2176x256.size a), (Rect.unit (s := S2x2176x256) (k0_off49 v61_9_r0) S1x2176x256.size hinb).WholeWords (EltTy.packing .bf16))
theorem k0_off47_inb : ∀ (v61_9_r0 : BitVec 32) (k0_hw8 : k0_chk8 v61_9_r0), ∀ a, (k0_off47 v61_9_r0) a + S1.size a ≤ S2.size a := fun v61_9_r0 k0_hw8 => k0_hw8.1
theorem k0_off49_inb : ∀ (v61_9_r0 : BitVec 32) (k0_hw8 : k0_chk8 v61_9_r0), ∀ a, (k0_off49 v61_9_r0) a + S1x2176x256.size a ≤ S2x2176x256.size a := fun v61_9_r0 k0_hw8 => k0_hw8.2.1
theorem k0_off49_wordsbf16 : ∀ (v61_9_r0 : BitVec 32) (k0_hw8 : k0_chk8 v61_9_r0), (Rect.unit (s := S2x2176x256) (k0_off49 v61_9_r0) S1x2176x256.size (k0_off49_inb v61_9_r0 k0_hw8)).WholeWords (EltTy.packing .bf16) := fun v61_9_r0 k0_hw8 => k0_hw8.2.2 (k0_off49_inb v61_9_r0 k0_hw8)

def k0_off50 (v61_11_r0 : BitVec 32) : Fin 1 → Nat :=
  let c2_i32_111_r0 : BitVec 32 := 2#32
  let v110_r0 : BitVec 32 := Scalar.remui v61_11_r0 c2_i32_111_r0
  ![v110_r0.toNat]

def k0_off51 (v61_13_r0 : BitVec 32) (v61_12_r0 : BitVec 32) : Fin 2 → Nat :=
  let c64_i32_r0 : BitVec 32 := 64#32
  let true_73_r0 : BitVec 1 := 1#1
  let c1_i32_72_r0 : BitVec 32 := 1#32
  let v62_r0 : BitVec 32 := Scalar.subi v61_13_r0 c1_i32_72_r0
  let v63_r0 : BitVec 32 := Scalar.select true_73_r0 v62_r0 v61_13_r0
  let c_m1_i32_74_r0 : BitVec 32 := 4294967295#32
  let v64_r0 : BitVec 1 := Scalar.cmpi .eq v63_r0 c_m1_i32_74_r0
  let c1_i32_76_r0 : BitVec 32 := 1#32
  let v66_r0 : BitVec 32 := Scalar.subi v61_12_r0 c1_i32_76_r0
  let v67_r0 : BitVec 32 := Scalar.select v64_r0 v66_r0 v61_12_r0
  let c_m1_i32_77_r0 : BitVec 32 := 4294967295#32
  let v68_r0 : BitVec 1 := Scalar.cmpi .eq v67_r0 c_m1_i32_77_r0
  let c42_i32_78_r0 : BitVec 32 := 42#32
  let v69_r0 : BitVec 32 := Scalar.select v68_r0 c42_i32_78_r0 v67_r0
  let c0_i32_79_r0 : BitVec 32 := 0#32
  let v70_r0 : BitVec 32 := Scalar.addi v69_r0 c0_i32_79_r0
  let c4_i32_112_r0 : BitVec 32 := 4#32
  let v111_r0 : BitVec 32 := Scalar.muli v70_r0 c4_i32_112_r0
  let c3_i32_75_r0 : BitVec 32 := 3#32
  let v65_r0 : BitVec 32 := Scalar.select v64_r0 c3_i32_75_r0 v63_r0
  let c0_i32_80_r0 : BitVec 32 := 0#32
  let v71_r0 : BitVec 32 := Scalar.addi v65_r0 c0_i32_80_r0
  let v112_r0 : BitVec 32 := Scalar.addi v111_r0 v71_r0
  let v113_r0 : BitVec 32 := Scalar.muli c64_i32_r0 v112_r0
  let c0_i32_113_r0 : BitVec 32 := 0#32
  ![v113_r0.toNat, 0]
def k0_off52 (v61_11_r0 : BitVec 32) : Fin 3 → Nat :=
  let c2_i32_111_r0 : BitVec 32 := 2#32
  let v110_r0 : BitVec 32 := Scalar.remui v61_11_r0 c2_i32_111_r0
  let c0_i32_114_r0 : BitVec 32 := 0#32
  let c0_i32_115_r0 : BitVec 32 := 0#32
  ![v110_r0.toNat, 0, 0]

def k0_chk10 (v61_11_r0 : BitVec 32) : Prop :=
  (∀ a, (k0_off50 v61_11_r0) a + S1.size a ≤ S2.size a) ∧
  (∀ a, (k0_off52 v61_11_r0) a + S1x64x4096.size a ≤ S2x64x4096.size a) ∧
  (∀ (hinb : ∀ a, (k0_off52 v61_11_r0) a + S1x64x4096.size a ≤ S2x64x4096.size a), (Rect.unit (s := S2x64x4096) (k0_off52 v61_11_r0) S1x64x4096.size hinb).WholeWords (EltTy.packing .bf16))
theorem k0_off50_inb : ∀ (v61_11_r0 : BitVec 32) (k0_hw10 : k0_chk10 v61_11_r0), ∀ a, (k0_off50 v61_11_r0) a + S1.size a ≤ S2.size a := fun v61_11_r0 k0_hw10 => k0_hw10.1
theorem k0_off52_inb : ∀ (v61_11_r0 : BitVec 32) (k0_hw10 : k0_chk10 v61_11_r0), ∀ a, (k0_off52 v61_11_r0) a + S1x64x4096.size a ≤ S2x64x4096.size a := fun v61_11_r0 k0_hw10 => k0_hw10.2.1
theorem k0_off52_wordsbf16 : ∀ (v61_11_r0 : BitVec 32) (k0_hw10 : k0_chk10 v61_11_r0), (Rect.unit (s := S2x64x4096) (k0_off52 v61_11_r0) S1x64x4096.size (k0_off52_inb v61_11_r0 k0_hw10)).WholeWords (EltTy.packing .bf16) := fun v61_11_r0 k0_hw10 => k0_hw10.2.2 (k0_off52_inb v61_11_r0 k0_hw10)

def k0_chk9 (v61_13_r0 : BitVec 32) (v61_12_r0 : BitVec 32) : Prop :=
  (∀ a, (k0_off48 v61_13_r0 v61_12_r0) a + S2176x256.size a ≤ S8704x11008.size a) ∧
  (∀ (hinb : ∀ a, (k0_off48 v61_13_r0 v61_12_r0) a + S2176x256.size a ≤ S8704x11008.size a), (Rect.unit (s := S8704x11008) (k0_off48 v61_13_r0 v61_12_r0) S2176x256.size hinb).WholeWords (EltTy.packing .bf16)) ∧
  (∀ a, (k0_off51 v61_13_r0 v61_12_r0) a + S64x4096.size a ≤ S11008x4096.size a) ∧
  (∀ (hinb : ∀ a, (k0_off51 v61_13_r0 v61_12_r0) a + S64x4096.size a ≤ S11008x4096.size a), (Rect.unit (s := S11008x4096) (k0_off51 v61_13_r0 v61_12_r0) S64x4096.size hinb).WholeWords (EltTy.packing .bf16))
theorem k0_off48_inb : ∀ (v61_13_r0 : BitVec 32) (v61_12_r0 : BitVec 32) (k0_hw9 : k0_chk9 v61_13_r0 v61_12_r0), ∀ a, (k0_off48 v61_13_r0 v61_12_r0) a + S2176x256.size a ≤ S8704x11008.size a := fun v61_13_r0 v61_12_r0 k0_hw9 => k0_hw9.1
theorem k0_off48_wordsbf16 : ∀ (v61_13_r0 : BitVec 32) (v61_12_r0 : BitVec 32) (k0_hw9 : k0_chk9 v61_13_r0 v61_12_r0), (Rect.unit (s := S8704x11008) (k0_off48 v61_13_r0 v61_12_r0) S2176x256.size (k0_off48_inb v61_13_r0 v61_12_r0 k0_hw9)).WholeWords (EltTy.packing .bf16) := fun v61_13_r0 v61_12_r0 k0_hw9 => k0_hw9.2.1 (k0_off48_inb v61_13_r0 v61_12_r0 k0_hw9)
theorem k0_off51_inb : ∀ (v61_13_r0 : BitVec 32) (v61_12_r0 : BitVec 32) (k0_hw9 : k0_chk9 v61_13_r0 v61_12_r0), ∀ a, (k0_off51 v61_13_r0 v61_12_r0) a + S64x4096.size a ≤ S11008x4096.size a := fun v61_13_r0 v61_12_r0 k0_hw9 => k0_hw9.2.2.1
theorem k0_off51_wordsbf16 : ∀ (v61_13_r0 : BitVec 32) (v61_12_r0 : BitVec 32) (k0_hw9 : k0_chk9 v61_13_r0 v61_12_r0), (Rect.unit (s := S11008x4096) (k0_off51 v61_13_r0 v61_12_r0) S64x4096.size (k0_off51_inb v61_13_r0 v61_12_r0 k0_hw9)).WholeWords (EltTy.packing .bf16) := fun v61_13_r0 v61_12_r0 k0_hw9 => k0_hw9.2.2.2 (k0_off51_inb v61_13_r0 v61_12_r0 k0_hw9)
-- ==== ReferenceIdeal.lean ====
abbrev S8704x4096 : Shape := ⟨2, ![8704, 4096]⟩
abbrev S4096x22016 : Shape := ⟨2, ![4096, 22016]⟩
abbrev S11008x4096 : Shape := ⟨2, ![11008, 4096]⟩
abbrev S8704x22016 : Shape := ⟨2, ![8704, 22016]⟩
abbrev S8704x11008 : Shape := ⟨2, ![8704, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x22016, .f32⟩
  | .hbm, ⟨2, _⟩ => ⟨S11008x4096, .f32⟩
  | .hbm, ⟨3, _⟩ => ⟨S8704x22016, .f32⟩
  | .hbm, ⟨4, _⟩ => ⟨S8704x11008, .f32⟩
  | .hbm, ⟨5, _⟩ => ⟨S8704x11008, .f32⟩
  | .hbm, ⟨6, _⟩ => ⟨S8704x11008, .f32⟩
  | .hbm, ⟨7, _⟩ => ⟨S8704x11008, .f32⟩
  | .hbm, ⟨8, _⟩ => ⟨S_, .f32⟩
  | .hbm, ⟨9, _⟩ => ⟨S8704x11008, .f32⟩
  | .hbm, ⟨10, _⟩ => ⟨S8704x11008, .f32⟩
  | .hbm, ⟨11, _⟩ => ⟨S_, .f32⟩
  | .hbm, ⟨12, _⟩ => ⟨S8704x11008, .f32⟩
  | .hbm, ⟨13, _⟩ => ⟨S8704x11008, .f32⟩
  | .hbm, ⟨14, _⟩ => ⟨S8704x11008, .f32⟩
  | .hbm, ⟨15, _⟩ => ⟨S8704x11008, .f32⟩
  | .hbm, ⟨16, _⟩ => ⟨S8704x11008, .bf16⟩
  | .hbm, ⟨17, _⟩ => ⟨S11008x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== FfnOut.lean ====
abbrev S8704x11008 : Shape := ⟨2, ![8704, 11008]⟩
abbrev S11008x4096 : Shape := ⟨2, ![11008, 4096]⟩
abbrev S8704x4096 : Shape := ⟨2, ![8704, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S8704x11008, .f32⟩
  | .hbm, ⟨1, _⟩ => ⟨S11008x4096, .f32⟩
  | .hbm, ⟨2, _⟩ => ⟨S8704x4096, .f32⟩
  | .hbm, ⟨3, _⟩ => ⟨S8704x11008, .bf16⟩
  | .hbm, ⟨4, _⟩ => ⟨S11008x4096, .bf16⟩
  | .hbm, ⟨5, _⟩ => ⟨S8704x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8704x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOutReferenceIdeal.lean ====
abbrev S8704x11008 : Shape := ⟨2, ![8704, 11008]⟩
abbrev S11008x4096 : Shape := ⟨2, ![11008, 4096]⟩
abbrev S8704x4096 : Shape := ⟨2, ![8704, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x11008, .f32⟩
  | .hbm, ⟨1, _⟩ => ⟨S11008x4096, .f32⟩
  | .hbm, ⟨2, _⟩ => ⟨S8704x4096, .f32⟩
  | .hbm, ⟨3, _⟩ => ⟨S8704x4096, .f32⟩
  | .hbm, ⟨4, _⟩ => ⟨S8704x4096, .f32⟩
  | _, _ => ⟨S8704x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== NormPrompt.lean ====
abbrev S8704x4096 : Shape := ⟨2, ![8704, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPromptReferenceIdeal.lean ====
abbrev S8704x4096 : Shape := ⟨2, ![8704, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormSample.lean ====
abbrev S8704x4096 : Shape := ⟨2, ![8704, 4096]⟩
abbrev S4096 : Shape := ⟨1, ![4096]⟩
abbrev S1x4096 : Shape := ⟨2, ![1, 4096]⟩
abbrev S512x4096 : Shape := ⟨2, ![512, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S512x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSampleReferenceIdeal.lean ====
abbrev S8704x4096 : Shape := ⟨2, ![8704, 4096]⟩
abbrev S4096 : Shape := ⟨1, ![4096]⟩
abbrev S512x4096 : Shape := ⟨2, ![512, 4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S512x4096, .f32⟩
  | .hbm, ⟨3, _⟩ => ⟨S512x4096, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x4096, .f32⟩
  | .hbm, ⟨15, _⟩ => ⟨S512x4096, .f32⟩
  | .hbm, ⟨16, _⟩ => ⟨S1x4096, .f32⟩
  | .hbm, ⟨17, _⟩ => ⟨S512x4096, .f32⟩
  | .hbm, ⟨18, _⟩ => ⟨S512x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Gates.lean ====
abbrev S8704x4096 : Shape := ⟨2, ![8704, 4096]⟩
abbrev S4096x8192 : Shape := ⟨2, ![4096, 8192]⟩
abbrev S2048x4096 : Shape := ⟨2, ![2048, 4096]⟩
abbrev S4096x4096 : Shape := ⟨2, ![4096, 4096]⟩
abbrev S8704x8192 : Shape := ⟨2, ![8704, 8192]⟩
abbrev S1088x4096 : Shape := ⟨2, ![1088, 4096]⟩
abbrev S4096x1024 : Shape := ⟨2, ![4096, 1024]⟩
abbrev S64x4096 : Shape := ⟨2, ![64, 4096]⟩
abbrev S128x1024 : Shape := ⟨2, ![128, 1024]⟩
abbrev S256x1024 : Shape := ⟨2, ![256, 1024]⟩
abbrev S1088x1024 : Shape := ⟨2, ![1088, 1024]⟩

abbrev nBuf : Space → Nat
  | .hbm => 11
  | .vmem => 18
  | .smem => 0
  | _ => 0

abbrev bufTy : (tb : Table) → Fin (tcTables nBuf tb) → BufTy
  | .hbm, ⟨0, _⟩ => ⟨S8704x4096, .f32⟩
  | .hbm, ⟨1, _⟩ => ⟨S4096x8192, .f32⟩
  | .hbm, ⟨2, _⟩ => ⟨S2048x4096, .f32⟩
  | .hbm, ⟨3, _⟩ => ⟨S2048x4096, .f32⟩
  | .hbm, ⟨4, _⟩ => ⟨S4096x4096, .f32⟩
  | .hbm, ⟨5, _⟩ => ⟨S8704x4096, .bf16⟩
  | .hbm, ⟨6, _⟩ => ⟨S4096x8192, .bf16⟩
  | .hbm, ⟨7, _⟩ => ⟨S8704x8192, .bf16⟩
  | .hbm, ⟨8, _⟩ => ⟨S2048x4096, .bf16⟩
  | .hbm, ⟨9, _⟩ => ⟨S2048x4096, .bf16⟩
  | .hbm, ⟨10, _⟩ => ⟨S4096x4096, .bf16⟩
  | .local _ .vmem, ⟨0, _⟩ => ⟨S1088x4096, .bf16⟩
  | .local _ .vmem, ⟨1, _⟩ => ⟨S1088x4096, .bf16⟩
  | .local _ .vmem, ⟨2, _⟩ => ⟨S4096x1024, .bf16⟩
  | .local _ .vmem, ⟨3, _⟩ => ⟨S4096x1024, .bf16⟩
  | .local _ .vmem, ⟨4, _⟩ => ⟨S64x4096, .f32⟩
  | .local _ .vmem, ⟨5, _⟩ => ⟨S64x4096, .f32⟩
  | .local _ .vmem, ⟨6, _⟩ => ⟨S128x1024, .f32⟩
  | .local _ .vmem, ⟨7, _⟩ => ⟨S128x1024, .f32⟩
  | .local _ .vmem, ⟨8, _⟩ => ⟨S256x1024, .f32⟩
  | .local _ .vmem, ⟨9, _⟩ => ⟨S256x1024, .f32⟩
  | .local _ .vmem, ⟨10, _⟩ => ⟨S1088x1024, .bf16⟩
  | .local _ .vmem, ⟨11, _⟩ => ⟨S1088x1024, .bf16⟩
  | .local _ .vmem, ⟨12, _⟩ => ⟨S64x4096, .bf16⟩
  | .local _ .vmem, ⟨13, _⟩ => ⟨S64x4096, .bf16⟩
  | .local _ .vmem, ⟨14, _⟩ => ⟨S128x1024, .bf16⟩
  | .local _ .vmem, ⟨15, _⟩ => ⟨S128x1024, .bf16⟩
  | .local _ .vmem, ⟨16, _⟩ => ⟨S256x1024, .bf16⟩
  | .local _ .vmem, ⟨17, _⟩ => ⟨S256x1024, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c1_i32 : BitVec 32 := 1#32
  let v3 : BitVec 32 := Scalar.divsi v2 c1_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1_i32 c0_i32_1
  let v10 : BitVec 32 := Scalar.extui v9
  let c0_i32_2 : BitVec 32 := 0#32
  let v11 : BitVec 1 := Scalar.cmpi .slt c1_i32 c0_i32_2
  let v12 : BitVec 32 := Scalar.extui v11
  let v13 : BitVec 32 := Scalar.subi v10 v12
  let v14 : BitVec 1 := Scalar.cmpi .ne v8 v13
  let v15 : BitVec 32 := Scalar.remsi v2 c1_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c1_i32_5 : BitVec 32 := 1#32
  let c0_i32_6 : BitVec 32 := 0#32
  let v20 : BitVec 1 := Scalar.cmpi .eq c1_i32_5 c0_i32_6
  let c1_i32_7 : BitVec 32 := 1#32
  let v21 : BitVec 32 := Scalar.select v20 c1_i32_7 c1_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c2_i32 : BitVec 32 := 2#32
  let v30 : BitVec 32 := Scalar.divsi v19 c2_i32
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let c1_i32_16 : BitVec 32 := 1#32
  let v45 : BitVec 32 := Scalar.subi v30 c1_i32_16
  let v46 : BitVec 32 := Scalar.select v44 v45 v30
  let c0_i32_17 : BitVec 32 := 0#32
  let v47 : BitVec 1 := Scalar.cmpi .eq c2_i32 c0_i32_17
  let c1_i32_18 : BitVec 32 := 1#32
  let v48 : BitVec 32 := Scalar.select v47 c1_i32_18 c2_i32
  let v49 : BitVec 32 := Scalar.remsi v19 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let c8_i32_22 : BitVec 32 := 8#32
  let v57 : BitVec 32 := Scalar.divsi v46 c8_i32_22
  let c0_i32_23 : BitVec 32 := 0#32
  let v58 : BitVec 1 := Scalar.cmpi .sgt v46 c0_i32_23
  let v59 : BitVec 32 := Scalar.extui v58
  let c0_i32_24 : BitVec 32 := 0#32
  let v60 : BitVec 1 := Scalar.cmpi .slt v46 c0_i32_24
  let v61 : BitVec 32 := Scalar.extui v60
  let v62 : BitVec 32 := Scalar.subi v59 v61
  let c0_i32_25 : BitVec 32 := 0#32
  let v63 : BitVec 1 := Scalar.cmpi .sgt c8_i32_22 c0_i32_25
  let v64 : BitVec 32 := Scalar.extui v63
  let c0_i32_26 : BitVec 32 := 0#32
  let v65 : BitVec 1 := Scalar.cmpi .slt c8_i32_22 c0_i32_26
  let v66 : BitVec 32 := Scalar.extui v65
  let v67 : BitVec 32 := Scalar.subi v64 v66
  let v68 : BitVec 1 := Scalar.cmpi .ne v62 v67
  let v69 : BitVec 32 := Scalar.remsi v46 c8_i32_22
  let c0_i32_27 : BitVec 32 := 0#32
  let v70 : BitVec 1 := Scalar.cmpi .ne v69 c0_i32_27
  let v71 : BitVec 1 := Scalar.andi v68 v70
  let c1_i32_28 : BitVec 32 := 1#32
  let v72 : BitVec 32 := Scalar.subi v57 c1_i32_28
  let v73 : BitVec 32 := Scalar.select v71 v72 v57
  let c0_i32_29 : BitVec 32 := 0#32
  let v74 : BitVec 1 := Scalar.cmpi .eq c8_i32_22 c0_i32_29
  let c1_i32_30 : BitVec 32 := 1#32
  let v75 : BitVec 32 := Scalar.select v74 c1_i32_30 c8_i32_22
  let v76 : BitVec 32 := Scalar.remsi v46 v75
  let c0_i32_31 : BitVec 32 := 0#32
  let v77 : BitVec 1 := Scalar.cmpi .ne v76 c0_i32_31
  let c0_i32_32 : BitVec 32 := 0#32
  let v78 : BitVec 1 := Scalar.cmpi .slt v76 c0_i32_32
  let c0_i32_33 : BitVec 32 := 0#32
  let v79 : BitVec 1 := Scalar.cmpi .slt v75 c0_i32_33
  let v80 : BitVec 1 := Scalar.xori v78 v79
  let v81 : BitVec 1 := Scalar.andi v80 v77
  let v82 : BitVec 32 := Scalar.addi v76 v75
  let v83 : BitVec 32 := Scalar.select v81 v82 v76
  let c2_i32_34 : BitVec 32 := 2#32
  let v84 : BitVec 32 := Scalar.muli c2_i32_34 v73
  let v85 : BitVec 32 := Scalar.addi v84 v56
  let c8_i32_35 : BitVec 32 := 8#32
  let v86 : BitVec 32 := Scalar.muli v85 c8_i32_35
  let v87 : BitVec 32 := Scalar.addi v86 v83
  let c0_i32_36 : BitVec 32 := 0#32
  let v88 : BitVec 32 := Scalar.addi c0_i32_36 v29
  let c0_i32_37 : BitVec 32 := 0#32
  ![v87.toNat, v88.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c4_i32_4 : BitVec 32 := 4#32
  let c0_i32_5 : BitVec 32 := 0#32
  let v20 : BitVec 1 := Scalar.cmpi .eq c4_i32_4 c0_i32_5
  let c1_i32_6 : BitVec 32 := 1#32
  let v21 : BitVec 32 := Scalar.select v20 c1_i32_6 c4_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let v30 : BitVec 32 := Scalar.addi c0_i32_10 v29
  let c0_i32_11 : BitVec 32 := 0#32
  ![v19.toNat, v30.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c4_i32_4 : BitVec 32 := 4#32
  let c0_i32_5 : BitVec 32 := 0#32
  let v20 : BitVec 1 := Scalar.cmpi .eq c4_i32_4 c0_i32_5
  let c1_i32_6 : BitVec 32 := 1#32
  let v21 : BitVec 32 := Scalar.select v20 c1_i32_6 c4_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let v30 : BitVec 32 := Scalar.addi c0_i32_10 v29
  let c0_i32_11 : BitVec 32 := 0#32
  ![v19.toNat, v30.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c1_i32 : BitVec 32 := 1#32
  let v3 : BitVec 32 := Scalar.divsi v2 c1_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1_i32 c0_i32_1
  let v10 : BitVec 32 := Scalar.extui v9
  let c0_i32_2 : BitVec 32 := 0#32
  let v11 : BitVec 1 := Scalar.cmpi .slt c1_i32 c0_i32_2
  let v12 : BitVec 32 := Scalar.extui v11
  let v13 : BitVec 32 := Scalar.subi v10 v12
  let v14 : BitVec 1 := Scalar.cmpi .ne v8 v13
  let v15 : BitVec 32 := Scalar.remsi v2 c1_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c1_i32_5 : BitVec 32 := 1#32
  let c0_i32_6 : BitVec 32 := 0#32
  let v20 : BitVec 1 := Scalar.cmpi .eq c1_i32_5 c0_i32_6
  let c1_i32_7 : BitVec 32 := 1#32
  let v21 : BitVec 32 := Scalar.select v20 c1_i32_7 c1_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, v29.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c4_i32_4 : BitVec 32 := 4#32
  let c0_i32_5 : BitVec 32 := 0#32
  let v20 : BitVec 1 := Scalar.cmpi .eq c4_i32_4 c0_i32_5
  let c1_i32_6 : BitVec 32 := 1#32
  let v21 : BitVec 32 := Scalar.select v20 c1_i32_6 c4_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  ![v19.toNat, v29.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c4_i32_4 : BitVec 32 := 4#32
  let c0_i32_5 : BitVec 32 := 0#32
  let v20 : BitVec 1 := Scalar.cmpi .eq c4_i32_4 c0_i32_5
  let c1_i32_6 : BitVec 32 := 1#32
  let v21 : BitVec 32 := Scalar.select v20 c1_i32_6 c4_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  ![v19.toNat, v29.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GatesReferenceIdeal.lean ====
abbrev S8704x4096 : Shape := ⟨2, ![8704, 4096]⟩
abbrev S4096x8192 : Shape := ⟨2, ![4096, 8192]⟩
abbrev S2048x4096 : Shape := ⟨2, ![2048, 4096]⟩
abbrev S4096x4096 : Shape := ⟨2, ![4096, 4096]⟩
abbrev S8704x8192 : Shape := ⟨2, ![8704, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x8192, .f32⟩
  | .hbm, ⟨2, _⟩ => ⟨S2048x4096, .f32⟩
  | .hbm, ⟨3, _⟩ => ⟨S2048x4096, .f32⟩
  | .hbm, ⟨4, _⟩ => ⟨S4096x4096, .f32⟩
  | .hbm, ⟨5, _⟩ => ⟨S8704x8192, .f32⟩
  | .hbm, ⟨6, _⟩ => ⟨S8704x8192, .f32⟩
  | .hbm, ⟨7, _⟩ => ⟨S8704x8192, .f32⟩
  | .hbm, ⟨8, _⟩ => ⟨S_, .f32⟩
  | .hbm, ⟨9, _⟩ => ⟨S8704x8192, .f32⟩
  | .hbm, ⟨10, _⟩ => ⟨S8704x8192, .f32⟩
  | .hbm, ⟨11, _⟩ => ⟨S_, .f32⟩
  | .hbm, ⟨12, _⟩ => ⟨S8704x8192, .f32⟩
  | .hbm, ⟨13, _⟩ => ⟨S8704x8192, .f32⟩
  | .hbm, ⟨14, _⟩ => ⟨S8704x8192, .bf16⟩
  | .hbm, ⟨15, _⟩ => ⟨S2048x4096, .bf16⟩
  | .hbm, ⟨16, _⟩ => ⟨S4096x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Merge.lean ====
abbrev S8192x2048 : Shape := ⟨2, ![8192, 2048]⟩
abbrev S512x2048 : Shape := ⟨2, ![512, 2048]⟩
abbrev S8704x8192 : Shape := ⟨2, ![8704, 8192]⟩
abbrev S2048x4096 : Shape := ⟨2, ![2048, 4096]⟩
abbrev S4096x22016 : Shape := ⟨2, ![4096, 22016]⟩
abbrev S8704x4096 : Shape := ⟨2, ![8704, 4096]⟩
abbrev S4096x11008 : Shape := ⟨2, ![4096, 11008]⟩
abbrev S2048x1024 : Shape := ⟨2, ![2048, 1024]⟩
abbrev S512x1024 : Shape := ⟨2, ![512, 1024]⟩
abbrev S128x5504 : Shape := ⟨2, ![128, 5504]⟩

abbrev nBuf : Space → Nat
  | .hbm => 17
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .f32⟩
  | .hbm, ⟨3, _⟩ => ⟨S512x2048, .f32⟩
  | .hbm, ⟨4, _⟩ => ⟨S8704x8192, .f32⟩
  | .hbm, ⟨5, _⟩ => ⟨S2048x4096, .f32⟩
  | .hbm, ⟨6, _⟩ => ⟨S2048x4096, .f32⟩
  | .hbm, ⟨7, _⟩ => ⟨S4096x22016, .f32⟩
  | .hbm, ⟨8, _⟩ => ⟨S8704x8192, .bf16⟩
  | .hbm, ⟨9, _⟩ => ⟨S8192x2048, .bf16⟩
  | .hbm, ⟨10, _⟩ => ⟨S512x2048, .bf16⟩
  | .hbm, ⟨11, _⟩ => ⟨S2048x4096, .bf16⟩
  | .hbm, ⟨12, _⟩ => ⟨S8192x2048, .bf16⟩
  | .hbm, ⟨13, _⟩ => ⟨S512x2048, .bf16⟩
  | .hbm, ⟨14, _⟩ => ⟨S2048x4096, .bf16⟩
  | .hbm, ⟨15, _⟩ => ⟨S8704x4096, .bf16⟩
  | .hbm, ⟨16, _⟩ => ⟨S4096x11008, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S128x5504, .f32⟩
  | .local _ .vmem, ⟨17, _⟩ => ⟨S128x5504, .f32⟩
  | .local _ .vmem, ⟨18, _⟩ => ⟨S512x1024, .bf16⟩
  | .local _ .vmem, ⟨19, _⟩ => ⟨S512x1024, .bf16⟩
  | .local _ .vmem, ⟨20, _⟩ => ⟨S128x5504, .bf16⟩
  | .local _ .vmem, ⟨21, _⟩ => ⟨S128x5504, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c63_i32 : BitVec 32 := 63#32
  let v2 : BitVec 32 := Scalar.minsi v1 c63_i32
  let c2_i32 : BitVec 32 := 2#32
  let v3 : BitVec 32 := Scalar.divsi v2 c2_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c2_i32_4 : BitVec 32 := 2#32
  let c0_i32_5 : BitVec 32 := 0#32
  let v20 : BitVec 1 := Scalar.cmpi .eq c2_i32_4 c0_i32_5
  let c1_i32_6 : BitVec 32 := 1#32
  let v21 : BitVec 32 := Scalar.select v20 c1_i32_6 c2_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let v30 : BitVec 32 := Scalar.addi c0_i32_10 v29
  let c0_i32_11 : BitVec 32 := 0#32
  ![v19.toNat, v30.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c63_i32 : BitVec 32 := 63#32
  let v2 : BitVec 32 := Scalar.minsi v1 c63_i32
  let c2_i32 : BitVec 32 := 2#32
  let v3 : BitVec 32 := Scalar.divsi v2 c2_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c2_i32_4 : BitVec 32 := 2#32
  let c0_i32_5 : BitVec 32 := 0#32
  let v20 : BitVec 1 := Scalar.cmpi .eq c2_i32_4 c0_i32_5
  let c1_i32_6 : BitVec 32 := 1#32
  let v21 : BitVec 32 := Scalar.select v20 c1_i32_6 c2_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  ![v19.toNat, v29.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x5504 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x5504 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeReferenceIdeal.lean ====
abbrev S8192x2048 : Shape := ⟨2, ![8192, 2048]⟩
abbrev S512x2048 : Shape := ⟨2, ![512, 2048]⟩
abbrev S8704x8192 : Shape := ⟨2, ![8704, 8192]⟩
abbrev S2048x4096 : Shape := ⟨2, ![2048, 4096]⟩
abbrev S4096x22016 : Shape := ⟨2, ![4096, 22016]⟩
abbrev S8704x4096 : Shape := ⟨2, ![8704, 4096]⟩
abbrev S8704x2048 : Shape := ⟨2, ![8704, 2048]⟩
abbrev S4096x11008 : Shape := ⟨2, ![4096, 11008]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .f32⟩
  | .hbm, ⟨3, _⟩ => ⟨S512x2048, .f32⟩
  | .hbm, ⟨4, _⟩ => ⟨S8704x8192, .f32⟩
  | .hbm, ⟨5, _⟩ => ⟨S2048x4096, .f32⟩
  | .hbm, ⟨6, _⟩ => ⟨S2048x4096, .f32⟩
  | .hbm, ⟨7, _⟩ => ⟨S4096x22016, .f32⟩
  | .hbm, ⟨8, _⟩ => ⟨S8704x4096, .f32⟩
  | .hbm, ⟨9, _⟩ => ⟨S8704x4096, .f32⟩
  | .hbm, ⟨10, _⟩ => ⟨S8704x2048, .f32⟩
  | .hbm, ⟨11, _⟩ => ⟨S8704x4096, .f32⟩
  | .hbm, ⟨12, _⟩ => ⟨S8704x2048, .f32⟩
  | .hbm, ⟨13, _⟩ => ⟨S8704x4096, .f32⟩
  | .hbm, ⟨14, _⟩ => ⟨S8704x4096, .f32⟩
  | .hbm, ⟨15, _⟩ => ⟨S8704x4096, .f32⟩
  | .hbm, ⟨16, _⟩ => ⟨S8704x4096, .f32⟩
  | .hbm, ⟨17, _⟩ => ⟨S8704x4096, .bf16⟩
  | .hbm, ⟨18, _⟩ => ⟨S4096x11008, .f32⟩
  | .hbm, ⟨19, _⟩ => ⟨S4096x11008, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== OutProj.lean ====
abbrev S8704x4096 : Shape := ⟨2, ![8704, 4096]⟩
abbrev S4096x4096 : Shape := ⟨2, ![4096, 4096]⟩
abbrev S8192x4096 : Shape := ⟨2, ![8192, 4096]⟩
abbrev S512x4096 : Shape := ⟨2, ![512, 4096]⟩
abbrev S4096x22016 : Shape := ⟨2, ![4096, 22016]⟩
abbrev S4096x11008 : Shape := ⟨2, ![4096, 11008]⟩
abbrev S4096x1024 : Shape := ⟨2, ![4096, 1024]⟩
abbrev S512x1024 : Shape := ⟨2, ![512, 1024]⟩
abbrev S128x5504 : Shape := ⟨2, ![128, 5504]⟩

abbrev nBuf : Space → Nat
  | .hbm => 9
  | .vmem => 14
  | .smem => 0
  | _ => 0

abbrev bufTy : (tb : Table) → Fin (tcTables nBuf tb) → BufTy
  | .hbm, ⟨0, _⟩ => ⟨S8704x4096, .f32⟩
  | .hbm, ⟨1, _⟩ => ⟨S4096x4096, .f32⟩
  | .hbm, ⟨2, _⟩ => ⟨S8192x4096, .f32⟩
  | .hbm, ⟨3, _⟩ => ⟨S512x4096, .f32⟩
  | .hbm, ⟨4, _⟩ => ⟨S4096x22016, .f32⟩
  | .hbm, ⟨5, _⟩ => ⟨S8704x4096, .bf16⟩
  | .hbm, ⟨6, _⟩ => ⟨S4096x4096, .bf16⟩
  | .hbm, ⟨7, _⟩ => ⟨S8704x4096, .f32⟩
  | .hbm, ⟨8, _⟩ => ⟨S4096x11008, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S128x5504, .f32⟩
  | .local _ .vmem, ⟨9, _⟩ => ⟨S128x5504, .f32⟩
  | .local _ .vmem, ⟨10, _⟩ => ⟨S512x1024, .f32⟩
  | .local _ .vmem, ⟨11, _⟩ => ⟨S512x1024, .f32⟩
  | .local _ .vmem, ⟨12, _⟩ => ⟨S128x5504, .bf16⟩
  | .local _ .vmem, ⟨13, _⟩ => ⟨S128x5504, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c63_i32 : BitVec 32 := 63#32
  let v2 : BitVec 32 := Scalar.minsi v1 c63_i32
  let c2_i32 : BitVec 32 := 2#32
  let v3 : BitVec 32 := Scalar.divsi v2 c2_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c2_i32_4 : BitVec 32 := 2#32
  let c0_i32_5 : BitVec 32 := 0#32
  let v20 : BitVec 1 := Scalar.cmpi .eq c2_i32_4 c0_i32_5
  let c1_i32_6 : BitVec 32 := 1#32
  let v21 : BitVec 32 := Scalar.select v20 c1_i32_6 c2_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c2_i32_10 : BitVec 32 := 2#32
  let v30 : BitVec 32 := Scalar.addi c2_i32_10 v29
  let c0_i32_11 : BitVec 32 := 0#32
  ![v19.toNat, v30.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c63_i32 : BitVec 32 := 63#32
  let v2 : BitVec 32 := Scalar.minsi v1 c63_i32
  let c2_i32 : BitVec 32 := 2#32
  let v3 : BitVec 32 := Scalar.divsi v2 c2_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c2_i32_4 : BitVec 32 := 2#32
  let c0_i32_5 : BitVec 32 := 0#32
  let v20 : BitVec 1 := Scalar.cmpi .eq c2_i32_4 c0_i32_5
  let c1_i32_6 : BitVec 32 := 1#32
  let v21 : BitVec 32 := Scalar.select v20 c1_i32_6 c2_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  ![v19.toNat, v29.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x5504 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x5504 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjReferenceIdeal.lean ====
abbrev S8704x4096 : Shape := ⟨2, ![8704, 4096]⟩
abbrev S4096x4096 : Shape := ⟨2, ![4096, 4096]⟩
abbrev S8192x4096 : Shape := ⟨2, ![8192, 4096]⟩
abbrev S512x4096 : Shape := ⟨2, ![512, 4096]⟩
abbrev S4096x22016 : Shape := ⟨2, ![4096, 22016]⟩
abbrev S4096x11008 : Shape := ⟨2, ![4096, 11008]⟩

abbrev nBuf : Space → Nat
  | .hbm => 10
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x4096, .f32⟩
  | .hbm, ⟨2, _⟩ => ⟨S8192x4096, .f32⟩
  | .hbm, ⟨3, _⟩ => ⟨S512x4096, .f32⟩
  | .hbm, ⟨4, _⟩ => ⟨S4096x22016, .f32⟩
  | .hbm, ⟨5, _⟩ => ⟨S8704x4096, .f32⟩
  | .hbm, ⟨6, _⟩ => ⟨S8704x4096, .f32⟩
  | .hbm, ⟨7, _⟩ => ⟨S8704x4096, .f32⟩
  | .hbm, ⟨8, _⟩ => ⟨S4096x11008, .f32⟩
  | .hbm, ⟨9, _⟩ => ⟨S4096x11008, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== ProjKv.lean ====
abbrev S8704x4096 : Shape := ⟨2, ![8704, 4096]⟩
abbrev S4096x14848 : Shape := ⟨2, ![4096, 14848]⟩
abbrev S8192 : Shape := ⟨1, ![8192]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x64 : Shape := ⟨2, ![8704, 64]⟩
abbrev S1x8704x1x64 : Shape := ⟨4, ![1, 8704, 1, 64]⟩
abbrev S1x8704x2x64 : Shape := ⟨4, ![1, 8704, 2, 64]⟩
abbrev S8704x128 : Shape := ⟨2, ![8704, 128]⟩
abbrev S8704x256 : Shape := ⟨2, ![8704, 256]⟩
abbrev S512x4096 : Shape := ⟨2, ![512, 4096]⟩
abbrev S4096x512 : Shape := ⟨2, ![4096, 512]⟩
abbrev S512x128 : Shape := ⟨2, ![512, 128]⟩
abbrev S512x256 : Shape := ⟨2, ![512, 256]⟩
abbrev S256x512 : Shape := ⟨2, ![256, 512]⟩
abbrev S512x512 : Shape := ⟨2, ![512, 512]⟩

abbrev nBuf : Space → Nat
  | .hbm => 39
  | .vmem => 12
  | .smem => 0
  | _ => 0

abbrev bufTy : (tb : Table) → Fin (tcTables nBuf tb) → BufTy
  | .hbm, ⟨0, _⟩ => ⟨S8704x4096, .f32⟩
  | .hbm, ⟨1, _⟩ => ⟨S4096x14848, .f32⟩
  | .hbm, ⟨2, _⟩ => ⟨S8192, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x4, .i32⟩
  | .hbm, ⟨8, _⟩ => ⟨S128x4, .i32⟩
  | .hbm, ⟨9, _⟩ => ⟨S512, .i32⟩
  | .hbm, ⟨10, _⟩ => ⟨S8704, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8704, .f32⟩
  | .hbm, ⟨20, _⟩ => ⟨S8704x1, .f32⟩
  | .hbm, ⟨21, _⟩ => ⟨S1x32, .f32⟩
  | .hbm, ⟨22, _⟩ => ⟨S8704x32, .f32⟩
  | .hbm, ⟨23, _⟩ => ⟨S8704x32, .f32⟩
  | .hbm, ⟨24, _⟩ => ⟨S8704x32, .f32⟩
  | .hbm, ⟨25, _⟩ => ⟨S8704x32, .f32⟩
  | .hbm, ⟨26, _⟩ => ⟨S8704x32, .f32⟩
  | .hbm, ⟨27, _⟩ => ⟨S8704x64, .f32⟩
  | .hbm, ⟨28, _⟩ => ⟨S8704x32, .f32⟩
  | .hbm, ⟨29, _⟩ => ⟨S8704x64, .f32⟩
  | .hbm, ⟨30, _⟩ => ⟨S1x8704x1x64, .f32⟩
  | .hbm, ⟨31, _⟩ => ⟨S1x8704x2x64, .f32⟩
  | .hbm, ⟨32, _⟩ => ⟨S8704x128, .f32⟩
  | .hbm, ⟨33, _⟩ => ⟨S1x8704x1x64, .f32⟩
  | .hbm, ⟨34, _⟩ => ⟨S1x8704x2x64, .f32⟩
  | .hbm, ⟨35, _⟩ => ⟨S8704x128, .f32⟩
  | .hbm, ⟨36, _⟩ => ⟨S8704x4096, .bf16⟩
  | .hbm, ⟨37, _⟩ => ⟨S8704x256, .f32⟩
  | .hbm, ⟨38, _⟩ => ⟨S8704x256, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S4096x512, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32_0 : Ref sig .tc := ⟨.hbm, 37, rfl⟩
abbrev main_v32_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c16_i32 : BitVec 32 := 16#32
  let v28 : BitVec 32 := Scalar.addi c0_i32_13 c16_i32
  let c1_i32 : BitVec 32 := 1#32
  ⟨c0_i32_13, v28, c1_i32⟩
def k0_mult1 (k0_t1 : Fin k0_t1_loop.trips) : BitVec 32 :=
  let c0_i32_13 : BitVec 32 := 0#32
  let c1_i32 : BitVec 32 := 1#32
  let arg9 : BitVec 32 := Scf.iv c0_i32_13 c1_i32 k0_t1
  let c256_i32 : BitVec 32 := 256#32
  let v29 : BitVec 32 := Scalar.muli arg9 c256_i32
  v29
def k0_off1 (k0_t1 : Fin k0_t1_loop.trips) : Fin 2 → Nat :=
  let c0_i32_13 : BitVec 32 := 0#32
  let c1_i32 : BitVec 32 := 1#32
  let arg9 : BitVec 32 := Scf.iv c0_i32_13 c1_i32 k0_t1
  let c256_i32 : BitVec 32 := 256#32
  let v29 : BitVec 32 := Scalar.muli arg9 c256_i32
  let v30 : BitVec 32 := v29
  let v31 : Index := Scalar.indexCast v30
  let c0_15 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== ProjKvReferenceIdeal.lean ====
abbrev S8704x4096 : Shape := ⟨2, ![8704, 4096]⟩
abbrev S4096x14848 : Shape := ⟨2, ![4096, 14848]⟩
abbrev S32 : Shape := ⟨1, ![32]⟩
abbrev S_ : Shape := ⟨0, ![]⟩
abbrev S8192 : Shape := ⟨1, ![8192]⟩
abbrev S4 : Shape := ⟨1, ![4]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S8704x1 : Shape := ⟨2, ![8704, 1]⟩
abbrev S1x32 : Shape := ⟨2, ![1, 32]⟩
abbrev S8704x32 : Shape := ⟨2, ![8704, 32]⟩
abbrev S8704x1x32 : Shape := ⟨3, ![8704, 1, 32]⟩
abbrev S4096x256 : Shape := ⟨2, ![4096, 256]⟩
abbrev S8704x256 : Shape := ⟨2, ![8704, 256]⟩
abbrev S8704x4x64 : Shape := ⟨3, ![8704, 4, 64]⟩
abbrev S8704x4x32 : Shape := ⟨3, ![8704, 4, 32]⟩

abbrev nBuf : Space → Nat
  | .hbm => 48
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x14848, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S8192, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S1x4, .i32⟩
  | .hbm, ⟨16, _⟩ => ⟨S128x4, .i32⟩
  | .hbm, ⟨17, _⟩ => ⟨S512, .i32⟩
  | .hbm, ⟨18, _⟩ => ⟨S8704, .i32⟩
  | .hbm, ⟨19, _⟩ => ⟨S8704, .f32⟩
  | .hbm, ⟨20, _⟩ => ⟨S8704x1, .f32⟩
  | .hbm, ⟨21, _⟩ => ⟨S1x32, .f32⟩
  | .hbm, ⟨22, _⟩ => ⟨S8704x32, .f32⟩
  | .hbm, ⟨23, _⟩ => ⟨S8704x32, .f32⟩
  | .hbm, ⟨24, _⟩ => ⟨S8704x32, .f32⟩
  | .hbm, ⟨25, _⟩ => ⟨S8704x32, .f32⟩
  | .hbm, ⟨26, _⟩ => ⟨S8704x1x32, .f32⟩
  | .hbm, ⟨27, _⟩ => ⟨S8704x32, .f32⟩
  | .hbm, ⟨28, _⟩ => ⟨S8704x1x32, .f32⟩
  | .hbm, ⟨29, _⟩ => ⟨S4096x256, .f32⟩
  | .hbm, ⟨30, _⟩ => ⟨S8704x256, .f32⟩
  | .hbm, ⟨31, _⟩ => ⟨S8704x4x64, .f32⟩
  | .hbm, ⟨32, _⟩ => ⟨S8704x4x32, .f32⟩
  | .hbm, ⟨33, _⟩ => ⟨S8704x4x32, .f32⟩
  | .hbm, ⟨34, _⟩ => ⟨S8704x4x32, .f32⟩
  | .hbm, ⟨35, _⟩ => ⟨S8704x4x32, .f32⟩
  | .hbm, ⟨36, _⟩ => ⟨S8704x4x32, .f32⟩
  | .hbm, ⟨37, _⟩ => ⟨S8704x4x32, .f32⟩
  | .hbm, ⟨38, _⟩ => ⟨S8704x4x32, .f32⟩
  | .hbm, ⟨39, _⟩ => ⟨S8704x4x32, .f32⟩
  | .hbm, ⟨40, _⟩ => ⟨S8704x4x32, .f32⟩
  | .hbm, ⟨41, _⟩ => ⟨S8704x4x32, .f32⟩
  | .hbm, ⟨42, _⟩ => ⟨S8704x4x32, .f32⟩
  | .hbm, ⟨43, _⟩ => ⟨S8704x4x32, .f32⟩
  | .hbm, ⟨44, _⟩ => ⟨S8704x4x64, .f32⟩
  | .hbm, ⟨45, _⟩ => ⟨S8704x256, .f32⟩
  | .hbm, ⟨46, _⟩ => ⟨S4096x256, .f32⟩
  | .hbm, ⟨47, _⟩ => ⟨S8704x256, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩

abbrev nD : Nat := 1
abbrev τ : Topo := Topo.v7x

variable {F : FTy → Type} [FloatOps F]
-- ==== ProjGlu.lean ====
abbrev S8704x4096 : Shape := ⟨2, ![8704, 4096]⟩
abbrev S4096x14848 : Shape := ⟨2, ![4096, 14848]⟩
abbrev S8704x2048 : Shape := ⟨2, ![8704, 2048]⟩
abbrev S512x4096 : Shape := ⟨2, ![512, 4096]⟩
abbrev S4096x512 : Shape := ⟨2, ![4096, 512]⟩
abbrev S512x512 : Shape := ⟨2, ![512, 512]⟩
abbrev S4096x1024 : Shape := ⟨2, ![4096, 1024]⟩
abbrev S256x512 : Shape := ⟨2, ![256, 512]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8704x4096, .f32⟩
  | .hbm, ⟨1, _⟩ => ⟨S4096x14848, .f32⟩
  | .hbm, ⟨2, _⟩ => ⟨S8704x4096, .bf16⟩
  | .hbm, ⟨3, _⟩ => ⟨S8704x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S4096x512, .f32⟩
  | .local _ .vmem, ⟨5, _⟩ => ⟨S4096x512, .f32⟩
  | .local _ .vmem, ⟨6, _⟩ => ⟨S512x512, .f32⟩
  | .local _ .vmem, ⟨7, _⟩ => ⟨S512x512, .f32⟩
  | .local _ .vmem, ⟨8, _⟩ => ⟨S4096x1024, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c16_i32 : BitVec 32 := 16#32
  let v12 : BitVec 32 := Scalar.addi c0_i32_6 c16_i32
  let c1_i32 : BitVec 32 := 1#32
  ⟨c0_i32_6, v12, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c256_i32 : BitVec 32 := 256#32
  let v13 : BitVec 32 := Scalar.muli arg7 c256_i32
  v13
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c256_i32 : BitVec 32 := 256#32
  let v13 : BitVec 32 := Scalar.muli arg7 c256_i32
  let v14 : BitVec 32 := v13
  let v15 : Index := Scalar.indexCast v14
  let c0_8 : Index := 0#32
  ![v15.toNat, 0]
def k0_off2 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c256_i32 : BitVec 32 := 256#32
  let v13 : BitVec 32 := Scalar.muli arg7 c256_i32
  let v14 : BitVec 32 := v13
  let v18 : Index := Scalar.indexCast v14
  let c0_9 : Index := 0#32
  ![v18.toNat, 0]
def k0_off3 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c256_i32 : BitVec 32 := 256#32
  let v13 : BitVec 32 := Scalar.muli arg7 c256_i32
  let v14 : BitVec 32 := v13
  let v25 : Index := Scalar.indexCast v14
  let c512 : Index := 512#32
  ![v25.toNat, 512]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjGluReferenceIdeal.lean ====
abbrev S8704x4096 : Shape := ⟨2, ![8704, 4096]⟩
abbrev S4096x14848 : Shape := ⟨2, ![4096, 14848]⟩
abbrev S4096x2048 : Shape := ⟨2, ![4096, 2048]⟩
abbrev S8704x2048 : Shape := ⟨2, ![8704, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x14848, .f32⟩
  | .hbm, ⟨2, _⟩ => ⟨S4096x2048, .f32⟩
  | .hbm, ⟨3, _⟩ => ⟨S8704x2048, .f32⟩
  | .hbm, ⟨4, _⟩ => ⟨S4096x2048, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S_, .f32⟩
  | .hbm, ⟨9, _⟩ => ⟨S8704x2048, .f32⟩
  | .hbm, ⟨10, _⟩ => ⟨S8704x2048, .f32⟩
  | .hbm, ⟨11, _⟩ => ⟨S_, .f32⟩
  | .hbm, ⟨12, _⟩ => ⟨S8704x2048, .f32⟩
  | .hbm, ⟨13, _⟩ => ⟨S8704x2048, .f32⟩
  | .hbm, ⟨14, _⟩ => ⟨S8704x2048, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ConvSample.lean ====
abbrev S8704x2048 : Shape := ⟨2, ![8704, 2048]⟩
abbrev S128x30x2048 : Shape := ⟨3, ![128, 30, 2048]⟩
abbrev S31x2048 : Shape := ⟨2, ![31, 2048]⟩
abbrev S2048 : Shape := ⟨1, ![2048]⟩
abbrev S512x2048 : Shape := ⟨2, ![512, 2048]⟩
abbrev S128x4x2048 : Shape := ⟨3, ![128, 4, 2048]⟩
abbrev S4x128x2048 : Shape := ⟨3, ![4, 128, 2048]⟩
abbrev S30x128x2048 : Shape := ⟨3, ![30, 128, 2048]⟩
abbrev S1x2048 : Shape := ⟨2, ![1, 2048]⟩
abbrev S30x32x2048 : Shape := ⟨3, ![30, 32, 2048]⟩
abbrev S4x32x2048 : Shape := ⟨3, ![4, 32, 2048]⟩
abbrev S1x128 : Shape := ⟨2, ![1, 128]⟩
abbrev S1x8x128 : Shape := ⟨3, ![1, 8, 128]⟩
abbrev S8x128 : Shape := ⟨2, ![8, 128]⟩
abbrev S1x32x2048 : Shape := ⟨3, ![1, 32, 2048]⟩
abbrev S32x2048 : Shape := ⟨2, ![32, 2048]⟩
abbrev S32 : Shape := ⟨1, ![32]⟩
abbrev S32x1 : Shape := ⟨2, ![32, 1]⟩

abbrev nBuf : Space → Nat
  | .hbm => 15
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S128x30x2048, .f32⟩
  | .hbm, ⟨2, _⟩ => ⟨S31x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S512x2048, .f32⟩
  | .hbm, ⟨7, _⟩ => ⟨S128x4x2048, .f32⟩
  | .hbm, ⟨8, _⟩ => ⟨S4x128x2048, .f32⟩
  | .hbm, ⟨9, _⟩ => ⟨S30x128x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S4x128x2048, .bf16⟩
  | .hbm, ⟨14, _⟩ => ⟨S30x128x2048, .f32⟩
  | .local _ .vmem, ⟨0, _⟩ => ⟨S30x32x2048, .f32⟩
  | .local _ .vmem, ⟨1, _⟩ => ⟨S30x32x2048, .f32⟩
  | .local _ .vmem, ⟨2, _⟩ => ⟨S4x32x2048, .f32⟩
  | .local _ .vmem, ⟨3, _⟩ => ⟨S4x32x2048, .f32⟩
  | .local _ .vmem, ⟨4, _⟩ => ⟨S31x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S4x32x2048, .bf16⟩
  | .local _ .vmem, ⟨9, _⟩ => ⟨S4x32x2048, .bf16⟩
  | .local _ .vmem, ⟨10, _⟩ => ⟨S30x32x2048, .f32⟩
  | .local _ .vmem, ⟨11, _⟩ => ⟨S30x32x2048, .f32⟩
  | .local _ .vmem, ⟨12, _⟩ => ⟨S4x32x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  v137
def k0_off1 (k0_t1 : Fin k0_t1_loop.trips) : Fin 2 → Nat :=
  let c0_56 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v139 : Index := Scalar.indexCast v138
  ![0, v139.toNat]
def k0_off2 (k0_t1 : Fin k0_t1_loop.trips) : Fin 3 → Nat :=
  let c0_57 : Index := 0#32
  let c0_58 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v142 : Index := Scalar.indexCast v138
  ![0, 0, v142.toNat]
def k0_off3 (k0_t1 : Fin k0_t1_loop.trips) : Fin 3 → Nat :=
  let c1_59 : Index := 1#32
  let c0_60 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v145 : Index := Scalar.indexCast v138
  ![1, 0, v145.toNat]
def k0_off4 (k0_t1 : Fin k0_t1_loop.trips) : Fin 3 → Nat :=
  let c2_61 : Index := 2#32
  let c0_62 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v148 : Index := Scalar.indexCast v138
  ![2, 0, v148.toNat]
def k0_off5 (k0_t1 : Fin k0_t1_loop.trips) : Fin 3 → Nat :=
  let c3_63 : Index := 3#32
  let c0_64 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v151 : Index := Scalar.indexCast v138
  ![3, 0, v151.toNat]
def k0_off6 (k0_t1 : Fin k0_t1_loop.trips) : Fin 3 → Nat :=
  let c4 : Index := 4#32
  let c0_65 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v154 : Index := Scalar.indexCast v138
  ![4, 0, v154.toNat]
def k0_off7 (k0_t1 : Fin k0_t1_loop.trips) : Fin 3 → Nat :=
  let c5 : Index := 5#32
  let c0_66 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v157 : Index := Scalar.indexCast v138
  ![5, 0, v157.toNat]
def k0_off8 (k0_t1 : Fin k0_t1_loop.trips) : Fin 3 → Nat :=
  let c6 : Index := 6#32
  let c0_67 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v160 : Index := Scalar.indexCast v138
  ![6, 0, v160.toNat]
def k0_off9 (k0_t1 : Fin k0_t1_loop.trips) : Fin 3 → Nat :=
  let c7 : Index := 7#32
  let c0_68 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v163 : Index := Scalar.indexCast v138
  ![7, 0, v163.toNat]
def k0_off10 (k0_t1 : Fin k0_t1_loop.trips) : Fin 3 → Nat :=
  let c8 : Index := 8#32
  let c0_69 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v166 : Index := Scalar.indexCast v138
  ![8, 0, v166.toNat]
def k0_off11 (k0_t1 : Fin k0_t1_loop.trips) : Fin 3 → Nat :=
  let c9 : Index := 9#32
  let c0_70 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v169 : Index := Scalar.indexCast v138
  ![9, 0, v169.toNat]
def k0_off12 (k0_t1 : Fin k0_t1_loop.trips) : Fin 3 → Nat :=
  let c10 : Index := 10#32
  let c0_71 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v172 : Index := Scalar.indexCast v138
  ![10, 0, v172.toNat]
def k0_off13 (k0_t1 : Fin k0_t1_loop.trips) : Fin 3 → Nat :=
  let c11 : Index := 11#32
  let c0_72 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v175 : Index := Scalar.indexCast v138
  ![11, 0, v175.toNat]
def k0_off14 (k0_t1 : Fin k0_t1_loop.trips) : Fin 3 → Nat :=
  let c12 : Index := 12#32
  let c0_73 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v178 : Index := Scalar.indexCast v138
  ![12, 0, v178.toNat]
def k0_off15 (k0_t1 : Fin k0_t1_loop.trips) : Fin 3 → Nat :=
  let c13 : Index := 13#32
  let c0_74 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v181 : Index := Scalar.indexCast v138
  ![13, 0, v181.toNat]
def k0_off16 (k0_t1 : Fin k0_t1_loop.trips) : Fin 3 → Nat :=
  let c14 : Index := 14#32
  let c0_75 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v184 : Index := Scalar.indexCast v138
  ![14, 0, v184.toNat]
def k0_off17 (k0_t1 : Fin k0_t1_loop.trips) : Fin 3 → Nat :=
  let c15 : Index := 15#32
  let c0_76 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v187 : Index := Scalar.indexCast v138
  ![15, 0, v187.toNat]
def k0_off18 (k0_t1 : Fin k0_t1_loop.trips) : Fin 3 → Nat :=
  let c16 : Index := 16#32
  let c0_77 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v190 : Index := Scalar.indexCast v138
  ![16, 0, v190.toNat]
def k0_off19 (k0_t1 : Fin k0_t1_loop.trips) : Fin 3 → Nat :=
  let c17 : Index := 17#32
  let c0_78 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v193 : Index := Scalar.indexCast v138
  ![17, 0, v193.toNat]
def k0_off20 (k0_t1 : Fin k0_t1_loop.trips) : Fin 3 → Nat :=
  let c18 : Index := 18#32
  let c0_79 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v196 : Index := Scalar.indexCast v138
  ![18, 0, v196.toNat]
def k0_off21 (k0_t1 : Fin k0_t1_loop.trips) : Fin 3 → Nat :=
  let c19 : Index := 19#32
  let c0_80 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v199 : Index := Scalar.indexCast v138
  ![19, 0, v199.toNat]
def k0_off22 (k0_t1 : Fin k0_t1_loop.trips) : Fin 3 → Nat :=
  let c20 : Index := 20#32
  let c0_81 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v202 : Index := Scalar.indexCast v138
  ![20, 0, v202.toNat]
def k0_off23 (k0_t1 : Fin k0_t1_loop.trips) : Fin 3 → Nat :=
  let c21 : Index := 21#32
  let c0_82 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v205 : Index := Scalar.indexCast v138
  ![21, 0, v205.toNat]
def k0_off24 (k0_t1 : Fin k0_t1_loop.trips) : Fin 3 → Nat :=
  let c22 : Index := 22#32
  let c0_83 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v208 : Index := Scalar.indexCast v138
  ![22, 0, v208.toNat]
def k0_off25 (k0_t1 : Fin k0_t1_loop.trips) : Fin 3 → Nat :=
  let c23 : Index := 23#32
  let c0_84 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v211 : Index := Scalar.indexCast v138
  ![23, 0, v211.toNat]
def k0_off26 (k0_t1 : Fin k0_t1_loop.trips) : Fin 3 → Nat :=
  let c24 : Index := 24#32
  let c0_85 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v214 : Index := Scalar.indexCast v138
  ![24, 0, v214.toNat]
def k0_off27 (k0_t1 : Fin k0_t1_loop.trips) : Fin 3 → Nat :=
  let c25 : Index := 25#32
  let c0_86 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v217 : Index := Scalar.indexCast v138
  ![25, 0, v217.toNat]
def k0_off28 (k0_t1 : Fin k0_t1_loop.trips) : Fin 3 → Nat :=
  let c26 : Index := 26#32
  let c0_87 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v220 : Index := Scalar.indexCast v138
  ![26, 0, v220.toNat]
def k0_off29 (k0_t1 : Fin k0_t1_loop.trips) : Fin 3 → Nat :=
  let c27 : Index := 27#32
  let c0_88 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v223 : Index := Scalar.indexCast v138
  ![27, 0, v223.toNat]
def k0_off30 (k0_t1 : Fin k0_t1_loop.trips) : Fin 3 → Nat :=
  let c28 : Index := 28#32
  let c0_89 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v226 : Index := Scalar.indexCast v138
  ![28, 0, v226.toNat]
def k0_off31 (k0_t1 : Fin k0_t1_loop.trips) : Fin 3 → Nat :=
  let c29 : Index := 29#32
  let c0_90 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v229 : Index := Scalar.indexCast v138
  ![29, 0, v229.toNat]
def k0_off32 (k0_t1 : Fin k0_t1_loop.trips) : Fin 3 → Nat :=
  let c0_91 : Index := 0#32
  let c0_92 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v232 : Index := Scalar.indexCast v138
  ![0, 0, v232.toNat]
def k0_off33 (k0_t1 : Fin k0_t1_loop.trips) : Fin 3 → Nat :=
  let c1_93 : Index := 1#32
  let c0_94 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v235 : Index := Scalar.indexCast v138
  ![1, 0, v235.toNat]
def k0_off34 (k0_t1 : Fin k0_t1_loop.trips) : Fin 3 → Nat :=
  let c2_95 : Index := 2#32
  let c0_96 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v238 : Index := Scalar.indexCast v138
  ![2, 0, v238.toNat]
def k0_off35 (k0_t1 : Fin k0_t1_loop.trips) : Fin 3 → Nat :=
  let c3_97 : Index := 3#32
  let c0_98 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v241 : Index := Scalar.indexCast v138
  ![3, 0, v241.toNat]
def k0_off36 (k0_t1 : Fin k0_t1_loop.trips) : Fin 2 → Nat :=
  let c0_99 : Index := 0#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v244 : Index := Scalar.indexCast v138
  ![0, v244.toNat]
def k0_off37 (k0_t1 : Fin k0_t1_loop.trips) : Fin 2 → Nat :=
  let c1_100 : Index := 1#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v248 : Index := Scalar.indexCast v138
  ![1, v248.toNat]
def k0_off38 (k0_t1 : Fin k0_t1_loop.trips) : Fin 2 → Nat :=
  let c2_101 : Index := 2#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v253 : Index := Scalar.indexCast v138
  ![2, v253.toNat]
def k0_off39 (k0_t1 : Fin k0_t1_loop.trips) : Fin 2 → Nat :=
  let c3_102 : Index := 3#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v258 : Index := Scalar.indexCast v138
  ![3, v258.toNat]
def k0_off40 (k0_t1 : Fin k0_t1_loop.trips) : Fin 2 → Nat :=
  let c4_103 : Index := 4#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v263 : Index := Scalar.indexCast v138
  ![4, v263.toNat]
def k0_off41 (k0_t1 : Fin k0_t1_loop.trips) : Fin 2 → Nat :=
  let c5_104 : Index := 5#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v268 : Index := Scalar.indexCast v138
  ![5, v268.toNat]
def k0_off42 (k0_t1 : Fin k0_t1_loop.trips) : Fin 2 → Nat :=
  let c6_105 : Index := 6#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v273 : Index := Scalar.indexCast v138
  ![6, v273.toNat]
def k0_off43 (k0_t1 : Fin k0_t1_loop.trips) : Fin 2 → Nat :=
  let c7_106 : Index := 7#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v278 : Index := Scalar.indexCast v138
  ![7, v278.toNat]
def k0_off44 (k0_t1 : Fin k0_t1_loop.trips) : Fin 2 → Nat :=
  let c8_107 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v283 : Index := Scalar.indexCast v138
  ![8, v283.toNat]
def k0_off45 (k0_t1 : Fin k0_t1_loop.trips) : Fin 2 → Nat :=
  let c9_108 : Index := 9#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v288 : Index := Scalar.indexCast v138
  ![9, v288.toNat]
def k0_off46 (k0_t1 : Fin k0_t1_loop.trips) : Fin 2 → Nat :=
  let c10_109 : Index := 10#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v293 : Index := Scalar.indexCast v138
  ![10, v293.toNat]
def k0_off47 (k0_t1 : Fin k0_t1_loop.trips) : Fin 2 → Nat :=
  let c11_110 : Index := 11#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v298 : Index := Scalar.indexCast v138
  ![11, v298.toNat]
def k0_off48 (k0_t1 : Fin k0_t1_loop.trips) : Fin 2 → Nat :=
  let c12_111 : Index := 12#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v303 : Index := Scalar.indexCast v138
  ![12, v303.toNat]
def k0_off49 (k0_t1 : Fin k0_t1_loop.trips) : Fin 2 → Nat :=
  let c13_112 : Index := 13#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v308 : Index := Scalar.indexCast v138
  ![13, v308.toNat]
def k0_off50 (k0_t1 : Fin k0_t1_loop.trips) : Fin 2 → Nat :=
  let c14_113 : Index := 14#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v313 : Index := Scalar.indexCast v138
  ![14, v313.toNat]
def k0_off51 (k0_t1 : Fin k0_t1_loop.trips) : Fin 2 → Nat :=
  let c15_114 : Index := 15#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v318 : Index := Scalar.indexCast v138
  ![15, v318.toNat]
def k0_off52 (k0_t1 : Fin k0_t1_loop.trips) : Fin 2 → Nat :=
  let c16_115 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v323 : Index := Scalar.indexCast v138
  ![16, v323.toNat]
def k0_off53 (k0_t1 : Fin k0_t1_loop.trips) : Fin 2 → Nat :=
  let c17_116 : Index := 17#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v328 : Index := Scalar.indexCast v138
  ![17, v328.toNat]
def k0_off54 (k0_t1 : Fin k0_t1_loop.trips) : Fin 2 → Nat :=
  let c18_117 : Index := 18#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v333 : Index := Scalar.indexCast v138
  ![18, v333.toNat]
def k0_off55 (k0_t1 : Fin k0_t1_loop.trips) : Fin 2 → Nat :=
  let c19_118 : Index := 19#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v338 : Index := Scalar.indexCast v138
  ![19, v338.toNat]
def k0_off56 (k0_t1 : Fin k0_t1_loop.trips) : Fin 2 → Nat :=
  let c20_119 : Index := 20#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v343 : Index := Scalar.indexCast v138
  ![20, v343.toNat]
def k0_off57 (k0_t1 : Fin k0_t1_loop.trips) : Fin 2 → Nat :=
  let c21_120 : Index := 21#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v348 : Index := Scalar.indexCast v138
  ![21, v348.toNat]
def k0_off58 (k0_t1 : Fin k0_t1_loop.trips) : Fin 2 → Nat :=
  let c22_121 : Index := 22#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v353 : Index := Scalar.indexCast v138
  ![22, v353.toNat]
def k0_off59 (k0_t1 : Fin k0_t1_loop.trips) : Fin 2 → Nat :=
  let c23_122 : Index := 23#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v358 : Index := Scalar.indexCast v138
  ![23, v358.toNat]
def k0_off60 (k0_t1 : Fin k0_t1_loop.trips) : Fin 2 → Nat :=
  let c24_123 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v363 : Index := Scalar.indexCast v138
  ![24, v363.toNat]
def k0_off61 (k0_t1 : Fin k0_t1_loop.trips) : Fin 2 → Nat :=
  let c25_124 : Index := 25#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v368 : Index := Scalar.indexCast v138
  ![25, v368.toNat]
def k0_off62 (k0_t1 : Fin k0_t1_loop.trips) : Fin 2 → Nat :=
  let c26_125 : Index := 26#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v373 : Index := Scalar.indexCast v138
  ![26, v373.toNat]
def k0_off63 (k0_t1 : Fin k0_t1_loop.trips) : Fin 2 → Nat :=
  let c27_126 : Index := 27#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v378 : Index := Scalar.indexCast v138
  ![27, v378.toNat]
def k0_off64 (k0_t1 : Fin k0_t1_loop.trips) : Fin 2 → Nat :=
  let c28_127 : Index := 28#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v383 : Index := Scalar.indexCast v138
  ![28, v383.toNat]
def k0_off65 (k0_t1 : Fin k0_t1_loop.trips) : Fin 2 → Nat :=
  let c29_128 : Index := 29#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v388 : Index := Scalar.indexCast v138
  ![29, v388.toNat]
def k0_off66 (k0_t1 : Fin k0_t1_loop.trips) : Fin 2 → Nat :=
  let c30 : Index := 30#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v393 : Index := Scalar.indexCast v138
  ![30, v393.toNat]
def k0_off67 (k0_t1 : Fin k0_t1_loop.trips) : Fin 3 → Nat :=
  let c0_290 : Index := 0#32
  let c8_291 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1004 : Index := Scalar.indexCast v138
  ![0, 8, v1004.toNat]
def k0_off68 (k0_t1 : Fin k0_t1_loop.trips) : Fin 3 → Nat :=
  let c1_292 : Index := 1#32
  let c8_293 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1007 : Index := Scalar.indexCast v138
  ![1, 8, v1007.toNat]
def k0_off69 (k0_t1 : Fin k0_t1_loop.trips) : Fin 3 → Nat :=
  let c2_294 : Index := 2#32
  let c8_295 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1010 : Index := Scalar.indexCast v138
  ![2, 8, v1010.toNat]
def k0_off70 (k0_t1 : Fin k0_t1_loop.trips) : Fin 3 → Nat :=
  let c3_296 : Index := 3#32
  let c8_297 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1013 : Index := Scalar.indexCast v138
  ![3, 8, v1013.toNat]
def k0_off71 (k0_t1 : Fin k0_t1_loop.trips) : Fin 3 → Nat :=
  let c4_298 : Index := 4#32
  let c8_299 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1016 : Index := Scalar.indexCast v138
  ![4, 8, v1016.toNat]
def k0_off72 (k0_t1 : Fin k0_t1_loop.trips) : Fin 3 → Nat :=
  let c5_300 : Index := 5#32
  let c8_301 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1019 : Index := Scalar.indexCast v138
  ![5, 8, v1019.toNat]
def k0_off73 (k0_t1 : Fin k0_t1_loop.trips) : Fin 3 → Nat :=
  let c6_302 : Index := 6#32
  let c8_303 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1022 : Index := Scalar.indexCast v138
  ![6, 8, v1022.toNat]
def k0_off74 (k0_t1 : Fin k0_t1_loop.trips) : Fin 3 → Nat :=
  let c7_304 : Index := 7#32
  let c8_305 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1025 : Index := Scalar.indexCast v138
  ![7, 8, v1025.toNat]
def k0_off75 (k0_t1 : Fin k0_t1_loop.trips) : Fin 3 → Nat :=
  let c8_306 : Index := 8#32
  let c8_307 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1028 : Index := Scalar.indexCast v138
  ![8, 8, v1028.toNat]
def k0_off76 (k0_t1 : Fin k0_t1_loop.trips) : Fin 3 → Nat :=
  let c9_308 : Index := 9#32
  let c8_309 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1031 : Index := Scalar.indexCast v138
  ![9, 8, v1031.toNat]
def k0_off77 (k0_t1 : Fin k0_t1_loop.trips) : Fin 3 → Nat :=
  let c10_310 : Index := 10#32
  let c8_311 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1034 : Index := Scalar.indexCast v138
  ![10, 8, v1034.toNat]
def k0_off78 (k0_t1 : Fin k0_t1_loop.trips) : Fin 3 → Nat :=
  let c11_312 : Index := 11#32
  let c8_313 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1037 : Index := Scalar.indexCast v138
  ![11, 8, v1037.toNat]
def k0_off79 (k0_t1 : Fin k0_t1_loop.trips) : Fin 3 → Nat :=
  let c12_314 : Index := 12#32
  let c8_315 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1040 : Index := Scalar.indexCast v138
  ![12, 8, v1040.toNat]
def k0_off80 (k0_t1 : Fin k0_t1_loop.trips) : Fin 3 → Nat :=
  let c13_316 : Index := 13#32
  let c8_317 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1043 : Index := Scalar.indexCast v138
  ![13, 8, v1043.toNat]
def k0_off81 (k0_t1 : Fin k0_t1_loop.trips) : Fin 3 → Nat :=
  let c14_318 : Index := 14#32
  let c8_319 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1046 : Index := Scalar.indexCast v138
  ![14, 8, v1046.toNat]
def k0_off82 (k0_t1 : Fin k0_t1_loop.trips) : Fin 3 → Nat :=
  let c15_320 : Index := 15#32
  let c8_321 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1049 : Index := Scalar.indexCast v138
  ![15, 8, v1049.toNat]
def k0_off83 (k0_t1 : Fin k0_t1_loop.trips) : Fin 3 → Nat :=
  let c16_322 : Index := 16#32
  let c8_323 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1052 : Index := Scalar.indexCast v138
  ![16, 8, v1052.toNat]
def k0_off84 (k0_t1 : Fin k0_t1_loop.trips) : Fin 3 → Nat :=
  let c17_324 : Index := 17#32
  let c8_325 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1055 : Index := Scalar.indexCast v138
  ![17, 8, v1055.toNat]
def k0_off85 (k0_t1 : Fin k0_t1_loop.trips) : Fin 3 → Nat :=
  let c18_326 : Index := 18#32
  let c8_327 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1058 : Index := Scalar.indexCast v138
  ![18, 8, v1058.toNat]
def k0_off86 (k0_t1 : Fin k0_t1_loop.trips) : Fin 3 → Nat :=
  let c19_328 : Index := 19#32
  let c8_329 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1061 : Index := Scalar.indexCast v138
  ![19, 8, v1061.toNat]
def k0_off87 (k0_t1 : Fin k0_t1_loop.trips) : Fin 3 → Nat :=
  let c20_330 : Index := 20#32
  let c8_331 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1064 : Index := Scalar.indexCast v138
  ![20, 8, v1064.toNat]
def k0_off88 (k0_t1 : Fin k0_t1_loop.trips) : Fin 3 → Nat :=
  let c21_332 : Index := 21#32
  let c8_333 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1067 : Index := Scalar.indexCast v138
  ![21, 8, v1067.toNat]
def k0_off89 (k0_t1 : Fin k0_t1_loop.trips) : Fin 3 → Nat :=
  let c22_334 : Index := 22#32
  let c8_335 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1070 : Index := Scalar.indexCast v138
  ![22, 8, v1070.toNat]
def k0_off90 (k0_t1 : Fin k0_t1_loop.trips) : Fin 3 → Nat :=
  let c23_336 : Index := 23#32
  let c8_337 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1073 : Index := Scalar.indexCast v138
  ![23, 8, v1073.toNat]
def k0_off91 (k0_t1 : Fin k0_t1_loop.trips) : Fin 3 → Nat :=
  let c24_338 : Index := 24#32
  let c8_339 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1076 : Index := Scalar.indexCast v138
  ![24, 8, v1076.toNat]
def k0_off92 (k0_t1 : Fin k0_t1_loop.trips) : Fin 3 → Nat :=
  let c25_340 : Index := 25#32
  let c8_341 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1079 : Index := Scalar.indexCast v138
  ![25, 8, v1079.toNat]
def k0_off93 (k0_t1 : Fin k0_t1_loop.trips) : Fin 3 → Nat :=
  let c26_342 : Index := 26#32
  let c8_343 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1082 : Index := Scalar.indexCast v138
  ![26, 8, v1082.toNat]
def k0_off94 (k0_t1 : Fin k0_t1_loop.trips) : Fin 3 → Nat :=
  let c27_344 : Index := 27#32
  let c8_345 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1085 : Index := Scalar.indexCast v138
  ![27, 8, v1085.toNat]
def k0_off95 (k0_t1 : Fin k0_t1_loop.trips) : Fin 3 → Nat :=
  let c28_346 : Index := 28#32
  let c8_347 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1088 : Index := Scalar.indexCast v138
  ![28, 8, v1088.toNat]
def k0_off96 (k0_t1 : Fin k0_t1_loop.trips) : Fin 3 → Nat :=
  let c29_348 : Index := 29#32
  let c8_349 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1091 : Index := Scalar.indexCast v138
  ![29, 8, v1091.toNat]
def k0_off97 (k0_t1 : Fin k0_t1_loop.trips) : Fin 3 → Nat :=
  let c0_350 : Index := 0#32
  let c8_351 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1094 : Index := Scalar.indexCast v138
  ![0, 8, v1094.toNat]
def k0_off98 (k0_t1 : Fin k0_t1_loop.trips) : Fin 3 → Nat :=
  let c1_352 : Index := 1#32
  let c8_353 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1097 : Index := Scalar.indexCast v138
  ![1, 8, v1097.toNat]
def k0_off99 (k0_t1 : Fin k0_t1_loop.trips) : Fin 3 → Nat :=
  let c2_354 : Index := 2#32
  let c8_355 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1100 : Index := Scalar.indexCast v138
  ![2, 8, v1100.toNat]
def k0_off100 (k0_t1 : Fin k0_t1_loop.trips) : Fin 3 → Nat :=
  let c3_356 : Index := 3#32
  let c8_357 : Index := 8#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1103 : Index := Scalar.indexCast v138
  ![3, 8, v1103.toNat]
def k0_off101 (k0_t1 : Fin k0_t1_loop.trips) : Fin 3 → Nat :=
  let c0_550 : Index := 0#32
  let c16_551 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1866 : Index := Scalar.indexCast v138
  ![0, 16, v1866.toNat]
def k0_off102 (k0_t1 : Fin k0_t1_loop.trips) : Fin 3 → Nat :=
  let c1_552 : Index := 1#32
  let c16_553 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1869 : Index := Scalar.indexCast v138
  ![1, 16, v1869.toNat]
def k0_off103 (k0_t1 : Fin k0_t1_loop.trips) : Fin 3 → Nat :=
  let c2_554 : Index := 2#32
  let c16_555 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1872 : Index := Scalar.indexCast v138
  ![2, 16, v1872.toNat]
def k0_off104 (k0_t1 : Fin k0_t1_loop.trips) : Fin 3 → Nat :=
  let c3_556 : Index := 3#32
  let c16_557 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1875 : Index := Scalar.indexCast v138
  ![3, 16, v1875.toNat]
def k0_off105 (k0_t1 : Fin k0_t1_loop.trips) : Fin 3 → Nat :=
  let c4_558 : Index := 4#32
  let c16_559 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1878 : Index := Scalar.indexCast v138
  ![4, 16, v1878.toNat]
def k0_off106 (k0_t1 : Fin k0_t1_loop.trips) : Fin 3 → Nat :=
  let c5_560 : Index := 5#32
  let c16_561 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1881 : Index := Scalar.indexCast v138
  ![5, 16, v1881.toNat]
def k0_off107 (k0_t1 : Fin k0_t1_loop.trips) : Fin 3 → Nat :=
  let c6_562 : Index := 6#32
  let c16_563 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1884 : Index := Scalar.indexCast v138
  ![6, 16, v1884.toNat]
def k0_off108 (k0_t1 : Fin k0_t1_loop.trips) : Fin 3 → Nat :=
  let c7_564 : Index := 7#32
  let c16_565 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1887 : Index := Scalar.indexCast v138
  ![7, 16, v1887.toNat]
def k0_off109 (k0_t1 : Fin k0_t1_loop.trips) : Fin 3 → Nat :=
  let c8_566 : Index := 8#32
  let c16_567 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1890 : Index := Scalar.indexCast v138
  ![8, 16, v1890.toNat]
def k0_off110 (k0_t1 : Fin k0_t1_loop.trips) : Fin 3 → Nat :=
  let c9_568 : Index := 9#32
  let c16_569 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1893 : Index := Scalar.indexCast v138
  ![9, 16, v1893.toNat]
def k0_off111 (k0_t1 : Fin k0_t1_loop.trips) : Fin 3 → Nat :=
  let c10_570 : Index := 10#32
  let c16_571 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1896 : Index := Scalar.indexCast v138
  ![10, 16, v1896.toNat]
def k0_off112 (k0_t1 : Fin k0_t1_loop.trips) : Fin 3 → Nat :=
  let c11_572 : Index := 11#32
  let c16_573 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1899 : Index := Scalar.indexCast v138
  ![11, 16, v1899.toNat]
def k0_off113 (k0_t1 : Fin k0_t1_loop.trips) : Fin 3 → Nat :=
  let c12_574 : Index := 12#32
  let c16_575 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1902 : Index := Scalar.indexCast v138
  ![12, 16, v1902.toNat]
def k0_off114 (k0_t1 : Fin k0_t1_loop.trips) : Fin 3 → Nat :=
  let c13_576 : Index := 13#32
  let c16_577 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1905 : Index := Scalar.indexCast v138
  ![13, 16, v1905.toNat]
def k0_off115 (k0_t1 : Fin k0_t1_loop.trips) : Fin 3 → Nat :=
  let c14_578 : Index := 14#32
  let c16_579 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1908 : Index := Scalar.indexCast v138
  ![14, 16, v1908.toNat]
def k0_off116 (k0_t1 : Fin k0_t1_loop.trips) : Fin 3 → Nat :=
  let c15_580 : Index := 15#32
  let c16_581 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1911 : Index := Scalar.indexCast v138
  ![15, 16, v1911.toNat]
def k0_off117 (k0_t1 : Fin k0_t1_loop.trips) : Fin 3 → Nat :=
  let c16_582 : Index := 16#32
  let c16_583 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1914 : Index := Scalar.indexCast v138
  ![16, 16, v1914.toNat]
def k0_off118 (k0_t1 : Fin k0_t1_loop.trips) : Fin 3 → Nat :=
  let c17_584 : Index := 17#32
  let c16_585 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1917 : Index := Scalar.indexCast v138
  ![17, 16, v1917.toNat]
def k0_off119 (k0_t1 : Fin k0_t1_loop.trips) : Fin 3 → Nat :=
  let c18_586 : Index := 18#32
  let c16_587 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1920 : Index := Scalar.indexCast v138
  ![18, 16, v1920.toNat]
def k0_off120 (k0_t1 : Fin k0_t1_loop.trips) : Fin 3 → Nat :=
  let c19_588 : Index := 19#32
  let c16_589 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1923 : Index := Scalar.indexCast v138
  ![19, 16, v1923.toNat]
def k0_off121 (k0_t1 : Fin k0_t1_loop.trips) : Fin 3 → Nat :=
  let c20_590 : Index := 20#32
  let c16_591 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1926 : Index := Scalar.indexCast v138
  ![20, 16, v1926.toNat]
def k0_off122 (k0_t1 : Fin k0_t1_loop.trips) : Fin 3 → Nat :=
  let c21_592 : Index := 21#32
  let c16_593 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1929 : Index := Scalar.indexCast v138
  ![21, 16, v1929.toNat]
def k0_off123 (k0_t1 : Fin k0_t1_loop.trips) : Fin 3 → Nat :=
  let c22_594 : Index := 22#32
  let c16_595 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1932 : Index := Scalar.indexCast v138
  ![22, 16, v1932.toNat]
def k0_off124 (k0_t1 : Fin k0_t1_loop.trips) : Fin 3 → Nat :=
  let c23_596 : Index := 23#32
  let c16_597 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1935 : Index := Scalar.indexCast v138
  ![23, 16, v1935.toNat]
def k0_off125 (k0_t1 : Fin k0_t1_loop.trips) : Fin 3 → Nat :=
  let c24_598 : Index := 24#32
  let c16_599 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1938 : Index := Scalar.indexCast v138
  ![24, 16, v1938.toNat]
def k0_off126 (k0_t1 : Fin k0_t1_loop.trips) : Fin 3 → Nat :=
  let c25_600 : Index := 25#32
  let c16_601 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1941 : Index := Scalar.indexCast v138
  ![25, 16, v1941.toNat]
def k0_off127 (k0_t1 : Fin k0_t1_loop.trips) : Fin 3 → Nat :=
  let c26_602 : Index := 26#32
  let c16_603 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1944 : Index := Scalar.indexCast v138
  ![26, 16, v1944.toNat]
def k0_off128 (k0_t1 : Fin k0_t1_loop.trips) : Fin 3 → Nat :=
  let c27_604 : Index := 27#32
  let c16_605 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1947 : Index := Scalar.indexCast v138
  ![27, 16, v1947.toNat]
def k0_off129 (k0_t1 : Fin k0_t1_loop.trips) : Fin 3 → Nat :=
  let c28_606 : Index := 28#32
  let c16_607 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1950 : Index := Scalar.indexCast v138
  ![28, 16, v1950.toNat]
def k0_off130 (k0_t1 : Fin k0_t1_loop.trips) : Fin 3 → Nat :=
  let c29_608 : Index := 29#32
  let c16_609 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1953 : Index := Scalar.indexCast v138
  ![29, 16, v1953.toNat]
def k0_off131 (k0_t1 : Fin k0_t1_loop.trips) : Fin 3 → Nat :=
  let c0_610 : Index := 0#32
  let c16_611 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1956 : Index := Scalar.indexCast v138
  ![0, 16, v1956.toNat]
def k0_off132 (k0_t1 : Fin k0_t1_loop.trips) : Fin 3 → Nat :=
  let c1_612 : Index := 1#32
  let c16_613 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1959 : Index := Scalar.indexCast v138
  ![1, 16, v1959.toNat]
def k0_off133 (k0_t1 : Fin k0_t1_loop.trips) : Fin 3 → Nat :=
  let c2_614 : Index := 2#32
  let c16_615 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1962 : Index := Scalar.indexCast v138
  ![2, 16, v1962.toNat]
def k0_off134 (k0_t1 : Fin k0_t1_loop.trips) : Fin 3 → Nat :=
  let c3_616 : Index := 3#32
  let c16_617 : Index := 16#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v1965 : Index := Scalar.indexCast v138
  ![3, 16, v1965.toNat]
def k0_off135 (k0_t1 : Fin k0_t1_loop.trips) : Fin 3 → Nat :=
  let c0_810 : Index := 0#32
  let c24_811 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2728 : Index := Scalar.indexCast v138
  ![0, 24, v2728.toNat]
def k0_off136 (k0_t1 : Fin k0_t1_loop.trips) : Fin 3 → Nat :=
  let c1_812 : Index := 1#32
  let c24_813 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2731 : Index := Scalar.indexCast v138
  ![1, 24, v2731.toNat]
def k0_off137 (k0_t1 : Fin k0_t1_loop.trips) : Fin 3 → Nat :=
  let c2_814 : Index := 2#32
  let c24_815 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2734 : Index := Scalar.indexCast v138
  ![2, 24, v2734.toNat]
def k0_off138 (k0_t1 : Fin k0_t1_loop.trips) : Fin 3 → Nat :=
  let c3_816 : Index := 3#32
  let c24_817 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2737 : Index := Scalar.indexCast v138
  ![3, 24, v2737.toNat]
def k0_off139 (k0_t1 : Fin k0_t1_loop.trips) : Fin 3 → Nat :=
  let c4_818 : Index := 4#32
  let c24_819 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2740 : Index := Scalar.indexCast v138
  ![4, 24, v2740.toNat]
def k0_off140 (k0_t1 : Fin k0_t1_loop.trips) : Fin 3 → Nat :=
  let c5_820 : Index := 5#32
  let c24_821 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2743 : Index := Scalar.indexCast v138
  ![5, 24, v2743.toNat]
def k0_off141 (k0_t1 : Fin k0_t1_loop.trips) : Fin 3 → Nat :=
  let c6_822 : Index := 6#32
  let c24_823 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2746 : Index := Scalar.indexCast v138
  ![6, 24, v2746.toNat]
def k0_off142 (k0_t1 : Fin k0_t1_loop.trips) : Fin 3 → Nat :=
  let c7_824 : Index := 7#32
  let c24_825 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2749 : Index := Scalar.indexCast v138
  ![7, 24, v2749.toNat]
def k0_off143 (k0_t1 : Fin k0_t1_loop.trips) : Fin 3 → Nat :=
  let c8_826 : Index := 8#32
  let c24_827 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2752 : Index := Scalar.indexCast v138
  ![8, 24, v2752.toNat]
def k0_off144 (k0_t1 : Fin k0_t1_loop.trips) : Fin 3 → Nat :=
  let c9_828 : Index := 9#32
  let c24_829 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2755 : Index := Scalar.indexCast v138
  ![9, 24, v2755.toNat]
def k0_off145 (k0_t1 : Fin k0_t1_loop.trips) : Fin 3 → Nat :=
  let c10_830 : Index := 10#32
  let c24_831 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2758 : Index := Scalar.indexCast v138
  ![10, 24, v2758.toNat]
def k0_off146 (k0_t1 : Fin k0_t1_loop.trips) : Fin 3 → Nat :=
  let c11_832 : Index := 11#32
  let c24_833 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2761 : Index := Scalar.indexCast v138
  ![11, 24, v2761.toNat]
def k0_off147 (k0_t1 : Fin k0_t1_loop.trips) : Fin 3 → Nat :=
  let c12_834 : Index := 12#32
  let c24_835 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2764 : Index := Scalar.indexCast v138
  ![12, 24, v2764.toNat]
def k0_off148 (k0_t1 : Fin k0_t1_loop.trips) : Fin 3 → Nat :=
  let c13_836 : Index := 13#32
  let c24_837 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2767 : Index := Scalar.indexCast v138
  ![13, 24, v2767.toNat]
def k0_off149 (k0_t1 : Fin k0_t1_loop.trips) : Fin 3 → Nat :=
  let c14_838 : Index := 14#32
  let c24_839 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2770 : Index := Scalar.indexCast v138
  ![14, 24, v2770.toNat]
def k0_off150 (k0_t1 : Fin k0_t1_loop.trips) : Fin 3 → Nat :=
  let c15_840 : Index := 15#32
  let c24_841 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2773 : Index := Scalar.indexCast v138
  ![15, 24, v2773.toNat]
def k0_off151 (k0_t1 : Fin k0_t1_loop.trips) : Fin 3 → Nat :=
  let c16_842 : Index := 16#32
  let c24_843 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2776 : Index := Scalar.indexCast v138
  ![16, 24, v2776.toNat]
def k0_off152 (k0_t1 : Fin k0_t1_loop.trips) : Fin 3 → Nat :=
  let c17_844 : Index := 17#32
  let c24_845 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2779 : Index := Scalar.indexCast v138
  ![17, 24, v2779.toNat]
def k0_off153 (k0_t1 : Fin k0_t1_loop.trips) : Fin 3 → Nat :=
  let c18_846 : Index := 18#32
  let c24_847 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2782 : Index := Scalar.indexCast v138
  ![18, 24, v2782.toNat]
def k0_off154 (k0_t1 : Fin k0_t1_loop.trips) : Fin 3 → Nat :=
  let c19_848 : Index := 19#32
  let c24_849 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2785 : Index := Scalar.indexCast v138
  ![19, 24, v2785.toNat]
def k0_off155 (k0_t1 : Fin k0_t1_loop.trips) : Fin 3 → Nat :=
  let c20_850 : Index := 20#32
  let c24_851 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2788 : Index := Scalar.indexCast v138
  ![20, 24, v2788.toNat]
def k0_off156 (k0_t1 : Fin k0_t1_loop.trips) : Fin 3 → Nat :=
  let c21_852 : Index := 21#32
  let c24_853 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2791 : Index := Scalar.indexCast v138
  ![21, 24, v2791.toNat]
def k0_off157 (k0_t1 : Fin k0_t1_loop.trips) : Fin 3 → Nat :=
  let c22_854 : Index := 22#32
  let c24_855 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2794 : Index := Scalar.indexCast v138
  ![22, 24, v2794.toNat]
def k0_off158 (k0_t1 : Fin k0_t1_loop.trips) : Fin 3 → Nat :=
  let c23_856 : Index := 23#32
  let c24_857 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2797 : Index := Scalar.indexCast v138
  ![23, 24, v2797.toNat]
def k0_off159 (k0_t1 : Fin k0_t1_loop.trips) : Fin 3 → Nat :=
  let c24_858 : Index := 24#32
  let c24_859 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2800 : Index := Scalar.indexCast v138
  ![24, 24, v2800.toNat]
def k0_off160 (k0_t1 : Fin k0_t1_loop.trips) : Fin 3 → Nat :=
  let c25_860 : Index := 25#32
  let c24_861 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2803 : Index := Scalar.indexCast v138
  ![25, 24, v2803.toNat]
def k0_off161 (k0_t1 : Fin k0_t1_loop.trips) : Fin 3 → Nat :=
  let c26_862 : Index := 26#32
  let c24_863 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2806 : Index := Scalar.indexCast v138
  ![26, 24, v2806.toNat]
def k0_off162 (k0_t1 : Fin k0_t1_loop.trips) : Fin 3 → Nat :=
  let c27_864 : Index := 27#32
  let c24_865 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2809 : Index := Scalar.indexCast v138
  ![27, 24, v2809.toNat]
def k0_off163 (k0_t1 : Fin k0_t1_loop.trips) : Fin 3 → Nat :=
  let c28_866 : Index := 28#32
  let c24_867 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2812 : Index := Scalar.indexCast v138
  ![28, 24, v2812.toNat]
def k0_off164 (k0_t1 : Fin k0_t1_loop.trips) : Fin 3 → Nat :=
  let c29_868 : Index := 29#32
  let c24_869 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2815 : Index := Scalar.indexCast v138
  ![29, 24, v2815.toNat]
def k0_off165 (k0_t1 : Fin k0_t1_loop.trips) : Fin 3 → Nat :=
  let c0_870 : Index := 0#32
  let c24_871 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2818 : Index := Scalar.indexCast v138
  ![0, 24, v2818.toNat]
def k0_off166 (k0_t1 : Fin k0_t1_loop.trips) : Fin 3 → Nat :=
  let c1_872 : Index := 1#32
  let c24_873 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2821 : Index := Scalar.indexCast v138
  ![1, 24, v2821.toNat]
def k0_off167 (k0_t1 : Fin k0_t1_loop.trips) : Fin 3 → Nat :=
  let c2_874 : Index := 2#32
  let c24_875 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2824 : Index := Scalar.indexCast v138
  ![2, 24, v2824.toNat]
def k0_off168 (k0_t1 : Fin k0_t1_loop.trips) : Fin 3 → Nat :=
  let c3_876 : Index := 3#32
  let c24_877 : Index := 24#32
  let c0_i32 : BitVec 32 := 0#32
  let c1_i32 : BitVec 32 := 1#32
  let arg10 : BitVec 32 := Scf.iv c0_i32 c1_i32 k0_t1
  let c128_i32 : BitVec 32 := 128#32
  let v137 : BitVec 32 := Scalar.muli arg10 c128_i32
  let v138 : BitVec 32 := v137
  let v2827 : Index := Scalar.indexCast v138
  ![3, 24, v2827.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S30x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S30x32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvSampleReferenceIdeal.lean ====
abbrev S8704x2048 : Shape := ⟨2, ![8704, 2048]⟩
abbrev S128x30x2048 : Shape := ⟨3, ![128, 30, 2048]⟩
abbrev S31x2048 : Shape := ⟨2, ![31, 2048]⟩
abbrev S2048 : Shape := ⟨1, ![2048]⟩
abbrev S512x2048 : Shape := ⟨2, ![512, 2048]⟩
abbrev S128x4x2048 : Shape := ⟨3, ![128, 4, 2048]⟩
abbrev S128x34x2048 : Shape := ⟨3, ![128, 34, 2048]⟩
abbrev S30x128x2048 : Shape := ⟨3, ![30, 128, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S128x30x2048, .f32⟩
  | .hbm, ⟨2, _⟩ => ⟨S31x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S512x2048, .f32⟩
  | .hbm, ⟨7, _⟩ => ⟨S128x4x2048, .f32⟩
  | .hbm, ⟨8, _⟩ => ⟨S128x34x2048, .f32⟩
  | .hbm, ⟨9, _⟩ => ⟨S128x30x2048, .f32⟩
  | .hbm, ⟨10, _⟩ => ⟨S30x128x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== AttnSample.lean ====
abbrev S8704x2048 : Shape := ⟨2, ![8704, 2048]⟩
abbrev S8704x256 : Shape := ⟨2, ![8704, 256]⟩
abbrev S128x128x4x64 : Shape := ⟨4, ![128, 128, 4, 64]⟩
abbrev S32 : Shape := ⟨1, ![32]⟩
abbrev S128x128x256 : Shape := ⟨3, ![128, 128, 256]⟩
abbrev S4x8 : Shape := ⟨2, ![4, 8]⟩
abbrev S4x8x32 : Shape := ⟨3, ![4, 8, 32]⟩
abbrev S4x256 : Shape := ⟨2, ![4, 256]⟩
abbrev S4x256x1 : Shape := ⟨3, ![4, 256, 1]⟩
abbrev S4x256x128 : Shape := ⟨3, ![4, 256, 128]⟩
abbrev S512x2048 : Shape := ⟨2, ![512, 2048]⟩
abbrev S32x2048 : Shape := ⟨2, ![32, 2048]⟩
abbrev S32x256 : Shape := ⟨2, ![32, 256]⟩
abbrev S8x128x256 : Shape := ⟨3, ![8, 128, 256]⟩
abbrev S1x124x256 : Shape := ⟨3, ![1, 124, 256]⟩
abbrev S124x256 : Shape := ⟨2, ![124, 256]⟩
abbrev S1x4x256 : Shape := ⟨3, ![1, 4, 256]⟩
abbrev S32x1152 : Shape := ⟨2, ![32, 1152]⟩
abbrev S96x128 : Shape := ⟨2, ![96, 128]⟩
abbrev S1152x128 : Shape := ⟨2, ![1152, 128]⟩
abbrev S8x128x128 : Shape := ⟨3, ![8, 128, 128]⟩
abbrev S1024x128 : Shape := ⟨2, ![1024, 128]⟩
abbrev S32x128 : Shape := ⟨2, ![32, 128]⟩
abbrev S256x128 : Shape := ⟨2, ![256, 128]⟩
abbrev S1152x256 : Shape := ⟨2, ![1152, 256]⟩
abbrev S1x256x128 : Shape := ⟨3, ![1, 256, 128]⟩
abbrev S256x1152 : Shape := ⟨2, ![256, 1152]⟩
abbrev S1x32x1152 : Shape := ⟨3, ![1, 32, 1152]⟩
abbrev S8x32x1152 : Shape := ⟨3, ![8, 32, 1152]⟩
abbrev S256 : Shape := ⟨1, ![256]⟩
abbrev S256x1 : Shape := ⟨2, ![256, 1]⟩
abbrev S256x256 : Shape := ⟨2, ![256, 256]⟩

abbrev nBuf : Space → Nat
  | .hbm => 17
  | .vmem => 17
  | .smem => 0
  | _ => 0

abbrev bufTy : (tb : Table) → Fin (tcTables nBuf tb) → BufTy
  | .hbm, ⟨0, _⟩ => ⟨S8704x2048, .f32⟩
  | .hbm, ⟨1, _⟩ => ⟨S8704x256, .f32⟩
  | .hbm, ⟨2, _⟩ => ⟨S8704x256, .f32⟩
  | .hbm, ⟨3, _⟩ => ⟨S128x128x4x64, .f32⟩
  | .hbm, ⟨4, _⟩ => ⟨S128x128x4x64, .f32⟩
  | .hbm, ⟨5, _⟩ => ⟨S32, .f32⟩
  | .hbm, ⟨6, _⟩ => ⟨S8704x2048, .bf16⟩
  | .hbm, ⟨7, _⟩ => ⟨S128x128x256, .f32⟩
  | .hbm, ⟨8, _⟩ => ⟨S128x128x256, .f32⟩
  | .hbm, ⟨9, _⟩ => ⟨S4x8, .f32⟩
  | .hbm, ⟨10, _⟩ => ⟨S4x8x32, .f32⟩
  | .hbm, ⟨11, _⟩ => ⟨S4x256, .f32⟩
  | .hbm, ⟨12, _⟩ => ⟨S4x256x1, .f32⟩
  | .hbm, ⟨13, _⟩ => ⟨S4x256x128, .f32⟩
  | .hbm, ⟨14, _⟩ => ⟨S512x2048, .bf16⟩
  | .hbm, ⟨15, _⟩ => ⟨S128x128x256, .f32⟩
  | .hbm, ⟨16, _⟩ => ⟨S128x128x256, .f32⟩
  | .local _ .vmem, ⟨0, _⟩ => ⟨S4x256x128, .f32⟩
  | .local _ .vmem, ⟨1, _⟩ => ⟨S32x2048, .bf16⟩
  | .local _ .vmem, ⟨2, _⟩ => ⟨S32x2048, .bf16⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S32x2048, .bf16⟩
  | .local _ .vmem, ⟨12, _⟩ => ⟨S32x2048, .bf16⟩
  | .local _ .vmem, ⟨13, _⟩ => ⟨S8x128x256, .f32⟩
  | .local _ .vmem, ⟨14, _⟩ => ⟨S8x128x256, .f32⟩
  | .local _ .vmem, ⟨15, _⟩ => ⟨S8x128x256, .f32⟩
  | .local _ .vmem, ⟨16, _⟩ => ⟨S8x128x256, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnSampleReferenceIdeal.lean ====
abbrev S8704x2048 : Shape := ⟨2, ![8704, 2048]⟩
abbrev S8704x256 : Shape := ⟨2, ![8704, 256]⟩
abbrev S128x128x4x64 : Shape := ⟨4, ![128, 128, 4, 64]⟩
abbrev S32 : Shape := ⟨1, ![32]⟩
abbrev S512x256 : Shape := ⟨2, ![512, 256]⟩
abbrev S128x4x4x64 : Shape := ⟨4, ![128, 4, 4, 64]⟩
abbrev S128x132x4x64 : Shape := ⟨4, ![128, 132, 4, 64]⟩
abbrev S128x128x256 : Shape := ⟨3, ![128, 128, 256]⟩

abbrev nBuf : Space → Nat
  | .hbm => 16
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x256, .f32⟩
  | .hbm, ⟨2, _⟩ => ⟨S8704x256, .f32⟩
  | .hbm, ⟨3, _⟩ => ⟨S128x128x4x64, .f32⟩
  | .hbm, ⟨4, _⟩ => ⟨S128x128x4x64, .f32⟩
  | .hbm, ⟨5, _⟩ => ⟨S32, .f32⟩
  | .hbm, ⟨6, _⟩ => ⟨S512x256, .f32⟩
  | .hbm, ⟨7, _⟩ => ⟨S128x4x4x64, .f32⟩
  | .hbm, ⟨8, _⟩ => ⟨S128x132x4x64, .f32⟩
  | .hbm, ⟨9, _⟩ => ⟨S128x128x4x64, .f32⟩
  | .hbm, ⟨10, _⟩ => ⟨S128x128x256, .f32⟩
  | .hbm, ⟨11, _⟩ => ⟨S512x256, .f32⟩
  | .hbm, ⟨12, _⟩ => ⟨S128x4x4x64, .f32⟩
  | .hbm, ⟨13, _⟩ => ⟨S128x132x4x64, .f32⟩
  | .hbm, ⟨14, _⟩ => ⟨S128x128x4x64, .f32⟩
  | .hbm, ⟨15, _⟩ => ⟨S128x128x256, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== ProjQ.lean ====
abbrev S8704x4096 : Shape := ⟨2, ![8704, 4096]⟩
abbrev S4096x14848 : Shape := ⟨2, ![4096, 14848]⟩
abbrev S8192 : Shape := ⟨1, ![8192]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x64 : Shape := ⟨2, ![8704, 64]⟩
abbrev S1x8704x1x64 : Shape := ⟨4, ![1, 8704, 1, 64]⟩
abbrev S1x8704x2x64 : Shape := ⟨4, ![1, 8704, 2, 64]⟩
abbrev S8704x128 : Shape := ⟨2, ![8704, 128]⟩
abbrev S8704x2048 : Shape := ⟨2, ![8704, 2048]⟩
abbrev S512x4096 : Shape := ⟨2, ![512, 4096]⟩
abbrev S4096x512 : Shape := ⟨2, ![4096, 512]⟩
abbrev S512x128 : Shape := ⟨2, ![512, 128]⟩
abbrev S512x1024 : Shape := ⟨2, ![512, 1024]⟩
abbrev S4096x1024 : Shape := ⟨2, ![4096, 1024]⟩
abbrev S256x512 : Shape := ⟨2, ![256, 512]⟩
abbrev S256x64 : Shape := ⟨2, ![256, 64]⟩
abbrev S256x1024 : Shape := ⟨2, ![256, 1024]⟩
abbrev S8704x2x8x2x64 : Shape := ⟨5, ![8704, 2, 8, 2, 64]⟩
abbrev S8704x2x2x8x64 : Shape := ⟨5, ![8704, 2, 2, 8, 64]⟩

abbrev nBuf : Space → Nat
  | .hbm => 41
  | .vmem => 13
  | .smem => 0
  | _ => 0

abbrev bufTy : (tb : Table) → Fin (tcTables nBuf tb) → BufTy
  | .hbm, ⟨0, _⟩ => ⟨S8704x4096, .f32⟩
  | .hbm, ⟨1, _⟩ => ⟨S4096x14848, .f32⟩
  | .hbm, ⟨2, _⟩ => ⟨S8192, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x4, .i32⟩
  | .hbm, ⟨8, _⟩ => ⟨S128x4, .i32⟩
  | .hbm, ⟨9, _⟩ => ⟨S512, .i32⟩
  | .hbm, ⟨10, _⟩ => ⟨S8704, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8704, .f32⟩
  | .hbm, ⟨20, _⟩ => ⟨S8704x1, .f32⟩
  | .hbm, ⟨21, _⟩ => ⟨S1x32, .f32⟩
  | .hbm, ⟨22, _⟩ => ⟨S8704x32, .f32⟩
  | .hbm, ⟨23, _⟩ => ⟨S8704x32, .f32⟩
  | .hbm, ⟨24, _⟩ => ⟨S8704x32, .f32⟩
  | .hbm, ⟨25, _⟩ => ⟨S8704x32, .f32⟩
  | .hbm, ⟨26, _⟩ => ⟨S8704x32, .f32⟩
  | .hbm, ⟨27, _⟩ => ⟨S8704x64, .f32⟩
  | .hbm, ⟨28, _⟩ => ⟨S8704x32, .f32⟩
  | .hbm, ⟨29, _⟩ => ⟨S8704x64, .f32⟩
  | .hbm, ⟨30, _⟩ => ⟨S1x8704x1x64, .f32⟩
  | .hbm, ⟨31, _⟩ => ⟨S1x8704x2x64, .f32⟩
  | .hbm, ⟨32, _⟩ => ⟨S8704x128, .f32⟩
  | .hbm, ⟨33, _⟩ => ⟨S1x8704x1x64, .f32⟩
  | .hbm, ⟨34, _⟩ => ⟨S1x8704x2x64, .f32⟩
  | .hbm, ⟨35, _⟩ => ⟨S8704x128, .f32⟩
  | .hbm, ⟨36, _⟩ => ⟨S8704x4096, .bf16⟩
  | .hbm, ⟨37, _⟩ => ⟨S8704x2048, .bf16⟩
  | .hbm, ⟨38, _⟩ => ⟨S8704x2x8x2x64, .bf16⟩
  | .hbm, ⟨39, _⟩ => ⟨S8704x2x2x8x64, .bf16⟩
  | .hbm, ⟨40, _⟩ => ⟨S8704x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S4096x512, .f32⟩
  | .local _ .vmem, ⟨5, _⟩ => ⟨S4096x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S4096x1024, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c16_i32 : BitVec 32 := 16#32
  let v26 : BitVec 32 := Scalar.addi c0_i32_11 c16_i32
  let c1_i32 : BitVec 32 := 1#32
  ⟨c0_i32_11, v26, c1_i32⟩
def k0_mult1 (k0_t1 : Fin k0_t1_loop.trips) : BitVec 32 :=
  let c0_i32_11 : BitVec 32 := 0#32
  let c1_i32 : BitVec 32 := 1#32
  let arg9 : BitVec 32 := Scf.iv c0_i32_11 c1_i32 k0_t1
  let c256_i32 : BitVec 32 := 256#32
  let v27 : BitVec 32 := Scalar.muli arg9 c256_i32
  v27
def k0_off1 (k0_t1 : Fin k0_t1_loop.trips) : Fin 2 → Nat :=
  let c0_i32_11 : BitVec 32 := 0#32
  let c1_i32 : BitVec 32 := 1#32
  let arg9 : BitVec 32 := Scf.iv c0_i32_11 c1_i32 k0_t1
  let c256_i32 : BitVec 32 := 256#32
  let v27 : BitVec 32 := Scalar.muli arg9 c256_i32
  let v28 : BitVec 32 := v27
  let v29 : Index := Scalar.indexCast v28
  let c0_13 : Index := 0#32
  ![v29.toNat, 0]
def k0_off2 (k0_t1 : Fin k0_t1_loop.trips) : Fin 2 → Nat :=
  let c0_i32_11 : BitVec 32 := 0#32
  let c1_i32 : BitVec 32 := 1#32
  let arg9 : BitVec 32 := Scf.iv c0_i32_11 c1_i32 k0_t1
  let c256_i32 : BitVec 32 := 256#32
  let v27 : BitVec 32 := Scalar.muli arg9 c256_i32
  let v28 : BitVec 32 := v27
  let v51 : Index := Scalar.indexCast v28
  let c0_15 : Index := 0#32
  ![v51.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjQReferenceIdeal.lean ====
abbrev S8704x4096 : Shape := ⟨2, ![8704, 4096]⟩
abbrev S4096x14848 : Shape := ⟨2, ![4096, 14848]⟩
abbrev S32 : Shape := ⟨1, ![32]⟩
abbrev S_ : Shape := ⟨0, ![]⟩
abbrev S8192 : Shape := ⟨1, ![8192]⟩
abbrev S4 : Shape := ⟨1, ![4]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S8704x1 : Shape := ⟨2, ![8704, 1]⟩
abbrev S1x32 : Shape := ⟨2, ![1, 32]⟩
abbrev S8704x32 : Shape := ⟨2, ![8704, 32]⟩
abbrev S8704x1x32 : Shape := ⟨3, ![8704, 1, 32]⟩
abbrev S4096x2048 : Shape := ⟨2, ![4096, 2048]⟩
abbrev S8704x2048 : Shape := ⟨2, ![8704, 2048]⟩
abbrev S8704x32x64 : Shape := ⟨3, ![8704, 32, 64]⟩
abbrev S8704x32x32 : Shape := ⟨3, ![8704, 32, 32]⟩

abbrev nBuf : Space → Nat
  | .hbm => 47
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x14848, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S8192, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S1x4, .i32⟩
  | .hbm, ⟨16, _⟩ => ⟨S128x4, .i32⟩
  | .hbm, ⟨17, _⟩ => ⟨S512, .i32⟩
  | .hbm, ⟨18, _⟩ => ⟨S8704, .i32⟩
  | .hbm, ⟨19, _⟩ => ⟨S8704, .f32⟩
  | .hbm, ⟨20, _⟩ => ⟨S8704x1, .f32⟩
  | .hbm, ⟨21, _⟩ => ⟨S1x32, .f32⟩
  | .hbm, ⟨22, _⟩ => ⟨S8704x32, .f32⟩
  | .hbm, ⟨23, _⟩ => ⟨S8704x32, .f32⟩
  | .hbm, ⟨24, _⟩ => ⟨S8704x32, .f32⟩
  | .hbm, ⟨25, _⟩ => ⟨S8704x32, .f32⟩
  | .hbm, ⟨26, _⟩ => ⟨S8704x1x32, .f32⟩
  | .hbm, ⟨27, _⟩ => ⟨S8704x32, .f32⟩
  | .hbm, ⟨28, _⟩ => ⟨S8704x1x32, .f32⟩
  | .hbm, ⟨29, _⟩ => ⟨S4096x2048, .f32⟩
  | .hbm, ⟨30, _⟩ => ⟨S8704x2048, .f32⟩
  | .hbm, ⟨31, _⟩ => ⟨S8704x32x64, .f32⟩
  | .hbm, ⟨32, _⟩ => ⟨S8704x32x32, .f32⟩
  | .hbm, ⟨33, _⟩ => ⟨S8704x32x32, .f32⟩
  | .hbm, ⟨34, _⟩ => ⟨S8704x32x32, .f32⟩
  | .hbm, ⟨35, _⟩ => ⟨S8704x32x32, .f32⟩
  | .hbm, ⟨36, _⟩ => ⟨S8704x32x32, .f32⟩
  | .hbm, ⟨37, _⟩ => ⟨S8704x32x32, .f32⟩
  | .hbm, ⟨38, _⟩ => ⟨S8704x32x32, .f32⟩
  | .hbm, ⟨39, _⟩ => ⟨S8704x32x32, .f32⟩
  | .hbm, ⟨40, _⟩ => ⟨S8704x32x32, .f32⟩
  | .hbm, ⟨41, _⟩ => ⟨S8704x32x32, .f32⟩
  | .hbm, ⟨42, _⟩ => ⟨S8704x32x32, .f32⟩
  | .hbm, ⟨43, _⟩ => ⟨S8704x32x32, .f32⟩
  | .hbm, ⟨44, _⟩ => ⟨S8704x32x64, .f32⟩
  | .hbm, ⟨45, _⟩ => ⟨S8704x2048, .f32⟩
  | .hbm, ⟨46, _⟩ => ⟨S8704x2048, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩

abbrev nD : Nat := 1
abbrev τ : Topo := Topo.v7x

variable {F : FTy → Type} [FloatOps F]
-- ==== Proof.Words.lean ====
/-
  The words of the pipelined loop, as numbers of the trip.

  The kernel runs its 43 × 4 block grid as one counted loop of 172 trips: trip `k` is at column block `k / 4` and row
  block `k % 4`.  Fourteen words are carried from trip to trip: a fetch counter and a wait counter for each of the four
  arrays read, a store counter and a drain counter for each of the two arrays written, and the two block coordinates.
  This module gives every carried word before trip `k` as a number of `k`, and from it every condition, every side
  condition and every offset the trip computes.  Each is a finite statement over the 172 trips, decided by evaluation.
-/
module

public import proofs.«01_k».proof.Proof.Gen.KernelIdeal.Frame
public import proofs.«01_k».proof.Proof.Gen.KernelIdeal.Loops
public import Idealize.ShloMosaic.Lib.Ring.Trips

@[expose] public section

set_option maxRecDepth 16384

noncomputable section

namespace Cert.KernelIdeal.Pipe

open Cert.KernelIdeal Cert.KernelIdeal.Gen
open Idealize.ShloMosaic

/-- A trip of the loop. -/
abbrev Trip := Fin k0_t1_loop.trips

theorem trips_eq : k0_t1_loop.trips = 172 := by decide +kernel
theorem trip_lt (k : Trip) : k.val < 172 := lt_of_lt_of_eq k.isLt trips_eq

/-! ## The carried words before trip `k` -/

/-- Fetches started, of an array whose block changes at every trip. -/
def wF (k : ℕ) : BitVec 32 := BitVec.ofNat 32 (min (k + 1) 172)
/-- Trips done: the waits, or the stores, of an array whose block changes at every trip. -/
def wK (k : ℕ) : BitVec 32 := BitVec.ofNat 32 k
/-- Fetches started, of an array whose block changes every fourth trip. -/
def wG (k : ℕ) : BitVec 32 := BitVec.ofNat 32 (min (k / 4 + 1) 43)
/-- Blocks done, of an array whose block changes every fourth trip. -/
def wJ (k : ℕ) : BitVec 32 := BitVec.ofNat 32 (k / 4)
/-- Stores drained: one trip behind. -/
def wB (k : ℕ) : BitVec 32 := BitVec.ofNat 32 (k - 1)
/-- The column block. -/
def wj (k : ℕ) : BitVec 32 := BitVec.ofNat 32 (k / 4 % 43)
/-- The row block. -/
def wi (k : ℕ) : BitVec 32 := BitVec.ofNat 32 (k % 4)

/-! ## The conditions -/

theorem cond1 : ∀ k : Trip, k0_cond1 k (wi k) = 1#1 ↔ k.val < 171 := by decide +kernel
theorem cond2 : ∀ k : Trip, k0_cond2 k (wj k) (wi k) = 1#1 ↔ k.val < 171 ∧ k.val % 4 = 3 := by decide +kernel
theorem cond3 : ∀ k : Trip, k0_cond3 k (wj k) (wi k) = 1#1 ↔ k.val < 171 ∧ k.val % 4 = 3 := by decide +kernel
theorem cond4 : ∀ k : Trip, k0_cond4 k (wj k) (wi k) = 1#1 ↔ k.val < 171 := by decide +kernel
theorem cond5 : ∀ k : Trip, k0_cond5 k (wi k) = 1#1 := by decide +kernel
theorem cond6 : ∀ k : Trip, k0_cond6 k (wj k) (wi k) = 1#1 ↔ k.val % 4 = 0 := by decide +kernel
theorem cond7 : ∀ k : Trip, k0_cond7 k (wj k) (wi k) = 1#1 ↔ k.val % 4 = 0 := by decide +kernel
theorem cond8 : ∀ k : Trip, k0_cond8 k (wj k) (wi k) = 1#1 := by decide +kernel
theorem cond15 : ∀ k : Trip, k0_cond15 k (wj k) (wi k) = 1#1 := by decide +kernel
theorem cond16 : ∀ k : Trip, k0_cond16 k (wj k) (wi k) = 1#1 := by decide +kernel
theorem cond21 : ∀ k : Trip, k0_cond21 k (wj k) (wi k) = 1#1 ↔ 0 < k.val := by decide +kernel
theorem cond22 : ∀ k : Trip, k0_cond22 k (wj k) (wi k) = 1#1 ↔ 0 < k.val := by decide +kernel

/-! ## The side conditions -/

theorem chk1 : ∀ k : Trip, k0_chk1 k (wF k) (wK k) (wG k) (wJ k) (wG k) (wJ k) (wF k) (wK k) (wK k) (wB k) (wK k) (wB k) (wj k) (wi k) := by
  decide +kernel
theorem chk2 : ∀ k : Trip, k0_chk2 (wK k) := by decide +kernel
theorem chk3 : ∀ k : Trip, k0_chk3 (wK k) := by decide +kernel
theorem chk4 : ∀ k : Trip, k0_chk4 (wK k) := by decide +kernel
theorem chk5 : ∀ k : Trip, k0_chk5 (wJ k) := by decide +kernel
theorem chk6 : ∀ k : Trip, k0_chk6 (wJ k) := by decide +kernel
theorem chk7 : ∀ k : Trip, k0_chk7 (wK k) := by decide +kernel
theorem chk8 : k0_chk8 (wB 172) := by decide +kernel
theorem chk9 : k0_chk9 (wi 172) (wj 172) := by decide +kernel
theorem chk10 : k0_chk10 (wB 172) := by decide +kernel

end Cert.KernelIdeal.Pipe

end
-- ==== Proof.Names.lean ====
/-
  Names for what the pipelined loop moves: the blocks of the six arrays, the two slots of each of the six scratch
  buffers, and the semaphore of each slot — with the equations saying that the slices the kernel takes at trip `k`
  are those blocks, slots and semaphores.

  Trip `k` works on row block `k % 4` and column block `k / 4` of the product and on slab `k` of the weights that are
  cast beside it; the scratch slots alternate, slot `n % 2` holding the `n`-th block fetched or stored.
-/
module

public import proofs.«01_k».proof.Proof.Words

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.ShloMosaic.Ring (sl bk)

/-! ## The arrays and the scratch buffers -/

abbrev aM : Memref sig .tc .hbm S8704x4096 .bf16 := Memref.whole main_v0
abbrev gM : Memref sig .tc .hbm S4096x11008 .bf16 := Memref.whole main_v2
abbrev uM : Memref sig .tc .hbm S4096x11008 .bf16 := Memref.whole main_v4
abbrev sM : Memref sig .tc .hbm S11008x4096 .f32 := Memref.whole main_arg2
abbrev oM : Memref sig .tc .hbm S8704x11008 .bf16 := Memref.whole main_v5_0
abbrev tM : Memref sig .tc .hbm S11008x4096 .bf16 := Memref.whole main_v5_1
abbrev aB : Memref sig .tc .vmem S2x2176x4096 .bf16 := Memref.whole cc0_scoped0
abbrev gB : Memref sig .tc .vmem S2x4096x256 .bf16 := Memref.whole cc0_scoped2
abbrev uB : Memref sig .tc .vmem S2x4096x256 .bf16 := Memref.whole cc0_scoped4
abbrev sB : Memref sig .tc .vmem S2x64x4096 .f32 := Memref.whole cc0_scoped6
abbrev oB : Memref sig .tc .vmem S2x2176x256 .bf16 := Memref.whole cc0_scoped8
abbrev tB : Memref sig .tc .vmem S2x64x4096 .bf16 := Memref.whole cc0_scoped10

/-! ## Offsets -/

/-- Slot `s` of a two-slot buffer. -/
abbrev slotOff (s : Fin 2) : Fin 3 → Nat := ![s.val, 0, 0]
/-- Semaphore `s` of a pair. -/
abbrev semOff (s : Fin 2) : Fin 1 → Nat := ![s.val]
/-- Row block `b` of the activations. -/
abbrev aOff (b : Fin 4) : Fin 2 → Nat := ![2176 * b.val, 0]
/-- Column block `b` of a weight matrix. -/
abbrev gOff (b : Fin 43) : Fin 2 → Nat := ![0, 256 * b.val]
/-- Slab `b` of the weights being cast. -/
abbrev sOff (b : Fin 172) : Fin 2 → Nat := ![64 * b.val, 0]
/-- The block of the product that trip `b` computes. -/
abbrev oOff (b : Fin 172) : Fin 2 → Nat := ![2176 * (b.val % 4), 256 * (b.val / 4)]

theorem slotOff_inb {m n : Nat} {S₁ S₂ : Fin 3 → Nat} (s : Fin 2) (h1 : S₁ = ![1, m, n]) (h2 : S₂ = ![2, m, n]) :
    ∀ a, slotOff s a + S₁ a ≤ S₂ a := by
  subst h1 h2; have := s.isLt; intro a; fin_cases a
  · show s.val + 1 ≤ 2; omega
  · show 0 + m ≤ m; omega
  · show 0 + n ≤ n; omega
theorem semOff_inb (s : Fin 2) : ∀ a, semOff s a + S1.size a ≤ S2.size a := by
  have := s.isLt; intro a; fin_cases a; show s.val + 1 ≤ 2; omega
theorem aOff_inb (b : Fin 4) : ∀ a, aOff b a + S2176x4096.size a ≤ S8704x4096.size a := by
  have := b.isLt; intro a; fin_cases a
  · show 2176 * b.val + 2176 ≤ 8704; omega
  · show 0 + 4096 ≤ 4096; omega
theorem gOff_inb (b : Fin 43) : ∀ a, gOff b a + S4096x256.size a ≤ S4096x11008.size a := by
  have := b.isLt; intro a; fin_cases a
  · show 0 + 4096 ≤ 4096; omega
  · show 256 * b.val + 256 ≤ 11008; omega
theorem sOff_inb (b : Fin 172) : ∀ a, sOff b a + S64x4096.size a ≤ S11008x4096.size a := by
  have := b.isLt; intro a; fin_cases a
  · show 64 * b.val + 64 ≤ 11008; omega
  · show 0 + 4096 ≤ 4096; omega
theorem oOff_inb (b : Fin 172) : ∀ a, oOff b a + S2176x256.size a ≤ S8704x11008.size a := by
  have := b.isLt; intro a; fin_cases a
  · show 2176 * (b.val % 4) + 2176 ≤ 8704; omega
  · show 256 * (b.val / 4) + 256 ≤ 11008; omega

/-! ## Blocks, slots, semaphores -/

def aBlk (b : Fin 4) : Memref sig .tc .hbm S2176x4096 .bf16 :=
  aM.slice (Rect.unit (s := S8704x4096) (aOff b) S2176x4096.size (aOff_inb b)) (fun _ => rfl)
def gBlk (b : Fin 43) : Memref sig .tc .hbm S4096x256 .bf16 :=
  gM.slice (Rect.unit (s := S4096x11008) (gOff b) S4096x256.size (gOff_inb b)) (fun _ => rfl)
def uBlk (b : Fin 43) : Memref sig .tc .hbm S4096x256 .bf16 :=
  uM.slice (Rect.unit (s := S4096x11008) (gOff b) S4096x256.size (gOff_inb b)) (fun _ => rfl)
def sBlk (b : Fin 172) : Memref sig .tc .hbm S64x4096 .f32 :=
  sM.slice (Rect.unit (s := S11008x4096) (sOff b) S64x4096.size (sOff_inb b)) (fun _ => rfl)
def oBlk (b : Fin 172) : Memref sig .tc .hbm S2176x256 .bf16 :=
  oM.slice (Rect.unit (s := S8704x11008) (oOff b) S2176x256.size (oOff_inb b)) (fun _ => rfl)
def tBlk (b : Fin 172) : Memref sig .tc .hbm S64x4096 .bf16 :=
  tM.slice (Rect.unit (s := S11008x4096) (sOff b) S64x4096.size (sOff_inb b)) (fun _ => rfl)

def aSlot (s : Fin 2) : Memref sig .tc .vmem S2176x4096 .bf16 :=
  (aB.slice (Rect.unit (s := S2x2176x4096) (slotOff s) S1x2176x4096.size (slotOff_inb s rfl rfl)) (fun _ => rfl)).squeeze S2176x4096 squeezes_S1x2176x4096_S2176x4096
def gSlot (s : Fin 2) : Memref sig .tc .vmem S4096x256 .bf16 :=
  (gB.slice (Rect.unit (s := S2x4096x256) (slotOff s) S1x4096x256.size (slotOff_inb s rfl rfl)) (fun _ => rfl)).squeeze S4096x256 squeezes_S1x4096x256_S4096x256
def uSlot (s : Fin 2) : Memref sig .tc .vmem S4096x256 .bf16 :=
  (uB.slice (Rect.unit (s := S2x4096x256) (slotOff s) S1x4096x256.size (slotOff_inb s rfl rfl)) (fun _ => rfl)).squeeze S4096x256 squeezes_S1x4096x256_S4096x256
def sSlot (s : Fin 2) : Memref sig .tc .vmem S64x4096 .f32 :=
  (sB.slice (Rect.unit (s := S2x64x4096) (slotOff s) S1x64x4096.size (slotOff_inb s rfl rfl)) (fun _ => rfl)).squeeze S64x4096 squeezes_S1x64x4096_S64x4096
def oSlot (s : Fin 2) : Memref sig .tc .vmem S2176x256 .bf16 :=
  (oB.slice (Rect.unit (s := S2x2176x256) (slotOff s) S1x2176x256.size (slotOff_inb s rfl rfl)) (fun _ => rfl)).squeeze S2176x256 squeezes_S1x2176x256_S2176x256
def tSlot (s : Fin 2) : Memref sig .tc .vmem S64x4096 .bf16 :=
  (tB.slice (Rect.unit (s := S2x64x4096) (slotOff s) S1x64x4096.size (slotOff_inb s rfl rfl)) (fun _ => rfl)).squeeze S64x4096 squeezes_S1x64x4096_S64x4096

def aSem (s : Fin 2) : DmaSems sig S_ := (cc0_scoped1.slice (Rect.unit (s := S2) (semOff s) S1.size (semOff_inb s))).squeeze S_ squeezes_S1_S_
def gSem (s : Fin 2) : DmaSems sig S_ := (cc0_scoped3.slice (Rect.unit (s := S2) (semOff s) S1.size (semOff_inb s))).squeeze S_ squeezes_S1_S_
def uSem (s : Fin 2) : DmaSems sig S_ := (cc0_scoped5.slice (Rect.unit (s := S2) (semOff s) S1.size (semOff_inb s))).squeeze S_ squeezes_S1_S_
def sSem (s : Fin 2) : DmaSems sig S_ := (cc0_scoped7.slice (Rect.unit (s := S2) (semOff s) S1.size (semOff_inb s))).squeeze S_ squeezes_S1_S_
def oSem (s : Fin 2) : DmaSems sig S_ := (cc0_scoped9.slice (Rect.unit (s := S2) (semOff s) S1.size (semOff_inb s))).squeeze S_ squeezes_S1_S_
def tSem (s : Fin 2) : DmaSems sig S_ := (cc0_scoped11.slice (Rect.unit (s := S2) (semOff s) S1.size (semOff_inb s))).squeeze S_ squeezes_S1_S_

instance (s : Fin 2) : ClosedOff (slotOff s) := ⟨slotOff s, rfl⟩
instance (b : Fin 4) : ClosedOff (aOff b) := ⟨aOff b, rfl⟩
instance (b : Fin 43) : ClosedOff (gOff b) := ⟨gOff b, rfl⟩
instance (b : Fin 172) : ClosedOff (sOff b) := ⟨sOff b, rfl⟩
instance (b : Fin 172) : ClosedOff (oOff b) := ⟨oOff b, rfl⟩

/-! ## The offsets of trip `k` in closed form -/

theorem off5 : ∀ k : Trip, k.val < 171 → k0_off5 (wF k) = semOff (sl 2 (k.val + 1)) := by decide +kernel
theorem off6 : ∀ k : Trip, k.val < 171 → k0_off6 (wF k) = slotOff (sl 2 (k.val + 1)) := by decide +kernel
theorem off7 : ∀ k : Trip, k0_off7 (wi k) = aOff (sl 4 (k.val + 1)) := by decide +kernel
theorem off8 : ∀ k : Trip, k.val < 171 → k0_off8 (wG k) = semOff (sl 2 (k.val / 4 + 1)) := by decide +kernel
theorem off9 : ∀ k : Trip, k.val < 171 → k0_off9 (wG k) = slotOff (sl 2 (k.val / 4 + 1)) := by decide +kernel
theorem off10 : ∀ k : Trip, k.val < 171 ∧ k.val % 4 = 3 → k0_off10 (wj k) (wi k) = gOff (bk 43 (k.val / 4 + 1)) := by decide +kernel
theorem off11 : ∀ k : Trip, k.val < 171 → k0_off11 (wG k) = semOff (sl 2 (k.val / 4 + 1)) := by decide +kernel
theorem off12 : ∀ k : Trip, k.val < 171 → k0_off12 (wG k) = slotOff (sl 2 (k.val / 4 + 1)) := by decide +kernel
theorem off13 : ∀ k : Trip, k.val < 171 ∧ k.val % 4 = 3 → k0_off13 (wj k) (wi k) = gOff (bk 43 (k.val / 4 + 1)) := by decide +kernel
theorem off14 : ∀ k : Trip, k.val < 171 → k0_off14 (wF k) = semOff (sl 2 (k.val + 1)) := by decide +kernel
theorem off15 : ∀ k : Trip, k.val < 171 → k0_off15 (wF k) = slotOff (sl 2 (k.val + 1)) := by decide +kernel
theorem off16 : ∀ k : Trip, k.val < 171 → k0_off16 (wj k) (wi k) = sOff (bk 172 (k.val + 1)) := by decide +kernel
theorem off17 : ∀ k : Trip, k0_off17 (wK k) = semOff (sl 2 k.val) := by decide +kernel
theorem off18 : ∀ k : Trip, k0_off18 (wK k) = slotOff (sl 2 k.val) := by decide +kernel
theorem off19 : ∀ k : Trip, k0_off19 (wi k) = aOff (sl 4 k.val) := by decide +kernel
theorem off20 : ∀ k : Trip, k0_off20 (wJ k) = semOff (sl 2 (k.val / 4)) := by decide +kernel
theorem off21 : ∀ k : Trip, k0_off21 (wJ k) = slotOff (sl 2 (k.val / 4)) := by decide +kernel
theorem off22 : ∀ k : Trip, k0_off22 (wj k) = gOff (bk 43 (k.val / 4)) := by decide +kernel
theorem off23 : ∀ k : Trip, k0_off23 (wJ k) = semOff (sl 2 (k.val / 4)) := by decide +kernel
theorem off24 : ∀ k : Trip, k0_off24 (wJ k) = slotOff (sl 2 (k.val / 4)) := by decide +kernel
theorem off25 : ∀ k : Trip, k0_off25 (wj k) = gOff (bk 43 (k.val / 4)) := by decide +kernel
theorem off26 : ∀ k : Trip, k0_off26 (wK k) = semOff (sl 2 k.val) := by decide +kernel
theorem off27 : ∀ k : Trip, k0_off27 (wK k) = slotOff (sl 2 k.val) := by decide +kernel
theorem off28 : ∀ k : Trip, k0_off28 (wj k) (wi k) = sOff (bk 172 k.val) := by decide +kernel
theorem off29 : ∀ k : Trip, k0_off29 (wK k) = slotOff (sl 2 k.val) := by decide +kernel
theorem off30 : ∀ k : Trip, k0_off30 (wK k) = slotOff (sl 2 k.val) := by decide +kernel
theorem off31 : ∀ k : Trip, k0_off31 (wK k) = slotOff (sl 2 k.val) := by decide +kernel
theorem off32 : ∀ k : Trip, k0_off32 (wJ k) = slotOff (sl 2 (k.val / 4)) := by decide +kernel
theorem off33 : ∀ k : Trip, k0_off33 (wJ k) = slotOff (sl 2 (k.val / 4)) := by decide +kernel
theorem off34 : ∀ k : Trip, k0_off34 (wK k) = slotOff (sl 2 k.val) := by decide +kernel
theorem off35 : ∀ k : Trip, k0_off35 (wK k) = semOff (sl 2 k.val) := by decide +kernel
theorem off36 : ∀ k : Trip, k0_off36 (wj k) (wi k) = oOff (bk 172 k.val) := by decide +kernel
theorem off37 : ∀ k : Trip, k0_off37 (wK k) = slotOff (sl 2 k.val) := by decide +kernel
theorem off38 : ∀ k : Trip, k0_off38 (wK k) = semOff (sl 2 k.val) := by decide +kernel
theorem off39 : ∀ k : Trip, k0_off39 (wj k) (wi k) = sOff (bk 172 k.val) := by decide +kernel
theorem off40 : ∀ k : Trip, k0_off40 (wK k) = slotOff (sl 2 k.val) := by decide +kernel
theorem off41 : ∀ k : Trip, 0 < k.val → k0_off41 (wB k) = semOff (sl 2 (k.val + 1)) := by decide +kernel
theorem off42 : ∀ k : Trip, 0 < k.val → k0_off42 (wj k) (wi k) = oOff (bk 172 (k.val - 1)) := by decide +kernel
theorem off43 : ∀ k : Trip, 0 < k.val → k0_off43 (wB k) = slotOff (sl 2 (k.val + 1)) := by decide +kernel
theorem off44 : ∀ k : Trip, 0 < k.val → k0_off44 (wB k) = semOff (sl 2 (k.val + 1)) := by decide +kernel
theorem off45 : ∀ k : Trip, 0 < k.val → k0_off45 (wj k) (wi k) = sOff (bk 172 (k.val - 1)) := by decide +kernel
theorem off46 : ∀ k : Trip, 0 < k.val → k0_off46 (wB k) = slotOff (sl 2 (k.val + 1)) := by decide +kernel

instance (k : Trip) : ClosedOff (k0_off29 (wK k)) := ⟨slotOff (sl 2 k.val), off29 k⟩
instance (k : Trip) : ClosedOff (k0_off30 (wK k)) := ⟨slotOff (sl 2 k.val), off30 k⟩
instance (k : Trip) : ClosedOff (k0_off31 (wK k)) := ⟨slotOff (sl 2 k.val), off31 k⟩
instance (k : Trip) : ClosedOff (k0_off32 (wJ k)) := ⟨slotOff (sl 2 (k.val / 4)), off32 k⟩
instance (k : Trip) : ClosedOff (k0_off33 (wJ k)) := ⟨slotOff (sl 2 (k.val / 4)), off33 k⟩
instance (k : Trip) : ClosedOff (k0_off34 (wK k)) := ⟨slotOff (sl 2 k.val), off34 k⟩

/-! ## The offsets after the loop -/

theorem off47 : k0_off47 (wB 172) = semOff 1 := by decide +kernel
theorem off48 : k0_off48 (wi 172) (wj 172) = oOff 171 := by decide +kernel
theorem off49 : k0_off49 (wB 172) = slotOff 1 := by decide +kernel
theorem off50 : k0_off50 (wB 172) = semOff 1 := by decide +kernel
theorem off51 : k0_off51 (wi 172) (wj 172) = sOff 171 := by decide +kernel
theorem off52 : k0_off52 (wB 172) = slotOff 1 := by decide +kernel

/-! ## Slices by their canonical names -/

section Congr
variable {s : Fin 2} {off₁ : Fin 1 → Nat} {off₂ : Fin 2 → Nat} {off₃ : Fin 3 → Nat}

theorem aSem_of (e : off₁ = semOff s) (hh) : (cc0_scoped1.slice (Rect.unit (s := S2) off₁ S1.size hh)).squeeze S_ squeezes_S1_S_ = aSem s :=
  congrArg (fun A : DmaSems sig S1 => A.squeeze S_ squeezes_S1_S_) (SemArray.slice_unit_congr _ e _ _)
theorem gSem_of (e : off₁ = semOff s) (hh) : (cc0_scoped3.slice (Rect.unit (s := S2) off₁ S1.size hh)).squeeze S_ squeezes_S1_S_ = gSem s :=
  congrArg (fun A : DmaSems sig S1 => A.squeeze S_ squeezes_S1_S_) (SemArray.slice_unit_congr _ e _ _)
theorem uSem_of (e : off₁ = semOff s) (hh) : (cc0_scoped5.slice (Rect.unit (s := S2) off₁ S1.size hh)).squeeze S_ squeezes_S1_S_ = uSem s :=
  congrArg (fun A : DmaSems sig S1 => A.squeeze S_ squeezes_S1_S_) (SemArray.slice_unit_congr _ e _ _)
theorem sSem_of (e : off₁ = semOff s) (hh) : (cc0_scoped7.slice (Rect.unit (s := S2) off₁ S1.size hh)).squeeze S_ squeezes_S1_S_ = sSem s :=
  congrArg (fun A : DmaSems sig S1 => A.squeeze S_ squeezes_S1_S_) (SemArray.slice_unit_congr _ e _ _)
theorem oSem_of (e : off₁ = semOff s) (hh) : (cc0_scoped9.slice (Rect.unit (s := S2) off₁ S1.size hh)).squeeze S_ squeezes_S1_S_ = oSem s :=
  congrArg (fun A : DmaSems sig S1 => A.squeeze S_ squeezes_S1_S_) (SemArray.slice_unit_congr _ e _ _)
theorem tSem_of (e : off₁ = semOff s) (hh) : (cc0_scoped11.slice (Rect.unit (s := S2) off₁ S1.size hh)).squeeze S_ squeezes_S1_S_ = tSem s :=
  congrArg (fun A : DmaSems sig S1 => A.squeeze S_ squeezes_S1_S_) (SemArray.slice_unit_congr _ e _ _)
theorem aSlot_of (e : off₃ = slotOff s) (hh hs) : (aB.slice (Rect.unit (s := S2x2176x4096) off₃ S1x2176x4096.size hh) hs).squeeze S2176x4096 squeezes_S1x2176x4096_S2176x4096 = aSlot s :=
  congrArg (fun A : Memref sig .tc .vmem S1x2176x4096 .bf16 => A.squeeze S2176x4096 squeezes_S1x2176x4096_S2176x4096) (Memref.slice_unit_congr _ e _ _ _ _)
theorem gSlot_of (e : off₃ = slotOff s) (hh hs) : (gB.slice (Rect.unit (s := S2x4096x256) off₃ S1x4096x256.size hh) hs).squeeze S4096x256 squeezes_S1x4096x256_S4096x256 = gSlot s :=
  congrArg (fun A : Memref sig .tc .vmem S1x4096x256 .bf16 => A.squeeze S4096x256 squeezes_S1x4096x256_S4096x256) (Memref.slice_unit_congr _ e _ _ _ _)
theorem uSlot_of (e : off₃ = slotOff s) (hh hs) : (uB.slice (Rect.unit (s := S2x4096x256) off₃ S1x4096x256.size hh) hs).squeeze S4096x256 squeezes_S1x4096x256_S4096x256 = uSlot s :=
  congrArg (fun A : Memref sig .tc .vmem S1x4096x256 .bf16 => A.squeeze S4096x256 squeezes_S1x4096x256_S4096x256) (Memref.slice_unit_congr _ e _ _ _ _)
theorem sSlot_of (e : off₃ = slotOff s) (hh hs) : (sB.slice (Rect.unit (s := S2x64x4096) off₃ S1x64x4096.size hh) hs).squeeze S64x4096 squeezes_S1x64x4096_S64x4096 = sSlot s :=
  congrArg (fun A : Memref sig .tc .vmem S1x64x4096 .f32 => A.squeeze S64x4096 squeezes_S1x64x4096_S64x4096) (Memref.slice_unit_congr _ e _ _ _ _)
theorem oSlot_of (e : off₃ = slotOff s) (hh hs) : (oB.slice (Rect.unit (s := S2x2176x256) off₃ S1x2176x256.size hh) hs).squeeze S2176x256 squeezes_S1x2176x256_S2176x256 = oSlot s :=
  congrArg (fun A : Memref sig .tc .vmem S1x2176x256 .bf16 => A.squeeze S2176x256 squeezes_S1x2176x256_S2176x256) (Memref.slice_unit_congr _ e _ _ _ _)
theorem tSlot_of (e : off₃ = slotOff s) (hh hs) : (tB.slice (Rect.unit (s := S2x64x4096) off₃ S1x64x4096.size hh) hs).squeeze S64x4096 squeezes_S1x64x4096_S64x4096 = tSlot s :=
  congrArg (fun A : Memref sig .tc .vmem S1x64x4096 .bf16 => A.squeeze S64x4096 squeezes_S1x64x4096_S64x4096) (Memref.slice_unit_congr _ e _ _ _ _)
theorem aBlk_of {b : Fin 4} (e : off₂ = aOff b) (hh hs) : aM.slice (Rect.unit (s := S8704x4096) off₂ S2176x4096.size hh) hs = aBlk b := Memref.slice_unit_congr _ e _ _ _ (fun _ => rfl)
theorem gBlk_of {b : Fin 43} (e : off₂ = gOff b) (hh hs) : gM.slice (Rect.unit (s := S4096x11008) off₂ S4096x256.size hh) hs = gBlk b := Memref.slice_unit_congr _ e _ _ _ (fun _ => rfl)
theorem uBlk_of {b : Fin 43} (e : off₂ = gOff b) (hh hs) : uM.slice (Rect.unit (s := S4096x11008) off₂ S4096x256.size hh) hs = uBlk b := Memref.slice_unit_congr _ e _ _ _ (fun _ => rfl)
theorem sBlk_of {b : Fin 172} (e : off₂ = sOff b) (hh hs) : sM.slice (Rect.unit (s := S11008x4096) off₂ S64x4096.size hh) hs = sBlk b := Memref.slice_unit_congr _ e _ _ _ (fun _ => rfl)
theorem oBlk_of {b : Fin 172} (e : off₂ = oOff b) (hh hs) : oM.slice (Rect.unit (s := S8704x11008) off₂ S2176x256.size hh) hs = oBlk b := Memref.slice_unit_congr _ e _ _ _ (fun _ => rfl)
theorem tBlk_of {b : Fin 172} (e : off₂ = sOff b) (hh hs) : tM.slice (Rect.unit (s := S11008x4096) off₂ S64x4096.size hh) hs = tBlk b := Memref.slice_unit_congr _ e _ _ _ (fun _ => rfl)

end Congr

/-! The prologue's slices: everything of block 0, slot 0. -/

@[sl_canon] theorem aSem_0 (hh) : (cc0_scoped1.slice (Rect.unit (s := S2) k0_off1 S1.size hh)).squeeze S_ squeezes_S1_S_ = aSem 0 := aSem_of (by decide +kernel) _
@[sl_canon] theorem aSlot_0 (hh hs) : (aB.slice (Rect.unit (s := S2x2176x4096) k0_off2 S1x2176x4096.size hh) hs).squeeze S2176x4096 squeezes_S1x2176x4096_S2176x4096 = aSlot 0 := aSlot_of (by decide +kernel) _ _
@[sl_canon] theorem aBlk_0 (hh hs) : aM.slice (Rect.unit (s := S8704x4096) ![0, 0] S2176x4096.size hh) hs = aBlk 0 := aBlk_of (by decide +kernel) _ _
@[sl_canon] theorem gSem_0 (hh) : (cc0_scoped3.slice (Rect.unit (s := S2) k0_off1 S1.size hh)).squeeze S_ squeezes_S1_S_ = gSem 0 := gSem_of (by decide +kernel) _
@[sl_canon] theorem gSlot_0 (hh hs) : (gB.slice (Rect.unit (s := S2x4096x256) k0_off3 S1x4096x256.size hh) hs).squeeze S4096x256 squeezes_S1x4096x256_S4096x256 = gSlot 0 := gSlot_of (by decide +kernel) _ _
@[sl_canon] theorem gBlk_0 (hh hs) : gM.slice (Rect.unit (s := S4096x11008) ![0, 0] S4096x256.size hh) hs = gBlk 0 := gBlk_of (by decide +kernel) _ _
@[sl_canon] theorem uSem_0 (hh) : (cc0_scoped5.slice (Rect.unit (s := S2) k0_off1 S1.size hh)).squeeze S_ squeezes_S1_S_ = uSem 0 := uSem_of (by decide +kernel) _
@[sl_canon] theorem uSlot_0 (hh hs) : (uB.slice (Rect.unit (s := S2x4096x256) k0_off3 S1x4096x256.size hh) hs).squeeze S4096x256 squeezes_S1x4096x256_S4096x256 = uSlot 0 := uSlot_of (by decide +kernel) _ _
@[sl_canon] theorem uBlk_0 (hh hs) : uM.slice (Rect.unit (s := S4096x11008) ![0, 0] S4096x256.size hh) hs = uBlk 0 := uBlk_of (by decide +kernel) _ _
@[sl_canon] theorem sSem_0 (hh) : (cc0_scoped7.slice (Rect.unit (s := S2) k0_off1 S1.size hh)).squeeze S_ squeezes_S1_S_ = sSem 0 := sSem_of (by decide +kernel) _
@[sl_canon] theorem sSlot_0 (hh hs) : (sB.slice (Rect.unit (s := S2x64x4096) k0_off4 S1x64x4096.size hh) hs).squeeze S64x4096 squeezes_S1x64x4096_S64x4096 = sSlot 0 := sSlot_of (by decide +kernel) _ _
@[sl_canon] theorem sBlk_0 (hh hs) : sM.slice (Rect.unit (s := S11008x4096) ![0, 0] S64x4096.size hh) hs = sBlk 0 := sBlk_of (by decide +kernel) _ _

/-! The slices of trip `k`. -/

@[sl_canon] theorem aSem_5 (k : Trip) (hk : k.val < 171) (hh) : (cc0_scoped1.slice (Rect.unit (s := S2) (k0_off5 (wF k)) S1.size hh)).squeeze S_ squeezes_S1_S_ = aSem (sl 2 (k.val + 1)) := aSem_of (off5 k hk) _
@[sl_canon] theorem aSlot_6 (k : Trip) (hk : k.val < 171) (hh hs) : (aB.slice (Rect.unit (s := S2x2176x4096) (k0_off6 (wF k)) S1x2176x4096.size hh) hs).squeeze S2176x4096 squeezes_S1x2176x4096_S2176x4096 = aSlot (sl 2 (k.val + 1)) := aSlot_of (off6 k hk) _ _
@[sl_canon] theorem aBlk_7 (k : Trip) (hh hs) : aM.slice (Rect.unit (s := S8704x4096) (k0_off7 (wi k)) S2176x4096.size hh) hs = aBlk (sl 4 (k.val + 1)) := aBlk_of (off7 k) _ _
@[sl_canon] theorem gSem_8 (k : Trip) (hk : k.val < 171) (hh) : (cc0_scoped3.slice (Rect.unit (s := S2) (k0_off8 (wG k)) S1.size hh)).squeeze S_ squeezes_S1_S_ = gSem (sl 2 (k.val / 4 + 1)) := gSem_of (off8 k hk) _
@[sl_canon] theorem gSlot_9 (k : Trip) (hk : k.val < 171) (hh hs) : (gB.slice (Rect.unit (s := S2x4096x256) (k0_off9 (wG k)) S1x4096x256.size hh) hs).squeeze S4096x256 squeezes_S1x4096x256_S4096x256 = gSlot (sl 2 (k.val / 4 + 1)) := gSlot_of (off9 k hk) _ _
@[sl_canon] theorem gBlk_10 (k : Trip) (hk : k.val < 171) (h3 : k.val % 4 = 3) (hh hs) : gM.slice (Rect.unit (s := S4096x11008) (k0_off10 (wj k) (wi k)) S4096x256.size hh) hs = gBlk (bk 43 (k.val / 4 + 1)) := gBlk_of (off10 k ⟨hk, h3⟩) _ _
@[sl_canon] theorem uSem_11 (k : Trip) (hk : k.val < 171) (hh) : (cc0_scoped5.slice (Rect.unit (s := S2) (k0_off11 (wG k)) S1.size hh)).squeeze S_ squeezes_S1_S_ = uSem (sl 2 (k.val / 4 + 1)) := uSem_of (off11 k hk) _
@[sl_canon] theorem uSlot_12 (k : Trip) (hk : k.val < 171) (hh hs) : (uB.slice (Rect.unit (s := S2x4096x256) (k0_off12 (wG k)) S1x4096x256.size hh) hs).squeeze S4096x256 squeezes_S1x4096x256_S4096x256 = uSlot (sl 2 (k.val / 4 + 1)) := uSlot_of (off12 k hk) _ _
@[sl_canon] theorem uBlk_13 (k : Trip) (hk : k.val < 171) (h3 : k.val % 4 = 3) (hh hs) : uM.slice (Rect.unit (s := S4096x11008) (k0_off13 (wj k) (wi k)) S4096x256.size hh) hs = uBlk (bk 43 (k.val / 4 + 1)) := uBlk_of (off13 k ⟨hk, h3⟩) _ _
@[sl_canon] theorem sSem_14 (k : Trip) (hk : k.val < 171) (hh) : (cc0_scoped7.slice (Rect.unit (s := S2) (k0_off14 (wF k)) S1.size hh)).squeeze S_ squeezes_S1_S_ = sSem (sl 2 (k.val + 1)) := sSem_of (off14 k hk) _
@[sl_canon] theorem sSlot_15 (k : Trip) (hk : k.val < 171) (hh hs) : (sB.slice (Rect.unit (s := S2x64x4096) (k0_off15 (wF k)) S1x64x4096.size hh) hs).squeeze S64x4096 squeezes_S1x64x4096_S64x4096 = sSlot (sl 2 (k.val + 1)) := sSlot_of (off15 k hk) _ _
@[sl_canon] theorem sBlk_16 (k : Trip) (hk : k.val < 171) (hh hs) : sM.slice (Rect.unit (s := S11008x4096) (k0_off16 (wj k) (wi k)) S64x4096.size hh) hs = sBlk (bk 172 (k.val + 1)) := sBlk_of (off16 k hk) _ _
@[sl_canon] theorem aSem_17 (k : Trip) (hh) : (cc0_scoped1.slice (Rect.unit (s := S2) (k0_off17 (wK k)) S1.size hh)).squeeze S_ squeezes_S1_S_ = aSem (sl 2 k.val) := aSem_of (off17 k) _
@[sl_canon] theorem aSlot_18 (k : Trip) (hh hs) : (aB.slice (Rect.unit (s := S2x2176x4096) (k0_off18 (wK k)) S1x2176x4096.size hh) hs).squeeze S2176x4096 squeezes_S1x2176x4096_S2176x4096 = aSlot (sl 2 k.val) := aSlot_of (off18 k) _ _
@[sl_canon] theorem aBlk_19 (k : Trip) (hh hs) : aM.slice (Rect.unit (s := S8704x4096) (k0_off19 (wi k)) S2176x4096.size hh) hs = aBlk (sl 4 k.val) := aBlk_of (off19 k) _ _
@[sl_canon] theorem gSem_20 (k : Trip) (hh) : (cc0_scoped3.slice (Rect.unit (s := S2) (k0_off20 (wJ k)) S1.size hh)).squeeze S_ squeezes_S1_S_ = gSem (sl 2 (k.val / 4)) := gSem_of (off20 k) _
@[sl_canon] theorem gSlot_21 (k : Trip) (hh hs) : (gB.slice (Rect.unit (s := S2x4096x256) (k0_off21 (wJ k)) S1x4096x256.size hh) hs).squeeze S4096x256 squeezes_S1x4096x256_S4096x256 = gSlot (sl 2 (k.val / 4)) := gSlot_of (off21 k) _ _
@[sl_canon] theorem gBlk_22 (k : Trip) (hh hs) : gM.slice (Rect.unit (s := S4096x11008) (k0_off22 (wj k)) S4096x256.size hh) hs = gBlk (bk 43 (k.val / 4)) := gBlk_of (off22 k) _ _
@[sl_canon] theorem uSem_23 (k : Trip) (hh) : (cc0_scoped5.slice (Rect.unit (s := S2) (k0_off23 (wJ k)) S1.size hh)).squeeze S_ squeezes_S1_S_ = uSem (sl 2 (k.val / 4)) := uSem_of (off23 k) _
@[sl_canon] theorem uSlot_24 (k : Trip) (hh hs) : (uB.slice (Rect.unit (s := S2x4096x256) (k0_off24 (wJ k)) S1x4096x256.size hh) hs).squeeze S4096x256 squeezes_S1x4096x256_S4096x256 = uSlot (sl 2 (k.val / 4)) := uSlot_of (off24 k) _ _
@[sl_canon] theorem uBlk_25 (k : Trip) (hh hs) : uM.slice (Rect.unit (s := S4096x11008) (k0_off25 (wj k)) S4096x256.size hh) hs = uBlk (bk 43 (k.val / 4)) := uBlk_of (off25 k) _ _
@[sl_canon] theorem sSem_26 (k : Trip) (hh) : (cc0_scoped7.slice (Rect.unit (s := S2) (k0_off26 (wK k)) S1.size hh)).squeeze S_ squeezes_S1_S_ = sSem (sl 2 k.val) := sSem_of (off26 k) _
@[sl_canon] theorem sSlot_27 (k : Trip) (hh hs) : (sB.slice (Rect.unit (s := S2x64x4096) (k0_off27 (wK k)) S1x64x4096.size hh) hs).squeeze S64x4096 squeezes_S1x64x4096_S64x4096 = sSlot (sl 2 k.val) := sSlot_of (off27 k) _ _
@[sl_canon] theorem sBlk_28 (k : Trip) (hh hs) : sM.slice (Rect.unit (s := S11008x4096) (k0_off28 (wj k) (wi k)) S64x4096.size hh) hs = sBlk (bk 172 k.val) := sBlk_of (off28 k) _ _
@[sl_canon] theorem oSem_35 (k : Trip) (hh) : (cc0_scoped9.slice (Rect.unit (s := S2) (k0_off35 (wK k)) S1.size hh)).squeeze S_ squeezes_S1_S_ = oSem (sl 2 k.val) := oSem_of (off35 k) _
@[sl_canon] theorem oBlk_36 (k : Trip) (hh hs) : oM.slice (Rect.unit (s := S8704x11008) (k0_off36 (wj k) (wi k)) S2176x256.size hh) hs = oBlk (bk 172 k.val) := oBlk_of (off36 k) _ _
@[sl_canon] theorem oSlot_37 (k : Trip) (hh hs) : (oB.slice (Rect.unit (s := S2x2176x256) (k0_off37 (wK k)) S1x2176x256.size hh) hs).squeeze S2176x256 squeezes_S1x2176x256_S2176x256 = oSlot (sl 2 k.val) := oSlot_of (off37 k) _ _
@[sl_canon] theorem tSem_38 (k : Trip) (hh) : (cc0_scoped11.slice (Rect.unit (s := S2) (k0_off38 (wK k)) S1.size hh)).squeeze S_ squeezes_S1_S_ = tSem (sl 2 k.val) := tSem_of (off38 k) _
@[sl_canon] theorem tBlk_39 (k : Trip) (hh hs) : tM.slice (Rect.unit (s := S11008x4096) (k0_off39 (wj k) (wi k)) S64x4096.size hh) hs = tBlk (bk 172 k.val) := tBlk_of (off39 k) _ _
@[sl_canon] theorem tSlot_40 (k : Trip) (hh hs) : (tB.slice (Rect.unit (s := S2x64x4096) (k0_off40 (wK k)) S1x64x4096.size hh) hs).squeeze S64x4096 squeezes_S1x64x4096_S64x4096 = tSlot (sl 2 k.val) := tSlot_of (off40 k) _ _
@[sl_canon] theorem oSem_41 (k : Trip) (hk : 0 < k.val) (hh) : (cc0_scoped9.slice (Rect.unit (s := S2) (k0_off41 (wB k)) S1.size hh)).squeeze S_ squeezes_S1_S_ = oSem (sl 2 (k.val + 1)) := oSem_of (off41 k hk) _
@[sl_canon] theorem oBlk_42 (k : Trip) (hk : 0 < k.val) (hh hs) : oM.slice (Rect.unit (s := S8704x11008) (k0_off42 (wj k) (wi k)) S2176x256.size hh) hs = oBlk (bk 172 (k.val - 1)) := oBlk_of (off42 k hk) _ _
@[sl_canon] theorem oSlot_43 (k : Trip) (hk : 0 < k.val) (hh hs) : (oB.slice (Rect.unit (s := S2x2176x256) (k0_off43 (wB k)) S1x2176x256.size hh) hs).squeeze S2176x256 squeezes_S1x2176x256_S2176x256 = oSlot (sl 2 (k.val + 1)) := oSlot_of (off43 k hk) _ _
@[sl_canon] theorem tSem_44 (k : Trip) (hk : 0 < k.val) (hh) : (cc0_scoped11.slice (Rect.unit (s := S2) (k0_off44 (wB k)) S1.size hh)).squeeze S_ squeezes_S1_S_ = tSem (sl 2 (k.val + 1)) := tSem_of (off44 k hk) _
@[sl_canon] theorem tBlk_45 (k : Trip) (hk : 0 < k.val) (hh hs) : tM.slice (Rect.unit (s := S11008x4096) (k0_off45 (wj k) (wi k)) S64x4096.size hh) hs = tBlk (bk 172 (k.val - 1)) := tBlk_of (off45 k hk) _ _
@[sl_canon] theorem tSlot_46 (k : Trip) (hk : 0 < k.val) (hh hs) : (tB.slice (Rect.unit (s := S2x64x4096) (k0_off46 (wB k)) S1x64x4096.size hh) hs).squeeze S64x4096 squeezes_S1x64x4096_S64x4096 = tSlot (sl 2 (k.val + 1)) := tSlot_of (off46 k hk) _ _

/-! The slices after the loop: everything of block 171, slot 1. -/

@[sl_canon] theorem oSem_47 (hh) : (cc0_scoped9.slice (Rect.unit (s := S2) (k0_off47 (wB 172)) S1.size hh)).squeeze S_ squeezes_S1_S_ = oSem 1 := oSem_of off47 _
@[sl_canon] theorem oBlk_48 (hh hs) : oM.slice (Rect.unit (s := S8704x11008) (k0_off48 (wi 172) (wj 172)) S2176x256.size hh) hs = oBlk 171 := oBlk_of off48 _ _
@[sl_canon] theorem oSlot_49 (hh hs) : (oB.slice (Rect.unit (s := S2x2176x256) (k0_off49 (wB 172)) S1x2176x256.size hh) hs).squeeze S2176x256 squeezes_S1x2176x256_S2176x256 = oSlot 1 := oSlot_of off49 _ _
@[sl_canon] theorem tSem_50 (hh) : (cc0_scoped11.slice (Rect.unit (s := S2) (k0_off50 (wB 172)) S1.size hh)).squeeze S_ squeezes_S1_S_ = tSem 1 := tSem_of off50 _
@[sl_canon] theorem tBlk_51 (hh hs) : tM.slice (Rect.unit (s := S11008x4096) (k0_off51 (wi 172) (wj 172)) S64x4096.size hh) hs = tBlk 171 := tBlk_of off51 _ _
@[sl_canon] theorem tSlot_52 (hh hs) : (tB.slice (Rect.unit (s := S2x64x4096) (k0_off52 (wB 172)) S1x64x4096.size hh) hs).squeeze S64x4096 squeezes_S1x64x4096_S64x4096 = tSlot 1 := tSlot_of off52 _ _

end Cert.KernelIdeal.Pipe

end
-- ==== Proof.Pieces.lean ====
/-
  The resources of the pipelined loop: a semaphore at zero, a scratch slot, a block of an array, and a transfer under
  way. A fetch under way into slot `s` holds the slot, written whole with the block, and the block it reads; a store
  under way holds the block of the result, written whole with the slot's contents, and the slot.
-/
module

public import proofs.«01_k».proof.Proof.Names

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's, beside the counters that the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

variable (c : Dev nD)

/-- Contents of a memref's buffer on the device. -/
abbrev BufOf (F : FTy → Type) {sp : Space} {S : Shape} {e : EltTy} (c : Dev nD) (M : Memref sig .tc sp S e) : Type := Buf (Elt F) (M.view.loc (c : Thread nD τ))

/-- A memref held whole at contents `f`. -/
abbrev held {sp : Space} {S : Shape} {e : EltTy} (M : Memref sig .tc sp S e) (f : BufOf F c M) : sProp 𝕄 :=
  M.view.loc (c : Thread nD τ) ↦[M.view.set]{fullShare} f
/-- A semaphore at zero. -/
abbrev zero (A : DmaSems sig S_) : sProp 𝕄 := semVal ((c : Thread nD τ), SemLoc.dma A.sem) 0
/-- A memref over `f` after a transfer wrote it whole with what `src` holds. -/
abbrev landed {sp sp' : Space} {S : Shape} {e : EltTy} (dst : Memref sig .tc sp S e) (src : Memref sig .tc sp' S e)
    (f : BufOf F c dst) (g : BufOf F c src) : BufOf F c dst :=
  dst.view.writes (Elt F) f [⟨Rect.whole S, ReadAs.same.apply (src.view.read (Elt F) g)⟩]
/-- A transfer of `N` units from `src` at `g` to `dst` at `f`, under way on `A`. -/
abbrev flight {sp sp' : Space} {S : Shape} {e : EltTy} (N : ℕ) (A : DmaSems sig S_) (dst : Memref sig .tc sp S e) (src : Memref sig .tc sp' S e)
    (f : BufOf F c dst) (g : BufOf F c src) : sProp 𝕄 :=
  Transfers.Flight countersEmb (c : Thread nD τ) (SemLoc.dma A.sem) () N iprop(held c dst (landed c dst src f g) ∗ held c src g)

end Cert.KernelIdeal.Pipe

end
-- ==== Proof.Blocks.lean ====
/-
  What one trip computes: a block of the product from a row block of the activations and a column block of each of the
  two weight matrices, and a slab of weights cast to the narrow type. The loads and stores the trip makes through the
  whole scratch buffers are reads and writes of the slot they fall in.
-/
module

public import proofs.«01_k».proof.Proof.Pieces
public import Idealize.ShloMosaic.Lib.Pipeline.Value

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

/-- The block of the product: `silu(a g) * (a u)`, rounded to the narrow type. -/
def tile (a : FVec F S2176x4096 .bf16) (g u : FVec F S4096x256 .bf16) : FVec F S2176x256 .bf16 :=
  truncf .bf16 (mulf (mulf (matmul dot_S2176x4096_S4096x256_S2176x256_1_0_0_1_n_n none a g (constant S2176x256 .f32 0x00000000#32))
      (logistic (matmul dot_S2176x4096_S4096x256_S2176x256_1_0_0_1_n_n none a g (constant S2176x256 .f32 0x00000000#32))))
    (matmul dot_S2176x4096_S4096x256_S2176x256_1_0_0_1_n_n none a u (constant S2176x256 .f32 0x00000000#32))) bitsLt_bf16_f32
/-- The slab, cast. -/
def cast64 (s : FVec F S64x4096 .f32) : FVec F S64x4096 .bf16 := truncf .bf16 s bitsLt_bf16_f32

/-! ## Reads and writes of a slot through its buffer -/

/-- What a store through a memref at a rectangle leaves is read back through the squeeze of the slice there. -/
theorem read_squeeze_write {κ : Kind} {cs : Space} {s s' : Shape} {e : EltTy} {Val : EltTy → Type} (M : Memref sig κ cs s e)
    (r : Rect s) (hr : ∀ a, r.stride a = 1) (hq : r.shape.Squeezes s') (hc : r.shape.ShapeCasts s') (hc' : s'.ShapeCasts r.shape)
    (f : M.view.ty.Contents Val) (w : s'.Idx → Val e) :
    ((M.slice r hr).squeeze s' hq).view.read Val (View.write Val (M.access r) f (shapeCast r.shape w hc') Finset.univ) = w := by
  show shapeCast s' (View.read Val (M.access r) (View.write Val (M.access r) f (shapeCast r.shape w hc') Finset.univ)) hc = w
  rw [View.read_write_univ, shapeCast_shapeCast]

section Access
variable {s : Fin 2} {off : Fin 3 → Nat}

theorem load_a (e : off = slotOff s) (hh f) : shapeCast S2176x4096 (aB.view.readAt (Elt F) (Rect.unit (s := S2x2176x4096) off S1x2176x4096.size hh).toLoadRect f) shapeCasts_S1x2176x4096_S2176x4096
    = (aSlot s).view.read (Elt F) f := by subst e; rfl
theorem load_g (e : off = slotOff s) (hh f) : shapeCast S4096x256 (gB.view.readAt (Elt F) (Rect.unit (s := S2x4096x256) off S1x4096x256.size hh).toLoadRect f) shapeCasts_S1x4096x256_S4096x256
    = (gSlot s).view.read (Elt F) f := by subst e; rfl
theorem load_u (e : off = slotOff s) (hh f) : shapeCast S4096x256 (uB.view.readAt (Elt F) (Rect.unit (s := S2x4096x256) off S1x4096x256.size hh).toLoadRect f) shapeCasts_S1x4096x256_S4096x256
    = (uSlot s).view.read (Elt F) f := by subst e; rfl
theorem load_s (e : off = slotOff s) (hh f) : shapeCast S64x4096 (sB.view.readAt (Elt F) (Rect.unit (s := S2x64x4096) off S1x64x4096.size hh).toLoadRect f) shapeCasts_S1x64x4096_S64x4096
    = (sSlot s).view.read (Elt F) f := by subst e; rfl
theorem store_o (e : off = slotOff s) (hh f w) : (oSlot s).view.read (Elt F) (View.write (Elt F) (oB.access (Rect.unit (s := S2x2176x256) off S1x2176x256.size hh)) f
    (shapeCast S1x2176x256 w shapeCasts_S2176x256_S1x2176x256) Finset.univ) = w := by
  subst e
  exact read_squeeze_write oB _ (fun _ => rfl) squeezes_S1x2176x256_S2176x256 shapeCasts_S1x2176x256_S2176x256 shapeCasts_S2176x256_S1x2176x256 f w
theorem store_t (e : off = slotOff s) (hh f w) : (tSlot s).view.read (Elt F) (View.write (Elt F) (tB.access (Rect.unit (s := S2x64x4096) off S1x64x4096.size hh)) f
    (shapeCast S1x64x4096 w shapeCasts_S64x4096_S1x64x4096) Finset.univ) = w := by
  subst e
  exact read_squeeze_write tB _ (fun _ => rfl) squeezes_S1x64x4096_S64x4096 shapeCasts_S1x64x4096_S64x4096 shapeCasts_S64x4096_S1x64x4096 f w

end Access

/-! ## What trip `k` leaves in its output slots -/

theorem out_o (k : Trip) (h1 h2 h3 h4) (fa fg fu fo) :
    (oSlot (sl 2 k.val)).view.read (Elt F) (View.write (Elt F) (oB.access (Rect.unit (s := S2x2176x256) (k0_off34 (wK k)) S1x2176x256.size h1)) fo
      (k0_pay2 (aB.view.readAt (Elt F) (Rect.unit (s := S2x2176x4096) (k0_off31 (wK k)) S1x2176x4096.size h2).toLoadRect fa)
        (gB.view.readAt (Elt F) (Rect.unit (s := S2x4096x256) (k0_off32 (wJ k)) S1x4096x256.size h3).toLoadRect fg)
        (uB.view.readAt (Elt F) (Rect.unit (s := S2x4096x256) (k0_off33 (wJ k)) S1x4096x256.size h4).toLoadRect fu)) Finset.univ)
    = tile ((aSlot (sl 2 k.val)).view.read (Elt F) fa) ((gSlot (sl 2 (k.val / 4))).view.read (Elt F) fg) ((uSlot (sl 2 (k.val / 4))).view.read (Elt F) fu) := by
  refine (store_o (off34 k) _ _ _).trans ?_
  rw [load_a (off31 k), load_g (off32 k), load_u (off33 k)]
  rfl

theorem out_t (k : Trip) (h1 h2) (fs ft) :
    (tSlot (sl 2 k.val)).view.read (Elt F) (View.write (Elt F) (tB.access (Rect.unit (s := S2x64x4096) (k0_off30 (wK k)) S1x64x4096.size h1)) ft
      (k0_pay1 (sB.view.readAt (Elt F) (Rect.unit (s := S2x64x4096) (k0_off29 (wK k)) S1x64x4096.size h2).toLoadRect fs)) Finset.univ)
    = cast64 ((sSlot (sl 2 k.val)).view.read (Elt F) fs) := by
  refine (store_t (off30 k) _ _ _).trans ?_
  rw [load_s (off29 k)]
  rfl

end Cert.KernelIdeal.Pipe

end
-- ==== Proof.State.lean ====
/-
  The resources that one trip takes up and gives back, array by array.

  Each of the activations and of the slabs is fetched at every trip, one trip ahead; each of the two weight matrices every
  fourth trip; each of the two results is stored at every trip and its store waited for one trip later.
-/
module

public import proofs.«01_k».proof.Proof.Blocks

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

variable (c : Dev nD) (XA : BufOf F c aM) (XG : BufOf F c gM) (XU : BufOf F c uM) (XS : BufOf F c sM)

/-! ## What the blocks hold -/

def aVal (b : Fin 4) : FVec F S2176x4096 .bf16 := (aBlk b).view.read (Elt F) XA
def gVal (b : Fin 43) : FVec F S4096x256 .bf16 := (gBlk b).view.read (Elt F) XG
def uVal (b : Fin 43) : FVec F S4096x256 .bf16 := (uBlk b).view.read (Elt F) XU
def sVal (b : Fin 172) : FVec F S64x4096 .f32 := (sBlk b).view.read (Elt F) XS
/-- The block of the product that trip `k` stores. -/
def oVal (k : ℕ) : FVec F S2176x256 .bf16 := tile (aVal c XA (sl 4 k)) (gVal c XG (bk 43 (k / 4))) (uVal c XU (bk 43 (k / 4)))
/-- The slab that trip `k` stores. -/
def tVal (k : ℕ) : FVec F S64x4096 .bf16 := cast64 (sVal c XS (bk 172 k))

/-! ## Blocks at their contents -/

def homeA (b : Fin 4) : sProp 𝕄 := held c (aBlk b) XA
def homeG (b : Fin 43) : sProp 𝕄 := held c (gBlk b) XG
def homeU (b : Fin 43) : sProp 𝕄 := held c (uBlk b) XU
def homeS (b : Fin 172) : sProp 𝕄 := held c (sBlk b) XS
/-- A block of the product, stored if its trip is before `k`. -/
def pieceO (k : ℕ) (b : Fin 172) : sProp 𝕄 := iprop(∃ f, held c (oBlk b) f ∗ ⌜b.val < k → (oBlk b).view.read (Elt F) f = oVal c XA XG XU b.val⌝)
/-- A slab of the cast weights, stored if its trip is before `k`. -/
def pieceT (k : ℕ) (b : Fin 172) : sProp 𝕄 := iprop(∃ f, held c (tBlk b) f ∗ ⌜b.val < k → (tBlk b).view.read (Elt F) f = tVal c XS b.val⌝)

/-! ## Scratch slots at rest -/

def freeA (s : Fin 2) : sProp 𝕄 := iprop((∃ f, held c (aSlot s) f) ∗ zero c (aSem s))
def freeG (s : Fin 2) : sProp 𝕄 := iprop((∃ f, held c (gSlot s) f) ∗ zero c (gSem s))
def freeU (s : Fin 2) : sProp 𝕄 := iprop((∃ f, held c (uSlot s) f) ∗ zero c (uSem s))
def freeS (s : Fin 2) : sProp 𝕄 := iprop((∃ f, held c (sSlot s) f) ∗ zero c (sSem s))
def freeO (s : Fin 2) : sProp 𝕄 := iprop((∃ f, held c (oSlot s) f) ∗ zero c (oSem s))
def freeT (s : Fin 2) : sProp 𝕄 := iprop((∃ f, held c (tSlot s) f) ∗ zero c (tSem s))
/-- Column block `j` of the gate weights, arrived in its slot. -/
def fullG (j : ℕ) : sProp 𝕄 := iprop((∃ f, held c (gSlot (sl 2 j)) f ∗ ⌜(gSlot (sl 2 j)).view.read (Elt F) f = gVal c XG (bk 43 j)⌝) ∗ zero c (gSem (sl 2 j)))
/-- Column block `j` of the up weights, arrived in its slot. -/
def fullU (j : ℕ) : sProp 𝕄 := iprop((∃ f, held c (uSlot (sl 2 j)) f ∗ ⌜(uSlot (sl 2 j)).view.read (Elt F) f = uVal c XU (bk 43 j)⌝) ∗ zero c (uSem (sl 2 j)))

/-! ## Transfers under way -/

abbrev flightA (s : Fin 2) (b : Fin 4) (f : BufOf F c (aSlot s)) : sProp 𝕄 := flight c 557056 (aSem s) (aSlot s) (aBlk b) f XA
abbrev flightG (s : Fin 2) (b : Fin 43) (f : BufOf F c (gSlot s)) : sProp 𝕄 := flight c 65536 (gSem s) (gSlot s) (gBlk b) f XG
abbrev flightU (s : Fin 2) (b : Fin 43) (f : BufOf F c (uSlot s)) : sProp 𝕄 := flight c 65536 (uSem s) (uSlot s) (uBlk b) f XU
abbrev flightS (s : Fin 2) (b : Fin 172) (f : BufOf F c (sSlot s)) : sProp 𝕄 := flight c 32768 (sSem s) (sSlot s) (sBlk b) f XS
def flyA (k : ℕ) : sProp 𝕄 := iprop(∃ f, flightA c XA (sl 2 k) (sl 4 k) f)
def flyG (j : ℕ) : sProp 𝕄 := iprop(∃ f, flightG c XG (sl 2 j) (bk 43 j) f)
def flyU (j : ℕ) : sProp 𝕄 := iprop(∃ f, flightU c XU (sl 2 j) (bk 43 j) f)
def flyS (k : ℕ) : sProp 𝕄 := iprop(∃ f, flightS c XS (sl 2 k) (bk 172 k) f)
/-- The store of block `k` of the product, from slot `s`. -/
def flyO (s : Fin 2) (k : ℕ) : sProp 𝕄 := iprop(∃ p f, flight c 34816 (oSem s) (oBlk (bk 172 k)) (oSlot s) p f ∗ ⌜(oSlot s).view.read (Elt F) f = oVal c XA XG XU k⌝)
/-- The store of slab `k`, from slot `s`. -/
def flyT (s : Fin 2) (k : ℕ) : sProp 𝕄 := iprop(∃ p f, flight c 16384 (tSem s) (tBlk (bk 172 k)) (tSlot s) p f ∗ ⌜(tSlot s).view.read (Elt F) f = tVal c XS k⌝)
/-- The core's outstanding waits. -/
def waits : sProp 𝕄 := iprop(∃ W, owes (c : Thread nD τ) 0 W)

/-! ## One trip's take and give -/

/-- Before: block `k` under way, the other slot free, block `k + 1` home. After: block `k + 1` under way, slot and block `k` back. -/
def inA (k : ℕ) : sProp 𝕄 := iprop(flyA c XA k ∗ freeA c (sl 2 (k + 1)) ∗ homeA c XA (sl 4 (k + 1)))
def outA (k : ℕ) : sProp 𝕄 := iprop(flyA c XA (k + 1) ∗ freeA c (sl 2 k) ∗ homeA c XA (sl 4 k))
def inS (k : ℕ) : sProp 𝕄 := iprop(flyS c XS k ∗ freeS c (sl 2 (k + 1)) ∗ homeS c XS (bk 172 (k + 1)))
def outS (k : ℕ) : sProp 𝕄 := iprop(flyS c XS (k + 1) ∗ freeS c (sl 2 k) ∗ homeS c XS (bk 172 k))
/-- Before: the store of block `k - 1` under way, the other slot free. After: the store of block `k` under way, block `k - 1` done. -/
def inO (k : ℕ) : sProp 𝕄 := iprop(flyO c XA XG XU (sl 2 (k + 1)) (k - 1) ∗ freeO c (sl 2 k) ∗ (∃ f, held c (oBlk (bk 172 k)) f))
def outO (k : ℕ) : sProp 𝕄 := iprop(flyO c XA XG XU (sl 2 k) k ∗ freeO c (sl 2 (k + 1))
  ∗ (∃ f, held c (oBlk (bk 172 (k - 1))) f ∗ ⌜(oBlk (bk 172 (k - 1))).view.read (Elt F) f = oVal c XA XG XU (k - 1)⌝))
def inT (k : ℕ) : sProp 𝕄 := iprop(flyT c XS (sl 2 (k + 1)) (k - 1) ∗ freeT c (sl 2 k) ∗ (∃ f, held c (tBlk (bk 172 k)) f))
def outT (k : ℕ) : sProp 𝕄 := iprop(flyT c XS (sl 2 k) k ∗ freeT c (sl 2 (k + 1))
  ∗ (∃ f, held c (tBlk (bk 172 (k - 1))) f ∗ ⌜(tBlk (bk 172 (k - 1))).view.read (Elt F) f = tVal c XS (k - 1)⌝))

/-! ## The trip's program and the words it carries -/

abbrev trip (p1 p2 p3 p4 p5 : BitVec 32) (k : Trip) (acc) := k0_t1_body (F := F) aM (Memref.isWhole_whole _) gM (Memref.isWhole_whole _) uM (Memref.isWhole_whole _) sM (Memref.isWhole_whole _)
  oM (Memref.isWhole_whole _) tM (Memref.isWhole_whole _) aB (Memref.isWhole_whole _) cc0_scoped1 gB (Memref.isWhole_whole _) cc0_scoped3
  uB (Memref.isWhole_whole _) cc0_scoped5 sB (Memref.isWhole_whole _) cc0_scoped7 oB (Memref.isWhole_whole _) cc0_scoped9 tB (Memref.isWhole_whole _) cc0_scoped11
  p1 p2 p3 p4 p5 k acc

/-- The carried words before trip `k`. -/
abbrev carry (k : ℕ) : BitVec 32 × BitVec 32 × BitVec 32 × BitVec 32 × BitVec 32 × BitVec 32 × BitVec 32 × BitVec 32 × BitVec 32 × BitVec 32 × BitVec 32 × BitVec 32 × BitVec 32 × BitVec 32 :=
  (wF k, wK k, wG k, wJ k, wG k, wJ k, wF k, wK k, wK k, wB k, wK k, wB k, wj k, wi k)

end Cert.KernelIdeal.Pipe

end
-- ==== Proof.Steps.lean ====
/-
  The loop's state before trip `k`, array by array, and one step of each: what a trip takes out of the state before it,
  and how what it gives back makes up the state after it.
-/
module

public import proofs.«01_k».proof.Proof.State

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

variable (c : Dev nD) (XA : BufOf F c aM) (XG : BufOf F c gM) (XU : BufOf F c uM) (XS : BufOf F c sM)

/-! ## Taking one block out of a family and putting another back -/

omit [FloatOps F] in
theorem family_take {n : ℕ} (P : Fin n → sProp 𝕄) {S : Finset (Fin n)} {e : Fin n} (h : e ∈ S) :
    bigSep S P = iprop(P e ∗ bigSep (S.erase e) P) := bigSep_erase h

omit [FloatOps F] in
/-- All but block `e` are held; block `e'` is taken, and when `e` comes back all but `e'` are held, each as it now is. -/
theorem piece_swap {n : ℕ} (P P' : Fin n → sProp 𝕄) {e e' : Fin n} (hne : e' ≠ e) (hm : ∀ b, b ≠ e → b ≠ e' → P b ⊢ P' b) :
    bigSep (Finset.univ.erase e) P ⊢ iprop(P e' ∗ (P' e -∗ bigSep (Finset.univ.erase e') P')) := by
  rw [family_take P (Finset.mem_erase.mpr ⟨hne, Finset.mem_univ e'⟩), family_take P' (Finset.mem_erase.mpr ⟨fun h => hne h.symm, Finset.mem_univ e⟩),
    Finset.erase_right_comm]
  iintro ⟨H, HR⟩
  isplitl [H]; · iexact H
  iintro HE
  isplitl [HE]; · iexact HE
  have hmono : bigSep ((Finset.univ.erase e').erase e) P ⊢ bigSep ((Finset.univ.erase e').erase e) P' := bigSep_mono fun b hb =>
    hm b (Finset.ne_of_mem_erase hb) (Finset.ne_of_mem_erase (Finset.mem_of_mem_erase hb))
  iapply hmono
  iexact HR

omit [FloatOps F] in
theorem home_swap {n : ℕ} (P : Fin n → sProp 𝕄) {e e' : Fin n} (hne : e' ≠ e) :
    bigSep (Finset.univ.erase e) P ⊢ iprop(P e' ∗ (P e -∗ bigSep (Finset.univ.erase e') P)) :=
  piece_swap P P hne fun _ _ _ => .rfl

omit [FloatOps F] in
/-- A family gone through with one summand taken out. -/
theorem piece_take {n : ℕ} (P P' : Fin n → sProp 𝕄) {e : Fin n} (hm : ∀ b, b ≠ e → P b ⊢ P' b) :
    bigSep Finset.univ P ⊢ iprop(P e ∗ bigSep (Finset.univ.erase e) P') := by
  rw [family_take P (Finset.mem_univ e)]
  iintro ⟨H, HR⟩
  isplitl [H]; · iexact H
  have hmono : bigSep (Finset.univ.erase e) P ⊢ bigSep (Finset.univ.erase e) P' := bigSep_mono fun b hb => hm b (Finset.ne_of_mem_erase hb)
  iapply hmono
  iexact HR

omit [FloatOps F] in
theorem piece_put {n : ℕ} (P : Fin n → sProp 𝕄) (e : Fin n) :
    iprop(P e ∗ bigSep (Finset.univ.erase e) P) ⊢ bigSep Finset.univ P := by
  rw [family_take P (Finset.mem_univ e)]

theorem sl2_add2 (k : ℕ) : sl 2 (k + 1 + 1) = sl 2 k := by
  apply Fin.ext; show (k + 1 + 1) % 2 = k % 2; omega
theorem sl4_ne (k : ℕ) : sl 4 (k + 1) ≠ sl 4 k := by
  intro h; have := congrArg Fin.val h; change (k + 1) % 4 = k % 4 at this; omega
theorem bk172_val {k : ℕ} (h : k < 172) : (bk 172 k).val = k := Nat.mod_eq_of_lt h
theorem bk43_val {k : ℕ} (h : k < 43) : (bk 43 k).val = k := Nat.mod_eq_of_lt h
theorem bk172_ne {k : ℕ} (h : k < 171) : bk 172 (k + 1) ≠ bk 172 k := by
  intro e; have := congrArg Fin.val e; rw [bk172_val (by omega), bk172_val (by omega)] at this; omega
theorem bk172_ne' {k : ℕ} (h : k < 172) (h0 : 0 < k) : bk 172 k ≠ bk 172 (k - 1) := by
  intro e; have := congrArg Fin.val e; rw [bk172_val (by omega), bk172_val (by omega)] at this; omega

/-! ## An array fetched at every trip -/

/-- Of the activations: block `k` under way, the others home, the slot after free; after the last trip everything at rest. -/
def stA (k : ℕ) : sProp 𝕄 :=
  if k < 172 then iprop(bigSep (Finset.univ.erase (sl 4 k)) (homeA c XA) ∗ flyA c XA k ∗ freeA c (sl 2 (k + 1)))
  else iprop(bigSep Finset.univ (homeA c XA) ∗ freeA c 0 ∗ freeA c 1)

theorem stepA (k : ℕ) (hk : k < 171) : stA c XA k ⊢ iprop(inA c XA k ∗ (outA c XA k -∗ stA c XA (k + 1))) := by
  unfold stA
  rw [if_pos (by omega), if_pos (by omega), sl2_add2]
  unfold inA outA
  iintro ⟨HR, HF, HN⟩
  ihave HR' := (home_swap (homeA c XA) (sl4_ne k)) $$ HR
  icases HR' with ⟨HB, HR'⟩
  isplitl [HF HN HB]
  · isplitl [HF]; · iexact HF
    isplitl [HN]; · iexact HN
    iexact HB
  iintro ⟨HF, HN, HB⟩
  isplitl [HR' HB]; · iapply HR'; iexact HB
  isplitl [HF]; · iexact HF
  iexact HN

theorem lastA (k : ℕ) (hk : k = 171) : stA c XA k ⊢ iprop(flyA c XA k ∗ ((freeA c (sl 2 k) ∗ homeA c XA (sl 4 k)) -∗ stA c XA (k + 1))) := by
  subst hk
  unfold stA
  rw [if_pos (by omega), if_neg (by omega), show sl 2 (171 + 1) = 0 from rfl, show sl 2 171 = 1 from rfl]
  iintro ⟨HR, HF, HN⟩
  isplitl [HF]; · iexact HF
  iintro ⟨HN', HB⟩
  isplitl [HR HB]
  · iapply (piece_put (homeA c XA) (sl 4 171))
    isplitl [HB]; · iexact HB
    iexact HR
  isplitl [HN]; · iexact HN
  iexact HN'

/-- Of the slabs: block `k` under way, the others home, the slot after free; after the last trip everything at rest. -/
def stS (k : ℕ) : sProp 𝕄 :=
  if k < 172 then iprop(bigSep (Finset.univ.erase (bk 172 k)) (homeS c XS) ∗ flyS c XS k ∗ freeS c (sl 2 (k + 1)))
  else iprop(bigSep Finset.univ (homeS c XS) ∗ freeS c 0 ∗ freeS c 1)

theorem stepS (k : ℕ) (hk : k < 171) : stS c XS k ⊢ iprop(inS c XS k ∗ (outS c XS k -∗ stS c XS (k + 1))) := by
  unfold stS
  rw [if_pos (by omega), if_pos (by omega), sl2_add2]
  unfold inS outS
  iintro ⟨HR, HF, HN⟩
  ihave HR' := (home_swap (homeS c XS) (bk172_ne hk)) $$ HR
  icases HR' with ⟨HB, HR'⟩
  isplitl [HF HN HB]
  · isplitl [HF]; · iexact HF
    isplitl [HN]; · iexact HN
    iexact HB
  iintro ⟨HF, HN, HB⟩
  isplitl [HR' HB]; · iapply HR'; iexact HB
  isplitl [HF]; · iexact HF
  iexact HN

theorem lastS (k : ℕ) (hk : k = 171) : stS c XS k ⊢ iprop(flyS c XS k ∗ ((freeS c (sl 2 k) ∗ homeS c XS (bk 172 k)) -∗ stS c XS (k + 1))) := by
  subst hk
  unfold stS
  rw [if_pos (by omega), if_neg (by omega), show sl 2 (171 + 1) = 0 from rfl, show sl 2 171 = 1 from rfl]
  iintro ⟨HR, HF, HN⟩
  isplitl [HF]; · iexact HF
  iintro ⟨HN', HB⟩
  isplitl [HR HB]
  · iapply (piece_put (homeS c XS) (bk 172 171))
    isplitl [HB]; · iexact HB
    iexact HR
  isplitl [HN]; · iexact HN
  iexact HN'

/-! ## An array fetched every fourth trip -/

theorem free_of_fullG (j : ℕ) : fullG c XG j ⊢ freeG (F := F) c (sl 2 j) := by
  unfold fullG freeG
  iintro ⟨⟨%f, H, -⟩, HC⟩
  isplitl [H]; · iexists f; iexact H
  iexact HC

/-- Of the gate weights: before every fourth trip the trip's column block is under way, before the others it has arrived. -/
def stG (k : ℕ) : sProp 𝕄 :=
  if k < 172 then
    if k % 4 = 0 then iprop(bigSep (Finset.univ.erase (bk 43 (k / 4))) (homeG c XG) ∗ flyG c XG (k / 4) ∗ freeG c (sl 2 (k / 4 + 1)))
    else iprop(bigSep Finset.univ (homeG c XG) ∗ fullG c XG (k / 4) ∗ freeG c (sl 2 (k / 4 + 1)))
  else iprop(bigSep Finset.univ (homeG c XG) ∗ freeG c 0 ∗ freeG c 1)

theorem waitG (k : ℕ) (hk : k < 171) (h0 : k % 4 = 0) :
    stG c XG k ⊢ iprop(flyG c XG (k / 4) ∗ ((fullG c XG (k / 4) ∗ homeG c XG (bk 43 (k / 4))) -∗ stG c XG (k + 1))) := by
  unfold stG
  rw [if_pos (by omega), if_pos h0, if_pos (by omega), if_neg (by omega), show (k + 1) / 4 = k / 4 by omega]
  iintro ⟨HR, HF, HN⟩
  isplitl [HF]; · iexact HF
  iintro ⟨HU, HB⟩
  isplitl [HR HB]
  · iapply (piece_put (homeG c XG) (bk 43 (k / 4)))
    isplitl [HB]; · iexact HB
    iexact HR
  isplitl [HU]; · iexact HU
  iexact HN

theorem midG (k : ℕ) (hk : k < 171) (h0 : k % 4 ≠ 0) (h3 : k % 4 ≠ 3) :
    stG c XG k ⊢ iprop(fullG c XG (k / 4) ∗ (fullG c XG (k / 4) -∗ stG c XG (k + 1))) := by
  unfold stG
  rw [if_pos (by omega), if_neg h0, if_pos (by omega), if_neg (by omega), show (k + 1) / 4 = k / 4 by omega]
  iintro ⟨HR, HF, HN⟩
  isplitl [HF]; · iexact HF
  iintro HU
  isplitl [HR]; · iexact HR
  isplitl [HU]; · iexact HU
  iexact HN

theorem fetchG (k : ℕ) (hk : k < 171) (h3 : k % 4 = 3) :
    stG c XG k ⊢ iprop((fullG c XG (k / 4) ∗ freeG c (sl 2 (k / 4 + 1)) ∗ homeG c XG (bk 43 (k / 4 + 1)))
      ∗ ((fullG c XG (k / 4) ∗ flyG c XG (k / 4 + 1)) -∗ stG c XG (k + 1))) := by
  unfold stG
  rw [if_pos (by omega), if_neg (by omega), if_pos (by omega), if_pos (by omega), show (k + 1) / 4 = k / 4 + 1 by omega, sl2_add2]
  iintro ⟨HR, HF, HN⟩
  ihave HR' := (piece_take (homeG c XG) (homeG c XG) (e := bk 43 (k / 4 + 1)) fun _ _ => .rfl) $$ HR
  icases HR' with ⟨HB, HR'⟩
  isplitl [HF HN HB]
  · isplitl [HF]; · iexact HF
    isplitl [HN]; · iexact HN
    iexact HB
  iintro ⟨HU, HF⟩
  isplitl [HR']; · iexact HR'
  isplitl [HF]; · iexact HF
  iapply (free_of_fullG c XG (k / 4))
  iexact HU

theorem lastG (k : ℕ) (hk : k = 171) :
    stG c XG k ⊢ iprop(fullG c XG (k / 4) ∗ (fullG c XG (k / 4) -∗ stG c XG (k + 1))) := by
  subst hk
  unfold stG
  rw [if_pos (by omega), if_neg (by omega), if_neg (by omega), show sl 2 (171 / 4 + 1) = 1 from rfl, show (0 : Fin 2) = sl 2 (171 / 4) from rfl]
  iintro ⟨HR, HF, HN⟩
  isplitl [HF]; · iexact HF
  iintro HU
  isplitl [HR]; · iexact HR
  isplitl [HU]
  · iapply (free_of_fullG c XG (171 / 4))
    iexact HU
  iexact HN

theorem free_of_fullU (j : ℕ) : fullU c XU j ⊢ freeU (F := F) c (sl 2 j) := by
  unfold fullU freeU
  iintro ⟨⟨%f, H, -⟩, HC⟩
  isplitl [H]; · iexists f; iexact H
  iexact HC

/-- Of the up weights: before every fourth trip the trip's column block is under way, before the others it has arrived. -/
def stU (k : ℕ) : sProp 𝕄 :=
  if k < 172 then
    if k % 4 = 0 then iprop(bigSep (Finset.univ.erase (bk 43 (k / 4))) (homeU c XU) ∗ flyU c XU (k / 4) ∗ freeU c (sl 2 (k / 4 + 1)))
    else iprop(bigSep Finset.univ (homeU c XU) ∗ fullU c XU (k / 4) ∗ freeU c (sl 2 (k / 4 + 1)))
  else iprop(bigSep Finset.univ (homeU c XU) ∗ freeU c 0 ∗ freeU c 1)

theorem waitU (k : ℕ) (hk : k < 171) (h0 : k % 4 = 0) :
    stU c XU k ⊢ iprop(flyU c XU (k / 4) ∗ ((fullU c XU (k / 4) ∗ homeU c XU (bk 43 (k / 4))) -∗ stU c XU (k + 1))) := by
  unfold stU
  rw [if_pos (by omega), if_pos h0, if_pos (by omega), if_neg (by omega), show (k + 1) / 4 = k / 4 by omega]
  iintro ⟨HR, HF, HN⟩
  isplitl [HF]; · iexact HF
  iintro ⟨HU, HB⟩
  isplitl [HR HB]
  · iapply (piece_put (homeU c XU) (bk 43 (k / 4)))
    isplitl [HB]; · iexact HB
    iexact HR
  isplitl [HU]; · iexact HU
  iexact HN

theorem midU (k : ℕ) (hk : k < 171) (h0 : k % 4 ≠ 0) (h3 : k % 4 ≠ 3) :
    stU c XU k ⊢ iprop(fullU c XU (k / 4) ∗ (fullU c XU (k / 4) -∗ stU c XU (k + 1))) := by
  unfold stU
  rw [if_pos (by omega), if_neg h0, if_pos (by omega), if_neg (by omega), show (k + 1) / 4 = k / 4 by omega]
  iintro ⟨HR, HF, HN⟩
  isplitl [HF]; · iexact HF
  iintro HU
  isplitl [HR]; · iexact HR
  isplitl [HU]; · iexact HU
  iexact HN

theorem fetchU (k : ℕ) (hk : k < 171) (h3 : k % 4 = 3) :
    stU c XU k ⊢ iprop((fullU c XU (k / 4) ∗ freeU c (sl 2 (k / 4 + 1)) ∗ homeU c XU (bk 43 (k / 4 + 1)))
      ∗ ((fullU c XU (k / 4) ∗ flyU c XU (k / 4 + 1)) -∗ stU c XU (k + 1))) := by
  unfold stU
  rw [if_pos (by omega), if_neg (by omega), if_pos (by omega), if_pos (by omega), show (k + 1) / 4 = k / 4 + 1 by omega, sl2_add2]
  iintro ⟨HR, HF, HN⟩
  ihave HR' := (piece_take (homeU c XU) (homeU c XU) (e := bk 43 (k / 4 + 1)) fun _ _ => .rfl) $$ HR
  icases HR' with ⟨HB, HR'⟩
  isplitl [HF HN HB]
  · isplitl [HF]; · iexact HF
    isplitl [HN]; · iexact HN
    iexact HB
  iintro ⟨HU, HF⟩
  isplitl [HR']; · iexact HR'
  isplitl [HF]; · iexact HF
  iapply (free_of_fullU c XU (k / 4))
  iexact HU

theorem lastU (k : ℕ) (hk : k = 171) :
    stU c XU k ⊢ iprop(fullU c XU (k / 4) ∗ (fullU c XU (k / 4) -∗ stU c XU (k + 1))) := by
  subst hk
  unfold stU
  rw [if_pos (by omega), if_neg (by omega), if_neg (by omega), show sl 2 (171 / 4 + 1) = 1 from rfl, show (0 : Fin 2) = sl 2 (171 / 4) from rfl]
  iintro ⟨HR, HF, HN⟩
  isplitl [HF]; · iexact HF
  iintro HU
  isplitl [HR]; · iexact HR
  isplitl [HU]
  · iapply (free_of_fullU c XU (171 / 4))
    iexact HU
  iexact HN

/-! ## An array stored at every trip -/

/-- Of the product: the block of the trip before is under way, those of earlier trips are stored; before the first trip everything is at rest. -/
def stO (k : ℕ) : sProp 𝕄 :=
  if k = 0 then iprop(bigSep Finset.univ (pieceO c XA XG XU 0) ∗ freeO c 0 ∗ freeO c 1)
  else iprop(bigSep (Finset.univ.erase (bk 172 (k - 1))) (pieceO c XA XG XU k) ∗ flyO c XA XG XU (sl 2 (k + 1)) (k - 1) ∗ freeO c (sl 2 k))

theorem pieceO_any (k : ℕ) (b : Fin 172) : pieceO c XA XG XU k b ⊢ iprop(∃ f, held c (oBlk b) f) := by
  unfold pieceO
  iintro ⟨%f, H, -⟩
  iexists f; iexact H

theorem pieceO_succ (k : ℕ) (b : Fin 172) (h : b.val ≠ k) : pieceO c XA XG XU k b ⊢ pieceO c XA XG XU (k + 1) b := by
  unfold pieceO
  iintro ⟨%f, H, %e⟩
  iexists f
  isplitl [H]; · iexact H
  ipureintro; exact fun h' => e (by omega)

theorem pieceO_done (k : ℕ) (hk : k < 172) (n : ℕ) :
    iprop(∃ f, held c (oBlk (bk 172 k)) f ∗ ⌜(oBlk (bk 172 k)).view.read (Elt F) f = oVal c XA XG XU k⌝) ⊢ pieceO c XA XG XU n (bk 172 k) := by
  unfold pieceO
  iintro ⟨%f, H, %e⟩
  iexists f
  isplitl [H]; · iexact H
  ipureintro; intro _; rw [bk172_val hk]; exact e

theorem firstO (k : ℕ) (hk : k = 0) :
    stO c XA XG XU k ⊢ iprop((freeO c (sl 2 k) ∗ (∃ f, held c (oBlk (bk 172 k)) f)) ∗ (flyO c XA XG XU (sl 2 k) k -∗ stO c XA XG XU (k + 1))) := by
  subst hk
  unfold stO
  rw [if_pos rfl, if_neg (by omega), show sl 2 (0 + 1) = 1 from rfl, show sl 2 (0 + 1 + 1) = 0 from rfl, show sl 2 0 = 0 from rfl, show 0 + 1 - 1 = 0 from rfl]
  iintro ⟨HR, HN, HN'⟩
  ihave HR' := (piece_take (pieceO c XA XG XU 0) (pieceO c XA XG XU (0 + 1)) (e := bk 172 0)
    fun b hb => pieceO_succ c XA XG XU 0 b fun h => hb (Fin.ext h)) $$ HR
  icases HR' with ⟨HB, HR'⟩
  isplitl [HN HB]
  · isplitl [HN]; · iexact HN
    iapply (pieceO_any c XA XG XU 0 (bk 172 0)); iexact HB
  iintro HF
  isplitl [HR']; · iexact HR'
  isplitl [HF]; · iexact HF
  iexact HN'

theorem stepO (k : ℕ) (h0 : 0 < k) (hk : k < 172) : stO c XA XG XU k ⊢ iprop(inO c XA XG XU k ∗ (outO c XA XG XU k -∗ stO c XA XG XU (k + 1))) := by
  unfold stO
  rw [if_neg (by omega), if_neg (by omega), sl2_add2, show k + 1 - 1 = k from rfl]
  unfold inO outO
  iintro ⟨HR, HF, HN⟩
  ihave HR' := (piece_swap (pieceO c XA XG XU k) (pieceO c XA XG XU (k + 1)) (bk172_ne' hk h0)
    fun b _ hb => pieceO_succ c XA XG XU k b fun h => hb (Fin.ext (h.trans (bk172_val hk).symm))) $$ HR
  icases HR' with ⟨HB, HR'⟩
  isplitl [HF HN HB]
  · isplitl [HF]; · iexact HF
    isplitl [HN]; · iexact HN
    iapply (pieceO_any c XA XG XU k (bk 172 k)); iexact HB
  iintro ⟨HF, HN, HB⟩
  isplitl [HR' HB]
  · iapply HR'
    iapply (pieceO_done c XA XG XU (k - 1) (by omega) (k + 1)); iexact HB
  isplitl [HF]; · iexact HF
  iexact HN

/-- Of the cast weights: the block of the trip before is under way, those of earlier trips are stored; before the first trip everything is at rest. -/
def stT (k : ℕ) : sProp 𝕄 :=
  if k = 0 then iprop(bigSep Finset.univ (pieceT c XS 0) ∗ freeT c 0 ∗ freeT c 1)
  else iprop(bigSep (Finset.univ.erase (bk 172 (k - 1))) (pieceT c XS k) ∗ flyT c XS (sl 2 (k + 1)) (k - 1) ∗ freeT c (sl 2 k))

theorem pieceT_any (k : ℕ) (b : Fin 172) : pieceT c XS k b ⊢ iprop(∃ f, held c (tBlk b) f) := by
  unfold pieceT
  iintro ⟨%f, H, -⟩
  iexists f; iexact H

theorem pieceT_succ (k : ℕ) (b : Fin 172) (h : b.val ≠ k) : pieceT c XS k b ⊢ pieceT c XS (k + 1) b := by
  unfold pieceT
  iintro ⟨%f, H, %e⟩
  iexists f
  isplitl [H]; · iexact H
  ipureintro; exact fun h' => e (by omega)

theorem pieceT_done (k : ℕ) (hk : k < 172) (n : ℕ) :
    iprop(∃ f, held c (tBlk (bk 172 k)) f ∗ ⌜(tBlk (bk 172 k)).view.read (Elt F) f = tVal c XS k⌝) ⊢ pieceT c XS n (bk 172 k) := by
  unfold pieceT
  iintro ⟨%f, H, %e⟩
  iexists f
  isplitl [H]; · iexact H
  ipureintro; intro _; rw [bk172_val hk]; exact e

theorem firstT (k : ℕ) (hk : k = 0) :
    stT c XS k ⊢ iprop((freeT c (sl 2 k) ∗ (∃ f, held c (tBlk (bk 172 k)) f)) ∗ (flyT c XS (sl 2 k) k -∗ stT c XS (k + 1))) := by
  subst hk
  unfold stT
  rw [if_pos rfl, if_neg (by omega), show sl 2 (0 + 1) = 1 from rfl, show sl 2 (0 + 1 + 1) = 0 from rfl, show sl 2 0 = 0 from rfl, show 0 + 1 - 1 = 0 from rfl]
  iintro ⟨HR, HN, HN'⟩
  ihave HR' := (piece_take (pieceT c XS 0) (pieceT c XS (0 + 1)) (e := bk 172 0)
    fun b hb => pieceT_succ c XS 0 b fun h => hb (Fin.ext h)) $$ HR
  icases HR' with ⟨HB, HR'⟩
  isplitl [HN HB]
  · isplitl [HN]; · iexact HN
    iapply (pieceT_any c XS 0 (bk 172 0)); iexact HB
  iintro HF
  isplitl [HR']; · iexact HR'
  isplitl [HF]; · iexact HF
  iexact HN'

theorem stepT (k : ℕ) (h0 : 0 < k) (hk : k < 172) : stT c XS k ⊢ iprop(inT c XS k ∗ (outT c XS k -∗ stT c XS (k + 1))) := by
  unfold stT
  rw [if_neg (by omega), if_neg (by omega), sl2_add2, show k + 1 - 1 = k from rfl]
  unfold inT outT
  iintro ⟨HR, HF, HN⟩
  ihave HR' := (piece_swap (pieceT c XS k) (pieceT c XS (k + 1)) (bk172_ne' hk h0)
    fun b _ hb => pieceT_succ c XS k b fun h => hb (Fin.ext (h.trans (bk172_val hk).symm))) $$ HR
  icases HR' with ⟨HB, HR'⟩
  isplitl [HF HN HB]
  · isplitl [HF]; · iexact HF
    isplitl [HN]; · iexact HN
    iapply (pieceT_any c XS k (bk 172 k)); iexact HB
  iintro ⟨HF, HN, HB⟩
  isplitl [HR' HB]
  · iapply HR'
    iapply (pieceT_done c XS (k - 1) (by omega) (k + 1)); iexact HB
  isplitl [HF]; · iexact HF
  iexact HN

end Cert.KernelIdeal.Pipe

end
-- ==== Proof.TripMid.lean ====
/-
  A trip at which no column block of weights is fetched or waited for: `k % 4` is 1 or 2.
-/
module

public import proofs.«01_k».proof.Proof.State

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

variable (c : Dev nD) (XA : BufOf F c aM) (XG : BufOf F c gM) (XU : BufOf F c uM) (XS : BufOf F c sM)

set_option maxHeartbeats 4000000 in
/-- The trip, from the take of each array to its give. -/
theorem trip_mid (p1 p2 p3 p4 p5 : BitVec 32) (k : Trip) (hk : k.val < 171) (h0 : k.val % 4 ≠ 0) (h3 : k.val % 4 ≠ 3) :
    iprop(inA c XA k ∗ fullG c XG (k.val / 4) ∗ fullU c XU (k.val / 4) ∗ inS c XS k ∗ inO c XA XG XU k ∗ inT c XS k ∗ waits c)
      ⊢ wp frame (wpE (defs₀ (F := F)) 𝒱₀ (c : Thread nD τ) none) Set.univ (trip p1 p2 p3 p4 p5 k (carry k.val))
        (fun acc => iprop(⌜acc = carry (k.val + 1)⌝ ∗ outA c XA k ∗ fullG c XG (k.val / 4) ∗ fullU c XU (k.val / 4) ∗ outS c XS k ∗ outO c XA XG XU k ∗ outT c XS k ∗ waits c)) := by
  have hp : 0 < k.val := by omega
  have k1 := chk1 k
  have k2 := chk2 k
  have k3 := chk3 k
  have k4 := chk4 k
  have k5 := chk5 k
  have k6 := chk6 k
  have k7 := chk7 k
  have c5 := cond5 k
  have c8 := cond8 k
  have c15 := cond15 k
  have c16 := cond16 k
  have c1 := (cond1 k).2 hk
  have c4 := (cond4 k).2 hk
  have c2 : ¬ k0_cond2 k (wj k) (wi k) = 1#1 := by rw [cond2 k]; omega
  have c3 : ¬ k0_cond3 k (wj k) (wi k) = 1#1 := by rw [cond3 k]; omega
  have c6 : ¬ k0_cond6 k (wj k) (wi k) = 1#1 := by rw [cond6 k]; omega
  have c7 : ¬ k0_cond7 k (wj k) (wi k) = 1#1 := by rw [cond7 k]; omega
  have c21 := (cond21 k).2 hp
  have c22 := (cond22 k).2 hp
  unfold inA outA inS outS inO outO inT outT fullG fullU flyA flyS flyO flyT freeA freeS freeO freeT homeA homeS waits
  iintro ⟨⟨⟨%fa, HA⟩, ⟨⟨%fa', HA'⟩, CA'⟩, BA⟩, ⟨⟨%fg, HG, %eg⟩, CG⟩, ⟨⟨%fu, HU, %eu⟩, CU⟩, ⟨⟨%fs, HS⟩, ⟨⟨%fs', HS'⟩, CS'⟩, BS⟩,
    ⟨⟨%po, %fo, HO, %eo⟩, ⟨⟨%fo', HO'⟩, CO'⟩, ⟨%po', BO⟩⟩, ⟨⟨%pt, %ft, HT, %et⟩, ⟨⟨%ft', HT'⟩, CT'⟩, ⟨%pt', BT⟩⟩, ⟨%W, HW⟩⟩
  dsimp only [trip, carry]
  sl_unfold [k0_t1_body]
  sl_exec
  sl_step
  isplitr
  · ipureintro
    simp only [Prod.mk.injEq]
    clear * - k
    revert k
    decide +kernel
  isplitl [CA' HA_dst HA HA_src]
  · isplitl [CA']; · iexists fa'; iexact CA'
    isplitl [HA_dst HA]
    · isplitl [HA_dst]; · iexists _; iexact HA_dst
      iexact HA
    iexact HA_src
  isplitl [HG CG]
  · isplitl [HG]
    · iexists fg; isplitl [HG]; · iexact HG
      ipureintro; exact eg
    iexact CG
  isplitl [HU CU]
  · isplitl [HU]
    · iexists fu; isplitl [HU]; · iexact HU
      ipureintro; exact eu
    iexact CU
  isplitl [CS' HS_dst HS HS_src]
  · isplitl [CS']; · iexists fs'; iexact CS'
    isplitl [HS_dst HS]
    · isplitl [HS_dst]; · iexists _; iexact HS_dst
      iexact HS
    iexact HS_src
  isplitl [CO' HO_dst HO HO_src]
  · isplitl [CO']
    · iexists po', _; isplitl [CO']; · iexact CO'
      ipureintro
      refine (out_o k _ _ _ _ _ _ _ _).trans ?_
      rw [eg, eu, View.read_writes_whole]
      rfl
    isplitl [HO_src HO]
    · isplitl [HO_src]; · iexists _; iexact HO_src
      iexact HO
    iexists _; isplitl [HO_dst]; · iexact HO_dst
    ipureintro
    exact (View.read_writes_whole _ _ _).trans eo
  isplitl [CT' HT_dst HT HT_src]
  · isplitl [CT']
    · iexists pt', _; isplitl [CT']; · iexact CT'
      ipureintro
      refine (out_t k _ _ _ _).trans ?_
      rw [View.read_writes_whole]
      rfl
    isplitl [HT_src HT]
    · isplitl [HT_src]; · iexists _; iexact HT_src
      iexact HT
    iexists _; isplitl [HT_dst]; · iexact HT_dst
    ipureintro
    exact (View.read_writes_whole _ _ _).trans et
  iexists _; iexact HW

end Cert.KernelIdeal.Pipe

end
-- ==== Proof.TripWeights.lean ====
/-
  The trips at which a column block of each weight matrix is waited for (`k % 4 = 0`) or the next one is fetched (`k % 4 = 3`).
-/
module

public import proofs.«01_k».proof.Proof.State

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

variable (c : Dev nD) (XA : BufOf F c aM) (XG : BufOf F c gM) (XU : BufOf F c uM) (XS : BufOf F c sM)

set_option maxHeartbeats 4000000 in
/-- A trip that waits for its column blocks of weights. -/
theorem trip_wait (p1 p2 p3 p4 p5 : BitVec 32) (k : Trip) (hk : k.val < 171) (h0 : k.val % 4 = 0) (hp : 0 < k.val) :
    iprop(inA c XA k ∗ flyG c XG (k.val / 4) ∗ flyU c XU (k.val / 4) ∗ inS c XS k ∗ inO c XA XG XU k ∗ inT c XS k ∗ waits c)
      ⊢ wp frame (wpE (defs₀ (F := F)) 𝒱₀ (c : Thread nD τ) none) Set.univ (trip p1 p2 p3 p4 p5 k (carry k.val))
        (fun acc => iprop(⌜acc = carry (k.val + 1)⌝ ∗ outA c XA k ∗ (fullG c XG (k.val / 4) ∗ homeG c XG (bk 43 (k.val / 4))) ∗ (fullU c XU (k.val / 4) ∗ homeU c XU (bk 43 (k.val / 4))) ∗ outS c XS k ∗ outO c XA XG XU k ∗ outT c XS k ∗ waits c)) := by
  have k1 := chk1 k
  have k2 := chk2 k
  have k3 := chk3 k
  have k4 := chk4 k
  have k5 := chk5 k
  have k6 := chk6 k
  have k7 := chk7 k
  have c5 := cond5 k
  have c8 := cond8 k
  have c15 := cond15 k
  have c16 := cond16 k
  have c1 := (cond1 k).2 hk
  have c4 := (cond4 k).2 hk
  have c2 : ¬ k0_cond2 k (wj k) (wi k) = 1#1 := by rw [cond2 k]; omega
  have c3 : ¬ k0_cond3 k (wj k) (wi k) = 1#1 := by rw [cond3 k]; omega
  have c6 := (cond6 k).2 h0
  have c7 := (cond7 k).2 h0
  have c21 := (cond21 k).2 hp
  have c22 := (cond22 k).2 hp
  unfold inA outA inS outS inO outO inT outT fullG fullU flyA flyS flyO flyT freeA freeS freeO freeT homeA homeS waits flyG flyU homeG homeU
  iintro ⟨⟨⟨%fa, HA⟩, ⟨⟨%fa', HA'⟩, CA'⟩, BA⟩, ⟨%fg, HG⟩, ⟨%fu, HU⟩, ⟨⟨%fs, HS⟩, ⟨⟨%fs', HS'⟩, CS'⟩, BS⟩, ⟨⟨%po, %fo, HO, %eo⟩, ⟨⟨%fo', HO'⟩, CO'⟩, ⟨%po', BO⟩⟩, ⟨⟨%pt, %ft, HT, %et⟩, ⟨⟨%ft', HT'⟩, CT'⟩, ⟨%pt', BT⟩⟩, ⟨%W, HW⟩⟩
  dsimp only [trip, carry]
  sl_unfold [k0_t1_body]
  sl_exec
  sl_step
  isplitr
  · ipureintro
    simp only [Prod.mk.injEq]
    clear * - k
    revert k
    decide +kernel
  isplitl [CA' HA_dst HA HA_src]
  · isplitl [CA']; · iexists fa'; iexact CA'
    isplitl [HA_dst HA]
    · isplitl [HA_dst]; · iexists _; iexact HA_dst
      iexact HA
    iexact HA_src
  isplitl [HG_dst HG HG_src]
  · isplitl [HG_dst HG]
    · isplitl [HG_dst]
      · iexists _; isplitl [HG_dst]; · iexact HG_dst
        ipureintro; exact View.read_writes_whole _ _ _
      iexact HG
    iexact HG_src
  isplitl [HU_dst HU HU_src]
  · isplitl [HU_dst HU]
    · isplitl [HU_dst]
      · iexists _; isplitl [HU_dst]; · iexact HU_dst
        ipureintro; exact View.read_writes_whole _ _ _
      iexact HU
    iexact HU_src
  isplitl [CS' HS_dst HS HS_src]
  · isplitl [CS']; · iexists fs'; iexact CS'
    isplitl [HS_dst HS]
    · isplitl [HS_dst]; · iexists _; iexact HS_dst
      iexact HS
    iexact HS_src
  isplitl [CO' HO_dst HO HO_src]
  · isplitl [CO']
    · iexists po', _; isplitl [CO']; · iexact CO'
      ipureintro
      refine (out_o k _ _ _ _ _ _ _ _).trans ?_
      rw [View.read_writes_whole, View.read_writes_whole, View.read_writes_whole]
      rfl
    isplitl [HO_src HO]
    · isplitl [HO_src]; · iexists _; iexact HO_src
      iexact HO
    iexists _; isplitl [HO_dst]; · iexact HO_dst
    ipureintro
    exact (View.read_writes_whole _ _ _).trans eo
  isplitl [CT' HT_dst HT HT_src]
  · isplitl [CT']
    · iexists pt', _; isplitl [CT']; · iexact CT'
      ipureintro
      refine (out_t k _ _ _ _).trans ?_
      rw [View.read_writes_whole]
      rfl
    isplitl [HT_src HT]
    · isplitl [HT_src]; · iexists _; iexact HT_src
      iexact HT
    iexists _; isplitl [HT_dst]; · iexact HT_dst
    ipureintro
    exact (View.read_writes_whole _ _ _).trans et
  iexists _; iexact HW

set_option maxHeartbeats 4000000 in
/-- A trip that fetches the next column blocks of weights. -/
theorem trip_fetch (p1 p2 p3 p4 p5 : BitVec 32) (k : Trip) (hk : k.val < 171) (h3 : k.val % 4 = 3) :
    iprop(inA c XA k ∗ (fullG c XG (k.val / 4) ∗ freeG c (sl 2 (k.val / 4 + 1)) ∗ homeG c XG (bk 43 (k.val / 4 + 1))) ∗ (fullU c XU (k.val / 4) ∗ freeU c (sl 2 (k.val / 4 + 1)) ∗ homeU c XU (bk 43 (k.val / 4 + 1))) ∗ inS c XS k ∗ inO c XA XG XU k ∗ inT c XS k ∗ waits c)
      ⊢ wp frame (wpE (defs₀ (F := F)) 𝒱₀ (c : Thread nD τ) none) Set.univ (trip p1 p2 p3 p4 p5 k (carry k.val))
        (fun acc => iprop(⌜acc = carry (k.val + 1)⌝ ∗ outA c XA k ∗ (fullG c XG (k.val / 4) ∗ flyG c XG (k.val / 4 + 1)) ∗ (fullU c XU (k.val / 4) ∗ flyU c XU (k.val / 4 + 1)) ∗ outS c XS k ∗ outO c XA XG XU k ∗ outT c XS k ∗ waits c)) := by
  have hp : 0 < k.val := by omega
  have k1 := chk1 k
  have k2 := chk2 k
  have k3 := chk3 k
  have k4 := chk4 k
  have k5 := chk5 k
  have k6 := chk6 k
  have k7 := chk7 k
  have c5 := cond5 k
  have c8 := cond8 k
  have c15 := cond15 k
  have c16 := cond16 k
  have c1 := (cond1 k).2 hk
  have c4 := (cond4 k).2 hk
  have c2 := (cond2 k).2 ⟨hk, h3⟩
  have c3 := (cond3 k).2 ⟨hk, h3⟩
  have c6 : ¬ k0_cond6 k (wj k) (wi k) = 1#1 := by rw [cond6 k]; omega
  have c7 : ¬ k0_cond7 k (wj k) (wi k) = 1#1 := by rw [cond7 k]; omega
  have c21 := (cond21 k).2 hp
  have c22 := (cond22 k).2 hp
  unfold inA outA inS outS inO outO inT outT fullG fullU flyA flyS flyO flyT freeA freeS freeO freeT homeA homeS waits flyG flyU homeG homeU freeG freeU
  iintro ⟨⟨⟨%fa, HA⟩, ⟨⟨%fa', HA'⟩, CA'⟩, BA⟩, ⟨⟨⟨%fg, HG, %eg⟩, CG⟩, ⟨⟨%fg', HG'⟩, CG'⟩, BG⟩, ⟨⟨⟨%fu, HU, %eu⟩, CU⟩, ⟨⟨%fu', HU'⟩, CU'⟩, BU⟩, ⟨⟨%fs, HS⟩, ⟨⟨%fs', HS'⟩, CS'⟩, BS⟩, ⟨⟨%po, %fo, HO, %eo⟩, ⟨⟨%fo', HO'⟩, CO'⟩, ⟨%po', BO⟩⟩, ⟨⟨%pt, %ft, HT, %et⟩, ⟨⟨%ft', HT'⟩, CT'⟩, ⟨%pt', BT⟩⟩, ⟨%W, HW⟩⟩
  dsimp only [trip, carry]
  sl_unfold [k0_t1_body]
  sl_exec
  sl_step
  isplitr
  · ipureintro
    simp only [Prod.mk.injEq]
    clear * - k
    revert k
    decide +kernel
  isplitl [CA' HA_dst HA HA_src]
  · isplitl [CA']; · iexists fa'; iexact CA'
    isplitl [HA_dst HA]
    · isplitl [HA_dst]; · iexists _; iexact HA_dst
      iexact HA
    iexact HA_src
  isplitl [HG CG CG']
  · isplitl [HG CG]
    · isplitl [HG]
      · iexists fg; isplitl [HG]; · iexact HG
        ipureintro; exact eg
      iexact CG
    iexists fg'; iexact CG'
  isplitl [HU CU CU']
  · isplitl [HU CU]
    · isplitl [HU]
      · iexists fu; isplitl [HU]; · iexact HU
        ipureintro; exact eu
      iexact CU
    iexists fu'; iexact CU'
  isplitl [CS' HS_dst HS HS_src]
  · isplitl [CS']; · iexists fs'; iexact CS'
    isplitl [HS_dst HS]
    · isplitl [HS_dst]; · iexists _; iexact HS_dst
      iexact HS
    iexact HS_src
  isplitl [CO' HO_dst HO HO_src]
  · isplitl [CO']
    · iexists po', _; isplitl [CO']; · iexact CO'
      ipureintro
      refine (out_o k _ _ _ _ _ _ _ _).trans ?_
      rw [eg, eu, View.read_writes_whole]
      rfl
    isplitl [HO_src HO]
    · isplitl [HO_src]; · iexists _; iexact HO_src
      iexact HO
    iexists _; isplitl [HO_dst]; · iexact HO_dst
    ipureintro
    exact (View.read_writes_whole _ _ _).trans eo
  isplitl [CT' HT_dst HT HT_src]
  · isplitl [CT']
    · iexists pt', _; isplitl [CT']; · iexact CT'
      ipureintro
      refine (out_t k _ _ _ _).trans ?_
      rw [View.read_writes_whole]
      rfl
    isplitl [HT_src HT]
    · isplitl [HT_src]; · iexists _; iexact HT_src
      iexact HT
    iexists _; isplitl [HT_dst]; · iexact HT_dst
    ipureintro
    exact (View.read_writes_whole _ _ _).trans et
  iexists _; iexact HW

end Cert.KernelIdeal.Pipe

end
-- ==== Proof.TripEnds.lean ====
/-
  The first trip, which has no earlier store to wait for, and the last, which has nothing left to fetch.
-/
module

public import proofs.«01_k».proof.Proof.State

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

variable (c : Dev nD) (XA : BufOf F c aM) (XG : BufOf F c gM) (XU : BufOf F c uM) (XS : BufOf F c sM)

set_option maxHeartbeats 4000000 in
/-- The first trip. -/
theorem trip_first (p1 p2 p3 p4 p5 : BitVec 32) (k : Trip) (hz : k.val = 0) :
    iprop(inA c XA k ∗ flyG c XG (k.val / 4) ∗ flyU c XU (k.val / 4) ∗ inS c XS k ∗ (freeO c (sl 2 k) ∗ (∃ f, held c (oBlk (bk 172 k)) f)) ∗ (freeT c (sl 2 k) ∗ (∃ f, held c (tBlk (bk 172 k)) f)) ∗ waits c)
      ⊢ wp frame (wpE (defs₀ (F := F)) 𝒱₀ (c : Thread nD τ) none) Set.univ (trip p1 p2 p3 p4 p5 k (carry k.val))
        (fun acc => iprop(⌜acc = carry (k.val + 1)⌝ ∗ outA c XA k ∗ (fullG c XG (k.val / 4) ∗ homeG c XG (bk 43 (k.val / 4))) ∗ (fullU c XU (k.val / 4) ∗ homeU c XU (bk 43 (k.val / 4))) ∗ outS c XS k ∗ flyO c XA XG XU (sl 2 k) k ∗ flyT c XS (sl 2 k) k ∗ waits c)) := by
  have hk : k.val < 171 := by omega
  have h0 : k.val % 4 = 0 := by omega
  have k1 := chk1 k
  have k2 := chk2 k
  have k3 := chk3 k
  have k4 := chk4 k
  have k5 := chk5 k
  have k6 := chk6 k
  have k7 := chk7 k
  have c5 := cond5 k
  have c8 := cond8 k
  have c15 := cond15 k
  have c16 := cond16 k
  have c1 := (cond1 k).2 hk
  have c4 := (cond4 k).2 hk
  have c2 : ¬ k0_cond2 k (wj k) (wi k) = 1#1 := by rw [cond2 k]; omega
  have c3 : ¬ k0_cond3 k (wj k) (wi k) = 1#1 := by rw [cond3 k]; omega
  have c6 := (cond6 k).2 h0
  have c7 := (cond7 k).2 h0
  have c21 : ¬ k0_cond21 k (wj k) (wi k) = 1#1 := by rw [cond21 k]; omega
  have c22 : ¬ k0_cond22 k (wj k) (wi k) = 1#1 := by rw [cond22 k]; omega
  unfold inA outA inS outS fullG fullU flyA flyS flyO flyT freeA freeS freeO freeT homeA homeS waits flyG flyU homeG homeU
  iintro ⟨⟨⟨%fa, HA⟩, ⟨⟨%fa', HA'⟩, CA'⟩, BA⟩, ⟨%fg, HG⟩, ⟨%fu, HU⟩, ⟨⟨%fs, HS⟩, ⟨⟨%fs', HS'⟩, CS'⟩, BS⟩, ⟨⟨⟨%fo', HO'⟩, CO'⟩, ⟨%po', BO⟩⟩, ⟨⟨⟨%ft', HT'⟩, CT'⟩, ⟨%pt', BT⟩⟩, ⟨%W, HW⟩⟩
  dsimp only [trip, carry]
  sl_unfold [k0_t1_body]
  sl_exec
  sl_step
  isplitr
  · ipureintro
    simp only [Prod.mk.injEq]
    clear * - k
    revert k
    decide +kernel
  isplitl [CA' HA_dst HA HA_src]
  · isplitl [CA']; · iexists fa'; iexact CA'
    isplitl [HA_dst HA]
    · isplitl [HA_dst]; · iexists _; iexact HA_dst
      iexact HA
    iexact HA_src
  isplitl [HG_dst HG HG_src]
  · isplitl [HG_dst HG]
    · isplitl [HG_dst]
      · iexists _; isplitl [HG_dst]; · iexact HG_dst
        ipureintro; exact View.read_writes_whole _ _ _
      iexact HG
    iexact HG_src
  isplitl [HU_dst HU HU_src]
  · isplitl [HU_dst HU]
    · isplitl [HU_dst]
      · iexists _; isplitl [HU_dst]; · iexact HU_dst
        ipureintro; exact View.read_writes_whole _ _ _
      iexact HU
    iexact HU_src
  isplitl [CS' HS_dst HS HS_src]
  · isplitl [CS']; · iexists fs'; iexact CS'
    isplitl [HS_dst HS]
    · isplitl [HS_dst]; · iexists _; iexact HS_dst
      iexact HS
    iexact HS_src
  isplitl [CO']
  · iexists po', _; isplitl [CO']; · iexact CO'
    ipureintro
    refine (out_o k _ _ _ _ _ _ _ _).trans ?_
    rw [View.read_writes_whole, View.read_writes_whole, View.read_writes_whole]
    rfl
  isplitl [CT']
  · iexists pt', _; isplitl [CT']; · iexact CT'
    ipureintro
    refine (out_t k _ _ _ _).trans ?_
    rw [View.read_writes_whole]
    rfl
  iexists _; iexact HW

set_option maxHeartbeats 4000000 in
/-- The last trip. -/
theorem trip_last (p1 p2 p3 p4 p5 : BitVec 32) (k : Trip) (hl : k.val = 171) :
    iprop(flyA c XA k ∗ fullG c XG (k.val / 4) ∗ fullU c XU (k.val / 4) ∗ flyS c XS k ∗ inO c XA XG XU k ∗ inT c XS k ∗ waits c)
      ⊢ wp frame (wpE (defs₀ (F := F)) 𝒱₀ (c : Thread nD τ) none) Set.univ (trip p1 p2 p3 p4 p5 k (carry k.val))
        (fun acc => iprop(⌜acc = carry (k.val + 1)⌝ ∗ (freeA c (sl 2 k) ∗ homeA c XA (sl 4 k)) ∗ fullG c XG (k.val / 4) ∗ fullU c XU (k.val / 4) ∗ (freeS c (sl 2 k) ∗ homeS c XS (bk 172 k)) ∗ outO c XA XG XU k ∗ outT c XS k ∗ waits c)) := by
  have hp : 0 < k.val := by omega
  have k1 := chk1 k
  have k2 := chk2 k
  have k3 := chk3 k
  have k4 := chk4 k
  have k5 := chk5 k
  have k6 := chk6 k
  have k7 := chk7 k
  have c5 := cond5 k
  have c8 := cond8 k
  have c15 := cond15 k
  have c16 := cond16 k
  have c1 : ¬ k0_cond1 k (wi k) = 1#1 := by rw [cond1 k]; omega
  have c4 : ¬ k0_cond4 k (wj k) (wi k) = 1#1 := by rw [cond4 k]; omega
  have c2 : ¬ k0_cond2 k (wj k) (wi k) = 1#1 := by rw [cond2 k]; omega
  have c3 : ¬ k0_cond3 k (wj k) (wi k) = 1#1 := by rw [cond3 k]; omega
  have c6 : ¬ k0_cond6 k (wj k) (wi k) = 1#1 := by rw [cond6 k]; omega
  have c7 : ¬ k0_cond7 k (wj k) (wi k) = 1#1 := by rw [cond7 k]; omega
  have c21 := (cond21 k).2 hp
  have c22 := (cond22 k).2 hp
  unfold inO outO inT outT fullG fullU flyA flyS flyO flyT freeA freeS freeO freeT homeA homeS waits
  iintro ⟨⟨%fa, HA⟩, ⟨⟨%fg, HG, %eg⟩, CG⟩, ⟨⟨%fu, HU, %eu⟩, CU⟩, ⟨%fs, HS⟩, ⟨⟨%po, %fo, HO, %eo⟩, ⟨⟨%fo', HO'⟩, CO'⟩, ⟨%po', BO⟩⟩, ⟨⟨%pt, %ft, HT, %et⟩, ⟨⟨%ft', HT'⟩, CT'⟩, ⟨%pt', BT⟩⟩, ⟨%W, HW⟩⟩
  dsimp only [trip, carry]
  sl_unfold [k0_t1_body]
  sl_exec
  sl_step
  isplitr
  · ipureintro
    simp only [Prod.mk.injEq]
    clear * - k
    revert k
    decide +kernel
  isplitl [HA_dst HA HA_src]
  · isplitl [HA_dst HA]
    · isplitl [HA_dst]; · iexists _; iexact HA_dst
      iexact HA
    iexact HA_src
  isplitl [HG CG]
  · isplitl [HG]
    · iexists fg; isplitl [HG]; · iexact HG
      ipureintro; exact eg
    iexact CG
  isplitl [HU CU]
  · isplitl [HU]
    · iexists fu; isplitl [HU]; · iexact HU
      ipureintro; exact eu
    iexact CU
  isplitl [HS_dst HS HS_src]
  · isplitl [HS_dst HS]
    · isplitl [HS_dst]; · iexists _; iexact HS_dst
      iexact HS
    iexact HS_src
  isplitl [CO' HO_dst HO HO_src]
  · isplitl [CO']
    · iexists po', _; isplitl [CO']; · iexact CO'
      ipureintro
      refine (out_o k _ _ _ _ _ _ _ _).trans ?_
      rw [eg, eu, View.read_writes_whole]
      rfl
    isplitl [HO_src HO]
    · isplitl [HO_src]; · iexists _; iexact HO_src
      iexact HO
    iexists _; isplitl [HO_dst]; · iexact HO_dst
    ipureintro
    exact (View.read_writes_whole _ _ _).trans eo
  isplitl [CT' HT_dst HT HT_src]
  · isplitl [CT']
    · iexists pt', _; isplitl [CT']; · iexact CT'
      ipureintro
      refine (out_t k _ _ _ _).trans ?_
      rw [View.read_writes_whole]
      rfl
    isplitl [HT_src HT]
    · isplitl [HT_src]; · iexists _; iexact HT_src
      iexact HT
    iexists _; isplitl [HT_dst]; · iexact HT_dst
    ipureintro
    exact (View.read_writes_whole _ _ _).trans et
  iexists _; iexact HW

end Cert.KernelIdeal.Pipe

end
-- ==== Proof.Loop.lean ====
/-
  The loop's invariant: before trip `k` the carried words are those of `k`, and each array is in its state before trip `k`.
-/
module

public import proofs.«01_k».proof.Proof.Steps
public import proofs.«01_k».proof.Proof.TripMid
public import proofs.«01_k».proof.Proof.TripWeights
public import proofs.«01_k».proof.Proof.TripEnds

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

variable (c : Dev nD) (XA : BufOf F c aM) (XG : BufOf F c gM) (XU : BufOf F c uM) (XS : BufOf F c sM)

/-- All six arrays before trip `k`. -/
def state (k : ℕ) : sProp 𝕄 :=
  iprop(stA c XA k ∗ stG c XG k ∗ stU c XU k ∗ stS c XS k ∗ stO c XA XG XU k ∗ stT c XS k ∗ waits c)
def inv (k : ℕ) (acc : BitVec 32 × BitVec 32 × BitVec 32 × BitVec 32 × BitVec 32 × BitVec 32 × BitVec 32 × BitVec 32 × BitVec 32 × BitVec 32 × BitVec 32 × BitVec 32 × BitVec 32 × BitVec 32) : sProp 𝕄 :=
  iprop(⌜acc = carry k⌝ ∗ state c XA XG XU XS k)

/-- One trip from the invariant to the invariant. -/
theorem inv_step (p1 p2 p3 p4 p5 : BitVec 32) (k : Trip) (acc) :
    inv c XA XG XU XS k.val acc ⊢ wp frame (wpE (defs₀ (F := F)) 𝒱₀ (c : Thread nD τ) none) Set.univ (trip p1 p2 p3 p4 p5 k acc)
      (fun acc' => inv c XA XG XU XS (k.val + 1) acc') := by
  have hlt := trip_lt k
  by_cases hk : k.val < 171
  · by_cases h0 : k.val % 4 = 0
    · rcases Nat.eq_zero_or_pos k.val with hz | hp
      · have h := trip_first c XA XG XU XS p1 p2 p3 p4 p5 k hz
        unfold inv state
        iintro ⟨%e, HA, HG, HU, HS, HO, HT, HW⟩
        subst e
        ihave HA' := (stepA c XA k.val hk) $$ HA
        icases HA' with ⟨HA, KA⟩
        ihave HG' := (waitG c XG k.val hk h0) $$ HG
        icases HG' with ⟨HG, KG⟩
        ihave HU' := (waitU c XU k.val hk h0) $$ HU
        icases HU' with ⟨HU, KU⟩
        ihave HS' := (stepS c XS k.val hk) $$ HS
        icases HS' with ⟨HS, KS⟩
        ihave HO' := (firstO c XA XG XU k.val hz) $$ HO
        icases HO' with ⟨HO, KO⟩
        ihave HT' := (firstT c XS k.val hz) $$ HT
        icases HT' with ⟨HT, KT⟩
        iapply (wp_wand_r Idealize.ShloMosaic.frame (wpE (defs₀ (F := F)) 𝒱₀ (c : Thread nD τ) none) Set.univ)
        isplitl [HA HG HU HS HO HT HW]
        · iapply h
          isplitl [HA]; · iexact HA
          isplitl [HG]; · iexact HG
          isplitl [HU]; · iexact HU
          isplitl [HS]; · iexact HS
          isplitl [HO]; · iexact HO
          isplitl [HT]; · iexact HT
          iexact HW
        · iintro %acc' ⟨%e, HA, HG, HU, HS, HO, HT, HW⟩
          isplitr; · ipureintro; exact e
          isplitl [HA KA]; · iapply KA; iexact HA
          isplitl [HG KG]; · iapply KG; iexact HG
          isplitl [HU KU]; · iapply KU; iexact HU
          isplitl [HS KS]; · iapply KS; iexact HS
          isplitl [HO KO]; · iapply KO; iexact HO
          isplitl [HT KT]; · iapply KT; iexact HT
          iexact HW
      · have h := trip_wait c XA XG XU XS p1 p2 p3 p4 p5 k hk h0 hp
        unfold inv state
        iintro ⟨%e, HA, HG, HU, HS, HO, HT, HW⟩
        subst e
        ihave HA' := (stepA c XA k.val hk) $$ HA
        icases HA' with ⟨HA, KA⟩
        ihave HG' := (waitG c XG k.val hk h0) $$ HG
        icases HG' with ⟨HG, KG⟩
        ihave HU' := (waitU c XU k.val hk h0) $$ HU
        icases HU' with ⟨HU, KU⟩
        ihave HS' := (stepS c XS k.val hk) $$ HS
        icases HS' with ⟨HS, KS⟩
        ihave HO' := (stepO c XA XG XU k.val hp hlt) $$ HO
        icases HO' with ⟨HO, KO⟩
        ihave HT' := (stepT c XS k.val hp hlt) $$ HT
        icases HT' with ⟨HT, KT⟩
        iapply (wp_wand_r Idealize.ShloMosaic.frame (wpE (defs₀ (F := F)) 𝒱₀ (c : Thread nD τ) none) Set.univ)
        isplitl [HA HG HU HS HO HT HW]
        · iapply h
          isplitl [HA]; · iexact HA
          isplitl [HG]; · iexact HG
          isplitl [HU]; · iexact HU
          isplitl [HS]; · iexact HS
          isplitl [HO]; · iexact HO
          isplitl [HT]; · iexact HT
          iexact HW
        · iintro %acc' ⟨%e, HA, HG, HU, HS, HO, HT, HW⟩
          isplitr; · ipureintro; exact e
          isplitl [HA KA]; · iapply KA; iexact HA
          isplitl [HG KG]; · iapply KG; iexact HG
          isplitl [HU KU]; · iapply KU; iexact HU
          isplitl [HS KS]; · iapply KS; iexact HS
          isplitl [HO KO]; · iapply KO; iexact HO
          isplitl [HT KT]; · iapply KT; iexact HT
          iexact HW
    by_cases h3 : k.val % 4 = 3
    · have h := trip_fetch c XA XG XU XS p1 p2 p3 p4 p5 k hk h3
      unfold inv state
      iintro ⟨%e, HA, HG, HU, HS, HO, HT, HW⟩
      subst e
      ihave HA' := (stepA c XA k.val hk) $$ HA
      icases HA' with ⟨HA, KA⟩
      ihave HG' := (fetchG c XG k.val hk h3) $$ HG
      icases HG' with ⟨HG, KG⟩
      ihave HU' := (fetchU c XU k.val hk h3) $$ HU
      icases HU' with ⟨HU, KU⟩
      ihave HS' := (stepS c XS k.val hk) $$ HS
      icases HS' with ⟨HS, KS⟩
      ihave HO' := (stepO c XA XG XU k.val (by omega) hlt) $$ HO
      icases HO' with ⟨HO, KO⟩
      ihave HT' := (stepT c XS k.val (by omega) hlt) $$ HT
      icases HT' with ⟨HT, KT⟩
      iapply (wp_wand_r Idealize.ShloMosaic.frame (wpE (defs₀ (F := F)) 𝒱₀ (c : Thread nD τ) none) Set.univ)
      isplitl [HA HG HU HS HO HT HW]
      · iapply h
        isplitl [HA]; · iexact HA
        isplitl [HG]; · iexact HG
        isplitl [HU]; · iexact HU
        isplitl [HS]; · iexact HS
        isplitl [HO]; · iexact HO
        isplitl [HT]; · iexact HT
        iexact HW
      · iintro %acc' ⟨%e, HA, HG, HU, HS, HO, HT, HW⟩
        isplitr; · ipureintro; exact e
        isplitl [HA KA]; · iapply KA; iexact HA
        isplitl [HG KG]; · iapply KG; iexact HG
        isplitl [HU KU]; · iapply KU; iexact HU
        isplitl [HS KS]; · iapply KS; iexact HS
        isplitl [HO KO]; · iapply KO; iexact HO
        isplitl [HT KT]; · iapply KT; iexact HT
        iexact HW
    · have h := trip_mid c XA XG XU XS p1 p2 p3 p4 p5 k hk h0 h3
      unfold inv state
      iintro ⟨%e, HA, HG, HU, HS, HO, HT, HW⟩
      subst e
      ihave HA' := (stepA c XA k.val hk) $$ HA
      icases HA' with ⟨HA, KA⟩
      ihave HG' := (midG c XG k.val hk h0 h3) $$ HG
      icases HG' with ⟨HG, KG⟩
      ihave HU' := (midU c XU k.val hk h0 h3) $$ HU
      icases HU' with ⟨HU, KU⟩
      ihave HS' := (stepS c XS k.val hk) $$ HS
      icases HS' with ⟨HS, KS⟩
      ihave HO' := (stepO c XA XG XU k.val (by omega) hlt) $$ HO
      icases HO' with ⟨HO, KO⟩
      ihave HT' := (stepT c XS k.val (by omega) hlt) $$ HT
      icases HT' with ⟨HT, KT⟩
      iapply (wp_wand_r Idealize.ShloMosaic.frame (wpE (defs₀ (F := F)) 𝒱₀ (c : Thread nD τ) none) Set.univ)
      isplitl [HA HG HU HS HO HT HW]
      · iapply h
        isplitl [HA]; · iexact HA
        isplitl [HG]; · iexact HG
        isplitl [HU]; · iexact HU
        isplitl [HS]; · iexact HS
        isplitl [HO]; · iexact HO
        isplitl [HT]; · iexact HT
        iexact HW
      · iintro %acc' ⟨%e, HA, HG, HU, HS, HO, HT, HW⟩
        isplitr; · ipureintro; exact e
        isplitl [HA KA]; · iapply KA; iexact HA
        isplitl [HG KG]; · iapply KG; iexact HG
        isplitl [HU KU]; · iapply KU; iexact HU
        isplitl [HS KS]; · iapply KS; iexact HS
        isplitl [HO KO]; · iapply KO; iexact HO
        isplitl [HT KT]; · iapply KT; iexact HT
        iexact HW
  · have hl : k.val = 171 := by omega
    have h := trip_last c XA XG XU XS p1 p2 p3 p4 p5 k hl
    unfold inv state
    iintro ⟨%e, HA, HG, HU, HS, HO, HT, HW⟩
    subst e
    ihave HA' := (lastA c XA k.val hl) $$ HA
    icases HA' with ⟨HA, KA⟩
    ihave HG' := (lastG c XG k.val hl) $$ HG
    icases HG' with ⟨HG, KG⟩
    ihave HU' := (lastU c XU k.val hl) $$ HU
    icases HU' with ⟨HU, KU⟩
    ihave HS' := (lastS c XS k.val hl) $$ HS
    icases HS' with ⟨HS, KS⟩
    ihave HO' := (stepO c XA XG XU k.val (by omega) hlt) $$ HO
    icases HO' with ⟨HO, KO⟩
    ihave HT' := (stepT c XS k.val (by omega) hlt) $$ HT
    icases HT' with ⟨HT, KT⟩
    iapply (wp_wand_r Idealize.ShloMosaic.frame (wpE (defs₀ (F := F)) 𝒱₀ (c : Thread nD τ) none) Set.univ)
    isplitl [HA HG HU HS HO HT HW]
    · iapply h
      isplitl [HA]; · iexact HA
      isplitl [HG]; · iexact HG
      isplitl [HU]; · iexact HU
      isplitl [HS]; · iexact HS
      isplitl [HO]; · iexact HO
      isplitl [HT]; · iexact HT
      iexact HW
    · iintro %acc' ⟨%e, HA, HG, HU, HS, HO, HT, HW⟩
      isplitr; · ipureintro; exact e
      isplitl [HA KA]; · iapply KA; iexact HA
      isplitl [HG KG]; · iapply KG; iexact HG
      isplitl [HU KU]; · iapply KU; iexact HU
      isplitl [HS KS]; · iapply KS; iexact HS
      isplitl [HO KO]; · iapply KO; iexact HO
      isplitl [HT KT]; · iapply KT; iexact HT
      iexact HW

set_option warn.classDefReducibility false in
/-- The invariant as the run through the loop takes it. -/
@[reducible] def loopInv (p1 p2 p3 p4 p5 : BitVec 32) (init) :
    LoopInvTy_k0_t1 (F := F) Unit ℕ (UU nD τ) ℕ 𝒱₀ c none Set.univ aM (Memref.isWhole_whole _) gM (Memref.isWhole_whole _) uM (Memref.isWhole_whole _) sM (Memref.isWhole_whole _)
      oM (Memref.isWhole_whole _) tM (Memref.isWhole_whole _) aB (Memref.isWhole_whole _) cc0_scoped1 gB (Memref.isWhole_whole _) cc0_scoped3
      uB (Memref.isWhole_whole _) cc0_scoped5 sB (Memref.isWhole_whole _) cc0_scoped7 oB (Memref.isWhole_whole _) cc0_scoped9 tB (Memref.isWhole_whole _) cc0_scoped11
      p1 p2 p3 p4 p5 init where
  inv k acc := inv c XA XG XU XS k acc
  step k acc := inv_step c XA XG XU XS p1 p2 p3 p4 p5 k acc

end Cert.KernelIdeal.Pipe

end
-- ==== Proof.Body.lean ====
/-
  The whole kernel body: the first fetches, the loop by its invariant, the last stores waited for.
-/
module

public import proofs.«01_k».proof.Proof.Loop

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

variable (c : Dev nD) (XA : BufOf F c aM) (XG : BufOf F c gM) (XU : BufOf F c uM) (XS : BufOf F c sM)

/-- The kernel on its arrays and scratch. -/
abbrev body : Prog (TpuEff nD τ sig (Elt F) Λ₀ .tc) PUnit :=
  cc0_ffn_in aM (Memref.isWhole_whole _) gM (Memref.isWhole_whole _) uM (Memref.isWhole_whole _) sM (Memref.isWhole_whole _)
    oM (Memref.isWhole_whole _) tM (Memref.isWhole_whole _) aB (Memref.isWhole_whole _) cc0_scoped1 gB (Memref.isWhole_whole _) cc0_scoped3
    uB (Memref.isWhole_whole _) cc0_scoped5 sB (Memref.isWhole_whole _) cc0_scoped7 oB (Memref.isWhole_whole _) cc0_scoped9 tB (Memref.isWhole_whole _) cc0_scoped11

/-- Everything at rest, the results' blocks before `n` stored. -/
def atRest (n : ℕ) : sProp 𝕄 :=
  iprop((bigSep Finset.univ (homeA c XA) ∗ freeA c 0 ∗ freeA c 1) ∗ (bigSep Finset.univ (homeG c XG) ∗ freeG c 0 ∗ freeG c 1)
    ∗ (bigSep Finset.univ (homeU c XU) ∗ freeU c 0 ∗ freeU c 1) ∗ (bigSep Finset.univ (homeS c XS) ∗ freeS c 0 ∗ freeS c 1)
    ∗ (bigSep Finset.univ (pieceO c XA XG XU n) ∗ freeO c 0 ∗ freeO c 1) ∗ (bigSep Finset.univ (pieceT c XS n) ∗ freeT c 0 ∗ freeT c 1) ∗ waits c)

theorem enterA : iprop(bigSep Finset.univ (homeA c XA) ∗ freeA c 0 ∗ freeA c 1)
    ⊢ iprop((freeA c 0 ∗ homeA c XA 0) ∗ (flyA c XA 0 -∗ stA c XA 0)) := by
  unfold stA
  rw [if_pos (by omega), show sl 4 0 = 0 from rfl, show sl 2 (0 + 1) = 1 from rfl]
  iintro ⟨HR, HN, HN'⟩
  ihave HR' := (piece_take (homeA c XA) (homeA c XA) (e := 0) fun _ _ => .rfl) $$ HR
  icases HR' with ⟨HB, HR'⟩
  isplitl [HN HB]
  · isplitl [HN]; · iexact HN
    iexact HB
  iintro HF
  isplitl [HR']; · iexact HR'
  isplitl [HF]; · iexact HF
  iexact HN'
theorem leaveA : stA c XA 172 ⊢ iprop(bigSep Finset.univ (homeA c XA) ∗ freeA c 0 ∗ freeA c 1) := by
  unfold stA
  rw [if_neg (by omega)]

theorem enterG : iprop(bigSep Finset.univ (homeG c XG) ∗ freeG c 0 ∗ freeG c 1)
    ⊢ iprop((freeG c 0 ∗ homeG c XG 0) ∗ (flyG c XG 0 -∗ stG c XG 0)) := by
  unfold stG
  rw [if_pos (by omega), if_pos (by omega), show 0 / 4 = 0 from rfl, show bk 43 0 = 0 from rfl, show sl 2 (0 + 1) = 1 from rfl]
  iintro ⟨HR, HN, HN'⟩
  ihave HR' := (piece_take (homeG c XG) (homeG c XG) (e := 0) fun _ _ => .rfl) $$ HR
  icases HR' with ⟨HB, HR'⟩
  isplitl [HN HB]
  · isplitl [HN]; · iexact HN
    iexact HB
  iintro HF
  isplitl [HR']; · iexact HR'
  isplitl [HF]; · iexact HF
  iexact HN'
theorem leaveG : stG c XG 172 ⊢ iprop(bigSep Finset.univ (homeG c XG) ∗ freeG c 0 ∗ freeG c 1) := by
  unfold stG
  rw [if_neg (by omega)]

theorem enterU : iprop(bigSep Finset.univ (homeU c XU) ∗ freeU c 0 ∗ freeU c 1)
    ⊢ iprop((freeU c 0 ∗ homeU c XU 0) ∗ (flyU c XU 0 -∗ stU c XU 0)) := by
  unfold stU
  rw [if_pos (by omega), if_pos (by omega), show 0 / 4 = 0 from rfl, show bk 43 0 = 0 from rfl, show sl 2 (0 + 1) = 1 from rfl]
  iintro ⟨HR, HN, HN'⟩
  ihave HR' := (piece_take (homeU c XU) (homeU c XU) (e := 0) fun _ _ => .rfl) $$ HR
  icases HR' with ⟨HB, HR'⟩
  isplitl [HN HB]
  · isplitl [HN]; · iexact HN
    iexact HB
  iintro HF
  isplitl [HR']; · iexact HR'
  isplitl [HF]; · iexact HF
  iexact HN'
theorem leaveU : stU c XU 172 ⊢ iprop(bigSep Finset.univ (homeU c XU) ∗ freeU c 0 ∗ freeU c 1) := by
  unfold stU
  rw [if_neg (by omega)]

theorem enterS : iprop(bigSep Finset.univ (homeS c XS) ∗ freeS c 0 ∗ freeS c 1)
    ⊢ iprop((freeS c 0 ∗ homeS c XS 0) ∗ (flyS c XS 0 -∗ stS c XS 0)) := by
  unfold stS
  rw [if_pos (by omega), show bk 172 0 = 0 from rfl, show sl 2 (0 + 1) = 1 from rfl]
  iintro ⟨HR, HN, HN'⟩
  ihave HR' := (piece_take (homeS c XS) (homeS c XS) (e := 0) fun _ _ => .rfl) $$ HR
  icases HR' with ⟨HB, HR'⟩
  isplitl [HN HB]
  · isplitl [HN]; · iexact HN
    iexact HB
  iintro HF
  isplitl [HR']; · iexact HR'
  isplitl [HF]; · iexact HF
  iexact HN'
theorem leaveS : stS c XS 172 ⊢ iprop(bigSep Finset.univ (homeS c XS) ∗ freeS c 0 ∗ freeS c 1) := by
  unfold stS
  rw [if_neg (by omega)]

theorem enterO : iprop(bigSep Finset.univ (pieceO c XA XG XU 0) ∗ freeO c 0 ∗ freeO c 1) ⊢ stO c XA XG XU 0 := by
  unfold stO
  rw [if_pos rfl]
theorem leaveO : stO c XA XG XU 172 ⊢ iprop(flyO c XA XG XU 1 171
    ∗ ((freeO c 1 ∗ (∃ f, held c (oBlk 171) f ∗ ⌜(oBlk 171).view.read (Elt F) f = oVal c XA XG XU 171⌝))
      -∗ (bigSep Finset.univ (pieceO c XA XG XU 172) ∗ freeO c 0 ∗ freeO c 1))) := by
  unfold stO
  rw [if_neg (by omega), show sl 2 (172 + 1) = 1 from rfl, show sl 2 172 = 0 from rfl, show 172 - 1 = 171 from rfl]
  iintro ⟨HR, HF, HN⟩
  isplitl [HF]; · iexact HF
  iintro ⟨HN', HB⟩
  isplitl [HR HB]
  · iapply (piece_put (pieceO c XA XG XU 172) (bk 172 171))
    isplitl [HB]
    · iapply (pieceO_done c XA XG XU 171 (by omega) 172); iexact HB
    iexact HR
  isplitl [HN]; · iexact HN
  iexact HN'

theorem enterT : iprop(bigSep Finset.univ (pieceT c XS 0) ∗ freeT c 0 ∗ freeT c 1) ⊢ stT c XS 0 := by
  unfold stT
  rw [if_pos rfl]
theorem leaveT : stT c XS 172 ⊢ iprop(flyT c XS 1 171
    ∗ ((freeT c 1 ∗ (∃ f, held c (tBlk 171) f ∗ ⌜(tBlk 171).view.read (Elt F) f = tVal c XS 171⌝))
      -∗ (bigSep Finset.univ (pieceT c XS 172) ∗ freeT c 0 ∗ freeT c 1))) := by
  unfold stT
  rw [if_neg (by omega), show sl 2 (172 + 1) = 1 from rfl, show sl 2 172 = 0 from rfl, show 172 - 1 = 171 from rfl]
  iintro ⟨HR, HF, HN⟩
  isplitl [HF]; · iexact HF
  iintro ⟨HN', HB⟩
  isplitl [HR HB]
  · iapply (piece_put (pieceT c XS 172) (bk 172 171))
    isplitl [HB]
    · iapply (pieceT_done c XS 171 (by omega) 172); iexact HB
    iexact HR
  isplitl [HN]; · iexact HN
  iexact HN'

set_option maxHeartbeats 4000000 in
/-- The body from everything at rest to everything at rest with both results stored. -/
theorem body_run (Q : PUnit → sProp 𝕄) :
    iprop(atRest c XA XG XU XS 0 ∗ (atRest c XA XG XU XS 172 -∗ Q ⟨⟩))
      ⊢ wp frame (wpE (defs₀ (F := F)) 𝒱₀ (c : Thread nD τ) none) Set.univ body Q := by
  have k8 := chk8
  have k9 := chk9
  have k10 := chk10
  unfold atRest
  iintro ⟨⟨HA, HG, HU, HS, HO, HT, HW⟩, HK⟩
  ihave HA' := (enterA c XA) $$ HA
  icases HA' with ⟨HA, KA⟩
  ihave HG' := (enterG c XG) $$ HG
  icases HG' with ⟨HG, KG⟩
  ihave HU' := (enterU c XU) $$ HU
  icases HU' with ⟨HU, KU⟩
  ihave HS' := (enterS c XS) $$ HS
  icases HS' with ⟨HS, KS⟩
  ihave HO' := (enterO c XA XG XU) $$ HO
  ihave HT' := (enterT c XS) $$ HT
  unfold freeA freeG freeU freeS homeA homeG homeU homeS
  icases HA with ⟨⟨⟨%fa, HA⟩, CA⟩, BA⟩
  icases HG with ⟨⟨⟨%fg, HG⟩, CG⟩, BG⟩
  icases HU with ⟨⟨⟨%fu, HU⟩, CU⟩, BU⟩
  icases HS with ⟨⟨⟨%fs, HS⟩, CS⟩, BS⟩
  unfold waits
  icases HW with ⟨%W, HW⟩
  dsimp only [body]
  sl_exec
  ihave HI : inv c XA XG XU XS 0 (carry 0) $$ [CA CG CU CS KA KG KU KS HO' HT' HW]
  · unfold inv state
    isplitr; · ipureintro; rfl
    isplitl [KA CA]
    · iapply KA; unfold flyA; iexists fa; iexact CA
    isplitl [KG CG]
    · iapply KG; unfold flyG; iexists fg; iexact CG
    isplitl [KU CU]
    · iapply KU; unfold flyU; iexists fu; iexact CU
    isplitl [KS CS]
    · iapply KS; unfold flyS; iexists fs; iexact CS
    isplitl [HO']; · iexact HO'
    isplitl [HT']; · iexact HT'
    unfold waits; iexists W; iexact HW
  iapply (exec_loop _ _ _ _ _ _ _ _ _ (loopInv c XA XG XU XS _ _ _ _ _ _)) $$ HI
  iintro %acc HI
  ihave HJ : inv c XA XG XU XS 172 acc $$ [HI]
  · rw [show 172 = k0_t1_loop.trips from trips_eq.symm]; iexact HI
  unfold inv state
  icases HJ with ⟨%hacc, HA, HG, HU, HS, HO, HT, HW⟩
  subst hacc
  ihave HA := (leaveA c XA) $$ HA
  ihave HG := (leaveG c XG) $$ HG
  ihave HU := (leaveU c XU) $$ HU
  ihave HS := (leaveS c XS) $$ HS
  ihave HO' := (leaveO c XA XG XU) $$ HO
  icases HO' with ⟨HO, KO⟩
  ihave HT' := (leaveT c XS) $$ HT
  icases HT' with ⟨HT, KT⟩
  unfold flyO flyT flight landed
  icases HO with ⟨%po, %fo, CO, %eo⟩
  icases HT with ⟨%pt, %ft, CT, %et⟩
  unfold waits
  icases HW with ⟨%W', HW⟩
  dsimp only [carry]
  sl_exec
  sl_step
  iapply HK
  isplitl [HA]; · iexact HA
  isplitl [HG]; · iexact HG
  isplitl [HU]; · iexact HU
  isplitl [HS]; · iexact HS
  isplitl [KO CO CO_src CO_dst]
  · iapply KO
    isplitl [CO CO_src]
    · unfold freeO
      isplitl [CO_src]; · iexists _; iexact CO_src
      iexact CO
    iexists _; isplitl [CO_dst]; · iexact CO_dst
    ipureintro
    exact (View.read_writes_whole _ _ _).trans eo
  isplitl [KT CT CT_src CT_dst]
  · iapply KT
    isplitl [CT CT_src]
    · unfold freeT
      isplitl [CT_src]; · iexists _; iexact CT_src
      iexact CT
    iexists _; isplitl [CT_dst]; · iexact CT_dst
    ipureintro
    exact (View.read_writes_whole _ _ _).trans et
  iexists _; iexact HW

end Cert.KernelIdeal.Pipe

end
-- ==== Proof.Split.lean ====
/-
  Whole arrays as their blocks, whole buffers as their slots, and the stored blocks of a result as one array.
-/
module

public import proofs.«01_k».proof.Proof.Body

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

/-! ## Families of element sets told apart by a key -/

/-- Sets told apart by a key are disjoint; -/
theorem disjoint_of_key {ι α : Type} [DecidableEq α] {J : ι → Finset α} {key : α → ι} (h : ∀ b y, y ∈ J b ↔ key y = b) :
    ∀ b b', b ≠ b' → Disjoint (J b) (J b') := by
  intro b b' hne
  rw [Finset.disjoint_left]
  intro y hy hy'
  rw [h] at hy hy'
  exact hne (hy.symm.trans hy')
/-- and together they are everything. -/
theorem cover_of_key {ι α : Type} [Fintype ι] [Fintype α] [DecidableEq α] {J : ι → Finset α} {key : α → ι} (h : ∀ b y, y ∈ J b ↔ key y = b) :
    Finset.univ.biUnion J = Finset.univ := by
  ext y
  simp only [Finset.mem_biUnion, Finset.mem_univ, true_and, iff_true]
  exact ⟨key y, (h _ y).mpr rfl⟩

/-- Blocks that tile a buffer, each held at contents with a property of its own elements, are the buffer held at contents
    with all the properties. -/
theorem blocks_gather {ℓ : Loc nD τ sig} {B : Type} [Fintype B] [DecidableEq B] {J : B → Finset (Idx ℓ)}
    (hd : ∀ b b', b ≠ b' → Disjoint (J b) (J b')) (hc : Finset.univ.biUnion J = Finset.univ) (P : B → Buf (Elt F) ℓ → sProp 𝕄)
    (e : ∀ b f, P b f = (ℓ ↦[J b]{fullShare} f : sProp 𝕄)) (φ : B → Buf (Elt F) ℓ → Prop)
    (hφ : ∀ b f g, (∀ i ∈ J b, g i = f i) → φ b f → φ b g) (f₀ : Buf (Elt F) ℓ) :
    bigSep Finset.univ (fun b => iprop(∃ f, P b f ∗ ⌜φ b f⌝)) ⊢ (iprop(∃ g, (ℓ ↦{fullShare} g) ∗ ⌜∀ b, φ b g⌝) : sProp 𝕄) := by
  have : Nonempty (Buf (Elt F) ℓ) := ⟨f₀⟩
  iintro H
  ihave H1 := (Idealize.SL.BI.bigSep_exists_pi Finset.univ (fun (b : B) (f : Buf (Elt F) ℓ) => iprop(P b f ∗ ⌜φ b f⌝))) $$ H
  icases H1 with ⟨%fs, H1⟩
  have hm : bigSep Finset.univ (fun b => iprop(P b (fs b) ∗ ⌜φ b (fs b)⌝))
      ⊢ bigSep Finset.univ (fun b => iprop(⌜φ b (fs b)⌝ ∗ (ℓ ↦[J b]{fullShare} fs b : sProp 𝕄))) := bigSep_mono fun b _ => by
    rw [e]; show _ ⊢ (_ : sProp 𝕄); iintro ⟨H, %h⟩; isplitr; · ipureintro; exact h
    iexact H
  ihave H2 := hm $$ H1
  ihave H3 := (bigSep_pure_sep Finset.univ (fun b => φ b (fs b)) _) $$ H2
  icases H3 with ⟨%hp, H3⟩
  ihave H4 := (pointsTo_biUnion_join Finset.univ J fs f₀ (fun b _ b' _ h => hd b b' h)) $$ H3
  icases H4 with ⟨%g, %hg, H4⟩
  rw [hc]
  iexists g
  isplitl [H4]; · iexact H4
  ipureintro
  exact fun b => hφ b _ _ (hg b (Finset.mem_univ _)) (hp b (Finset.mem_univ _))

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- A buffer of two slots, held whole, is its slots; -/
theorem slots_split {ℓ : Loc nD τ sig} (J : Fin 2 → Finset (Idx ℓ)) (hd : ∀ b b', b ≠ b' → Disjoint (J b) (J b'))
    (hc : Finset.univ.biUnion J = Finset.univ) (f : Buf (Elt F) ℓ) :
    (ℓ ↦{fullShare} f : sProp 𝕄) ⊢ iprop((ℓ ↦[J 0]{fullShare} f) ∗ (ℓ ↦[J 1]{fullShare} f)) :=
  Entails.of_eq ((Ring.pointsTo_blocks J hd hc f).trans (bigSep_fin2 _))
/-- and its slots, at contents of their own, are the buffer at some contents. -/
theorem slots_join {ℓ : Loc nD τ sig} (J : Fin 2 → Finset (Idx ℓ)) (hd : ∀ b b', b ≠ b' → Disjoint (J b) (J b'))
    (hc : Finset.univ.biUnion J = Finset.univ) (f0 f1 : Buf (Elt F) ℓ) :
    iprop((ℓ ↦[J 0]{fullShare} f0) ∗ (ℓ ↦[J 1]{fullShare} f1)) ⊢ (iprop(∃ f, ℓ ↦{fullShare} f) : sProp 𝕄) := by
  iintro ⟨H0, H1⟩
  iapply (Ring.pointsTo_blocks_join_exists J hd hc f0)
  irw [bigSep_fin2]
  isplitl [H0]
  · iexists f0; iexact H0
  · iexists f1; iexact H1

/-! ## The arrays' blocks -/

abbrev aSet (b : Fin 4) : Finset S8704x4096.Idx := (Rect.unit (s := S8704x4096) (aOff b) S2176x4096.size (aOff_inb b)).set
theorem aBlk_set (b : Fin 4) : (aBlk b).view.set = aSet b := View.set_slice_whole _ _
def aKey (y : S8704x4096.Idx) : Fin 4 := ⟨(y 0).val / 2176, by have h0 : (y 0).val < 8704 := (y 0).isLt; omega⟩
theorem mem_aSet (b : Fin 4) (y : S8704x4096.Idx) : y ∈ aSet b ↔ aKey y = b := by
  rw [Rect.mem_set_unit, Fin.ext_iff]
  have h0 : (y 0).val < 8704 := (y 0).isLt
  have h1 : (y 1).val < 4096 := (y 1).isLt
  have hb := b.isLt
  unfold aKey
  dsimp only
  constructor
  · intro H
    have a0 : 2176 * b.val ≤ (y 0).val ∧ (y 0).val < 2176 * b.val + 2176 := H 0
    have a1 : 0 ≤ (y 1).val ∧ (y 1).val < 0 + 4096 := H 1
    omega
  · intro H i; fin_cases i
    · show 2176 * b.val ≤ (y 0).val ∧ (y 0).val < 2176 * b.val + 2176; omega
    · show 0 ≤ (y 1).val ∧ (y 1).val < 0 + 4096; omega
theorem aBlk_eq (c : Dev nD) (b : Fin 4) (f : BufOf F c aM) : (held c (aBlk b) f : sProp 𝕄) = (aM.view.loc (c : Thread nD τ) ↦[aSet b]{fullShare} f) :=
  congrArg (fun S => ((aM.view.loc (c : Thread nD τ)) ↦[S]{fullShare} f : sProp 𝕄)) (aBlk_set b)

abbrev gSet (b : Fin 43) : Finset S4096x11008.Idx := (Rect.unit (s := S4096x11008) (gOff b) S4096x256.size (gOff_inb b)).set
theorem gBlk_set (b : Fin 43) : (gBlk b).view.set = gSet b := View.set_slice_whole _ _
def gKey (y : S4096x11008.Idx) : Fin 43 := ⟨(y 1).val / 256, by have h1 : (y 1).val < 11008 := (y 1).isLt; omega⟩
theorem mem_gSet (b : Fin 43) (y : S4096x11008.Idx) : y ∈ gSet b ↔ gKey y = b := by
  rw [Rect.mem_set_unit, Fin.ext_iff]
  have h0 : (y 0).val < 4096 := (y 0).isLt
  have h1 : (y 1).val < 11008 := (y 1).isLt
  have hb := b.isLt
  unfold gKey
  dsimp only
  constructor
  · intro H
    have a0 : 0 ≤ (y 0).val ∧ (y 0).val < 0 + 4096 := H 0
    have a1 : 256 * b.val ≤ (y 1).val ∧ (y 1).val < 256 * b.val + 256 := H 1
    omega
  · intro H i; fin_cases i
    · show 0 ≤ (y 0).val ∧ (y 0).val < 0 + 4096; omega
    · show 256 * b.val ≤ (y 1).val ∧ (y 1).val < 256 * b.val + 256; omega
theorem gBlk_eq (c : Dev nD) (b : Fin 43) (f : BufOf F c gM) : (held c (gBlk b) f : sProp 𝕄) = (gM.view.loc (c : Thread nD τ) ↦[gSet b]{fullShare} f) :=
  congrArg (fun S => ((gM.view.loc (c : Thread nD τ)) ↦[S]{fullShare} f : sProp 𝕄)) (gBlk_set b)

abbrev uSet (b : Fin 43) : Finset S4096x11008.Idx := (Rect.unit (s := S4096x11008) (gOff b) S4096x256.size (gOff_inb b)).set
theorem uBlk_set (b : Fin 43) : (uBlk b).view.set = uSet b := View.set_slice_whole _ _
def uKey (y : S4096x11008.Idx) : Fin 43 := ⟨(y 1).val / 256, by have h1 : (y 1).val < 11008 := (y 1).isLt; omega⟩
theorem mem_uSet (b : Fin 43) (y : S4096x11008.Idx) : y ∈ uSet b ↔ uKey y = b := by
  rw [Rect.mem_set_unit, Fin.ext_iff]
  have h0 : (y 0).val < 4096 := (y 0).isLt
  have h1 : (y 1).val < 11008 := (y 1).isLt
  have hb := b.isLt
  unfold uKey
  dsimp only
  constructor
  · intro H
    have a0 : 0 ≤ (y 0).val ∧ (y 0).val < 0 + 4096 := H 0
    have a1 : 256 * b.val ≤ (y 1).val ∧ (y 1).val < 256 * b.val + 256 := H 1
    omega
  · intro H i; fin_cases i
    · show 0 ≤ (y 0).val ∧ (y 0).val < 0 + 4096; omega
    · show 256 * b.val ≤ (y 1).val ∧ (y 1).val < 256 * b.val + 256; omega
theorem uBlk_eq (c : Dev nD) (b : Fin 43) (f : BufOf F c uM) : (held c (uBlk b) f : sProp 𝕄) = (uM.view.loc (c : Thread nD τ) ↦[uSet b]{fullShare} f) :=
  congrArg (fun S => ((uM.view.loc (c : Thread nD τ)) ↦[S]{fullShare} f : sProp 𝕄)) (uBlk_set b)

abbrev sSet (b : Fin 172) : Finset S11008x4096.Idx := (Rect.unit (s := S11008x4096) (sOff b) S64x4096.size (sOff_inb b)).set
theorem sBlk_set (b : Fin 172) : (sBlk b).view.set = sSet b := View.set_slice_whole _ _
def sKey (y : S11008x4096.Idx) : Fin 172 := ⟨(y 0).val / 64, by have h0 : (y 0).val < 11008 := (y 0).isLt; omega⟩
theorem mem_sSet (b : Fin 172) (y : S11008x4096.Idx) : y ∈ sSet b ↔ sKey y = b := by
  rw [Rect.mem_set_unit, Fin.ext_iff]
  have h0 : (y 0).val < 11008 := (y 0).isLt
  have h1 : (y 1).val < 4096 := (y 1).isLt
  have hb := b.isLt
  unfold sKey
  dsimp only
  constructor
  · intro H
    have a0 : 64 * b.val ≤ (y 0).val ∧ (y 0).val < 64 * b.val + 64 := H 0
    have a1 : 0 ≤ (y 1).val ∧ (y 1).val < 0 + 4096 := H 1
    omega
  · intro H i; fin_cases i
    · show 64 * b.val ≤ (y 0).val ∧ (y 0).val < 64 * b.val + 64; omega
    · show 0 ≤ (y 1).val ∧ (y 1).val < 0 + 4096; omega
theorem sBlk_eq (c : Dev nD) (b : Fin 172) (f : BufOf F c sM) : (held c (sBlk b) f : sProp 𝕄) = (sM.view.loc (c : Thread nD τ) ↦[sSet b]{fullShare} f) :=
  congrArg (fun S => ((sM.view.loc (c : Thread nD τ)) ↦[S]{fullShare} f : sProp 𝕄)) (sBlk_set b)

abbrev tSet (b : Fin 172) : Finset S11008x4096.Idx := (Rect.unit (s := S11008x4096) (sOff b) S64x4096.size (sOff_inb b)).set
theorem tBlk_set (b : Fin 172) : (tBlk b).view.set = tSet b := View.set_slice_whole _ _
def tKey (y : S11008x4096.Idx) : Fin 172 := ⟨(y 0).val / 64, by have h0 : (y 0).val < 11008 := (y 0).isLt; omega⟩
theorem mem_tSet (b : Fin 172) (y : S11008x4096.Idx) : y ∈ tSet b ↔ tKey y = b := by
  rw [Rect.mem_set_unit, Fin.ext_iff]
  have h0 : (y 0).val < 11008 := (y 0).isLt
  have h1 : (y 1).val < 4096 := (y 1).isLt
  have hb := b.isLt
  unfold tKey
  dsimp only
  constructor
  · intro H
    have a0 : 64 * b.val ≤ (y 0).val ∧ (y 0).val < 64 * b.val + 64 := H 0
    have a1 : 0 ≤ (y 1).val ∧ (y 1).val < 0 + 4096 := H 1
    omega
  · intro H i; fin_cases i
    · show 64 * b.val ≤ (y 0).val ∧ (y 0).val < 64 * b.val + 64; omega
    · show 0 ≤ (y 1).val ∧ (y 1).val < 0 + 4096; omega
theorem tBlk_eq (c : Dev nD) (b : Fin 172) (f : BufOf F c tM) : (held c (tBlk b) f : sProp 𝕄) = (tM.view.loc (c : Thread nD τ) ↦[tSet b]{fullShare} f) :=
  congrArg (fun S => ((tM.view.loc (c : Thread nD τ)) ↦[S]{fullShare} f : sProp 𝕄)) (tBlk_set b)

abbrev oSet (b : Fin 172) : Finset S8704x11008.Idx := (Rect.unit (s := S8704x11008) (oOff b) S2176x256.size (oOff_inb b)).set
theorem oBlk_set (b : Fin 172) : (oBlk b).view.set = oSet b := View.set_slice_whole _ _
def oKey (y : S8704x11008.Idx) : Fin 172 := ⟨4 * ((y 1).val / 256) + (y 0).val / 2176, by have h0 : (y 0).val < 8704 := (y 0).isLt; have h1 : (y 1).val < 11008 := (y 1).isLt; omega⟩
theorem mem_oSet (b : Fin 172) (y : S8704x11008.Idx) : y ∈ oSet b ↔ oKey y = b := by
  rw [Rect.mem_set_unit, Fin.ext_iff]
  have h0 : (y 0).val < 8704 := (y 0).isLt
  have h1 : (y 1).val < 11008 := (y 1).isLt
  have hb := b.isLt
  unfold oKey
  dsimp only
  constructor
  · intro H
    have a0 : 2176 * (b.val % 4) ≤ (y 0).val ∧ (y 0).val < 2176 * (b.val % 4) + 2176 := H 0
    have a1 : 256 * (b.val / 4) ≤ (y 1).val ∧ (y 1).val < 256 * (b.val / 4) + 256 := H 1
    omega
  · intro H i; fin_cases i
    · show 2176 * (b.val % 4) ≤ (y 0).val ∧ (y 0).val < 2176 * (b.val % 4) + 2176; omega
    · show 256 * (b.val / 4) ≤ (y 1).val ∧ (y 1).val < 256 * (b.val / 4) + 256; omega
theorem oBlk_eq (c : Dev nD) (b : Fin 172) (f : BufOf F c oM) : (held c (oBlk b) f : sProp 𝕄) = (oM.view.loc (c : Thread nD τ) ↦[oSet b]{fullShare} f) :=
  congrArg (fun S => ((oM.view.loc (c : Thread nD τ)) ↦[S]{fullShare} f : sProp 𝕄)) (oBlk_set b)

/-! ## Sources: the array whole is its blocks -/

theorem arrayA (c : Dev nD) (XA : BufOf F c aM) : (aM.view.loc (c : Thread nD τ) ↦{fullShare} XA : sProp 𝕄) = bigSep Finset.univ (homeA c XA) := by
  rw [Ring.pointsTo_blocks (ℓ := aM.view.loc (c : Thread nD τ)) aSet (disjoint_of_key mem_aSet) (cover_of_key mem_aSet)]
  exact bigSep_congr fun b _ => (aBlk_eq c b XA).symm
theorem arrayG (c : Dev nD) (XG : BufOf F c gM) : (gM.view.loc (c : Thread nD τ) ↦{fullShare} XG : sProp 𝕄) = bigSep Finset.univ (homeG c XG) := by
  rw [Ring.pointsTo_blocks (ℓ := gM.view.loc (c : Thread nD τ)) gSet (disjoint_of_key mem_gSet) (cover_of_key mem_gSet)]
  exact bigSep_congr fun b _ => (gBlk_eq c b XG).symm
theorem arrayU (c : Dev nD) (XU : BufOf F c uM) : (uM.view.loc (c : Thread nD τ) ↦{fullShare} XU : sProp 𝕄) = bigSep Finset.univ (homeU c XU) := by
  rw [Ring.pointsTo_blocks (ℓ := uM.view.loc (c : Thread nD τ)) uSet (disjoint_of_key mem_uSet) (cover_of_key mem_uSet)]
  exact bigSep_congr fun b _ => (uBlk_eq c b XU).symm
theorem arrayS (c : Dev nD) (XS : BufOf F c sM) : (sM.view.loc (c : Thread nD τ) ↦{fullShare} XS : sProp 𝕄) = bigSep Finset.univ (homeS c XS) := by
  rw [Ring.pointsTo_blocks (ℓ := sM.view.loc (c : Thread nD τ)) sSet (disjoint_of_key mem_sSet) (cover_of_key mem_sSet)]
  exact bigSep_congr fun b _ => (sBlk_eq c b XS).symm

/-! ## Results: free at first, gathered when stored -/

theorem splitO (c : Dev nD) (XA : BufOf F c aM) (XG : BufOf F c gM) (XU : BufOf F c uM) (f : BufOf F c oM) : (oM.view.loc (c : Thread nD τ) ↦{fullShare} f : sProp 𝕄) ⊢ bigSep Finset.univ (pieceO c XA XG XU 0) := by
  rw [Ring.pointsTo_blocks (ℓ := oM.view.loc (c : Thread nD τ)) oSet (disjoint_of_key mem_oSet) (cover_of_key mem_oSet)]
  refine bigSep_mono fun b _ => ?_
  rw [← oBlk_eq c b f]
  unfold pieceO
  show _ ⊢ (_ : sProp 𝕄)
  iintro H; iexists f; isplitl [H]; · iexact H
  ipureintro; exact fun h => absurd h (Nat.not_lt_zero _)
theorem gatherO (c : Dev nD) (XA : BufOf F c aM) (XG : BufOf F c gM) (XU : BufOf F c uM) (f₀ : BufOf F c oM) : bigSep Finset.univ (pieceO c XA XG XU 172)
    ⊢ (iprop(∃ g : BufOf F c oM, (oM.view.loc (c : Thread nD τ) ↦{fullShare} g) ∗ ⌜∀ b : Fin 172, (oBlk b).view.read (Elt F) g = oVal c XA XG XU b.val⌝) : sProp 𝕄) :=
  (bigSep_mono (Ψ := fun b : Fin 172 => iprop(∃ f : BufOf F c oM, (oM.view.loc (c : Thread nD τ) ↦[oSet b]{fullShare} f) ∗ ⌜(oBlk b).view.read (Elt F) f = oVal c XA XG XU b.val⌝)) fun b _ => by
    unfold pieceO
    show _ ⊢ (_ : sProp 𝕄)
    iintro ⟨%f, H, %h⟩; iexists f; isplitl [H]
    · iapply (Entails.of_eq (oBlk_eq c b f)); iexact H
    ipureintro; exact h b.isLt).trans
  (blocks_gather (ℓ := oM.view.loc (c : Thread nD τ)) (disjoint_of_key mem_oSet) (cover_of_key mem_oSet) _ (fun _ _ => rfl)
    (fun b f => (oBlk b).view.read (Elt F) f = oVal c XA XG XU b.val)
    (fun b f g h e => (View.read_congr (fun i hi => h i ((oBlk_set b) ▸ hi))).trans e) f₀)
theorem splitT (c : Dev nD) (XS : BufOf F c sM) (f : BufOf F c tM) : (tM.view.loc (c : Thread nD τ) ↦{fullShare} f : sProp 𝕄) ⊢ bigSep Finset.univ (pieceT c XS 0) := by
  rw [Ring.pointsTo_blocks (ℓ := tM.view.loc (c : Thread nD τ)) tSet (disjoint_of_key mem_tSet) (cover_of_key mem_tSet)]
  refine bigSep_mono fun b _ => ?_
  rw [← tBlk_eq c b f]
  unfold pieceT
  show _ ⊢ (_ : sProp 𝕄)
  iintro H; iexists f; isplitl [H]; · iexact H
  ipureintro; exact fun h => absurd h (Nat.not_lt_zero _)
theorem gatherT (c : Dev nD) (XS : BufOf F c sM) (f₀ : BufOf F c tM) : bigSep Finset.univ (pieceT c XS 172)
    ⊢ (iprop(∃ g : BufOf F c tM, (tM.view.loc (c : Thread nD τ) ↦{fullShare} g) ∗ ⌜∀ b : Fin 172, (tBlk b).view.read (Elt F) g = tVal c XS b.val⌝) : sProp 𝕄) :=
  (bigSep_mono (Ψ := fun b : Fin 172 => iprop(∃ f : BufOf F c tM, (tM.view.loc (c : Thread nD τ) ↦[tSet b]{fullShare} f) ∗ ⌜(tBlk b).view.read (Elt F) f = tVal c XS b.val⌝)) fun b _ => by
    unfold pieceT
    show _ ⊢ (_ : sProp 𝕄)
    iintro ⟨%f, H, %h⟩; iexists f; isplitl [H]
    · iapply (Entails.of_eq (tBlk_eq c b f)); iexact H
    ipureintro; exact h b.isLt).trans
  (blocks_gather (ℓ := tM.view.loc (c : Thread nD τ)) (disjoint_of_key mem_tSet) (cover_of_key mem_tSet) _ (fun _ _ => rfl)
    (fun b f => (tBlk b).view.read (Elt F) f = tVal c XS b.val)
    (fun b f g h e => (View.read_congr (fun i hi => h i ((tBlk_set b) ▸ hi))).trans e) f₀)

/-! ## Buffers: two slots each -/

abbrev aBuf (s : Fin 2) : Finset S2x2176x4096.Idx := (Rect.unit (s := S2x2176x4096) (slotOff s) S1x2176x4096.size (slotOff_inb s rfl rfl)).set
theorem aSlot_set (s : Fin 2) : (aSlot s).view.set = aBuf s := (View.set_reshape _ _).trans (View.set_slice_whole _ _)
def aBufKey (y : S2x2176x4096.Idx) : Fin 2 := ⟨(y 0).val, (y 0).isLt⟩
theorem mem_aBuf (s : Fin 2) (y : S2x2176x4096.Idx) : y ∈ aBuf s ↔ aBufKey y = s := by
  rw [Rect.mem_set_unit, Fin.ext_iff]
  show _ ↔ (y 0).val = s.val
  have h1 : (y 1).val < 2176 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2176; omega
    · show 0 ≤ (y 2).val ∧ (y 2).val < 0 + 4096; omega
theorem aSlot_eq (c : Dev nD) (s : Fin 2) (f : BufOf F c aB) : (held c (aSlot s) f : sProp 𝕄) = (aB.view.loc (c : Thread nD τ) ↦[aBuf s]{fullShare} f) :=
  congrArg (fun S => ((aB.view.loc (c : Thread nD τ)) ↦[S]{fullShare} f : sProp 𝕄)) (aSlot_set s)
theorem slots_a (c : Dev nD) : iprop(∃ f : BufOf F c aB, aB.view.loc (c : Thread nD τ) ↦{fullShare} f) ⊢ (iprop((∃ f, held c (aSlot 0) f) ∗ ∃ f, held c (aSlot 1) f) : sProp 𝕄) := by
  iintro ⟨%f, H⟩
  ihave H2 := (slots_split (ℓ := aB.view.loc (c : Thread nD τ)) aBuf (disjoint_of_key mem_aBuf) (cover_of_key mem_aBuf) f) $$ H
  icases H2 with ⟨H0, H1⟩
  isplitl [H0]
  · iexists f; iapply (Entails.of_eq (aSlot_eq c 0 f).symm); iexact H0
  · iexists f; iapply (Entails.of_eq (aSlot_eq c 1 f).symm); iexact H1
theorem unslot_a (c : Dev nD) : iprop((∃ f, held c (aSlot 0) f) ∗ ∃ f, held c (aSlot 1) f) ⊢ (iprop(∃ f : BufOf F c aB, aB.view.loc (c : Thread nD τ) ↦{fullShare} f) : sProp 𝕄) := by
  iintro ⟨⟨%f0, H0⟩, ⟨%f1, H1⟩⟩
  iapply (slots_join (ℓ := aB.view.loc (c : Thread nD τ)) aBuf (disjoint_of_key mem_aBuf) (cover_of_key mem_aBuf) f0 f1)
  isplitl [H0]
  · iapply (Entails.of_eq (aSlot_eq c 0 f0)); iexact H0
  · iapply (Entails.of_eq (aSlot_eq c 1 f1)); iexact H1

abbrev gBuf (s : Fin 2) : Finset S2x4096x256.Idx := (Rect.unit (s := S2x4096x256) (slotOff s) S1x4096x256.size (slotOff_inb s rfl rfl)).set
theorem gSlot_set (s : Fin 2) : (gSlot s).view.set = gBuf s := (View.set_reshape _ _).trans (View.set_slice_whole _ _)
def gBufKey (y : S2x4096x256.Idx) : Fin 2 := ⟨(y 0).val, (y 0).isLt⟩
theorem mem_gBuf (s : Fin 2) (y : S2x4096x256.Idx) : y ∈ gBuf s ↔ gBufKey y = s := by
  rw [Rect.mem_set_unit, Fin.ext_iff]
  show _ ↔ (y 0).val = s.val
  have h1 : (y 1).val < 4096 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 4096; omega
    · show 0 ≤ (y 2).val ∧ (y 2).val < 0 + 256; omega
theorem gSlot_eq (c : Dev nD) (s : Fin 2) (f : BufOf F c gB) : (held c (gSlot s) f : sProp 𝕄) = (gB.view.loc (c : Thread nD τ) ↦[gBuf s]{fullShare} f) :=
  congrArg (fun S => ((gB.view.loc (c : Thread nD τ)) ↦[S]{fullShare} f : sProp 𝕄)) (gSlot_set s)
theorem slots_g (c : Dev nD) : iprop(∃ f : BufOf F c gB, gB.view.loc (c : Thread nD τ) ↦{fullShare} f) ⊢ (iprop((∃ f, held c (gSlot 0) f) ∗ ∃ f, held c (gSlot 1) f) : sProp 𝕄) := by
  iintro ⟨%f, H⟩
  ihave H2 := (slots_split (ℓ := gB.view.loc (c : Thread nD τ)) gBuf (disjoint_of_key mem_gBuf) (cover_of_key mem_gBuf) f) $$ H
  icases H2 with ⟨H0, H1⟩
  isplitl [H0]
  · iexists f; iapply (Entails.of_eq (gSlot_eq c 0 f).symm); iexact H0
  · iexists f; iapply (Entails.of_eq (gSlot_eq c 1 f).symm); iexact H1
theorem unslot_g (c : Dev nD) : iprop((∃ f, held c (gSlot 0) f) ∗ ∃ f, held c (gSlot 1) f) ⊢ (iprop(∃ f : BufOf F c gB, gB.view.loc (c : Thread nD τ) ↦{fullShare} f) : sProp 𝕄) := by
  iintro ⟨⟨%f0, H0⟩, ⟨%f1, H1⟩⟩
  iapply (slots_join (ℓ := gB.view.loc (c : Thread nD τ)) gBuf (disjoint_of_key mem_gBuf) (cover_of_key mem_gBuf) f0 f1)
  isplitl [H0]
  · iapply (Entails.of_eq (gSlot_eq c 0 f0)); iexact H0
  · iapply (Entails.of_eq (gSlot_eq c 1 f1)); iexact H1

abbrev uBuf (s : Fin 2) : Finset S2x4096x256.Idx := (Rect.unit (s := S2x4096x256) (slotOff s) S1x4096x256.size (slotOff_inb s rfl rfl)).set
theorem uSlot_set (s : Fin 2) : (uSlot s).view.set = uBuf s := (View.set_reshape _ _).trans (View.set_slice_whole _ _)
def uBufKey (y : S2x4096x256.Idx) : Fin 2 := ⟨(y 0).val, (y 0).isLt⟩
theorem mem_uBuf (s : Fin 2) (y : S2x4096x256.Idx) : y ∈ uBuf s ↔ uBufKey y = s := by
  rw [Rect.mem_set_unit, Fin.ext_iff]
  show _ ↔ (y 0).val = s.val
  have h1 : (y 1).val < 4096 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 4096; omega
    · show 0 ≤ (y 2).val ∧ (y 2).val < 0 + 256; omega
theorem uSlot_eq (c : Dev nD) (s : Fin 2) (f : BufOf F c uB) : (held c (uSlot s) f : sProp 𝕄) = (uB.view.loc (c : Thread nD τ) ↦[uBuf s]{fullShare} f) :=
  congrArg (fun S => ((uB.view.loc (c : Thread nD τ)) ↦[S]{fullShare} f : sProp 𝕄)) (uSlot_set s)
theorem slots_u (c : Dev nD) : iprop(∃ f : BufOf F c uB, uB.view.loc (c : Thread nD τ) ↦{fullShare} f) ⊢ (iprop((∃ f, held c (uSlot 0) f) ∗ ∃ f, held c (uSlot 1) f) : sProp 𝕄) := by
  iintro ⟨%f, H⟩
  ihave H2 := (slots_split (ℓ := uB.view.loc (c : Thread nD τ)) uBuf (disjoint_of_key mem_uBuf) (cover_of_key mem_uBuf) f) $$ H
  icases H2 with ⟨H0, H1⟩
  isplitl [H0]
  · iexists f; iapply (Entails.of_eq (uSlot_eq c 0 f).symm); iexact H0
  · iexists f; iapply (Entails.of_eq (uSlot_eq c 1 f).symm); iexact H1
theorem unslot_u (c : Dev nD) : iprop((∃ f, held c (uSlot 0) f) ∗ ∃ f, held c (uSlot 1) f) ⊢ (iprop(∃ f : BufOf F c uB, uB.view.loc (c : Thread nD τ) ↦{fullShare} f) : sProp 𝕄) := by
  iintro ⟨⟨%f0, H0⟩, ⟨%f1, H1⟩⟩
  iapply (slots_join (ℓ := uB.view.loc (c : Thread nD τ)) uBuf (disjoint_of_key mem_uBuf) (cover_of_key mem_uBuf) f0 f1)
  isplitl [H0]
  · iapply (Entails.of_eq (uSlot_eq c 0 f0)); iexact H0
  · iapply (Entails.of_eq (uSlot_eq c 1 f1)); iexact H1

abbrev sBuf (s : Fin 2) : Finset S2x64x4096.Idx := (Rect.unit (s := S2x64x4096) (slotOff s) S1x64x4096.size (slotOff_inb s rfl rfl)).set
theorem sSlot_set (s : Fin 2) : (sSlot s).view.set = sBuf s := (View.set_reshape _ _).trans (View.set_slice_whole _ _)
def sBufKey (y : S2x64x4096.Idx) : Fin 2 := ⟨(y 0).val, (y 0).isLt⟩
theorem mem_sBuf (s : Fin 2) (y : S2x64x4096.Idx) : y ∈ sBuf s ↔ sBufKey y = s := by
  rw [Rect.mem_set_unit, Fin.ext_iff]
  show _ ↔ (y 0).val = s.val
  have h1 : (y 1).val < 64 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 64; omega
    · show 0 ≤ (y 2).val ∧ (y 2).val < 0 + 4096; omega
theorem sSlot_eq (c : Dev nD) (s : Fin 2) (f : BufOf F c sB) : (held c (sSlot s) f : sProp 𝕄) = (sB.view.loc (c : Thread nD τ) ↦[sBuf s]{fullShare} f) :=
  congrArg (fun S => ((sB.view.loc (c : Thread nD τ)) ↦[S]{fullShare} f : sProp 𝕄)) (sSlot_set s)
theorem slots_s (c : Dev nD) : iprop(∃ f : BufOf F c sB, sB.view.loc (c : Thread nD τ) ↦{fullShare} f) ⊢ (iprop((∃ f, held c (sSlot 0) f) ∗ ∃ f, held c (sSlot 1) f) : sProp 𝕄) := by
  iintro ⟨%f, H⟩
  ihave H2 := (slots_split (ℓ := sB.view.loc (c : Thread nD τ)) sBuf (disjoint_of_key mem_sBuf) (cover_of_key mem_sBuf) f) $$ H
  icases H2 with ⟨H0, H1⟩
  isplitl [H0]
  · iexists f; iapply (Entails.of_eq (sSlot_eq c 0 f).symm); iexact H0
  · iexists f; iapply (Entails.of_eq (sSlot_eq c 1 f).symm); iexact H1
theorem unslot_s (c : Dev nD) : iprop((∃ f, held c (sSlot 0) f) ∗ ∃ f, held c (sSlot 1) f) ⊢ (iprop(∃ f : BufOf F c sB, sB.view.loc (c : Thread nD τ) ↦{fullShare} f) : sProp 𝕄) := by
  iintro ⟨⟨%f0, H0⟩, ⟨%f1, H1⟩⟩
  iapply (slots_join (ℓ := sB.view.loc (c : Thread nD τ)) sBuf (disjoint_of_key mem_sBuf) (cover_of_key mem_sBuf) f0 f1)
  isplitl [H0]
  · iapply (Entails.of_eq (sSlot_eq c 0 f0)); iexact H0
  · iapply (Entails.of_eq (sSlot_eq c 1 f1)); iexact H1

abbrev oBuf (s : Fin 2) : Finset S2x2176x256.Idx := (Rect.unit (s := S2x2176x256) (slotOff s) S1x2176x256.size (slotOff_inb s rfl rfl)).set
theorem oSlot_set (s : Fin 2) : (oSlot s).view.set = oBuf s := (View.set_reshape _ _).trans (View.set_slice_whole _ _)
def oBufKey (y : S2x2176x256.Idx) : Fin 2 := ⟨(y 0).val, (y 0).isLt⟩
theorem mem_oBuf (s : Fin 2) (y : S2x2176x256.Idx) : y ∈ oBuf s ↔ oBufKey y = s := by
  rw [Rect.mem_set_unit, Fin.ext_iff]
  show _ ↔ (y 0).val = s.val
  have h1 : (y 1).val < 2176 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2176; omega
    · show 0 ≤ (y 2).val ∧ (y 2).val < 0 + 256; omega
theorem oSlot_eq (c : Dev nD) (s : Fin 2) (f : BufOf F c oB) : (held c (oSlot s) f : sProp 𝕄) = (oB.view.loc (c : Thread nD τ) ↦[oBuf s]{fullShare} f) :=
  congrArg (fun S => ((oB.view.loc (c : Thread nD τ)) ↦[S]{fullShare} f : sProp 𝕄)) (oSlot_set s)
theorem slots_o (c : Dev nD) : iprop(∃ f : BufOf F c oB, oB.view.loc (c : Thread nD τ) ↦{fullShare} f) ⊢ (iprop((∃ f, held c (oSlot 0) f) ∗ ∃ f, held c (oSlot 1) f) : sProp 𝕄) := by
  iintro ⟨%f, H⟩
  ihave H2 := (slots_split (ℓ := oB.view.loc (c : Thread nD τ)) oBuf (disjoint_of_key mem_oBuf) (cover_of_key mem_oBuf) f) $$ H
  icases H2 with ⟨H0, H1⟩
  isplitl [H0]
  · iexists f; iapply (Entails.of_eq (oSlot_eq c 0 f).symm); iexact H0
  · iexists f; iapply (Entails.of_eq (oSlot_eq c 1 f).symm); iexact H1
theorem unslot_o (c : Dev nD) : iprop((∃ f, held c (oSlot 0) f) ∗ ∃ f, held c (oSlot 1) f) ⊢ (iprop(∃ f : BufOf F c oB, oB.view.loc (c : Thread nD τ) ↦{fullShare} f) : sProp 𝕄) := by
  iintro ⟨⟨%f0, H0⟩, ⟨%f1, H1⟩⟩
  iapply (slots_join (ℓ := oB.view.loc (c : Thread nD τ)) oBuf (disjoint_of_key mem_oBuf) (cover_of_key mem_oBuf) f0 f1)
  isplitl [H0]
  · iapply (Entails.of_eq (oSlot_eq c 0 f0)); iexact H0
  · iapply (Entails.of_eq (oSlot_eq c 1 f1)); iexact H1

abbrev tBuf (s : Fin 2) : Finset S2x64x4096.Idx := (Rect.unit (s := S2x64x4096) (slotOff s) S1x64x4096.size (slotOff_inb s rfl rfl)).set
theorem tSlot_set (s : Fin 2) : (tSlot s).view.set = tBuf s := (View.set_reshape _ _).trans (View.set_slice_whole _ _)
def tBufKey (y : S2x64x4096.Idx) : Fin 2 := ⟨(y 0).val, (y 0).isLt⟩
theorem mem_tBuf (s : Fin 2) (y : S2x64x4096.Idx) : y ∈ tBuf s ↔ tBufKey y = s := by
  rw [Rect.mem_set_unit, Fin.ext_iff]
  show _ ↔ (y 0).val = s.val
  have h1 : (y 1).val < 64 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 64; omega
    · show 0 ≤ (y 2).val ∧ (y 2).val < 0 + 4096; omega
theorem tSlot_eq (c : Dev nD) (s : Fin 2) (f : BufOf F c tB) : (held c (tSlot s) f : sProp 𝕄) = (tB.view.loc (c : Thread nD τ) ↦[tBuf s]{fullShare} f) :=
  congrArg (fun S => ((tB.view.loc (c : Thread nD τ)) ↦[S]{fullShare} f : sProp 𝕄)) (tSlot_set s)
theorem slots_t (c : Dev nD) : iprop(∃ f : BufOf F c tB, tB.view.loc (c : Thread nD τ) ↦{fullShare} f) ⊢ (iprop((∃ f, held c (tSlot 0) f) ∗ ∃ f, held c (tSlot 1) f) : sProp 𝕄) := by
  iintro ⟨%f, H⟩
  ihave H2 := (slots_split (ℓ := tB.view.loc (c : Thread nD τ)) tBuf (disjoint_of_key mem_tBuf) (cover_of_key mem_tBuf) f) $$ H
  icases H2 with ⟨H0, H1⟩
  isplitl [H0]
  · iexists f; iapply (Entails.of_eq (tSlot_eq c 0 f).symm); iexact H0
  · iexists f; iapply (Entails.of_eq (tSlot_eq c 1 f).symm); iexact H1
theorem unslot_t (c : Dev nD) : iprop((∃ f, held c (tSlot 0) f) ∗ ∃ f, held c (tSlot 1) f) ⊢ (iprop(∃ f : BufOf F c tB, tB.view.loc (c : Thread nD τ) ↦{fullShare} f) : sProp 𝕄) := by
  iintro ⟨⟨%f0, H0⟩, ⟨%f1, H1⟩⟩
  iapply (slots_join (ℓ := tB.view.loc (c : Thread nD τ)) tBuf (disjoint_of_key mem_tBuf) (cover_of_key mem_tBuf) f0 f1)
  isplitl [H0]
  · iapply (Entails.of_eq (tSlot_eq c 0 f0)); iexact H0
  · iapply (Entails.of_eq (tSlot_eq c 1 f1)); iexact H1

end Cert.KernelIdeal.Pipe

end
-- ==== Proof.Run.lean ====
/-
  The run of the whole program: the launch around the body, and what the arrays hold at its end.
-/
module

public import proofs.«01_k».proof.Proof.Split
public import Idealize.ShloMosaic.Lib.Pipeline.KitQuiescent

@[expose] public section

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The sources as the kernel finds them -/

abbrev XA (c : Dev nD) : BufOf F c aM := V m c main_v0
abbrev XG (c : Dev nD) : BufOf F c gM := V m c main_v2
abbrev XU (c : Dev nD) : BufOf F c uM := V m c main_v4
abbrev XS (c : Dev nD) : BufOf F c sM := V m c main_arg2

/-! ## The twelve transfer semaphores -/

abbrev osem : Fin 12 → SemLoc sig := ![.dma (aSem 0).sem, .dma (aSem 1).sem, .dma (gSem 0).sem, .dma (gSem 1).sem, .dma (uSem 0).sem, .dma (uSem 1).sem,
  .dma (sSem 0).sem, .dma (sSem 1).sem, .dma (oSem 0).sem, .dma (oSem 1).sem, .dma (tSem 0).sem, .dma (tSem 1).sem]
theorem ownSemFacts : Pipeline.OwnSemFacts cfg0.spec osem := by decide +kernel
theorem ownSems0_eq (c : Dev nD) : (Pipeline.ownSems0 (Ix := Unit) (Name := ℕ) (U := UU nD τ) (Lvl := ℕ) (Val := Elt F) (τ := τ) osem c : sProp 𝕄)
    = iprop(zero c (aSem 0) ∗ zero c (aSem 1) ∗ zero c (gSem 0) ∗ zero c (gSem 1) ∗ zero c (uSem 0) ∗ zero c (uSem 1)
      ∗ zero c (sSem 0) ∗ zero c (sSem 1) ∗ zero c (oSem 0) ∗ zero c (oSem 1) ∗ zero c (tSem 0) ∗ zero c (tSem 1)) := by
  unfold Pipeline.ownSems0
  exact bigSep_univ_eq_bigSepL [(0 : Fin 12), 1, 2, 3, 4, 5, 6, 7, 8, 9, 10, 11] (by decide) (by decide) _

/-! ## The pipeline's proof data -/

/-- The region's state: `atRest` without the outstanding waits, the results' blocks before `n` stored. -/
def Φ (c : Dev nD) (n : ℕ) : sProp 𝕄 :=
  iprop((bigSep Finset.univ (homeA c (XA m c)) ∗ freeA c 0 ∗ freeA c 1) ∗ (bigSep Finset.univ (homeG c (XG m c)) ∗ freeG c 0 ∗ freeG c 1)
    ∗ (bigSep Finset.univ (homeU c (XU m c)) ∗ freeU c 0 ∗ freeU c 1) ∗ (bigSep Finset.univ (homeS c (XS m c)) ∗ freeS c 0 ∗ freeS c 1)
    ∗ (bigSep Finset.univ (pieceO c (XA m c) (XG m c) (XU m c) n) ∗ freeO c 0 ∗ freeO c 1) ∗ (bigSep Finset.univ (pieceT c (XS m c) n) ∗ freeT c 0 ∗ freeT c 1))

def dats (_ : Fin 1) (c : Dev nD) : Dat τ (Elt F) Unit ℕ (UU nD τ) ℕ cfg0 c where
  A w := w.elim0
  after w _ := w.elim0
  Φ t := Φ m c (if t.val = 0 then 0 else 172)
  q _ := fullShare
  owed _ := 0

/-- The body table's entry is the kernel on its arrays. -/
theorem defs_tc : (defs₀ (F := F)) .tc cfg0.body = fun _ => body := rfl
theorem prog_eq (t : Fin cfg0.N) : (defs₀ (F := F)) .tc cfg0.body (cfg0.bodyArgs t (cfg0.slots t)) = body :=
  (congrFun defs_tc _).trans rfl

set_option backward.isDefEq.respectTransparency.types false in
theorem body_obligation (c : Dev nD) : BodyObligation (dats (F := F) m 0 c) (defs₀ (F := F)) 𝒱₀ () Set.univ := fun t => by
  have ht : t.val = 0 := by have h : t.val < 1 := lt_of_lt_of_eq t.isLt N_0; omega
  rw [show (dats m 0 c).Φ t.castSucc = Φ m c 0 from by show Φ m c (if t.val = 0 then 0 else 172) = _; rw [if_pos ht],
    show (dats m 0 c).Φ t.succ = Φ m c 172 from by show Φ m c (if t.val + 1 = 0 then 0 else 172) = _; rw [if_neg (by omega)]]
  unfold Dat.owesAt Pipeline.owesWithin
  rw [show (dats m 0 c).owed t.castSucc = 0 from rfl, show (dats m 0 c).owed t.succ = 0 from rfl]
  rw [show (Finset.univ : Finset (Fin cfg0.W)) = ∅ from rfl, bigSep_empty, bigSep_empty]
  iintro ⟨HΦ, ⟨%W, -, HW⟩, -⟩
  sl_rw [prog_eq t]
  iapply (body_run c (XA m c) (XG m c) (XU m c) (XS m c))
  unfold atRest Φ waits
  icases HΦ with ⟨HA, HG, HU, HS, HO, HT⟩
  isplitl [HA HG HU HS HO HT HW]
  · isplitl [HA]; · iexact HA
    isplitl [HG]; · iexact HG
    isplitl [HU]; · iexact HU
    isplitl [HS]; · iexact HS
    isplitl [HO]; · iexact HO
    isplitl [HT]; · iexact HT
    iexists W; iexact HW
  iintro ⟨HA, HG, HU, HS, HO, HT, ⟨%W', HW⟩⟩
  isplitl [HA HG HU HS HO HT]
  · isplitl [HA]; · iexact HA
    isplitl [HG]; · iexact HG
    isplitl [HU]; · iexact HU
    isplitl [HS]; · iexact HS
    isplitl [HO]; · iexact HO
    iexact HT
  isplitl [HW]
  · iexists W'; isplitr; · ipureintro; exact fun _ _ => Or.inl trivial
    iexact HW
  iempintro

/-! ## The run -/

/-- Into the region: the sources' blocks, the results' blocks free, the semaphores at zero. -/
def into (c : Dev nD) : sProp 𝕄 :=
  iprop(bigSep Finset.univ (homeA c (XA m c)) ∗ bigSep Finset.univ (homeG c (XG m c)) ∗ bigSep Finset.univ (homeU c (XU m c)) ∗ bigSep Finset.univ (homeS c (XS m c))
    ∗ bigSep Finset.univ (pieceO c (XA m c) (XG m c) (XU m c) 0) ∗ bigSep Finset.univ (pieceT c (XS m c) 0) ∗ Pipeline.ownSems0 osem c)
/-- Out of it: the weights that the second result copies, and both results with every block stored. -/
def outof (c : Dev nD) : sProp 𝕄 :=
  iprop((sM.view.loc (c : Thread nD τ) ↦{fullShare} XS m c)
    ∗ (∃ g : BufOf F c oM, (oM.view.loc (c : Thread nD τ) ↦{fullShare} g) ∗ ⌜∀ b : Fin 172, (oBlk b).view.read (Elt F) g = oVal c (XA m c) (XG m c) (XU m c) b.val⌝)
    ∗ (∃ g : BufOf F c tM, (tM.view.loc (c : Thread nD τ) ↦{fullShare} g) ∗ ⌜∀ b : Fin 172, (tBlk b).view.read (Elt F) g = tVal c (XS m c) b.val⌝))
/-- Beside it: the activations and the joint weights as given. -/
def beside (c : Dev nD) : sProp 𝕄 :=
  iprop((((c : Thread nD τ).loc main_arg0) ↦{fullShare} V m c main_arg0) ∗ (((c : Thread nD τ).loc main_arg1) ↦{fullShare} V m c main_arg1))
def u₀ : UU nD τ := (initOf (Pipeline.cells cfgs cellOf_inj) (Pipeline.launchToks cfgs cellOf_inj), 1)

/-- What a final memory holds on a device: the arguments as given, every block of both results. -/
structure Stored (c : Dev nD) (s : MemSt nD τ sig (Elt F)) : Prop where
  arg0 : s.mem ((c : Thread nD τ).loc main_arg0) = m ((c : Thread nD τ).loc main_arg0)
  arg1 : s.mem ((c : Thread nD τ).loc main_arg1) = m ((c : Thread nD τ).loc main_arg1)
  arg2 : s.mem ((c : Thread nD τ).loc main_arg2) = m ((c : Thread nD τ).loc main_arg2)
  out0 : ∀ b : Fin 172, (oBlk b).view.read (Elt F) (s.mem ((c : Thread nD τ).loc main_v5_0)) = oVal c (XA m c) (XG m c) (XU m c) b.val
  out1 : ∀ b : Fin 172, (tBlk b).view.read (Elt F) (s.mem ((c : Thread nD τ).loc main_v5_1)) = tVal c (XS m c) b.val

theorem enter_region (c : Dev nD) : iprop(Pipeline.unscopedRest cfg0.spec c (V m c) ∗ Pipeline.ownSems0 osem c)
    ⊢ (iprop(into m c ∗ beside m c) : sProp 𝕄) := by
  rw [show Pipeline.unscopedRest cfg0.spec c (V m c) = _ from unscopedRest0_eq c (V m c)]
  unfold into beside
  iintro ⟨⟨H0, H1, H2, Hv0, -, Hv2, -, Hv4, Ho, Ht⟩, HS⟩
  isplitl [H2 Hv0 Hv2 Hv4 Ho Ht HS]
  · isplitl [Hv0]; · iapply (Entails.of_eq (arrayA c (XA m c))); iexact Hv0
    isplitl [Hv2]; · iapply (Entails.of_eq (arrayG c (XG m c))); iexact Hv2
    isplitl [Hv4]; · iapply (Entails.of_eq (arrayU c (XU m c))); iexact Hv4
    isplitl [H2]; · iapply (Entails.of_eq (arrayS c (XS m c))); iexact H2
    isplitl [Ho]; · iapply (splitO c (XA m c) (XG m c) (XU m c) (V m c main_v5_0)); iexact Ho
    isplitl [Ht]; · iapply (splitT c (XS m c) (V m c main_v5_1)); iexact Ht
    iexact HS
  isplitl [H0]; · iexact H0
  iexact H1

theorem start (c : Dev nD) : iprop(into m c ∗ Pipeline.scopedRest cfg0.spec c) ⊢ (Φ m c 0 : sProp 𝕄) := by
  rw [show Pipeline.scopedRest cfg0.spec c = _ from scopedRest0_eq c]
  unfold into Φ freeA freeG freeU freeS freeO freeT
  rw [ownSems0_eq]
  iintro ⟨⟨HA, HG, HU, HS, HO, HT, A0, A1, G0, G1, U0, U1, S0, S1, O0, O1, T0, T1⟩, BA, BG, BU, BS, BO, BT⟩
  ihave BA' := (slots_a c) $$ BA
  icases BA' with ⟨BA0, BA1⟩
  ihave BG' := (slots_g c) $$ BG
  icases BG' with ⟨BG0, BG1⟩
  ihave BU' := (slots_u c) $$ BU
  icases BU' with ⟨BU0, BU1⟩
  ihave BS' := (slots_s c) $$ BS
  icases BS' with ⟨BS0, BS1⟩
  ihave BO' := (slots_o c) $$ BO
  icases BO' with ⟨BO0, BO1⟩
  ihave BT' := (slots_t c) $$ BT
  icases BT' with ⟨BT0, BT1⟩
  isplitl [HA BA0 BA1 A0 A1]
  · isplitl [HA]; · iexact HA
    isplitl [BA0 A0]
    · isplitl [BA0]; · iexact BA0
      iexact A0
    isplitl [BA1]; · iexact BA1
    iexact A1
  isplitl [HG BG0 BG1 G0 G1]
  · isplitl [HG]; · iexact HG
    isplitl [BG0 G0]
    · isplitl [BG0]; · iexact BG0
      iexact G0
    isplitl [BG1]; · iexact BG1
    iexact G1
  isplitl [HU BU0 BU1 U0 U1]
  · isplitl [HU]; · iexact HU
    isplitl [BU0 U0]
    · isplitl [BU0]; · iexact BU0
      iexact U0
    isplitl [BU1]; · iexact BU1
    iexact U1
  isplitl [HS BS0 BS1 S0 S1]
  · isplitl [HS]; · iexact HS
    isplitl [BS0 S0]
    · isplitl [BS0]; · iexact BS0
      iexact S0
    isplitl [BS1]; · iexact BS1
    iexact S1
  isplitl [HO BO0 BO1 O0 O1]
  · isplitl [HO]; · iexact HO
    isplitl [BO0 O0]
    · isplitl [BO0]; · iexact BO0
      iexact O0
    isplitl [BO1]; · iexact BO1
    iexact O1
  isplitl [HT]; · iexact HT
  isplitl [BT0 T0]
  · isplitl [BT0]; · iexact BT0
    iexact T0
  isplitl [BT1]; · iexact BT1
  iexact T1

theorem finish (c : Dev nD) : (Φ m c 172 : sProp 𝕄) ⊢ iprop(outof m c ∗ Pipeline.ownSems0 osem c ∗ Pipeline.scopedRest cfg0.spec c) := by
  rw [show Pipeline.scopedRest cfg0.spec c = _ from scopedRest0_eq c]
  unfold outof Φ freeA freeG freeU freeS freeO freeT
  rw [ownSems0_eq]
  iintro ⟨⟨HA, ⟨BA0, A0⟩, BA1, A1⟩, ⟨HG, ⟨BG0, G0⟩, BG1, G1⟩, ⟨HU, ⟨BU0, U0⟩, BU1, U1⟩, ⟨HS, ⟨BS0, S0⟩, BS1, S1⟩, ⟨HO, ⟨BO0, O0⟩, BO1, O1⟩, ⟨HT, ⟨BT0, T0⟩, BT1, T1⟩⟩
  isplitl [HS HO HT]
  · isplitl [HS]; · iapply (Entails.of_eq (arrayS c (XS m c)).symm); iexact HS
    isplitl [HO]; · iapply (gatherO c (XA m c) (XG m c) (XU m c) (V m c main_v5_0)); iexact HO
    iapply (gatherT c (XS m c) (V m c main_v5_1)); iexact HT
  isplitl [A0 A1 G0 G1 U0 U1 S0 S1 O0 O1 T0 T1]
  · isplitl [A0]; · iexact A0
    isplitl [A1]; · iexact A1
    isplitl [G0]; · iexact G0
    isplitl [G1]; · iexact G1
    isplitl [U0]; · iexact U0
    isplitl [U1]; · iexact U1
    isplitl [S0]; · iexact S0
    isplitl [S1]; · iexact S1
    isplitl [O0]; · iexact O0
    isplitl [O1]; · iexact O1
    isplitl [T0]; · iexact T0
    iexact T1
  isplitl [BA0 BA1]
  · iapply (unslot_a c)
    isplitl [BA0]; · iexact BA0
    iexact BA1
  isplitl [BG0 BG1]
  · iapply (unslot_g c)
    isplitl [BG0]; · iexact BG0
    iexact BG1
  isplitl [BU0 BU1]
  · iapply (unslot_u c)
    isplitl [BU0]; · iexact BU0
    iexact BU1
  isplitl [BS0 BS1]
  · iapply (unslot_s c)
    isplitl [BS0]; · iexact BS0
    iexact BS1
  isplitl [BO0 BO1]
  · iapply (unslot_o c)
    isplitl [BO0]; · iexact BO0
    iexact BO1
  iapply (unslot_t c)
  isplitl [BT0]; · iexact BT0
  iexact BT1

theorem read_off (c : Dev nD) (s' : Phys nD τ sig (Elt F)) : iprop(outof m c ∗ beside m c ∗ SI s')
    ⊢ (iprop(|={Set.univ}=> (⌜Stored m c s'.mem⌝ ∗ SI s')) : sProp 𝕄) := by
  unfold outof beside
  iintro ⟨⟨H2, ⟨%g0, HO, %e0⟩, ⟨%g1, HT, %e1⟩⟩, ⟨H0, H1⟩, HSI⟩
  icombine HSI H0 gives %h0
  icombine HSI H1 gives %h1
  icombine HSI H2 gives %h2
  icombine HSI HO gives %h3
  icombine HSI HT gives %h4
  imodintro
  isplitr
  · ipureintro
    refine ⟨(Buf.eq_of_forall_mem_univ h0).trans (V_main_arg0 m c), (Buf.eq_of_forall_mem_univ h1).trans (V_main_arg1 m c),
      (Buf.eq_of_forall_mem_univ h2).trans (V_main_arg2 m c), fun b => ?_, fun b => ?_⟩
    · exact (congrArg _ (Buf.eq_of_forall_mem_univ h3)).trans (e0 b)
    · exact (congrArg _ (Buf.eq_of_forall_mem_univ h4)).trans (e1 b)
  iexact HSI

set_option backward.isDefEq.respectTransparency.types false in
/-- For any float values, from any memory with zero counters: every fair execution terminates, with the arguments
    unchanged, every block of both results stored, and every semaphore counter at zero. -/
theorem run_main : θ_run defs (onTc (τ := τ) (main (F := F))) (s₀ m ρ) (fun r => (∀ c, Stored m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := into m) (Y := outof m) (Z := beside m)
    (hX := fun c => by
      iintro ⟨HR, HS, -, -, -⟩
      ihave H := (enter_region m c) $$ [HR HS]
      · isplitl [HR]; · iexact HR
        iexact HS
      imodintro
      iexact H)
    (hin := fun c => start m c)
    (hout := fun c => finish m c)
    (QY := Stored m)
    (hY := fun c s' => read_off m c s')
    (hQ := fun _ hh hz => ⟨fun c => (hh c).2, hz⟩)

end Cert.KernelIdeal.Pipe

end
-- ==== Proof.Value.lean ====
/-
  What the kernel and the reference compute, element by element over the extended reals.
-/
module

public import proofs.«01_k».proof.Proof.Run
public import proofs.«01_k».proof.Proof.Gen.ReferenceIdeal.Run
public import Idealize.ShloMosaic.Lib.Pointwise

@[expose] public section

set_option maxRecDepth 16384

noncomputable section

namespace Cert.KernelIdeal.Pipe

open Cert.KernelIdeal Cert.KernelIdeal.Gen
open Idealize.ShloMosaic Idealize.ShloMosaic.TcCoe

/-- The logistic gate of a pair of extended reals: `x · σ(x) · y`. -/
def swiglu (x y : EReal) : EReal := x * Ideal.logistic x * y

theorem tile_apply (a : FVec Ideal S2176x4096 .bf16) (g u : FVec Ideal S4096x256 .bf16) (p : Fin 2176) (q : Fin 256) :
    tile (F := Ideal) a g u (ix2 p q) = swiglu (∑ k : Fin 4096, a (ix2 p k) * g (ix2 k q)) (∑ k : Fin 4096, a (ix2 p k) * u (ix2 k q)) := by
  pointwise [tile]
  rfl

/-! ## Blocks read at an index -/

section
variable {F : FTy → Type} [FloatOps F] (c : Dev nD)

/-- The element of an array that a block's element is. -/
theorem coords2 {m n : Nat} (x : (⟨2, ![m, n]⟩ : Shape).Idx) (r : Fin m) (k : Fin n) (h0 : (x 0).val = r.val) (h1 : (x 1).val = k.val) : x = ix2 r k := by
  rw [eq_ix2 x]
  exact congrArg₂ ix2 (Fin.ext h0) (Fin.ext h1)
theorem oBlk_read (b : Fin 172) (f : BufOf F c oM) (p : Fin 2176) (q : Fin 256) :
    (oBlk b).view.read (Elt F) f (ix2 p q) = f (ix2 ⟨2176 * (b.val % 4) + p.val, by omega⟩ ⟨256 * (b.val / 4) + q.val, by omega⟩) := by
  refine (show _ = f ((oBlk b).view.emb (ix2 p q)) from rfl).trans (congrArg f (coords2 _ _ _ ?_ ?_))
  · show 2176 * (b.val % 4) + 1 * p.val = _; rw [Nat.one_mul]
  · show 256 * (b.val / 4) + 1 * q.val = _; rw [Nat.one_mul]
theorem tBlk_read (b : Fin 172) (f : BufOf F c tM) (p : Fin 64) (q : Fin 4096) :
    (tBlk b).view.read (Elt F) f (ix2 p q) = f (ix2 ⟨64 * b.val + p.val, by omega⟩ q) := by
  refine (show _ = f ((tBlk b).view.emb (ix2 p q)) from rfl).trans (congrArg f (coords2 _ _ _ ?_ ?_))
  · show 64 * b.val + 1 * p.val = _; rw [Nat.one_mul]
  · show 0 + 1 * q.val = _; rw [Nat.one_mul]; exact Nat.zero_add _
theorem sBlk_read (b : Fin 172) (f : BufOf F c sM) (p : Fin 64) (q : Fin 4096) :
    (sBlk b).view.read (Elt F) f (ix2 p q) = f (ix2 ⟨64 * b.val + p.val, by omega⟩ q) := by
  refine (show _ = f ((sBlk b).view.emb (ix2 p q)) from rfl).trans (congrArg f (coords2 _ _ _ ?_ ?_))
  · show 64 * b.val + 1 * p.val = _; rw [Nat.one_mul]
  · show 0 + 1 * q.val = _; rw [Nat.one_mul]; exact Nat.zero_add _
theorem aBlk_read (b : Fin 4) (f : BufOf F c aM) (p : Fin 2176) (q : Fin 4096) :
    (aBlk b).view.read (Elt F) f (ix2 p q) = f (ix2 ⟨2176 * b.val + p.val, by omega⟩ q) := by
  refine (show _ = f ((aBlk b).view.emb (ix2 p q)) from rfl).trans (congrArg f (coords2 _ _ _ ?_ ?_))
  · show 2176 * b.val + 1 * p.val = _; rw [Nat.one_mul]
  · show 0 + 1 * q.val = _; rw [Nat.one_mul]; exact Nat.zero_add _
theorem gBlk_read (b : Fin 43) (f : BufOf F c gM) (p : Fin 4096) (q : Fin 256) :
    (gBlk b).view.read (Elt F) f (ix2 p q) = f (ix2 p ⟨256 * b.val + q.val, by omega⟩) := by
  refine (show _ = f ((gBlk b).view.emb (ix2 p q)) from rfl).trans (congrArg f (coords2 _ _ _ ?_ ?_))
  · show 0 + 1 * p.val = _; rw [Nat.one_mul]; exact Nat.zero_add _
  · show 256 * b.val + 1 * q.val = _; rw [Nat.one_mul]
theorem uBlk_read (b : Fin 43) (f : BufOf F c uM) (p : Fin 4096) (q : Fin 256) :
    (uBlk b).view.read (Elt F) f (ix2 p q) = f (ix2 p ⟨256 * b.val + q.val, by omega⟩) := by
  refine (show _ = f ((uBlk b).view.emb (ix2 p q)) from rfl).trans (congrArg f (coords2 _ _ _ ?_ ?_))
  · show 0 + 1 * p.val = _; rw [Nat.one_mul]; exact Nat.zero_add _
  · show 256 * b.val + 1 * q.val = _; rw [Nat.one_mul]
end

/-! ## The sources, after the casts and slices before the call -/

section
variable {F : FTy → Type} [FloatOps F] (m : (ℓ : Loc nD τ sig) → Buf (Elt F) ℓ) (c : Dev nD)

theorem XA_eq : XA m c = truncf .bf16 (m ((c : Thread nD τ).loc main_arg0)) bitsLt_bf16_f32 := by
  unfold XA V; after_results
theorem XG_eq : XG m c = truncf .bf16 (extractStridedSlice S4096x11008 ![0, 0] (m ((c : Thread nD τ).loc main_arg1)) slices_S4096x22016_S4096x11008_0_0) bitsLt_bf16_f32 := by
  unfold XG V; after_results
theorem XU_eq : XU m c = truncf .bf16 (extractStridedSlice S4096x11008 ![0, 11008] (m ((c : Thread nD τ).loc main_arg1)) slices_S4096x22016_S4096x11008_0_11008) bitsLt_bf16_f32 := by
  unfold XU V; after_results
end

/-! ## The two results as functions of the arguments -/

/-- The gated product of the activations with the two halves of the weights. -/
def gated (h : FVec Ideal S8704x4096 .f32) (w : FVec Ideal S4096x22016 .f32) : FVec Ideal S8704x11008 .bf16 := fun j =>
  swiglu (∑ k : Fin 4096, h (ix2 (j 0) k) * w (ix2 k ⟨(j 1).val, by have h1 : (j 1).val < 11008 := (j 1).isLt; omega⟩))
    (∑ k : Fin 4096, h (ix2 (j 0) k) * w (ix2 k ⟨11008 + (j 1).val, by have h1 : (j 1).val < 11008 := (j 1).isLt; omega⟩))

theorem ref_gated (h : FVec Ideal S8704x4096 .f32) (w : FVec Ideal S4096x22016 .f32) : (truncf .bf16 (mulf (mulf (extractStridedSlice S8704x11008 ![0, 0] (Host.dotGeneral Cert.ReferenceIdeal.dot_S8704x4096_S4096x22016_S8704x22016_1_0_0_1_n_n none h w) Cert.ReferenceIdeal.Gen.slices_S8704x22016_S8704x11008_0_0) (Host.divf (broadcastInDim S8704x11008 ![] Cert.ReferenceIdeal.Gen.bcast_S_S8704x11008 (constant S_ .f32 0x3F800000#32)) (addf (broadcastInDim S8704x11008 ![] Cert.ReferenceIdeal.Gen.bcast_S_S8704x11008 (constant S_ .f32 0x3F800000#32)) (Host.exp (Host.negf (extractStridedSlice S8704x11008 ![0, 0] (Host.dotGeneral Cert.ReferenceIdeal.dot_S8704x4096_S4096x22016_S8704x22016_1_0_0_1_n_n none h w) Cert.ReferenceIdeal.Gen.slices_S8704x22016_S8704x11008_0_0)))))) (extractStridedSlice S8704x11008 ![0, 11008] (Host.dotGeneral Cert.ReferenceIdeal.dot_S8704x4096_S4096x22016_S8704x22016_1_0_0_1_n_n none h w) Cert.ReferenceIdeal.Gen.slices_S8704x22016_S8704x11008_0_11008)) bitsLt_bf16_f32 : FVec Ideal S8704x11008 .bf16) = gated h w := by
  funext j
  idx_vars j
  unfold gated swiglu
  pointwise
  rfl

section
variable (m : (ℓ : Loc nD τ sig) → Buf (Elt Ideal) ℓ) (c : Dev nD)

theorem aVal_apply (X : FVec Ideal S8704x4096 .bf16) (b : Fin 4) (p : Fin 2176) (k : Fin 4096) :
    aVal (F := Ideal) c X b (ix2 p k) = X (ix2 ⟨2176 * b.val + p.val, by omega⟩ k) := aBlk_read (F := Ideal) c b X p k
theorem gVal_apply (X : FVec Ideal S4096x11008 .bf16) (b : Fin 43) (k : Fin 4096) (q : Fin 256) :
    gVal (F := Ideal) c X b (ix2 k q) = X (ix2 k ⟨256 * b.val + q.val, by omega⟩) := gBlk_read (F := Ideal) c b X k q
theorem uVal_apply (X : FVec Ideal S4096x11008 .bf16) (b : Fin 43) (k : Fin 4096) (q : Fin 256) :
    uVal (F := Ideal) c X b (ix2 k q) = X (ix2 k ⟨256 * b.val + q.val, by omega⟩) := uBlk_read (F := Ideal) c b X k q
theorem sVal_apply (X : FVec Ideal S11008x4096 .f32) (b : Fin 172) (p : Fin 64) (q : Fin 4096) :
    sVal (F := Ideal) c X b (ix2 p q) = X (ix2 ⟨64 * b.val + p.val, by omega⟩ q) := sBlk_read (F := Ideal) c b X p q

/-- The block that trip `b` stores, at an index, of the casts of the activations and of the two halves of the weights. -/
theorem oVal_apply (h : FVec Ideal S8704x4096 .f32) (w : FVec Ideal S4096x22016 .f32) (b : Fin 172) (p : Fin 2176) (q : Fin 256) :
    oVal (F := Ideal) c (truncf .bf16 h bitsLt_bf16_f32)
        (truncf .bf16 (extractStridedSlice S4096x11008 ![0, 0] w slices_S4096x22016_S4096x11008_0_0) bitsLt_bf16_f32)
        (truncf .bf16 (extractStridedSlice S4096x11008 ![0, 11008] w slices_S4096x22016_S4096x11008_0_11008) bitsLt_bf16_f32) b.val (ix2 p q)
      = gated h w (ix2 ⟨2176 * (b.val % 4) + p.val, by omega⟩ ⟨256 * (b.val / 4) + q.val, by omega⟩) := by
  have hs : (Ring.sl 4 b.val).val = b.val % 4 := rfl
  have hb : (Ring.bk 43 (b.val / 4)).val = b.val / 4 := bk43_val (by omega)
  unfold oVal
  rw [tile_apply]
  simp only [aVal_apply, gVal_apply, uVal_apply, hs, hb]
  unfold gated
  pointwise

/-- The slab that trip `b` stores, at an index. -/
theorem tVal_apply (w : FVec Ideal S11008x4096 .f32) (b : Fin 172) (p : Fin 64) (q : Fin 4096) :
    tVal (F := Ideal) c w b.val (ix2 p q) = truncf .bf16 w bitsLt_bf16_f32 (ix2 ⟨64 * b.val + p.val, by omega⟩ q) := by
  have hb : (Ring.bk 172 b.val).val = b.val := bk172_val b.isLt
  unfold tVal cast64
  pointwise
  rw [sVal_apply]
  simp only [hb]

/-- What the kernel leaves in its second result: the output weights, cast. -/
abbrev casted (w : FVec Ideal S11008x4096 .f32) : FVec Ideal S11008x4096 .bf16 := truncf .bf16 w bitsLt_bf16_f32

/-- At the end the first result is the gated product, whole; -/
theorem out0_eq {s : MemSt nD τ sig (Elt Ideal)} (h : Stored m c s) :
    s.mem ((c : Thread nD τ).loc main_v5_0) = gated (m ((c : Thread nD τ).loc main_arg0)) (m ((c : Thread nD τ).loc main_arg1)) := by
  funext j
  obtain ⟨r, n, rfl⟩ : ∃ (r : Fin 8704) (n : Fin 11008), j = ix2 r n := ⟨_, _, eq_ix2 j⟩
  obtain ⟨b, hb⟩ : ∃ b : Fin 172, b.val = 4 * (n.val / 256) + r.val / 2176 := ⟨⟨_, by omega⟩, rfl⟩
  obtain ⟨p, hp⟩ : ∃ p : Fin 2176, p.val = r.val % 2176 := ⟨⟨_, by omega⟩, rfl⟩
  obtain ⟨q, hq⟩ : ∃ q : Fin 256, q.val = n.val % 256 := ⟨⟨_, by omega⟩, rfl⟩
  have hr : r = ⟨2176 * (b.val % 4) + p.val, by omega⟩ := Fin.ext (by show r.val = 2176 * (b.val % 4) + p.val; omega)
  have hn : n = ⟨256 * (b.val / 4) + q.val, by omega⟩ := Fin.ext (by show n.val = 256 * (b.val / 4) + q.val; omega)
  have e := h.out0 b
  rw [XA_eq, XG_eq, XU_eq] at e
  have e' := (oBlk_read (F := Ideal) c b _ p q).symm.trans ((congrFun e (ix2 p q)).trans (oVal_apply c _ _ b p q))
  have ei : (ix2 r n : S8704x11008.Idx) = ix2 _ _ := congrArg₂ ix2 hr hn
  exact (congrArg _ ei).trans (e'.trans (congrArg _ ei.symm))
/-- and the second is the weights' cast. -/
theorem out1_eq {s : MemSt nD τ sig (Elt Ideal)} (h : Stored m c s) :
    s.mem ((c : Thread nD τ).loc main_v5_1) = casted (m ((c : Thread nD τ).loc main_arg2)) := by
  funext j
  obtain ⟨r, n, rfl⟩ : ∃ (r : Fin 11008) (n : Fin 4096), j = ix2 r n := ⟨_, _, eq_ix2 j⟩
  obtain ⟨b, hb⟩ : ∃ b : Fin 172, b.val = r.val / 64 := ⟨⟨_, by omega⟩, rfl⟩
  obtain ⟨p, hp⟩ : ∃ p : Fin 64, p.val = r.val % 64 := ⟨⟨_, by omega⟩, rfl⟩
  have hr : r = ⟨64 * b.val + p.val, by omega⟩ := Fin.ext (by show r.val = 64 * b.val + p.val; omega)
  have e := h.out1 b
  rw [show XS m c = _ from V_main_arg2 m c] at e
  have e' := (tBlk_read (F := Ideal) c b _ p n).symm.trans ((congrFun e (ix2 p n)).trans (tVal_apply c _ b p n))
  have ei : (ix2 r n : S11008x4096.Idx) = ix2 _ n := congrArg (ix2 · n) hr
  exact (congrArg _ ei).trans (e'.trans (congrArg _ ei.symm))
end

end Cert.KernelIdeal.Pipe

end
-- ==== Proof.FfnOut.lean ====
/- Hand-written. The FFN's second product: what the array holds after the run, and that the reference computes the same. -/
module

public import proofs.«01_k».proof.Defs
public import proofs.«01_k».proof.Proof.Gen.FfnOutIdeal.Value
public import proofs.«01_k».proof.Proof.Gen.FfnOutReferenceIdeal.Run
public import Idealize.ShloMosaic.Lib.Pipeline.ValueKit
public import Idealize.ShloMosaic.Lib.Pointwise
public import Idealize.ShloMosaic.Lib.Claim

@[expose] public section

noncomputable section

namespace Cert.FfnOutIdeal.Sums

open Cert.FfnOutIdeal Cert.FfnOutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Which block each window is at: row tile `t / 8`, column tile `t % 8`. -/
theorem idx : ∀ t : Fin cfg0.N, win0_0.index t = ![t.val / 8, 0] ∧ win0_1.index t = ![0, t.val % 8]
    ∧ win0_2.index t = ![t.val / 8, t.val % 8] ∧ win0_3.index t = ![t.val / 8, t.val % 8] := by decide +kernel

/-- The residual and the product, index by index. -/
def sums (a : FVec Ideal S8704x11008 .f32) (w : FVec Ideal S11008x4096 .f32) (x : FVec Ideal S8704x4096 .f32) :
    FVec Ideal S8704x4096 .f32 := fun j => (x j + ∑ k : Fin 11008, a (ix2 (j 0) k) * w (ix2 k (j 1)) : EReal)

/-- What the result array holds after the run. -/
theorem final : (dats m 0 c).arrAt 3 cfg0.N
    = sums (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  unfold k0_pay1 sums
  pointwise
  blk_point [iblk, V, idx t]

/-- The reference's term is the same sum. -/
theorem ref_sums (a : FVec Ideal S8704x11008 .f32) (w : FVec Ideal S11008x4096 .f32) (x : FVec Ideal S8704x4096 .f32) :
    addf x (Host.dotGeneral Cert.FfnOutReferenceIdeal.dot_S8704x11008_S11008x4096_S8704x4096_1_0_0_1_n_n none a w) = sums a w x := by
  funext j
  idx_vars j
  unfold sums
  pointwise

end Cert.FfnOutIdeal.Sums

end
-- ==== Proof.NormPrompt.lean ====
/- Hand-written. The last norm of the prompt: what the array holds after the run, as the reference's own term. -/
module

public import proofs.«01_k».proof.Defs
public import proofs.«01_k».proof.Proof.Gen.NormPromptIdeal.Value
public import proofs.«01_k».proof.Proof.Gen.NormPromptReferenceIdeal.Run
public import Idealize.ShloMosaic.Lib.Pipeline.ValueKit
public import Idealize.ShloMosaic.Lib.Pointwise
public import Idealize.ShloMosaic.Lib.Claim

@[expose] public section

noncomputable section

namespace Cert.NormPromptIdeal.Sums

open Cert.NormPromptIdeal Cert.NormPromptIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Row tile `t` of the array; the gains' one block. -/
theorem idx : ∀ t : Fin cfg0.N, win0_0.index t = ![t.val, 0] ∧ win0_1.index t = ![0, 0]
    ∧ win0_2.index t = ![t.val, 0] := by decide +kernel

/-- The norm of the prompt's rows: each times the reciprocal root of its mean square, and the gain of the column. -/
def normed (x : FVec Ideal S8704x4096 .f32) (g : FVec Ideal S4096 .f32) : FVec Ideal S8192x4096 .f32 :=
  mulf (mulf (extractStridedSlice S8192x4096 ![0, 0] x Cert.NormPromptReferenceIdeal.Gen.slices_S8704x4096_S8192x4096_0_0) (broadcastInDim S8192x4096 ![0, 1] Cert.NormPromptReferenceIdeal.Gen.bcast_S8192x1_S8192x4096_0_1 (Host.rsqrt (addf (Host.divf (broadcastInDim Cert.NormPromptReferenceIdeal.S8192x1 ![0] Cert.NormPromptReferenceIdeal.Gen.bcast_S8192_S8192x1_0 (Host.reduceAdd (mulf (extractStridedSlice S8192x4096 ![0, 0] x Cert.NormPromptReferenceIdeal.Gen.slices_S8704x4096_S8192x4096_0_0) (extractStridedSlice S8192x4096 ![0, 0] x Cert.NormPromptReferenceIdeal.Gen.slices_S8704x4096_S8192x4096_0_0)) (constant Cert.NormPromptReferenceIdeal.S_ .f32 0x00000000#32) Cert.NormPromptReferenceIdeal.Gen.reducesTo_S8192x4096_S8192_d1 Cert.NormPromptReferenceIdeal.Gen.h_S_)) (broadcastInDim Cert.NormPromptReferenceIdeal.S8192x1 ![] Cert.NormPromptReferenceIdeal.Gen.bcast_S_S8192x1 (constant Cert.NormPromptReferenceIdeal.S_ .f32 0x45800000#32))) (broadcastInDim Cert.NormPromptReferenceIdeal.S8192x1 ![] Cert.NormPromptReferenceIdeal.Gen.bcast_S_S8192x1 (constant Cert.NormPromptReferenceIdeal.S_ .f32 0x358637BD#32)))))) (broadcastInDim S8192x4096 ![0, 1] Cert.NormPromptReferenceIdeal.Gen.bcast_S1x4096_S8192x4096_0_1 (broadcastInDim S1x4096 ![1] Cert.NormPromptReferenceIdeal.Gen.bcast_S4096_S1x4096_1 g))

/-- What the result array holds after the run. -/
theorem final : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold k0_pay1 normed
  pointwise
  blk_point [iblk, V, idx t]

end Cert.NormPromptIdeal.Sums

end
-- ==== Proof.NormSample.lean ====
/- Hand-written. The last norm of the sample: what the array holds after the run, as the reference's own term. -/
module

public import proofs.«01_k».proof.Defs
public import proofs.«01_k».proof.Proof.Gen.NormSampleIdeal.Value
public import proofs.«01_k».proof.Proof.Gen.NormSampleReferenceIdeal.Run
public import Idealize.ShloMosaic.Lib.Pipeline.ValueKit
public import Idealize.ShloMosaic.Lib.Pointwise
public import Idealize.ShloMosaic.Lib.Claim

@[expose] public section

noncomputable section

namespace Cert.NormSampleIdeal.Sums

open Cert.NormSampleIdeal Cert.NormSampleIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Row tile `t` of the array, after the prompt's 32 tiles; the gains' one block. -/
theorem idx : ∀ t : Fin cfg0.N, win0_0.index t = ![t.val + 32, 0] ∧ win0_1.index t = ![0, 0]
    ∧ win0_2.index t = ![t.val, 0] := by decide +kernel

/-- The norm of the sample's rows: each times the reciprocal root of its mean square, and the gain of the column. -/
def normed (x : FVec Ideal S8704x4096 .f32) (g : FVec Ideal S4096 .f32) : FVec Ideal S512x4096 .f32 :=
  mulf (mulf (extractStridedSlice S512x4096 ![8192, 0] x Cert.NormSampleReferenceIdeal.Gen.slices_S8704x4096_S512x4096_8192_0) (broadcastInDim S512x4096 ![0, 1] Cert.NormSampleReferenceIdeal.Gen.bcast_S512x1_S512x4096_0_1 (Host.rsqrt (addf (Host.divf (broadcastInDim Cert.NormSampleReferenceIdeal.S512x1 ![0] Cert.NormSampleReferenceIdeal.Gen.bcast_S512_S512x1_0 (Host.reduceAdd (mulf (extractStridedSlice S512x4096 ![8192, 0] x Cert.NormSampleReferenceIdeal.Gen.slices_S8704x4096_S512x4096_8192_0) (extractStridedSlice S512x4096 ![8192, 0] x Cert.NormSampleReferenceIdeal.Gen.slices_S8704x4096_S512x4096_8192_0)) (constant Cert.NormSampleReferenceIdeal.S_ .f32 0x00000000#32) Cert.NormSampleReferenceIdeal.Gen.reducesTo_S512x4096_S512_d1 Cert.NormSampleReferenceIdeal.Gen.h_S_)) (broadcastInDim Cert.NormSampleReferenceIdeal.S512x1 ![] Cert.NormSampleReferenceIdeal.Gen.bcast_S_S512x1 (constant Cert.NormSampleReferenceIdeal.S_ .f32 0x45800000#32))) (broadcastInDim Cert.NormSampleReferenceIdeal.S512x1 ![] Cert.NormSampleReferenceIdeal.Gen.bcast_S_S512x1 (constant Cert.NormSampleReferenceIdeal.S_ .f32 0x358637BD#32)))))) (broadcastInDim S512x4096 ![0, 1] Cert.NormSampleReferenceIdeal.Gen.bcast_S1x4096_S512x4096_0_1 (broadcastInDim S1x4096 ![1] Cert.NormSampleReferenceIdeal.Gen.bcast_S4096_S1x4096_1 g))

/-- What the result array holds after the run. -/
theorem final : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold k0_pay1 normed
  pointwise
  blk_point [iblk, V, idx t]

end Cert.NormSampleIdeal.Sums

end
-- ==== Proof.Gates.lean ====
/- Hand-written. The gates' part of the input product, with the casts of two output weights on the side. -/
module

public import proofs.«01_k».proof.Defs
public import proofs.«01_k».proof.Proof.Gen.GatesIdeal.Value
public import proofs.«01_k».proof.Proof.Gen.GatesReferenceIdeal.Run
public import Idealize.ShloMosaic.Lib.Pipeline.ValueKit
public import Idealize.ShloMosaic.Lib.Pointwise
public import Idealize.ShloMosaic.Lib.Claim

@[expose] public section

noncomputable section

/-! ## What the reference computes, as functions of its arguments -/

namespace Cert.GatesReferenceIdeal.Sums

open Cert.GatesReferenceIdeal Cert.GatesReferenceIdeal.Gen Idealize.ShloMosaic Idealize.ShloMosaic.TcCoe

/-- The gates: the logistic function of the product. -/
def gates (h : FVec Ideal S8704x4096 .f32) (w : FVec Ideal S4096x8192 .f32) : FVec Ideal S8704x8192 .bf16 :=
  truncf .bf16 (Host.divf (broadcastInDim S8704x8192 ![] bcast_S_S8704x8192 (constant S_ .f32 0x3F800000#32)) (addf (broadcastInDim S8704x8192 ![] bcast_S_S8704x8192 (constant S_ .f32 0x3F800000#32)) (Host.exp (Host.negf (Host.dotGeneral dot_S8704x4096_S4096x8192_S8704x8192_1_0_0_1_n_n none h w))))) bitsLt_bf16_f32

/-- The convolution branch's output weights, cast. -/
def conv_weights (wc : FVec Ideal S2048x4096 .f32) : FVec Ideal S2048x4096 .bf16 :=
  truncf .bf16 wc bitsLt_bf16_f32

/-- The mixers' output weights, cast. -/
def out_weights (wo : FVec Ideal S4096x4096 .f32) : FVec Ideal S4096x4096 .bf16 :=
  truncf .bf16 wo bitsLt_bf16_f32

end Cert.GatesReferenceIdeal.Sums

/-! ## What the kernel leaves -/

namespace Cert.GatesIdeal.Sums

open Cert.GatesIdeal Cert.GatesIdeal.Gen Idealize.ShloMosaic Idealize.ShloMosaic.TcCoe Idealize.SL.Sem
open Idealize.ShloMosaic.Pipeline (Dat)
open Cert.GatesReferenceIdeal.Sums

variable (m : (ℓ : Loc nD τ sig) → Buf (Elt Ideal) ℓ) (c : Dev nD)

/-- Which block each window is at, of a grid of 8 column tiles by 8 row tiles. -/
theorem idx : ∀ t : Fin cfg0.N, win0_0.index t = ![t.val % 8, 0] ∧ win0_1.index t = ![0, t.val / 8]
    ∧ win0_3.index t = ![t.val / 4, t.val % 4] ∧ win0_4.index t = ![t.val / 4, t.val % 4] ∧ win0_5.index t = ![t.val % 8, t.val / 8]
    ∧ win0_7.index t = ![t.val / 4, t.val % 4] ∧ win0_8.index t = ![t.val / 4, t.val % 4] := by decide +kernel

/-- The array of window 5 after the run. -/
theorem final_gates : (dats m 0 c).arrAt 5 cfg0.N = gates (m ((c : Thread nD τ).loc main_arg0)) (m ((c : Thread nD τ).loc main_arg1)) := by
  refine (dats m 0 c).arrAt_eq_of_covers 5 _ (by decide +kernel) fun t hf y => ?_
  blk_simp
  rw [after0_5]
  frame_out
  idx_vars y
  unfold k0_pay4 gates
  pointwise
  refine congrArg Ideal.logistic ?_
  blk_point [iblk, V, idx t]

/-- The array of window 7 after the run. -/
theorem final_conv_weights : (dats m 0 c).arrAt 7 cfg0.N = conv_weights (m ((c : Thread nD τ).loc main_arg3)) := by
  refine (dats m 0 c).arrAt_eq_of_covers 7 _ (by decide +kernel) fun t hf y => ?_
  blk_simp
  rw [after0_7]
  frame_out
  idx_vars y
  unfold k0_pay2 conv_weights
  pointwise
  blk_point [iblk, V, idx t]

/-- The array of window 8 after the run. -/
theorem final_out_weights : (dats m 0 c).arrAt 8 cfg0.N = out_weights (m ((c : Thread nD τ).loc main_arg4)) := by
  refine (dats m 0 c).arrAt_eq_of_covers 8 _ (by decide +kernel) fun t hf y => ?_
  blk_simp
  rw [after0_8]
  frame_out
  idx_vars y
  unfold k0_pay3 out_weights
  pointwise
  blk_point [iblk, V, idx t]

end Cert.GatesIdeal.Sums

end
-- ==== Proof.Merge.lean ====
/- Hand-written. The two branches' output products, gated and added, with the cast of the first half of the FFN's input weights on the side. -/
module

public import proofs.«01_k».proof.Defs
public import proofs.«01_k».proof.Proof.Gen.MergeIdeal.Value
public import proofs.«01_k».proof.Proof.Gen.MergeReferenceIdeal.Run
public import Idealize.ShloMosaic.Lib.Pipeline.ValueKit
public import Idealize.ShloMosaic.Lib.Pointwise
public import Idealize.ShloMosaic.Lib.Claim

@[expose] public section

noncomputable section

/-! ## What the reference computes, as functions of its arguments -/

namespace Cert.MergeReferenceIdeal.Sums

open Cert.MergeReferenceIdeal Cert.MergeReferenceIdeal.Gen Idealize.ShloMosaic Idealize.ShloMosaic.TcCoe

/-- The merged branches. -/
def merged (op : FVec Ideal S8192x2048 .f32) (os : FVec Ideal S512x2048 .f32) (cp : FVec Ideal S8192x2048 .f32) (cs : FVec Ideal S512x2048 .f32) (g : FVec Ideal S8704x8192 .f32) (wa : FVec Ideal S2048x4096 .f32) (wc : FVec Ideal S2048x4096 .f32) : FVec Ideal S8704x4096 .bf16 :=
  truncf .bf16 (addf (mulf (extractStridedSlice S8704x4096 ![0, 0] g slices_S8704x8192_S8704x4096_0_0) (Host.dotGeneral dot_S8704x2048_S2048x4096_S8704x4096_1_0_0_1_n_n none (concatenate S8704x2048 0 [⟨S8192x2048, op⟩, ⟨S512x2048, os⟩] concatenates_S8192x2048_S512x2048_S8704x2048_d0) wa)) (mulf (extractStridedSlice S8704x4096 ![0, 4096] g slices_S8704x8192_S8704x4096_0_4096) (Host.dotGeneral dot_S8704x2048_S2048x4096_S8704x4096_1_0_0_1_n_n none (concatenate S8704x2048 0 [⟨S8192x2048, cp⟩, ⟨S512x2048, cs⟩] concatenates_S8192x2048_S512x2048_S8704x2048_d0) wc))) bitsLt_bf16_f32

/-- The first half of the FFN's input weights, cast. -/
def gate_weights (w : FVec Ideal S4096x22016 .f32) : FVec Ideal S4096x11008 .bf16 :=
  truncf .bf16 (extractStridedSlice S4096x11008 ![0, 0] w slices_S4096x22016_S4096x11008_0_0) bitsLt_bf16_f32

end Cert.MergeReferenceIdeal.Sums

/-! ## What the kernel leaves -/

namespace Cert.MergeIdeal.Sums

open Cert.MergeIdeal Cert.MergeIdeal.Gen Idealize.ShloMosaic Idealize.ShloMosaic.TcCoe Idealize.SL.Sem
open Idealize.ShloMosaic.Pipeline (Dat)
open Cert.MergeReferenceIdeal.Sums

variable (m : (ℓ : Loc nD τ sig) → Buf (Elt Ideal) ℓ) (c : Dev nD)

/-- Which block each window is at, of a grid of 4 column tiles by 17 row tiles, the last of them the sample's; the side cast ends with its 64th slab. -/
theorem idx : ∀ t : Fin cfg0.N, win0_0.index t = ![min (t.val % 17) 15, 0] ∧ win0_1.index t = ![0, 0] ∧ win0_2.index t = ![min (t.val % 17) 15, 0] ∧ win0_3.index t = ![0, 0]
    ∧ win0_4.index t = ![0, t.val / 17] ∧ win0_5.index t = ![0, t.val / 17] ∧ win0_6.index t = ![t.val % 17, t.val / 17]
    ∧ win0_7.index t = ![t.val % 17, t.val / 17 + 4] ∧ win0_8.index t = ![min t.val 63 / 2, min t.val 63 % 2]
    ∧ win0_9.index t = ![t.val % 17, t.val / 17] ∧ win0_10.index t = ![min t.val 63 / 2, min t.val 63 % 2] := by decide +kernel

/-- The second grid coordinate of point `t`, compared with the number of the prompt's row tiles: -/
theorem at_prompt : ∀ t : Fin cfg0.N, t.val % 17 < 16 → Scalar.cmpi .slt (BitVec.ofNat 32 (grid0.coords t 1).val) 16#32 = 1#1 := by decide +kernel
/-- the prompt's tiles are below it, the sample's is not. -/
theorem at_sample : ∀ t : Fin cfg0.N, ¬ t.val % 17 < 16 → Scalar.cmpi .slt (BitVec.ofNat 32 (grid0.coords t 1).val) 16#32 = 0#1 := by decide +kernel

set_option maxHeartbeats 2000000 in
/-- The array of window 9 after the run. -/
theorem final_merged : (dats m 0 c).arrAt 9 cfg0.N = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  idx_vars y
  unfold k0_pay2 merged
  pointwise
  have e0 : (((win0 9).blk t).view.emb (ix2 y0 y1) 0).val = t.val % 17 * 512 + y0.val := by blk_simp [idx t]
  by_cases hs : t.val % 17 < 16
  · have hr : (((win0 9).blk t).view.emb (ix2 y0 y1) 0).val < 8192 := by rw [e0]; omega
    simp only [at_prompt t hs, dif_pos hr]
    refine congrArg₂ (· + ·) (congrArg₂ (· * ·) ?_ (Finset.sum_congr rfl fun x _ => congrArg₂ (· * ·) ?_ ?_))
      (congrArg₂ (· * ·) ?_ (Finset.sum_congr rfl fun x _ => congrArg₂ (· * ·) ?_ ?_))
    · blk_ext [iblk, V, idx t]
    · show iblk m c 0 t (ix2 y0 x) = _
      blk_ext [iblk, V, idx t]
    · blk_ext [iblk, V, idx t]
    · blk_ext [iblk, V, idx t]
    · show iblk m c 2 t (ix2 y0 x) = _
      blk_ext [iblk, V, idx t]
    · blk_ext [iblk, V, idx t]
  · have hr : ¬ (((win0 9).blk t).view.emb (ix2 y0 y1) 0).val < 8192 := by rw [e0]; omega
    simp only [at_sample t hs, dif_neg hr]
    refine congrArg₂ (· + ·) (congrArg₂ (· * ·) ?_ (Finset.sum_congr rfl fun x _ => congrArg₂ (· * ·) ?_ ?_))
      (congrArg₂ (· * ·) ?_ (Finset.sum_congr rfl fun x _ => congrArg₂ (· * ·) ?_ ?_))
    · blk_ext [iblk, V, idx t]
    · show iblk m c 1 t (ix2 y0 x) = _
      blk_ext [iblk, V, idx t]
    · blk_ext [iblk, V, idx t]
    · blk_ext [iblk, V, idx t]
    · show iblk m c 3 t (ix2 y0 x) = _
      blk_ext [iblk, V, idx t]
    · blk_ext [iblk, V, idx t]

/-- The array of window 10 after the run. -/
theorem final_gate_weights : (dats m 0 c).arrAt 10 cfg0.N = gate_weights (m ((c : Thread nD τ).loc main_arg7)) := by
  refine (dats m 0 c).arrAt_eq_of_covers 10 _ (by decide +kernel) fun t hf y => ?_
  blk_simp
  rw [after0_10]
  frame_out
  idx_vars y
  unfold k0_pay1 gate_weights
  pointwise
  blk_point [iblk, V, idx t]

end Cert.MergeIdeal.Sums

end
-- ==== Proof.OutProj.lean ====
/- Hand-written. The mixers' output product on the residual, with the cast of the second half of the FFN's input weights on the side. -/
module

public import proofs.«01_k».proof.Defs
public import proofs.«01_k».proof.Proof.Gen.OutProjIdeal.Value
public import proofs.«01_k».proof.Proof.Gen.OutProjReferenceIdeal.Run
public import Idealize.ShloMosaic.Lib.Pipeline.ValueKit
public import Idealize.ShloMosaic.Lib.Pointwise
public import Idealize.ShloMosaic.Lib.Claim

@[expose] public section

noncomputable section

/-! ## What the reference computes, as functions of its arguments -/

namespace Cert.OutProjReferenceIdeal.Sums

open Cert.OutProjReferenceIdeal Cert.OutProjReferenceIdeal.Gen Idealize.ShloMosaic Idealize.ShloMosaic.TcCoe

/-- The residual and the product. -/
def projected (mix : FVec Ideal S8704x4096 .f32) (w : FVec Ideal S4096x4096 .f32) (xp : FVec Ideal S8192x4096 .f32) (xs : FVec Ideal S512x4096 .f32) : FVec Ideal S8704x4096 .f32 :=
  addf (concatenate S8704x4096 0 [⟨S8192x4096, xp⟩, ⟨S512x4096, xs⟩] concatenates_S8192x4096_S512x4096_S8704x4096_d0) (Host.dotGeneral dot_S8704x4096_S4096x4096_S8704x4096_1_0_0_1_n_n none mix w)

/-- The second half of the FFN's input weights, cast. -/
def up_weights (wf : FVec Ideal S4096x22016 .f32) : FVec Ideal S4096x11008 .bf16 :=
  truncf .bf16 (extractStridedSlice S4096x11008 ![0, 11008] wf slices_S4096x22016_S4096x11008_0_11008) bitsLt_bf16_f32

end Cert.OutProjReferenceIdeal.Sums

/-! ## What the kernel leaves -/

namespace Cert.OutProjIdeal.Sums

open Cert.OutProjIdeal Cert.OutProjIdeal.Gen Idealize.ShloMosaic Idealize.ShloMosaic.TcCoe Idealize.SL.Sem
open Idealize.ShloMosaic.Pipeline (Dat)
open Cert.OutProjReferenceIdeal.Sums

variable (m : (ℓ : Loc nD τ sig) → Buf (Elt Ideal) ℓ) (c : Dev nD)

/-- Which block each window is at, of a grid of 4 column tiles by 17 row tiles, the last of them the sample's; the side cast ends with its 64th slab. -/
theorem idx : ∀ t : Fin cfg0.N, win0_0.index t = ![t.val % 17, 0] ∧ win0_1.index t = ![0, t.val / 17] ∧ win0_2.index t = ![min (t.val % 17) 15, t.val / 17] ∧ win0_3.index t = ![0, t.val / 17]
    ∧ win0_4.index t = ![min t.val 63 / 2, min t.val 63 % 2 + 2]
    ∧ win0_5.index t = ![t.val % 17, t.val / 17] ∧ win0_6.index t = ![min t.val 63 / 2, min t.val 63 % 2] := by decide +kernel

/-- The second grid coordinate of point `t`, compared with the number of the prompt's row tiles: -/
theorem at_prompt : ∀ t : Fin cfg0.N, t.val % 17 < 16 → Scalar.cmpi .slt (BitVec.ofNat 32 (grid0.coords t 1).val) 16#32 = 1#1 := by decide +kernel
/-- the prompt's tiles are below it, the sample's is not. -/
theorem at_sample : ∀ t : Fin cfg0.N, ¬ t.val % 17 < 16 → Scalar.cmpi .slt (BitVec.ofNat 32 (grid0.coords t 1).val) 16#32 = 0#1 := by decide +kernel

/-- The array of window 5 after the run. -/
theorem final_projected : (dats m 0 c).arrAt 5 cfg0.N = projected (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  unfold k0_pay2 projected
  pointwise
  have e0 : (((win0 5).blk t).view.emb (ix2 y0 y1) 0).val = t.val % 17 * 512 + y0.val := by blk_simp [idx t]
  by_cases hs : t.val % 17 < 16
  · rw [at_prompt t hs, dif_pos (show (((win0 5).blk t).view.emb (ix2 y0 y1) 0).val < 8192 by rw [e0]; omega)]
    refine congrArg₂ (· + ·) ?_ ?_
    · show iblk m c 2 t (ix2 y0 y1) = _
      blk_ext [iblk, V, idx t]
    · blk_point [iblk, V, idx t]
  · rw [at_sample t hs, dif_neg (show ¬ (((win0 5).blk t).view.emb (ix2 y0 y1) 0).val < 8192 by rw [e0]; omega)]
    refine congrArg₂ (· + ·) ?_ ?_
    · show iblk m c 3 t (ix2 y0 y1) = _
      blk_ext [iblk, V, idx t]
    · blk_point [iblk, V, idx t]

/-- The array of window 6 after the run. -/
theorem final_up_weights : (dats m 0 c).arrAt 6 cfg0.N = up_weights (m ((c : Thread nD τ).loc main_arg4)) := by
  refine (dats m 0 c).arrAt_eq_of_covers 6 _ (by decide +kernel) fun t hf y => ?_
  blk_simp
  rw [after0_6]
  frame_out
  idx_vars y
  unfold k0_pay1 up_weights
  pointwise
  blk_point [iblk, V, idx t]

end Cert.OutProjIdeal.Sums

end
-- ==== Proof.ProjKv.lean ====
/- Hand-written. The rotated keys and the values. Their block of weights is cast into a scratch buffer at the first of
   17 row tiles, and the other 16 find it there. -/
module

public import proofs.«01_k».proof.Defs
public import proofs.«01_k».proof.Proof.Gen.ProjKvIdeal.Value
public import proofs.«01_k».proof.Proof.Gen.ProjKvReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

/-! ## What the reference computes, as a function of its arguments -/

namespace Cert.ProjKvReferenceIdeal.Sums

open Cert.ProjKvReferenceIdeal Cert.ProjKvReferenceIdeal.Gen Idealize.ShloMosaic Idealize.ShloMosaic.TcCoe

/-- The angle by which the pair `q` of a head's lanes is turned in each row: the row's position times the pair's frequency. -/
def ang : FVec Ideal S8704x32 .f32 :=
  mulf (broadcastInDim S8704x32 ![0, 1] bcast_S8704x1_S8704x32_0_1 (broadcastInDim S8704x1 ![0] bcast_S8704_S8704x1_0 (sitofp .f32 (concatenate S8704 0 [⟨S8192, (iotaInDim S8192 32 0)⟩, ⟨S512, (shapeCast S512 (broadcastInDim S128x4 ![0, 1] bcast_S1x4_S128x4_0_1 (shapeCast S1x4 (addi (broadcastInDim S4 ![] bcast_S_S4 (constantI S_ 32 8192#32)) (iotaInDim S4 32 0)) shapeCasts_S4_S1x4)) shapeCasts_S128x4_S512)⟩] concatenates_S8192_S512_S8704_d0)))) (broadcastInDim S8704x32 ![0, 1] bcast_S1x32_S8704x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Every head of `x` with its two halves turned by the angles. -/
def turned (x : FVec Ideal S8704x256 .f32) : FVec Ideal S8704x256 .f32 :=
  shapeCast S8704x256 (concatenate S8704x4x64 2 [⟨S8704x4x32, (subf (mulf (extractStridedSlice S8704x4x32 ![0, 0, 0] (shapeCast S8704x4x64 x shapeCasts_S8704x256_S8704x4x64) slices_S8704x4x64_S8704x4x32_0_0_0) (broadcastInDim S8704x4x32 ![0, 1, 2] bcast_S8704x1x32_S8704x4x32_0_1_2 (broadcastInDim S8704x1x32 ![0, 2] bcast_S8704x32_S8704x1x32_0_2 (Host.cos ang)))) (mulf (extractStridedSlice S8704x4x32 ![0, 0, 32] (shapeCast S8704x4x64 x shapeCasts_S8704x256_S8704x4x64) slices_S8704x4x64_S8704x4x32_0_0_32) (broadcastInDim S8704x4x32 ![0, 1, 2] bcast_S8704x1x32_S8704x4x32_0_1_2 (broadcastInDim S8704x1x32 ![0, 2] bcast_S8704x32_S8704x1x32_0_2 (Host.sin ang)))))⟩, ⟨S8704x4x32, (addf (mulf (extractStridedSlice S8704x4x32 ![0, 0, 32] (shapeCast S8704x4x64 x shapeCasts_S8704x256_S8704x4x64) slices_S8704x4x64_S8704x4x32_0_0_32) (broadcastInDim S8704x4x32 ![0, 1, 2] bcast_S8704x1x32_S8704x4x32_0_1_2 (broadcastInDim S8704x1x32 ![0, 2] bcast_S8704x32_S8704x1x32_0_2 (Host.cos ang)))) (mulf (extractStridedSlice S8704x4x32 ![0, 0, 0] (shapeCast S8704x4x64 x shapeCasts_S8704x256_S8704x4x64) slices_S8704x4x64_S8704x4x32_0_0_0) (broadcastInDim S8704x4x32 ![0, 1, 2] bcast_S8704x1x32_S8704x4x32_0_1_2 (broadcastInDim S8704x1x32 ![0, 2] bcast_S8704x32_S8704x1x32_0_2 (Host.sin ang)))))⟩] concatenates_S8704x4x32_S8704x4x32_S8704x4x64_d2) shapeCasts_S8704x4x64_S8704x256

/-- The keys' part of the product. -/
def part (h : FVec Ideal S8704x4096 .f32) (w : FVec Ideal S4096x14848 .f32) : FVec Ideal S8704x256 .f32 :=
  Host.dotGeneral dot_S8704x4096_S4096x256_S8704x256_1_0_0_1_n_n none h (extractStridedSlice S4096x256 ![0, 2048] w slices_S4096x14848_S4096x256_0_2048)

/-- The keys: their part, turned. -/
def keys (h : FVec Ideal S8704x4096 .f32) (w : FVec Ideal S4096x14848 .f32) : FVec Ideal S8704x256 .f32 :=
  turned (part h w)

/-- The values: the next part. -/
def values (h : FVec Ideal S8704x4096 .f32) (w : FVec Ideal S4096x14848 .f32) : FVec Ideal S8704x256 .f32 :=
  Host.dotGeneral dot_S8704x4096_S4096x256_S8704x256_1_0_0_1_n_n none h (extractStridedSlice S4096x256 ![0, 2304] w slices_S4096x14848_S4096x256_0_2304)

/-- The run of the reference states the keys as one term; it is this. -/
theorem ref_keys (m : (ℓ : Loc nD τ sig) → Buf (Elt Ideal) ℓ) (c : Dev nD) :
    Cert.ProjKvReferenceIdeal.Value.res_main_v40 m c = keys (m ((c.tc : Thread nD τ).loc main_arg0)) (m ((c.tc : Thread nD τ).loc main_arg1)) := by
  unfold Cert.ProjKvReferenceIdeal.Value.res_main_v40
  rfl

/-- A lane of a head, turned: its own product and that of its partner in the other half. -/
theorem turned_at (x : FVec Ideal S8704x256 .f32) (r : Fin 8704) (a : Fin 4) (e : Fin 2) (q : Fin 32) :
    turned x (ix2 r (⟨64 * a.val + 32 * e.val + q.val, by omega⟩ : Fin 256))
      = if e.val = 0 then
          x (ix2 r (⟨64 * a.val + 32 * e.val + q.val, by omega⟩ : Fin 256)) * Ideal.cos (ang (ix2 r q))
            - x (ix2 r (⟨64 * a.val + 32 * (1 - e.val) + q.val, by omega⟩ : Fin 256)) * Ideal.sin (ang (ix2 r q))
        else
          x (ix2 r (⟨64 * a.val + 32 * e.val + q.val, by omega⟩ : Fin 256)) * Ideal.cos (ang (ix2 r q))
            + x (ix2 r (⟨64 * a.val + 32 * (1 - e.val) + q.val, by omega⟩ : Fin 256)) * Ideal.sin (ang (ix2 r q)) := by
  have hx : ∀ i j : Fin 256, i.val = j.val → x (ix2 r i) = x (ix2 r j) := fun i j h => by rw [Fin.ext h]
  unfold turned
  generalize ang = g
  pointwise
  by_cases he : e.val = 0
  · have k : (64 * a.val + 32 * e.val + q.val) % 64 = q.val := by omega
    simp only [k, dif_pos q.isLt, if_pos he]
    exact congrArg₂ (· - ·) (congrArg (· * _) (hx _ _ (by dsimp only; omega))) (congrArg (· * _) (hx _ _ (by dsimp only; omega)))
  · have k : (64 * a.val + 32 * e.val + q.val) % 64 = 32 + q.val := by omega
    have k1 : 32 + q.val - 32 = q.val := by omega
    simp only [k, k1, dif_neg (show ¬ 32 + q.val < 32 by omega), if_neg he]
    exact congrArg₂ (· + ·) (congrArg (· * _) (hx _ _ (by dsimp only; omega))) (congrArg (· * _) (hx _ _ (by dsimp only; omega)))

end Cert.ProjKvReferenceIdeal.Sums

/-! ## What the kernel leaves -/

namespace Cert.ProjKvIdeal.Sums

open Cert.ProjKvIdeal Cert.ProjKvIdeal.Gen Idealize.ShloMosaic Idealize.ShloMosaic.TcCoe Idealize.SL.Sem
open Idealize.ShloMosaic.Pipeline (Dat)
open Cert.ProjKvReferenceIdeal.Sums

variable (m : (ℓ : Loc nD τ sig) → Buf (Elt Ideal) ℓ) (c : Dev nD)

/-- Which block each window is at: row tile `t`; the block of weights stays. -/
theorem idx : ∀ t : Fin cfg0.N, win0_0.index t = ![t.val % 17, 0] ∧ win0_1.index t = ![0, 4]
    ∧ win0_2.index t = ![t.val % 17, 0] ∧ win0_3.index t = ![t.val % 17, 0] ∧ win0_4.index t = ![t.val % 17, 0] ∧ win0_5.index t = ![t.val % 17, 0] := by decide +kernel

/-- A cast is the identity. -/
theorem pay1 (v : Vec Ideal S256x512 .f32) (x : S256x512.Idx) : k0_pay1 v x = v x := by
  idx_vars x
  unfold k0_pay1
  pointwise

/-- What one trip of the cast loop stores is a block of the weights. -/
theorem trip_pieces (x1 : Vec Ideal S4096x512 .f32) (i : grid0.Coords) (arg2 : Memref sig .tc .vmem S512x4096 .bf16) (harg2 : arg2.IsWhole) (arg3 : Memref sig .tc .vmem S4096x512 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S4096x512 .bf16) (harg8 : arg8.IsWhole)
    (h1 : k0_cond1 i = 1#1) (k : Fin k0_t1_loop.trips) :
    ∀ p ∈ tripL_k0_t1 (F := Ideal) Variants.none c none i arg2 harg2 arg3 harg3 arg4 harg4 arg5 harg5 arg6 harg6 arg7 harg7 arg8 harg8 h1 (harg3.unread x1) k,
      ∀ x, p.2 x = x1 (p.1.emb x) := by
  unfold tripL_k0_t1 trip_k0_t1
  dsimp only
  intro p hp
  obtain rfl := List.mem_singleton.mp hp
  intro x
  refine (pay1 _ x).trans ?_
  show arg3.view.read (Elt Ideal) (harg3.unread x1) _ = _
  rw [harg3.read_unread]
  rfl

/-- So are those of all trips before `n`. -/
theorem pieces (x1 : Vec Ideal S4096x512 .f32) (i : grid0.Coords) (arg2 : Memref sig .tc .vmem S512x4096 .bf16) (harg2 : arg2.IsWhole) (arg3 : Memref sig .tc .vmem S4096x512 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S4096x512 .bf16) (harg8 : arg8.IsWhole)
    (h1 : k0_cond1 i = 1#1) : ∀ n ≤ k0_t1_loop.trips,
    ∀ p ∈ pb_k0_t1 (F := Ideal) Variants.none c none i arg2 harg2 arg3 harg3 arg4 harg4 arg5 harg5 arg6 harg6 arg7 harg7 arg8 harg8 h1 (harg3.unread x1) n,
      ∀ x, p.2 x = x1 (p.1.emb x)
  | 0, _ => fun p hp => absurd hp List.not_mem_nil
  | n + 1, hn => fun p hp => by
    rw [show n + 1 = (⟨n, hn⟩ : Fin k0_t1_loop.trips).val + 1 from rfl, pb_k0_t1_succ] at hp
    rcases List.mem_append.mp hp with hp | hp
    · exact trip_pieces c x1 i arg2 harg2 arg3 harg3 arg4 harg4 arg5 harg5 arg6 harg6 arg7 harg7 arg8 harg8 h1 _ p hp
    · exact pieces x1 i arg2 harg2 arg3 harg3 arg4 harg4 arg5 harg5 arg6 harg6 arg7 harg7 arg8 harg8 h1 n (Nat.le_of_succ_le hn) p hp

/-- The first row tile leaves the weights in the scratch, -/
theorem first (t : Fin cfg0.N) (h0 : t.val % 17 = 0) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)
      = iblk m c 1 t := by
  funext y
  have hc := scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) y
  exact View.read_writes_apply_of_pieces _ _ (show Vec Ideal S4096x512 .bf16 from iblk m c 1 t) _
    (pieces c _ (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) k0_t1_loop.trips le_rfl) y hc

/-- and computes the keys with them, -/
theorem first_keys (t : Fin cfg0.N) (h0 : t.val % 17 = 0) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)
      = k0_pay3 (iblk m c 0 t) (iblk m c 1 t) (iblk m c 2 t) (iblk m c 3 t) := by
  have e := first m c t h0
  frame_out at e
  frame_out
  refine congrArg (fun x => k0_pay3 (iblk m c 0 t) x (iblk m c 2 t) (iblk m c 3 t)) ?_
  rw [View.readCov_eq_canon', e]
  funext y
  exact congrArg _ (funext fun a => Fin.ext (by match a with | ⟨0, _⟩ => show 0 + 1 * _ = _; omega | ⟨1, _⟩ => show 0 + 1 * _ = _; omega))

/-- and the values. -/
theorem first_values (t : Fin cfg0.N) (h0 : t.val % 17 = 0) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)
      = k0_pay4 (iblk m c 0 t) (iblk m c 1 t) := by
  have e := first m c t h0
  frame_out at e
  frame_out
  refine congrArg (k0_pay4 (iblk m c 0 t)) ?_
  rw [View.readCov_eq_canon', e]
  funext y
  exact congrArg _ (funext fun a => Fin.ext (by match a with | ⟨0, _⟩ => show 0 + 1 * _ = _; omega | ⟨1, _⟩ => show 0 + 1 * _ = _; omega))

/-- The block of weights is the same at every point. -/
theorem same (k : ℕ) (hn : k + 1 < cfg0.N) :
    iblk m c 1 ⟨k, Nat.lt_of_succ_lt hn⟩ = iblk m c 1 ⟨k + 1, hn⟩ := by
  have hk : k < cfg0.N := Nat.lt_of_succ_lt hn
  funext y
  idx_vars y
  blk_ext [iblk, V, idx ⟨k, hk⟩, idx ⟨k + 1, hn⟩]

/-- Every row tile leaves the weights in the scratch. -/
theorem held : ∀ (n : ℕ) (hn : n < cfg0.N), (outsAt0 m c n hn).2.2 = iblk m c 1 ⟨n, hn⟩
  | 0, hn => by
    rw [outsAt0_A m c ⟨0, hn⟩ rfl]
    exact first m c ⟨0, hn⟩ rfl
  | k + 1, hn => by
    by_cases h0 : (k + 1) % 17 = 0
    · rw [outsAt0_A m c ⟨k + 1, hn⟩ h0]
      exact first m c ⟨k + 1, hn⟩ h0
    · rw [outsAt0_B m c ⟨k + 1, hn⟩ h0]
      exact (held k (Nat.lt_of_succ_lt hn)).trans (same m c k hn)

/-- A later row tile computes the keys with what it finds in the scratch, -/
theorem later_keys (t : Fin cfg0.N) (h0 : ¬ t.val % 17 = 0) (xs : Vec Ideal S4096x512 .bf16) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) xs
      = k0_pay3 (iblk m c 0 t) xs (iblk m c 2 t) (iblk m c 3 t) := by
  frame_out
  exact congrArg (fun x => k0_pay3 (iblk m c 0 t) x (iblk m c 2 t) (iblk m c 3 t)) (read_unread_whole _ _ _)

/-- and the values. -/
theorem later_values (t : Fin cfg0.N) (h0 : ¬ t.val % 17 = 0) (xs : Vec Ideal S4096x512 .bf16) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) xs
      = k0_pay4 (iblk m c 0 t) xs := by
  frame_out
  exact congrArg (k0_pay4 (iblk m c 0 t)) (read_unread_whole _ _ _)

/-- So every point computes the keys with the weights, -/
theorem out_keys (n : ℕ) (hn : n < cfg0.N) :
    (outsAt0 m c n hn).1 = k0_pay3 (iblk m c 0 ⟨n, hn⟩) (iblk m c 1 ⟨n, hn⟩) (iblk m c 2 ⟨n, hn⟩) (iblk m c 3 ⟨n, hn⟩) := by
  by_cases h0 : n % 17 = 0
  · have e := congrArg Prod.fst (outsAt0_A m c ⟨n, hn⟩ h0)
    dsimp only at e
    rw [e]
    exact first_keys m c ⟨n, hn⟩ h0
  · obtain ⟨k, rfl⟩ : ∃ k, n = k + 1 := ⟨n - 1, by omega⟩
    have e := congrArg Prod.fst (outsAt0_B m c ⟨k + 1, hn⟩ h0)
    dsimp only at e
    rw [e, later_keys m c ⟨k + 1, hn⟩ h0]
    exact congrArg (fun x => k0_pay3 (iblk m c 0 ⟨k + 1, hn⟩) x (iblk m c 2 ⟨k + 1, hn⟩) (iblk m c 3 ⟨k + 1, hn⟩)) ((held m c k (Nat.lt_of_succ_lt hn)).trans (same m c k hn))

/-- and the values. -/
theorem out_values (n : ℕ) (hn : n < cfg0.N) :
    (outsAt0 m c n hn).2.1 = k0_pay4 (iblk m c 0 ⟨n, hn⟩) (iblk m c 1 ⟨n, hn⟩) := by
  by_cases h0 : n % 17 = 0
  · have e := congrArg (fun o => o.2.1) (outsAt0_A m c ⟨n, hn⟩ h0)
    dsimp only at e
    rw [e]
    exact first_values m c ⟨n, hn⟩ h0
  · obtain ⟨k, rfl⟩ : ∃ k, n = k + 1 := ⟨n - 1, by omega⟩
    have e := congrArg (fun o => o.2.1) (outsAt0_B m c ⟨k + 1, hn⟩ h0)
    dsimp only at e
    rw [e, later_values m c ⟨k + 1, hn⟩ h0]
    exact congrArg (k0_pay4 _) ((held m c k (Nat.lt_of_succ_lt hn)).trans (same m c k hn))

/-- The array of the values after the run. -/
theorem final_values : (dats m 0 c).arrAt 5 cfg0.N = values (m ((c : Thread nD τ).loc main_arg0)) (m ((c : Thread nD τ).loc main_arg1)) := by
  refine (dats m 0 c).arrAt_eq_of_covers 5 _ (by decide +kernel) fun t hf y => ?_
  blk_simp
  rw [after0_5, out_values m c t.val t.isLt]
  idx_vars y
  unfold k0_pay4 k0_pay2 values
  pointwise
  blk_point [iblk, V, idx t]

/-- Two halves, put side by side and twice, at a lane. -/
theorem table (x y : FVec Ideal S8704x32 .f32) (r : Fin 8704) (b : Fin 2) (e : Fin 2) (q : Fin 32) :
    shapeCast S8704x128 (broadcastInDim S1x8704x2x64 ![0, 1, 2, 3] bcast_S1x8704x1x64_S1x8704x2x64_0_1_2_3 fun i =>
        shapeCast S1x8704x1x64 (concatenate S8704x64 1 [⟨S8704x32, x⟩, ⟨S8704x32, y⟩] concatenates_S8704x32_S8704x32_S8704x64_d1) shapeCasts_S8704x64_S1x8704x1x64 i)
      shapeCasts_S1x8704x2x64_S8704x128 (ix2 r (⟨64 * b.val + 32 * e.val + q.val, by omega⟩ : Fin 128))
      = if e.val = 0 then x (ix2 r q) else y (ix2 r q) := by
  pointwise
  by_cases he : e.val = 0
  · have k : (64 * b.val + 32 * e.val + q.val) % 64 = q.val := by omega
    simp only [k, dif_pos q.isLt, if_pos he]
  · have k : (64 * b.val + 32 * e.val + q.val) % 64 = 32 + q.val := by omega
    have k1 : 32 + q.val - 32 = q.val := by omega
    simp only [k, k1, dif_neg (show ¬ 32 + q.val < 32 by omega), if_neg he]

/-- The cosines that the kernel is given, -/
theorem cosines (r : Fin 8704) (b : Fin 2) (e : Fin 2) (q : Fin 32) :
    V m c main_v27 (ix2 r (⟨64 * b.val + 32 * e.val + q.val, by omega⟩ : Fin 128)) = Ideal.cos (ang (ix2 r q)) := by
  entry_read
  exact (table (Host.cos ang) (Host.cos ang) r b e q).trans (ite_self _)

/-- and the sines, the first half's negated. -/
theorem sines (r : Fin 8704) (b : Fin 2) (e : Fin 2) (q : Fin 32) :
    V m c main_v30 (ix2 r (⟨64 * b.val + 32 * e.val + q.val, by omega⟩ : Fin 128)) = if e.val = 0 then - Ideal.sin (ang (ix2 r q)) else Ideal.sin (ang (ix2 r q)) := by
  entry_read
  exact table (Host.negf (Host.sin ang)) (Host.sin ang) r b e q

/-- Which half of a head a lane is in, in words. -/
theorem half : ∀ (a : Fin 4) (e : Fin 2) (q : Fin 32), IntOp.cmpi .slt (IntOp.andi (BitVec.ofNat 32 (64 * a.val + 32 * e.val + q.val)) 63#32) 32#32 = if e.val = 0 then 1#1 else 0#1 := by
  decide +kernel

/-- A lane of a head, turned by the kernel: its own product and that of its partner in the other half. -/
theorem pay3 (h : Vec Ideal S512x4096 .bf16) (w : Vec Ideal S4096x512 .bf16) (x2 x3 : Vec Ideal S512x128 .f32) (r : Fin 512) (a : Fin 4) (e : Fin 2) (q : Fin 32) :
    k0_pay3 h w x2 x3 (ix2 r (⟨64 * a.val + 32 * e.val + q.val, by omega⟩ : Fin 256))
      = k0_pay2 h w (ix2 r (⟨64 * a.val + 32 * e.val + q.val, by omega⟩ : Fin 512)) * x2 (ix2 r (⟨64 * (a.val % 2) + 32 * e.val + q.val, by omega⟩ : Fin 128))
        + k0_pay2 h w (ix2 r (⟨64 * a.val + 32 * (1 - e.val) + q.val, by omega⟩ : Fin 512)) * x3 (ix2 r (⟨64 * (a.val % 2) + 32 * e.val + q.val, by omega⟩ : Fin 128)) := by
  unfold k0_pay3
  generalize k0_pay2 h w = x
  pointwise
  rw [half]
  have hx : ∀ i j : Fin 512, i.val = j.val → x (ix2 r i) = x (ix2 r j) := fun i j h => by rw [Fin.ext h]
  have hd : ∀ z : Vec Ideal S512x128 .f32, (if h : 64 * a.val + 32 * e.val + q.val < 128 then z (ix2 r (⟨64 * a.val + 32 * e.val + q.val, h⟩ : Fin 128))
      else z (ix2 r (⟨64 * a.val + 32 * e.val + q.val - 128, by omega⟩ : Fin 128))) = z (ix2 r (⟨64 * (a.val % 2) + 32 * e.val + q.val, by omega⟩ : Fin 128)) := by
    intro z
    by_cases h : 64 * a.val + 32 * e.val + q.val < 128
    · rw [dif_pos h]
      exact congrArg (fun l : Fin 128 => z (ix2 r l)) (Fin.ext (by dsimp only; omega))
    · rw [dif_neg h]
      exact congrArg (fun l : Fin 128 => z (ix2 r l)) (Fin.ext (by dsimp only; omega))
  refine congrArg₂ (· + ·) (congrArg (_ * ·) (hd x2)) (congrArg₂ (· * ·) ?_ (hd x3))
  by_cases he : e.val = 0
  · rw [if_pos he]
    exact hx _ _ (by dsimp only; omega)
  · rw [if_neg he]
    exact hx _ _ (by dsimp only; omega)

/-- The row tile's blocks of the two tables, -/
theorem cosines_block (t : Fin cfg0.N) (y : Fin 512) (l : Fin 128) :
    iblk m c 2 t (ix2 y l) = V m c main_v27 (ix2 (⟨512 * (t.val % 17) + y.val, by omega⟩ : Fin 8704) l) := by
  blk_ext [iblk, idx t]
/-- of sines too, -/
theorem sines_block (t : Fin cfg0.N) (y : Fin 512) (l : Fin 128) :
    iblk m c 3 t (ix2 y l) = V m c main_v30 (ix2 (⟨512 * (t.val % 17) + y.val, by omega⟩ : Fin 8704) l) := by
  blk_ext [iblk, idx t]

/-- and its product, at the keys' lanes. -/
theorem product (t : Fin cfg0.N) (y : Fin 512) (j : Fin 256) :
    k0_pay2 (iblk m c 0 t) (iblk m c 1 t) (ix2 y (⟨j.val, by omega⟩ : Fin 512))
      = part (m ((c : Thread nD τ).loc main_arg0)) (m ((c : Thread nD τ).loc main_arg1)) (ix2 (⟨512 * (t.val % 17) + y.val, by omega⟩ : Fin 8704) j) := by
  unfold k0_pay2 part
  pointwise
  blk_point [iblk, V, idx t]

/-- To add the product with the opposite is to subtract the product. -/
theorem add_mul_neg (x y z : EReal) : x + y * -z = x - y * z := by
  rw [mul_neg, sub_eq_add_neg]

/-- The array of the keys after the run. -/
theorem final_keys : (dats m 0 c).arrAt 4 cfg0.N = keys (m ((c : Thread nD τ).loc main_arg0)) (m ((c : Thread nD τ).loc main_arg1)) := by
  refine (dats m 0 c).arrAt_eq_of_covers 4 _ (by decide +kernel) fun t hf y => ?_
  blk_simp
  rw [after0_4, out_keys m c t.val t.isLt]
  idx_vars y
  have ht : (((View.whole main_v32_0).slice (win0_4.rect t)).emb (ix2 y0 y1)) = (ix2 (⟨512 * (t.val % 17) + y0.val, by omega⟩ : Fin 8704) y1) := by
    blk_ext [idx t]
  rw [ht]
  unfold keys
  obtain ⟨a, e, q, rfl⟩ : ∃ (a : Fin 4) (e : Fin 2) (q : Fin 32), y1 = (⟨64 * a.val + 32 * e.val + q.val, by omega⟩ : Fin 256) :=
    ⟨⟨y1.val / 64, by omega⟩, ⟨y1.val % 64 / 32, by omega⟩, ⟨y1.val % 32, by omega⟩, Fin.ext (by show y1.val = 64 * (y1.val / 64) + 32 * (y1.val % 64 / 32) + y1.val % 32; omega)⟩
  rw [pay3, cosines_block, sines_block]
  have c1 := cosines m c (⟨512 * (t.val % 17) + y0.val, by omega⟩ : Fin 8704) ⟨a.val % 2, by omega⟩ e q
  have c2 := sines m c (⟨512 * (t.val % 17) + y0.val, by omega⟩ : Fin 8704) ⟨a.val % 2, by omega⟩ e q
  have p1 := product m c t y0 ⟨64 * a.val + 32 * e.val + q.val, by omega⟩
  have p2 := product m c t y0 ⟨64 * a.val + 32 * (1 - e.val) + q.val, by omega⟩
  refine (congrArg₂ (· + ·) (congrArg₂ (· * ·) p1 c1) (congrArg₂ (· * ·) p2 c2)).trans ?_
  rw [turned_at]
  by_cases he : e.val = 0
  · rw [if_pos he, if_pos he]
    exact add_mul_neg _ _ _
  · rw [if_neg he, if_neg he]

end Cert.ProjKvIdeal.Sums

end
-- ==== Proof.ProjGlu.lean ====
/- Hand-written. The convolution's gated input. Its two blocks of weights are cast into a scratch buffer at the first of
   17 row tiles, and the other 16 find them there. -/
module

public import proofs.«01_k».proof.Defs
public import proofs.«01_k».proof.Proof.Gen.ProjGluIdeal.Value
public import proofs.«01_k».proof.Proof.Gen.ProjGluReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

/-! ## What the reference computes, as a function of its arguments -/

namespace Cert.ProjGluReferenceIdeal.Sums

open Cert.ProjGluReferenceIdeal Cert.ProjGluReferenceIdeal.Gen Idealize.ShloMosaic Idealize.ShloMosaic.TcCoe

/-- The product's first part, gated by the second. -/
def glu (h : FVec Ideal S8704x4096 .f32) (w : FVec Ideal S4096x14848 .f32) : FVec Ideal S8704x2048 .f32 :=
  mulf (Host.dotGeneral dot_S8704x4096_S4096x2048_S8704x2048_1_0_0_1_n_n none h (extractStridedSlice S4096x2048 ![0, 2560] w slices_S4096x14848_S4096x2048_0_2560)) (Host.divf (broadcastInDim S8704x2048 ![] bcast_S_S8704x2048 (constant S_ .f32 0x3F800000#32)) (addf (broadcastInDim S8704x2048 ![] bcast_S_S8704x2048 (constant S_ .f32 0x3F800000#32)) (Host.exp (Host.negf (Host.dotGeneral dot_S8704x4096_S4096x2048_S8704x2048_1_0_0_1_n_n none h (extractStridedSlice S4096x2048 ![0, 4608] w slices_S4096x14848_S4096x2048_0_4608))))))

end Cert.ProjGluReferenceIdeal.Sums

/-! ## What the kernel leaves -/

namespace Cert.ProjGluIdeal.Sums

open Cert.ProjGluIdeal Cert.ProjGluIdeal.Gen Idealize.ShloMosaic Idealize.ShloMosaic.TcCoe Idealize.SL.Sem
open Idealize.ShloMosaic.Pipeline (Dat)
open Cert.ProjGluReferenceIdeal.Sums

variable (m : (ℓ : Loc nD τ sig) → Buf (Elt Ideal) ℓ) (c : Dev nD)

/-- Which block each window is at: row tile `t % 17`, column tile `t / 17`. -/
theorem idx : ∀ t : Fin cfg0.N, win0_0.index t = ![t.val % 17, 0] ∧ win0_1.index t = ![0, t.val / 17 + 5]
    ∧ win0_2.index t = ![0, t.val / 17 + 9] ∧ win0_3.index t = ![t.val % 17, t.val / 17] := by decide +kernel

/-- Two blocks of weights side by side. -/
def both (x1 x2 : Vec Ideal S4096x512 .f32) : Vec Ideal S4096x1024 .bf16 := fun y =>
  if h : (y 1).val < 512 then x1 (ix2 (y 0) ⟨(y 1).val, h⟩)
  else x2 (ix2 (y 0) ⟨(y 1).val - 512, by have : (y 1).val < 1024 := (y 1).isLt; omega⟩)

/-- The offsets of trip `k` of the cast loop: its 256 rows. -/
theorem offs : ∀ k : Fin k0_t1_loop.trips, k0_off1 k = ![256 * k.val, 0] ∧ k0_off2 k = ![256 * k.val, 0] ∧ k0_off3 k = ![256 * k.val, 512] := by
  decide +kernel

/-- A cast is the identity. -/
theorem pay1 (v : Vec Ideal S256x512 .f32) (x : S256x512.Idx) : k0_pay1 v x = v x := by
  idx_vars x
  unfold k0_pay1
  pointwise
/-- The same of the other block. -/
theorem pay2 (v : Vec Ideal S256x512 .f32) (x : S256x512.Idx) : k0_pay2 v x = v x := by
  idx_vars x
  unfold k0_pay2
  pointwise

/-- What one trip of the cast loop stores are blocks of the two weights side by side. -/
theorem trip_pieces (x1 x2 : Vec Ideal S4096x512 .f32) (i : grid0.Coords) (arg2 : Memref sig .tc .vmem S512x4096 .bf16) (harg2 : arg2.IsWhole)
    (arg3 : Memref sig .tc .vmem S4096x512 .f32) (harg3 : arg3.IsWhole) (arg4 : Memref sig .tc .vmem S4096x512 .f32) (harg4 : arg4.IsWhole)
    (arg5 : Memref sig .tc .vmem S512x512 .f32) (harg5 : arg5.IsWhole) (arg6 : Memref sig .tc .vmem S4096x1024 .bf16) (harg6 : arg6.IsWhole)
    (h1 : k0_cond1 i = 1#1) (k : Fin k0_t1_loop.trips) :
    ∀ p ∈ tripL_k0_t1 (F := Ideal) Variants.none c none i arg2 harg2 arg3 harg3 arg4 harg4 arg5 harg5 arg6 harg6 h1 (harg3.unread x1) (harg4.unread x2) k,
      ∀ x, p.2 x = both x1 x2 (p.1.emb x) := by
  obtain ⟨e1, e2, e3⟩ := offs k
  have e10 : k0_off1 k 0 = 256 * k.val := congrFun e1 0
  have e11 : k0_off1 k 1 = 0 := congrFun e1 1
  have e20 : k0_off2 k 0 = 256 * k.val := congrFun e2 0
  have e21 : k0_off2 k 1 = 0 := congrFun e2 1
  have e30 : k0_off3 k 0 = 256 * k.val := congrFun e3 0
  have e31 : k0_off3 k 1 = 512 := congrFun e3 1
  unfold tripL_k0_t1 trip_k0_t1
  dsimp only
  intro p hp
  rcases List.mem_cons.mp hp with rfl | hp
  · intro x
    have r0 : (x 0).val < 256 := (x 0).isLt
    have r1 : (x 1).val < 512 := (x 1).isLt
    have y0 : ((Rect.unit (s := S4096x1024) (k0_off3 k) S256x512.size (k0_off3_inb i k h1)).emb x 0).val = 256 * k.val + (x 0).val := by
      show k0_off3 k 0 + 1 * (x 0).val = _; rw [e30]; omega
    have y1 : ((Rect.unit (s := S4096x1024) (k0_off3 k) S256x512.size (k0_off3_inb i k h1)).emb x 1).val = 512 + (x 1).val := by
      show k0_off3 k 1 + 1 * (x 1).val = _; rw [e31]; omega
    refine (pay2 _ x).trans ?_
    show arg4.view.read (Elt Ideal) (harg4.unread x2) _ = _
    rw [harg4.read_unread]
    unfold both
    rw [dif_neg (show ¬ _ < 512 from fun h => absurd (y1.symm.trans_lt h) (by omega))]
    refine congrArg x2 (funext fun a => Fin.ext ?_)
    match a with
    | ⟨0, _⟩ => refine Eq.trans ?_ y0.symm; show k0_off1 k 0 + 1 * (x 0).val = _; rw [e10]; omega
    | ⟨1, _⟩ => refine Eq.trans ?_ (congrArg (· - 512) y1).symm; show k0_off1 k 1 + 1 * (x 1).val = 512 + (x 1).val - 512; rw [e11]; omega
  · obtain rfl := List.mem_singleton.mp hp
    intro x
    have r1 : (x 1).val < 512 := (x 1).isLt
    have y0 : ((Rect.unit (s := S4096x1024) (k0_off2 k) S256x512.size (k0_off2_inb i k h1)).emb x 0).val = 256 * k.val + (x 0).val := by
      show k0_off2 k 0 + 1 * (x 0).val = _; rw [e20]; omega
    have y1 : ((Rect.unit (s := S4096x1024) (k0_off2 k) S256x512.size (k0_off2_inb i k h1)).emb x 1).val = (x 1).val := by
      show k0_off2 k 1 + 1 * (x 1).val = _; rw [e21]; omega
    refine (pay1 _ x).trans ?_
    show arg3.view.read (Elt Ideal) (harg3.unread x1) _ = _
    rw [harg3.read_unread]
    unfold both
    rw [dif_pos (show _ < 512 from y1.trans_lt r1)]
    refine congrArg x1 (funext fun a => Fin.ext ?_)
    match a with
    | ⟨0, _⟩ => refine Eq.trans ?_ y0.symm; show k0_off1 k 0 + 1 * (x 0).val = _; rw [e10]; omega
    | ⟨1, _⟩ => refine Eq.trans ?_ y1.symm; show k0_off1 k 1 + 1 * (x 1).val = _; rw [e11]; omega

/-- So are those of all trips before `n`. -/
theorem pieces (x1 x2 : Vec Ideal S4096x512 .f32) (i : grid0.Coords) (arg2 : Memref sig .tc .vmem S512x4096 .bf16) (harg2 : arg2.IsWhole)
    (arg3 : Memref sig .tc .vmem S4096x512 .f32) (harg3 : arg3.IsWhole) (arg4 : Memref sig .tc .vmem S4096x512 .f32) (harg4 : arg4.IsWhole)
    (arg5 : Memref sig .tc .vmem S512x512 .f32) (harg5 : arg5.IsWhole) (arg6 : Memref sig .tc .vmem S4096x1024 .bf16) (harg6 : arg6.IsWhole)
    (h1 : k0_cond1 i = 1#1) : ∀ n ≤ k0_t1_loop.trips,
    ∀ p ∈ pb_k0_t1 (F := Ideal) Variants.none c none i arg2 harg2 arg3 harg3 arg4 harg4 arg5 harg5 arg6 harg6 h1 (harg3.unread x1) (harg4.unread x2) n,
      ∀ x, p.2 x = both x1 x2 (p.1.emb x)
  | 0, _ => fun p hp => absurd hp List.not_mem_nil
  | n + 1, hn => fun p hp => by
    rw [show n + 1 = (⟨n, hn⟩ : Fin k0_t1_loop.trips).val + 1 from rfl, pb_k0_t1_succ] at hp
    rcases List.mem_append.mp hp with hp | hp
    · exact trip_pieces c x1 x2 i arg2 harg2 arg3 harg3 arg4 harg4 arg5 harg5 arg6 harg6 h1 _ p hp
    · exact pieces x1 x2 i arg2 harg2 arg3 harg3 arg4 harg4 arg5 harg5 arg6 harg6 h1 n (Nat.le_of_succ_le hn) p hp

/-- The first row tile of a column leaves the two blocks of weights in the scratch. -/
theorem first (t : Fin cfg0.N) (h0 : t.val % 17 = 0) :
    sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
      = both (iblk m c 1 t) (iblk m c 2 t) := by
  funext y
  have hc := scover0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) y
  exact View.read_writes_apply_of_pieces _ _ (both (iblk m c 1 t) (iblk m c 2 t)) _
    (pieces c _ _ (grid0.coords t) (ms0_0 t) (hs0_0 t) (ms0_1 t) (hs0_1 t) (ms0_2 t) (hs0_2 t) (ms0_3 t) (hs0_3 t) scM0_0 (Memref.isWhole_whole _) ((hcond0_0 t).mpr h0) k0_t1_loop.trips le_rfl) y hc

/-- and computes with them. -/
theorem first_out (t : Fin cfg0.N) (h0 : t.val % 17 = 0) :
    out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
      = k0_pay3 (iblk m c 0 t) (both (iblk m c 1 t) (iblk m c 2 t)) := by
  have e := first m c t h0
  frame_out at e
  frame_out
  refine congrArg (k0_pay3 _) ?_
  rw [View.readCov_eq_canon', e]
  funext y
  exact congrArg _ (funext fun a => Fin.ext (by match a with | ⟨0, _⟩ => show 0 + 1 * _ = _; omega | ⟨1, _⟩ => show 0 + 1 * _ = _; omega))

/-- The blocks of weights change with the column only. -/
theorem same (k : ℕ) (hn : k + 1 < cfg0.N) (h0 : ¬ (k + 1) % 17 = 0) :
    both (iblk m c 1 ⟨k, Nat.lt_of_succ_lt hn⟩) (iblk m c 2 ⟨k, Nat.lt_of_succ_lt hn⟩) = both (iblk m c 1 ⟨k + 1, hn⟩) (iblk m c 2 ⟨k + 1, hn⟩) := by
  have hk : k < cfg0.N := Nat.lt_of_succ_lt hn
  refine congrArg₂ both ?_ ?_
  · funext y
    idx_vars y
    blk_ext [iblk, V, idx ⟨k, hk⟩, idx ⟨k + 1, hn⟩]
  · funext y
    idx_vars y
    blk_ext [iblk, V, idx ⟨k, hk⟩, idx ⟨k + 1, hn⟩]

/-- Every row tile leaves its two blocks of weights in the scratch: a later one does not write it, and its blocks are the
same as the first's. -/
theorem held : ∀ (n : ℕ) (hn : n < cfg0.N), (outsAt0 m c n hn).2 = both (iblk m c 1 ⟨n, hn⟩) (iblk m c 2 ⟨n, hn⟩)
  | 0, hn => by
    rw [outsAt0_A m c ⟨0, hn⟩ rfl]
    exact first m c ⟨0, hn⟩ rfl
  | k + 1, hn => by
    by_cases h0 : (k + 1) % 17 = 0
    · rw [outsAt0_A m c ⟨k + 1, hn⟩ h0]
      exact first m c ⟨k + 1, hn⟩ h0
    · rw [outsAt0_B m c ⟨k + 1, hn⟩ h0]
      exact (held k (Nat.lt_of_succ_lt hn)).trans (same m c k hn h0)

/-- A later row tile computes with what it finds in the scratch. -/
theorem later_out (t : Fin cfg0.N) (h0 : ¬ t.val % 17 = 0) (xs : Vec Ideal S4096x1024 .bf16) :
    out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) xs
      = k0_pay3 (iblk m c 0 t) xs := by
  frame_out
  exact congrArg (k0_pay3 _) (read_unread_whole _ _ _)

/-- So every point computes with its blocks of weights. -/
theorem out : ∀ (n : ℕ) (hn : n < cfg0.N), (outsAt0 m c n hn).1 = k0_pay3 (iblk m c 0 ⟨n, hn⟩) (both (iblk m c 1 ⟨n, hn⟩) (iblk m c 2 ⟨n, hn⟩)) := by
  intro n hn
  by_cases h0 : n % 17 = 0
  · have e := congrArg Prod.fst (outsAt0_A m c ⟨n, hn⟩ h0)
    dsimp only at e
    rw [e]
    exact first_out m c ⟨n, hn⟩ h0
  · obtain ⟨k, rfl⟩ : ∃ k, n = k + 1 := ⟨n - 1, by omega⟩
    have e := congrArg Prod.fst (outsAt0_B m c ⟨k + 1, hn⟩ h0)
    dsimp only at e
    rw [e, later_out m c ⟨k + 1, hn⟩ h0]
    exact congrArg (k0_pay3 _) ((held m c k (Nat.lt_of_succ_lt hn)).trans (same m c k hn h0))

/-- The left half of the two blocks, -/
theorem both_left (x1 x2 : Vec Ideal S4096x512 .f32) (k : Fin 4096) (j : Fin 512) (h : j.val < 1024) :
    both x1 x2 (ix2 k (⟨j.val, h⟩ : Fin 1024)) = x1 (ix2 k j) := dif_pos j.isLt
/-- and the right. -/
theorem both_right (x1 x2 : Vec Ideal S4096x512 .f32) (k : Fin 4096) (j : Fin 512) (h : 512 + j.val < 1024) :
    both x1 x2 (ix2 k (⟨512 + j.val, h⟩ : Fin 1024)) = x2 (ix2 k j) :=
  (dif_neg (show ¬ 512 + j.val < 512 by omega)).trans
    (congrArg x2 (congrArg (ix2 k) (Fin.ext (show 512 + j.val - 512 = j.val by omega))))

/-- The array of window 3 after the run. -/
theorem final : (dats m 0 c).arrAt 3 cfg0.N = glu (m ((c : Thread nD τ).loc main_arg0)) (m ((c : Thread nD τ).loc main_arg1)) := by
  refine (dats m 0 c).arrAt_eq_of_covers 3 _ (by decide +kernel) fun t hf y => ?_
  blk_simp
  rw [after0_3, out m c t.val t.isLt]
  idx_vars y
  unfold k0_pay3 glu
  pointwise
  simp only [both_left, both_right]
  refine congrArg₂ (· * ·) ?_ (congrArg Ideal.logistic ?_)
  · blk_point [iblk, V, idx t]
  · blk_point [iblk, V, idx t]

end Cert.ProjGluIdeal.Sums

end
-- ==== Proof.ConvSample.lean ====
/- Hand-written. The sample's new state of the convolution: the old state without its four oldest steps, and the four new
   steps after it. -/
module

public import proofs.«01_k».proof.Defs
public import proofs.«01_k».proof.Proof.Gen.ConvSampleIdeal.Value
public import proofs.«01_k».proof.Proof.Gen.ConvSampleReferenceIdeal.Run
public import Idealize.ShloMosaic.Lib.Pipeline.ValueKit
public import Idealize.ShloMosaic.Lib.WholeRead
public import Idealize.ShloMosaic.Lib.Pointwise
public import Idealize.ShloMosaic.Lib.Claim

@[expose] public section

noncomputable section

/-! ## What the reference computes, as a function of its arguments -/

namespace Cert.ConvSampleReferenceIdeal.Sums

open Cert.ConvSampleReferenceIdeal Cert.ConvSampleReferenceIdeal.Gen Idealize.ShloMosaic Idealize.ShloMosaic.TcCoe

/-- The last 30 steps of each sequence's old state and its four new steps, which are rows of `x` from 8192 on, steps first. -/
def state (old : FVec Ideal S128x30x2048 .f32) (x : FVec Ideal S8704x2048 .f32) : FVec Ideal S30x128x2048 .f32 :=
  transpose S30x128x2048 [1, 0, 2] (extractStridedSlice S128x30x2048 ![0, 4, 0] (concatenate S128x34x2048 1 [⟨S128x30x2048, old⟩, ⟨S128x4x2048, (shapeCast S128x4x2048 (extractStridedSlice S512x2048 ![8192, 0] x slices_S8704x2048_S512x2048_8192_0) shapeCasts_S512x2048_S128x4x2048)⟩] concatenates_S128x30x2048_S128x4x2048_S128x34x2048_d1) slices_S128x34x2048_S128x30x2048_0_4_0) transposes_S128x30x2048_S30x128x2048_1_0_2

/-- Its first 26 steps are the old state's from step 4 on, -/
theorem state_old (old : FVec Ideal S128x30x2048 .f32) (x : FVec Ideal S8704x2048 .f32) (r : Fin 26) (s : Fin 128) (l : Fin 2048) :
    state old x (ix3 (⟨r.val, by omega⟩ : Fin 30) s l) = old (ix3 s (⟨r.val + 4, by omega⟩ : Fin 30) l) := by
  unfold state
  pointwise
  refine (dif_pos (by omega)).trans ?_
  exact congrArg old (congrArg (ix3 s · l) (Fin.ext (Nat.add_comm 4 r.val)))

/-- the last four the sequence's new ones. -/
theorem state_new (old : FVec Ideal S128x30x2048 .f32) (x : FVec Ideal S8704x2048 .f32) (r : Fin 4) (s : Fin 128) (l : Fin 2048) :
    state old x (ix3 (⟨26 + r.val, by omega⟩ : Fin 30) s l) = x (ix2 (⟨8192 + 4 * s.val + r.val, by omega⟩ : Fin 8704) l) := by
  unfold state
  pointwise
  refine (dif_neg (by omega)).trans ?_
  exact congrArg x (congrArg (ix2 · l) (Fin.ext (by show 8192 + (s.val * 4 + (4 + (26 + r.val) - 30)) = 8192 + 4 * s.val + r.val; omega)))

end Cert.ConvSampleReferenceIdeal.Sums

/-! ## What the call leaves -/

namespace Cert.ConvSampleIdeal.Sums

open Cert.ConvSampleIdeal Cert.ConvSampleIdeal.Gen Idealize.ShloMosaic Idealize.ShloMosaic.TcCoe Idealize.SL.Sem
open Cert.ConvSampleReferenceIdeal.Sums (state state_old state_new)

/-- A block of 32 states moved on by four steps: steps 4 to 29 of the old ones, then the four new steps. -/
def moved (old : Vec Ideal S30x32x2048 .f32) (new : Vec Ideal S4x32x2048 .f32) : Vec Ideal S30x32x2048 .f32 := fun y =>
  if h : (y 0).val < 26 then old (ix3 (⟨(y 0).val + 4, by omega⟩ : Fin 30) (⟨(y 1).val, (y 1).isLt⟩ : Fin 32) (⟨(y 2).val, (y 2).isLt⟩ : Fin 2048))
  else new (ix3 (⟨(y 0).val - 26, by have h0 : (y 0).val < 30 := (y 0).isLt; omega⟩ : Fin 4) (⟨(y 1).val, (y 1).isLt⟩ : Fin 32) (⟨(y 2).val, (y 2).isLt⟩ : Fin 2048))

/-- Taken as a matrix and back, eight sequences' lanes at a step are themselves. -/
theorem twice (v : Vec Ideal S1x8x128 .f32) (x : S1x8x128.Idx) :
    (shapeCast S1x8x128 (shapeCast S8x128 v shapeCasts_S1x8x128_S8x128 : Vec Ideal S8x128 .f32) shapeCasts_S8x128_S1x8x128 : Vec Ideal S1x8x128 .f32) x = v x := by
  idx_vars x
  pointwise

/-- A stored piece agrees with the moved states where it lies. -/
def Agrees (old : Vec Ideal S30x32x2048 .f32) (new : Vec Ideal S4x32x2048 .f32) (p : View.Piece (Elt Ideal) S30x32x2048 .f32) : Prop :=
  ∀ x, p.2 x = moved old new (p.1.emb x)

/-- Stored four steps earlier, what was loaded of the old states is a block of the moved ones, -/
theorem kept (M : Memref sig .tc .vmem S30x32x2048 .f32) (hM : M.IsWhole) (old : Vec Ideal S30x32x2048 .f32) (new : Vec Ideal S4x32x2048 .f32)
    (a b : Fin 3 → ℕ) (ha : ∀ d, a d + S1x8x128.size d ≤ S30x32x2048.size d) (hb : ∀ d, b d + (![1, 8, 128] : Fin 3 → ℕ) d ≤ S30x32x2048.size d)
    (e0 : a 0 = b 0 + 4) (e1 : a 1 = b 1) (e2 : a 2 = b 2) :
    Agrees old new ⟨Rect.unit (s := S30x32x2048) b ![1, 8, 128] hb, (shapeCast S1x8x128 (shapeCast S8x128 (View.readAt (Elt Ideal) M.view (Rect.unit (s := S30x32x2048) a S1x8x128.size ha).toLoadRect (hM.unread old) : Vec Ideal S1x8x128 .f32) shapeCasts_S1x8x128_S8x128 : Vec Ideal S8x128 .f32) shapeCasts_S8x128_S1x8x128 : Vec Ideal S1x8x128 .f32)⟩ := by
  intro (x : S1x8x128.Idx)
  show (shapeCast S1x8x128 (shapeCast S8x128 (View.readAt (Elt Ideal) M.view (Rect.unit (s := S30x32x2048) a S1x8x128.size ha).toLoadRect (hM.unread old) : Vec Ideal S1x8x128 .f32) shapeCasts_S1x8x128_S8x128 : Vec Ideal S8x128 .f32) shapeCasts_S8x128_S1x8x128 : Vec Ideal S1x8x128 .f32) x
    = moved old new ((Rect.unit (s := S30x32x2048) b ![1, 8, 128] hb).emb x)
  rw [twice _ x, hM.readAt_unread]
  have r0 : (x 0).val < 1 := (x 0).isLt
  have h0 : a 0 + 1 ≤ 30 := ha 0
  have y0 : ((Rect.unit (s := S30x32x2048) b ![1, 8, 128] hb).emb x 0).val = b 0 + 1 * (x 0).val := rfl
  have y1 : ((Rect.unit (s := S30x32x2048) b ![1, 8, 128] hb).emb x 1).val = b 1 + 1 * (x 1).val := rfl
  have y2 : ((Rect.unit (s := S30x32x2048) b ![1, 8, 128] hb).emb x 2).val = b 2 + 1 * (x 2).val := rfl
  unfold moved
  rw [dif_pos (by rw [y0]; omega)]
  refine congrArg old (funext fun d => Fin.ext ?_)
  match d with
  | ⟨0, _⟩ => show a 0 + 1 * (x 0).val = _ + 4; rw [y0]; omega
  | ⟨1, _⟩ => exact (congrArg (· + 1 * (x 1).val) e1).trans y1.symm
  | ⟨2, _⟩ => exact (congrArg (· + 1 * (x 2).val) e2).trans y2.symm

/-- and stored 26 steps later, what was loaded of the new steps. -/
theorem added (M : Memref sig .tc .vmem S4x32x2048 .f32) (hM : M.IsWhole) (old : Vec Ideal S30x32x2048 .f32) (new : Vec Ideal S4x32x2048 .f32)
    (a b : Fin 3 → ℕ) (ha : ∀ d, a d + S1x8x128.size d ≤ S4x32x2048.size d) (hb : ∀ d, b d + (![1, 8, 128] : Fin 3 → ℕ) d ≤ S30x32x2048.size d)
    (e0 : b 0 = a 0 + 26) (e1 : a 1 = b 1) (e2 : a 2 = b 2) :
    Agrees old new ⟨Rect.unit (s := S30x32x2048) b ![1, 8, 128] hb, (shapeCast S1x8x128 (shapeCast S8x128 (View.readAt (Elt Ideal) M.view (Rect.unit (s := S4x32x2048) a S1x8x128.size ha).toLoadRect (hM.unread new) : Vec Ideal S1x8x128 .f32) shapeCasts_S1x8x128_S8x128 : Vec Ideal S8x128 .f32) shapeCasts_S8x128_S1x8x128 : Vec Ideal S1x8x128 .f32)⟩ := by
  intro (x : S1x8x128.Idx)
  show (shapeCast S1x8x128 (shapeCast S8x128 (View.readAt (Elt Ideal) M.view (Rect.unit (s := S4x32x2048) a S1x8x128.size ha).toLoadRect (hM.unread new) : Vec Ideal S1x8x128 .f32) shapeCasts_S1x8x128_S8x128 : Vec Ideal S8x128 .f32) shapeCasts_S8x128_S1x8x128 : Vec Ideal S1x8x128 .f32) x
    = moved old new ((Rect.unit (s := S30x32x2048) b ![1, 8, 128] hb).emb x)
  rw [twice _ x, hM.readAt_unread]
  have y0 : ((Rect.unit (s := S30x32x2048) b ![1, 8, 128] hb).emb x 0).val = b 0 + 1 * (x 0).val := rfl
  have y1 : ((Rect.unit (s := S30x32x2048) b ![1, 8, 128] hb).emb x 1).val = b 1 + 1 * (x 1).val := rfl
  have y2 : ((Rect.unit (s := S30x32x2048) b ![1, 8, 128] hb).emb x 2).val = b 2 + 1 * (x 2).val := rfl
  unfold moved
  rw [dif_neg (by rw [y0]; omega)]
  refine congrArg new (funext fun d => Fin.ext ?_)
  match d with
  | ⟨0, _⟩ => show a 0 + 1 * (x 0).val = _ - 26; rw [y0]; omega
  | ⟨1, _⟩ => exact (congrArg (· + 1 * (x 1).val) e1).trans y1.symm
  | ⟨2, _⟩ => exact (congrArg (· + 1 * (x 2).val) e2).trans y2.symm

variable (m : (ℓ : Loc nD τ sig) → Buf (Elt Ideal) ℓ) (c : Dev nD)

/-- What one trip over the lanes stores, of four groups of eight sequences four new steps and 26 old ones each, are blocks
    of the moved states. -/
theorem trip_pieces (x1 : Vec Ideal S30x32x2048 .f32) (x2 : Vec Ideal S4x32x2048 .f32) (x3 : Vec Ideal S31x2048 .f32) (x4 : Vec Ideal S1x2048 .f32)
    (i : grid0.Coords) (arg1 : Memref sig .tc .vmem S30x32x2048 .f32) (harg1 : arg1.IsWhole) (arg2 : Memref sig .tc .vmem S4x32x2048 .f32) (harg2 : arg2.IsWhole) (arg3 : Memref sig .tc .vmem S31x2048 .f32) (harg3 : arg3.IsWhole)
    (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole)
    (arg7 : Memref sig .tc .vmem S4x32x2048 .bf16) (harg7 : arg7.IsWhole) (arg8 : Memref sig .tc .vmem S30x32x2048 .f32) (harg8 : arg8.IsWhole) (arg9 : Memref sig .tc .vmem S4x32x2048 .f32) (harg9 : arg9.IsWhole) (k : Fin k0_t1_loop.trips) :
    ∀ p ∈ (tripL_k0_t1 (F := Ideal) Variants.none c none i arg1 harg1 arg2 harg2 arg3 harg3 arg4 harg4 arg5 harg5 arg6 harg6 arg7 harg7 arg8 harg8 arg9 harg9 (harg1.unread x1) (harg2.unread x2) (harg3.unread x3) (harg4.unread x4) k).1,
      Agrees x1 x2 p := by
  unfold tripL_k0_t1 trip_k0_t1
  dsimp only
  iterate 4
    iterate 4 refine List.forall_mem_cons.mpr ⟨added arg2 harg2 x1 x2 _ _ _ _ (by rfl) (by rfl) (by rfl), ?_⟩
    iterate 26 refine List.forall_mem_cons.mpr ⟨kept arg1 harg1 x1 x2 _ _ _ _ (by rfl) (by rfl) (by rfl), ?_⟩
  exact fun _ h => absurd h List.not_mem_nil

/-- So are those of all trips before `n`. -/
theorem pieces (x1 : Vec Ideal S30x32x2048 .f32) (x2 : Vec Ideal S4x32x2048 .f32) (x3 : Vec Ideal S31x2048 .f32) (x4 : Vec Ideal S1x2048 .f32)
    (i : grid0.Coords) (arg1 : Memref sig .tc .vmem S30x32x2048 .f32) (harg1 : arg1.IsWhole) (arg2 : Memref sig .tc .vmem S4x32x2048 .f32) (harg2 : arg2.IsWhole) (arg3 : Memref sig .tc .vmem S31x2048 .f32) (harg3 : arg3.IsWhole)
    (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole)
    (arg7 : Memref sig .tc .vmem S4x32x2048 .bf16) (harg7 : arg7.IsWhole) (arg8 : Memref sig .tc .vmem S30x32x2048 .f32) (harg8 : arg8.IsWhole) (arg9 : Memref sig .tc .vmem S4x32x2048 .f32) (harg9 : arg9.IsWhole) : ∀ n ≤ k0_t1_loop.trips,
    ∀ p ∈ (pb_k0_t1 (F := Ideal) Variants.none c none i arg1 harg1 arg2 harg2 arg3 harg3 arg4 harg4 arg5 harg5 arg6 harg6 arg7 harg7 arg8 harg8 arg9 harg9 (harg1.unread x1) (harg2.unread x2) (harg3.unread x3) (harg4.unread x4) n).1,
      Agrees x1 x2 p
  | 0, _ => fun p hp => absurd hp List.not_mem_nil
  | n + 1, hn => fun p hp => by
    rw [show n + 1 = (⟨n, hn⟩ : Fin k0_t1_loop.trips).val + 1 from rfl, pb_k0_t1_succ] at hp
    rcases List.mem_append.mp hp with hp | hp
    · exact trip_pieces c x1 x2 x3 x4 i arg1 harg1 arg2 harg2 arg3 harg3 arg4 harg4 arg5 harg5 arg6 harg6 arg7 harg7 arg8 harg8 arg9 harg9 _ p hp
    · exact pieces x1 x2 x3 x4 i arg1 harg1 arg2 harg2 arg3 harg3 arg4 harg4 arg5 harg5 arg6 harg6 arg7 harg7 arg8 harg8 arg9 harg9 n (Nat.le_of_succ_le hn) p hp

/-- Point `t` leaves the states of 32 sequences moved on. -/
theorem state_block (t : Fin cfg0.N) : (outsAt0 m c t).2 = moved (iblk m c 0 t) (iblk m c 1 t) := by
  funext y
  have hc := cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) y
  refine (show (outsAt0 m c t).2 y = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) y from rfl).trans ?_
  exact View.read_writes_apply_of_pieces _ _ (moved (iblk m c 0 t) (iblk m c 1 t)) _
    (pieces c (iblk m c 0 t) (iblk m c 1 t) (iblk m c 2 t) (iblk m c 3 t) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) k0_t1_loop.trips le_rfl) y hc

/-- There are four points. -/
theorem count (t : Fin cfg0.N) : t.val < 4 := t.isLt

/-- Where the blocks lie. -/
theorem idx : ∀ t : Fin cfg0.N, win0_0.index t = ![0, t.val, 0] ∧ win0_1.index t = ![0, t.val, 0] ∧ win0_7.index t = ![0, t.val, 0] := by
  decide +kernel

/-- A block of old states is 32 sequences of them, -/
theorem old_block_at (t : Fin cfg0.N) (r : Fin 30) (s : Fin 32) (l : Fin 2048) :
    iblk m c 0 t (ix3 r s l) = m ((c : Thread nD τ).loc main_arg1) (ix3 (⟨32 * t.val + s.val, by have := count t; omega⟩ : Fin 128) r l) := by
  have e : iblk m c 0 t (ix3 r s l) = V m c main_v3 (ix3 r (⟨32 * t.val + s.val, by have := count t; omega⟩ : Fin 128) l) := by
    blk_ext [iblk, idx t]
  rw [e]
  entry_read
  pointwise

/-- and a block of new steps is theirs. -/
theorem new_block_at (t : Fin cfg0.N) (r : Fin 4) (s : Fin 32) (l : Fin 2048) :
    iblk m c 1 t (ix3 r s l)
      = m ((c : Thread nD τ).loc main_arg0) (ix2 (⟨8192 + 4 * (32 * t.val + s.val) + r.val, by have := count t; omega⟩ : Fin 8704) l) := by
  have e : iblk m c 1 t (ix3 r s l) = V m c main_v2 (ix3 r (⟨32 * t.val + s.val, by have := count t; omega⟩ : Fin 128) l) := by
    blk_ext [iblk, idx t]
  rw [e]
  entry_read
  pointwise
  exact congrArg (m ((c : Thread nD τ).loc main_arg0)) (congrArg (ix2 · l) (Fin.ext (by show 8192 + ((32 * t.val + s.val) * 4 + r.val) = _; dsimp only; omega)))

/-- The array of the new states after the run. -/
theorem final_state : (dats m 0 c).arrAt 7 cfg0.N = state (m ((c : Thread nD τ).loc main_arg1)) (m ((c : Thread nD τ).loc main_arg0)) := by
  refine (dats m 0 c).arrAt_eq_of_covers 7 _ (by decide +kernel) fun t hf y => ?_
  have ht := count t
  have h4 : ∀ r : Fin 4, 26 + r.val < 30 := fun r => by omega
  blk_simp
  rw [after0_7, state_block m c t]
  idx_vars y
  have hy : (((View.whole main_v7_1).slice (win0_7.rect t)).emb (ix3 y0 y1 y2)) = (ix3 y0 (⟨32 * t.val + y1.val, by omega⟩ : Fin 128) y2) := by
    blk_ext [idx t]
  rw [hy]
  unfold moved
  by_cases h : y0.val < 26
  · refine (dif_pos h).trans ?_
    refine (old_block_at m c t (⟨y0.val + 4, by omega⟩ : Fin 30) y1 y2).trans ?_
    exact (state_old _ _ (⟨y0.val, h⟩ : Fin 26) (⟨32 * t.val + y1.val, by omega⟩ : Fin 128) y2).symm
  · refine (dif_neg h).trans ?_
    refine (new_block_at m c t (⟨y0.val - 26, by omega⟩ : Fin 4) y1 y2).trans ?_
    refine (state_new (m ((c : Thread nD τ).loc main_arg1)) (m ((c : Thread nD τ).loc main_arg0)) (⟨y0.val - 26, by omega⟩ : Fin 4) (⟨32 * t.val + y1.val, by omega⟩ : Fin 128) y2).symm.trans ?_
    exact congrArg (state _ _) (congrArg (ix3 · _ y2) (Fin.ext (by show 26 + (y0.val - 26) = y0.val; omega)))

end Cert.ConvSampleIdeal.Sums

end
-- ==== Proof.ProjQ.lean ====
/- Hand-written. The rotated queries. Their two blocks of weights are cast into a scratch buffer at the first of 17 row
   tiles, the heads of the one between those of the other, and the other 16 find them there. After the call the heads
   are put back in their order on the host. -/
module

public import proofs.«01_k».proof.Defs
public import proofs.«01_k».proof.Proof.Gen.ProjQIdeal.Frame
public import proofs.«01_k».proof.Proof.Gen.ProjQReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

/-! ## What the reference computes, as a function of its arguments -/

namespace Cert.ProjQReferenceIdeal.Sums

open Cert.ProjQReferenceIdeal Cert.ProjQReferenceIdeal.Gen Idealize.ShloMosaic Idealize.ShloMosaic.TcCoe

/-- The angle by which the pair `q` of a head's lanes is turned in each row: the row's position times the pair's frequency. -/
def ang : FVec Ideal S8704x32 .f32 :=
  mulf (broadcastInDim S8704x32 ![0, 1] bcast_S8704x1_S8704x32_0_1 (broadcastInDim S8704x1 ![0] bcast_S8704_S8704x1_0 (sitofp .f32 (concatenate S8704 0 [⟨S8192, (iotaInDim S8192 32 0)⟩, ⟨S512, (shapeCast S512 (broadcastInDim S128x4 ![0, 1] bcast_S1x4_S128x4_0_1 (shapeCast S1x4 (addi (broadcastInDim S4 ![] bcast_S_S4 (constantI S_ 32 8192#32)) (iotaInDim S4 32 0)) shapeCasts_S4_S1x4)) shapeCasts_S128x4_S512)⟩] concatenates_S8192_S512_S8704_d0)))) (broadcastInDim S8704x32 ![0, 1] bcast_S1x32_S8704x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Every head of `x` with its two halves turned by the angles. -/
def turned (x : FVec Ideal S8704x2048 .f32) : FVec Ideal S8704x2048 .f32 :=
  shapeCast S8704x2048 (concatenate S8704x32x64 2 [⟨S8704x32x32, (subf (mulf (extractStridedSlice S8704x32x32 ![0, 0, 0] (shapeCast S8704x32x64 x shapeCasts_S8704x2048_S8704x32x64) slices_S8704x32x64_S8704x32x32_0_0_0) (broadcastInDim S8704x32x32 ![0, 1, 2] bcast_S8704x1x32_S8704x32x32_0_1_2 (broadcastInDim S8704x1x32 ![0, 2] bcast_S8704x32_S8704x1x32_0_2 (Host.cos ang)))) (mulf (extractStridedSlice S8704x32x32 ![0, 0, 32] (shapeCast S8704x32x64 x shapeCasts_S8704x2048_S8704x32x64) slices_S8704x32x64_S8704x32x32_0_0_32) (broadcastInDim S8704x32x32 ![0, 1, 2] bcast_S8704x1x32_S8704x32x32_0_1_2 (broadcastInDim S8704x1x32 ![0, 2] bcast_S8704x32_S8704x1x32_0_2 (Host.sin ang)))))⟩, ⟨S8704x32x32, (addf (mulf (extractStridedSlice S8704x32x32 ![0, 0, 32] (shapeCast S8704x32x64 x shapeCasts_S8704x2048_S8704x32x64) slices_S8704x32x64_S8704x32x32_0_0_32) (broadcastInDim S8704x32x32 ![0, 1, 2] bcast_S8704x1x32_S8704x32x32_0_1_2 (broadcastInDim S8704x1x32 ![0, 2] bcast_S8704x32_S8704x1x32_0_2 (Host.cos ang)))) (mulf (extractStridedSlice S8704x32x32 ![0, 0, 0] (shapeCast S8704x32x64 x shapeCasts_S8704x2048_S8704x32x64) slices_S8704x32x64_S8704x32x32_0_0_0) (broadcastInDim S8704x32x32 ![0, 1, 2] bcast_S8704x1x32_S8704x32x32_0_1_2 (broadcastInDim S8704x1x32 ![0, 2] bcast_S8704x32_S8704x1x32_0_2 (Host.sin ang)))))⟩] concatenates_S8704x32x32_S8704x32x32_S8704x32x64_d2) shapeCasts_S8704x32x64_S8704x2048

/-- The queries' part of the product. -/
def part (h : FVec Ideal S8704x4096 .f32) (w : FVec Ideal S4096x14848 .f32) : FVec Ideal S8704x2048 .f32 :=
  Host.dotGeneral dot_S8704x4096_S4096x2048_S8704x2048_1_0_0_1_n_n none h (extractStridedSlice S4096x2048 ![0, 0] w slices_S4096x14848_S4096x2048_0_0)

/-- The queries: their part, turned. -/
def queries (h : FVec Ideal S8704x4096 .f32) (w : FVec Ideal S4096x14848 .f32) : FVec Ideal S8704x2048 .bf16 :=
  turned (part h w)

/-- The run of the reference states the queries as one term; it is this. -/
theorem ref_queries (m : (ℓ : Loc nD τ sig) → Buf (Elt Ideal) ℓ) (c : Dev nD) :
    Cert.ProjQReferenceIdeal.Value.res_main_v41 m c = queries (m ((c.tc : Thread nD τ).loc main_arg0)) (m ((c.tc : Thread nD τ).loc main_arg1)) := by
  unfold Cert.ProjQReferenceIdeal.Value.res_main_v41
  rfl

/-- A lane of a head, turned: its own product and that of its partner in the other half. -/
theorem turned_at (x : FVec Ideal S8704x2048 .f32) (r : Fin 8704) (a : Fin 32) (e : Fin 2) (q : Fin 32) :
    turned x (ix2 r (⟨64 * a.val + 32 * e.val + q.val, by omega⟩ : Fin 2048))
      = if e.val = 0 then
          x (ix2 r (⟨64 * a.val + 32 * e.val + q.val, by omega⟩ : Fin 2048)) * Ideal.cos (ang (ix2 r q))
            - x (ix2 r (⟨64 * a.val + 32 * (1 - e.val) + q.val, by omega⟩ : Fin 2048)) * Ideal.sin (ang (ix2 r q))
        else
          x (ix2 r (⟨64 * a.val + 32 * e.val + q.val, by omega⟩ : Fin 2048)) * Ideal.cos (ang (ix2 r q))
            + x (ix2 r (⟨64 * a.val + 32 * (1 - e.val) + q.val, by omega⟩ : Fin 2048)) * Ideal.sin (ang (ix2 r q)) := by
  have hx : ∀ i j : Fin 2048, i.val = j.val → x (ix2 r i) = x (ix2 r j) := fun i j h => by rw [Fin.ext h]
  unfold turned
  generalize ang = g
  pointwise
  by_cases he : e.val = 0
  · have k : (64 * a.val + 32 * e.val + q.val) % 64 = q.val := by omega
    simp only [k, dif_pos q.isLt, if_pos he]
    exact congrArg₂ (· - ·) (congrArg (· * _) (hx _ _ (by dsimp only; omega))) (congrArg (· * _) (hx _ _ (by dsimp only; omega)))
  · have k : (64 * a.val + 32 * e.val + q.val) % 64 = 32 + q.val := by omega
    have k1 : 32 + q.val - 32 = q.val := by omega
    simp only [k, k1, dif_neg (show ¬ 32 + q.val < 32 by omega), if_neg he]
    exact congrArg₂ (· + ·) (congrArg (· * _) (hx _ _ (by dsimp only; omega))) (congrArg (· * _) (hx _ _ (by dsimp only; omega)))

end Cert.ProjQReferenceIdeal.Sums

/-! ## What the kernel leaves -/

namespace Cert.ProjQIdeal.Sums

open Cert.ProjQIdeal Cert.ProjQIdeal.Gen Idealize.ShloMosaic Idealize.ShloMosaic.TcCoe Idealize.SL.Sem
open Idealize.ShloMosaic.Pipeline (Dat)
open Cert.ProjQReferenceIdeal.Sums

variable (m : (ℓ : Loc nD τ sig) → Buf (Elt Ideal) ℓ) (c : Dev nD)

/-- Which block each window is at: row tile `t % 17`, column tile `t / 17`, which has two blocks of weights. -/
theorem idx : ∀ t : Fin cfg0.N, win0_0.index t = ![t.val % 17, 0] ∧ win0_1.index t = ![0, 2 * (t.val / 17)]
    ∧ win0_2.index t = ![0, 2 * (t.val / 17) + 1] ∧ win0_3.index t = ![t.val % 17, 0] ∧ win0_4.index t = ![t.val % 17, 0]
    ∧ win0_5.index t = ![t.val % 17, t.val / 17] := by decide +kernel

/-- Two blocks of weights, the heads (64 lanes) of the one between those of the other. -/
def mixed (x1 x2 : Vec Ideal S4096x512 .f32) : Vec Ideal S4096x1024 .bf16 := fun y =>
  if (y 1).val % 128 < 64 then x1 (ix2 (y 0) ⟨64 * ((y 1).val / 128) + (y 1).val % 64, by have : (y 1).val < 1024 := (y 1).isLt; omega⟩)
  else x2 (ix2 (y 0) ⟨64 * ((y 1).val / 128) + (y 1).val % 64, by have : (y 1).val < 1024 := (y 1).isLt; omega⟩)

/-- The offsets of trip `k` of the cast loop: its 256 rows. -/
theorem offs : ∀ k : Fin k0_t1_loop.trips, k0_off1 k = ![256 * k.val, 0] ∧ k0_off2 k = ![256 * k.val, 0] := by
  decide +kernel

/-- The windows of 64 lanes of a block. -/
theorem lanes : ∀ n : Fin 16, S256x512.Slices ![0, 64 * (n.val / 2)] S256x64 := by decide

/-- The window of 64 lanes that head `n` of the mixed weights is: of the one block or of the other. -/
def window (v w : Vec Ideal S256x512 .f32) (n : Fin 16) : FVec Ideal S256x64 .f32 :=
  extractStridedSlice S256x64 ![0, 64 * (n.val / 2)] (if n.val % 2 = 0 then v else w) (lanes n)

/-- Sixteen windows side by side have all lanes. -/
theorem windows_fit (v w : Vec Ideal S256x512 .f32) : Shape.Concatenates ((List.ofFn fun n : Fin 16 => (⟨S256x64, window v w n⟩ : (s : Shape) × (s.Idx → Ideal .f32))).map (·.1)) S256x1024 1 := by
  rw [show (List.ofFn fun n : Fin 16 => (⟨S256x64, window v w n⟩ : (s : Shape) × (s.Idx → Ideal .f32))).map (·.1) = List.replicate 16 S256x64 from rfl]
  exact concatenates_S256x64_S256x64_S256x64_S256x64_S256x64_S256x64_S256x64_S256x64_S256x64_S256x64_S256x64_S256x64_S256x64_S256x64_S256x64_S256x64_S256x1024_d1

/-- What a trip stores of its rows of the two blocks: all windows in their order; the cast is the identity. -/
theorem pay1_windows (v w : Vec Ideal S256x512 .f32) : k0_pay1 v w = shapeCast S256x1024 (truncf (F := Ideal) .bf16 (concatenate S256x1024 1 (List.ofFn fun n : Fin 16 => (⟨S256x64, window v w n⟩ : (s : Shape) × (s.Idx → Ideal .f32))) (windows_fit v w)) bitsLt_bf16_f32) shapeCasts_S256x1024_S256x1024 := rfl

/-- At a lane of a head. -/
theorem pay1 (v w : Vec Ideal S256x512 .f32) (x : Fin 256) (j : Fin 1024) :
    k0_pay1 v w (ix2 x j)
      = if j.val % 128 < 64 then v (ix2 x (⟨64 * (j.val / 128) + j.val % 64, by omega⟩ : Fin 512)) else w (ix2 x (⟨64 * (j.val / 128) + j.val % 64, by omega⟩ : Fin 512)) := by
  rw [pay1_windows]
  have h := concatenate_ofFn_apply (t := S256x1024) (s₁ := S256x64) 1 (window v w) (windows_fit v w) rfl 64 rfl (ix2 x j)
    (⟨j.val / 64, by omega⟩ : Fin 16) rfl (ix2 x (⟨j.val % 64, by omega⟩ : Fin 64)) rfl
    (fun b hb => by match b with | ⟨0, _⟩ => rfl | ⟨1, _⟩ => exact absurd rfl hb)
  generalize concatenate S256x1024 1 _ _ = z at h ⊢
  pointwise
  rw [h]
  unfold window
  pointwise
  have e : j.val / 64 / 2 = j.val / 128 := by omega
  by_cases hj : j.val % 128 < 64
  · rw [if_pos hj, if_pos (show j.val / 64 % 2 = 0 by omega)]
    exact congrArg (fun k : Fin 512 => v (ix2 x k)) (Fin.ext (by dsimp only; omega))
  · rw [if_neg hj, if_neg (show ¬ j.val / 64 % 2 = 0 by omega)]
    exact congrArg (fun k : Fin 512 => w (ix2 x k)) (Fin.ext (by dsimp only; omega))

/-- What one trip of the cast loop stores is a block of the mixed weights. -/
theorem trip_pieces (x1 x2 : Vec Ideal S4096x512 .f32) (i : grid0.Coords) (arg2 : Memref sig .tc .vmem S512x4096 .bf16) (harg2 : arg2.IsWhole) (arg3 : Memref sig .tc .vmem S4096x512 .f32) (harg3 : arg3.IsWhole)
    (arg4 : Memref sig .tc .vmem S4096x512 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x1024 .bf16) (harg7 : arg7.IsWhole)
    (arg8 : Memref sig .tc .vmem S4096x1024 .bf16) (harg8 : arg8.IsWhole)
    (h1 : k0_cond1 i = 1#1) (k : Fin k0_t1_loop.trips) :
    ∀ p ∈ tripL_k0_t1 (F := Ideal) Variants.none c none i arg2 harg2 arg3 harg3 arg4 harg4 arg5 harg5 arg6 harg6 arg7 harg7 arg8 harg8 h1 (harg3.unread x1) (harg4.unread x2) k,
      ∀ x, p.2 x = mixed x1 x2 (p.1.emb x) := by
  obtain ⟨e1, e2⟩ := offs k
  have e10 : k0_off1 k 0 = 256 * k.val := congrFun e1 0
  have e11 : k0_off1 k 1 = 0 := congrFun e1 1
  have e20 : k0_off2 k 0 = 256 * k.val := congrFun e2 0
  have e21 : k0_off2 k 1 = 0 := congrFun e2 1
  unfold tripL_k0_t1 trip_k0_t1
  dsimp only
  intro p hp
  obtain rfl := List.mem_singleton.mp hp
  intro x
  have r0 : (x 0).val < 256 := (x 0).isLt
  have r1 : (x 1).val < 1024 := (x 1).isLt
  have y0 : ((Rect.unit (s := S4096x1024) (k0_off2 k) S256x1024.size (k0_off2_inb i k h1)).emb x 0).val = 256 * k.val + (x 0).val := by
    show k0_off2 k 0 + 1 * (x 0).val = _; rw [e20]; omega
  have y1 : ((Rect.unit (s := S4096x1024) (k0_off2 k) S256x1024.size (k0_off2_inb i k h1)).emb x 1).val = (x 1).val := by
    show k0_off2 k 1 + 1 * (x 1).val = _; rw [e21]; omega
  have ex : x = ix2 (x 0) (x 1) := funext fun a => by match a with | ⟨0, _⟩ => rfl | ⟨1, _⟩ => rfl
  refine ((congrArg (k0_pay1 _ _) ex).trans (pay1 _ _ (x 0) (x 1))).trans ?_
  dsimp only
  have yy : mixed x1 x2 ((Rect.unit (s := S4096x1024) (k0_off2 k) S256x1024.size (k0_off2_inb i k h1)).emb x)
      = if (x 1).val % 128 < 64 then x1 (ix2 (⟨256 * k.val + (x 0).val, y0 ▸ (((Rect.unit (s := S4096x1024) (k0_off2 k) S256x1024.size (k0_off2_inb i k h1)).emb x) 0).isLt⟩ : Fin 4096) (⟨64 * ((x 1).val / 128) + (x 1).val % 64, by omega⟩ : Fin 512))
        else x2 (ix2 (⟨256 * k.val + (x 0).val, y0 ▸ (((Rect.unit (s := S4096x1024) (k0_off2 k) S256x1024.size (k0_off2_inb i k h1)).emb x) 0).isLt⟩ : Fin 4096) (⟨64 * ((x 1).val / 128) + (x 1).val % 64, by omega⟩ : Fin 512)) := by
    unfold mixed
    simp only [y1]
    refine if_congr Iff.rfl (congrArg x1 ?_) (congrArg x2 ?_) <;> exact congrArg (fun r : Fin 4096 => ix2 r _) (Fin.ext y0)
  refine Eq.trans ?_ yy.symm
  refine if_congr Iff.rfl ?_ ?_
  · show arg3.view.read (Elt Ideal) (harg3.unread x1) _ = _
    rw [harg3.read_unread]
    refine congrArg x1 (funext fun a => Fin.ext ?_)
    match a with
    | ⟨0, _⟩ => show k0_off1 k 0 + 1 * (x 0).val = 256 * k.val + (x 0).val; rw [e10]; omega
    | ⟨1, _⟩ => show k0_off1 k 1 + 1 * (64 * ((x 1).val / 128) + (x 1).val % 64) = 64 * ((x 1).val / 128) + (x 1).val % 64; rw [e11]; omega
  · show arg4.view.read (Elt Ideal) (harg4.unread x2) _ = _
    rw [harg4.read_unread]
    refine congrArg x2 (funext fun a => Fin.ext ?_)
    match a with
    | ⟨0, _⟩ => show k0_off1 k 0 + 1 * (x 0).val = 256 * k.val + (x 0).val; rw [e10]; omega
    | ⟨1, _⟩ => show k0_off1 k 1 + 1 * (64 * ((x 1).val / 128) + (x 1).val % 64) = 64 * ((x 1).val / 128) + (x 1).val % 64; rw [e11]; omega

/-- So are those of all trips before `n`. -/
theorem pieces (x1 x2 : Vec Ideal S4096x512 .f32) (i : grid0.Coords) (arg2 : Memref sig .tc .vmem S512x4096 .bf16) (harg2 : arg2.IsWhole) (arg3 : Memref sig .tc .vmem S4096x512 .f32) (harg3 : arg3.IsWhole)
    (arg4 : Memref sig .tc .vmem S4096x512 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x1024 .bf16) (harg7 : arg7.IsWhole)
    (arg8 : Memref sig .tc .vmem S4096x1024 .bf16) (harg8 : arg8.IsWhole)
    (h1 : k0_cond1 i = 1#1) : ∀ n ≤ k0_t1_loop.trips,
    ∀ p ∈ pb_k0_t1 (F := Ideal) Variants.none c none i arg2 harg2 arg3 harg3 arg4 harg4 arg5 harg5 arg6 harg6 arg7 harg7 arg8 harg8 h1 (harg3.unread x1) (harg4.unread x2) n,
      ∀ x, p.2 x = mixed x1 x2 (p.1.emb x)
  | 0, _ => fun p hp => absurd hp List.not_mem_nil
  | n + 1, hn => fun p hp => by
    rw [show n + 1 = (⟨n, hn⟩ : Fin k0_t1_loop.trips).val + 1 from rfl, pb_k0_t1_succ] at hp
    rcases List.mem_append.mp hp with hp | hp
    · exact trip_pieces c x1 x2 i arg2 harg2 arg3 harg3 arg4 harg4 arg5 harg5 arg6 harg6 arg7 harg7 arg8 harg8 h1 _ p hp
    · exact pieces x1 x2 i arg2 harg2 arg3 harg3 arg4 harg4 arg5 harg5 arg6 harg6 arg7 harg7 arg8 harg8 h1 n (Nat.le_of_succ_le hn) p hp

/-- The first row tile of a column leaves the mixed weights in the scratch, -/
theorem first (t : Fin cfg0.N) (h0 : t.val % 17 = 0) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
      = mixed (iblk m c 1 t) (iblk m c 2 t) := by
  funext y
  have hc := scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) y
  exact View.read_writes_apply_of_pieces _ _ (mixed (iblk m c 1 t) (iblk m c 2 t)) _
    (pieces c _ _ (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) k0_t1_loop.trips le_rfl) y hc

/-- and computes with them. -/
theorem first_out (t : Fin cfg0.N) (h0 : t.val % 17 = 0) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
      = k0_pay2 (iblk m c 0 t) (mixed (iblk m c 1 t) (iblk m c 2 t)) (iblk m c 3 t) (iblk m c 4 t) := by
  have e := first m c t h0
  frame_out at e
  frame_out
  refine congrArg (fun x => k0_pay2 (iblk m c 0 t) x (iblk m c 3 t) (iblk m c 4 t)) ?_
  rw [View.readCov_eq_canon', e]
  funext y
  exact congrArg _ (funext fun a => Fin.ext (by match a with | ⟨0, _⟩ => show 0 + 1 * _ = _; omega | ⟨1, _⟩ => show 0 + 1 * _ = _; omega))

/-- The blocks of weights change with the column only. -/
theorem same (k : ℕ) (hn : k + 1 < cfg0.N) (h0 : ¬ (k + 1) % 17 = 0) :
    mixed (iblk m c 1 ⟨k, Nat.lt_of_succ_lt hn⟩) (iblk m c 2 ⟨k, Nat.lt_of_succ_lt hn⟩) = mixed (iblk m c 1 ⟨k + 1, hn⟩) (iblk m c 2 ⟨k + 1, hn⟩) := by
  have hk : k < cfg0.N := Nat.lt_of_succ_lt hn
  refine congrArg₂ mixed ?_ ?_
  · funext y
    idx_vars y
    blk_ext [iblk, V, idx ⟨k, hk⟩, idx ⟨k + 1, hn⟩]
  · funext y
    idx_vars y
    blk_ext [iblk, V, idx ⟨k, hk⟩, idx ⟨k + 1, hn⟩]

/-- Every row tile leaves its mixed weights in the scratch: a later one does not write it, and its blocks are the same as
the first's. -/
theorem held : ∀ (n : ℕ) (hn : n < cfg0.N), (outsAt0 m c n hn).2 = mixed (iblk m c 1 ⟨n, hn⟩) (iblk m c 2 ⟨n, hn⟩)
  | 0, hn => by
    rw [outsAt0_A m c ⟨0, hn⟩ rfl]
    exact first m c ⟨0, hn⟩ rfl
  | k + 1, hn => by
    by_cases h0 : (k + 1) % 17 = 0
    · rw [outsAt0_A m c ⟨k + 1, hn⟩ h0]
      exact first m c ⟨k + 1, hn⟩ h0
    · rw [outsAt0_B m c ⟨k + 1, hn⟩ h0]
      exact (held k (Nat.lt_of_succ_lt hn)).trans (same m c k hn h0)

/-- A later row tile computes with what it finds in the scratch. -/
theorem later_out (t : Fin cfg0.N) (h0 : ¬ t.val % 17 = 0) (xs : Vec Ideal S4096x1024 .bf16) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) xs
      = k0_pay2 (iblk m c 0 t) xs (iblk m c 3 t) (iblk m c 4 t) := by
  frame_out
  exact congrArg (fun x => k0_pay2 (iblk m c 0 t) x (iblk m c 3 t) (iblk m c 4 t)) (read_unread_whole _ _ _)

/-- So every point computes with its mixed weights. -/
theorem out (n : ℕ) (hn : n < cfg0.N) :
    (outsAt0 m c n hn).1 = k0_pay2 (iblk m c 0 ⟨n, hn⟩) (mixed (iblk m c 1 ⟨n, hn⟩) (iblk m c 2 ⟨n, hn⟩)) (iblk m c 3 ⟨n, hn⟩) (iblk m c 4 ⟨n, hn⟩) := by
  by_cases h0 : n % 17 = 0
  · have e := congrArg Prod.fst (outsAt0_A m c ⟨n, hn⟩ h0)
    dsimp only at e
    rw [e]
    exact first_out m c ⟨n, hn⟩ h0
  · obtain ⟨k, rfl⟩ : ∃ k, n = k + 1 := ⟨n - 1, by omega⟩
    have e := congrArg Prod.fst (outsAt0_B m c ⟨k + 1, hn⟩ h0)
    dsimp only at e
    rw [e, later_out m c ⟨k + 1, hn⟩ h0]
    exact congrArg (fun x => k0_pay2 (iblk m c 0 ⟨k + 1, hn⟩) x (iblk m c 3 ⟨k + 1, hn⟩) (iblk m c 4 ⟨k + 1, hn⟩)) ((held m c k (Nat.lt_of_succ_lt hn)).trans (same m c k hn h0))

/-- Two halves, put side by side and twice, at a lane. -/
theorem table (x y : FVec Ideal S8704x32 .f32) (r : Fin 8704) (b : Fin 2) (e : Fin 2) (q : Fin 32) :
    shapeCast S8704x128 (broadcastInDim S1x8704x2x64 ![0, 1, 2, 3] bcast_S1x8704x1x64_S1x8704x2x64_0_1_2_3 fun i =>
        shapeCast S1x8704x1x64 (concatenate S8704x64 1 [⟨S8704x32, x⟩, ⟨S8704x32, y⟩] concatenates_S8704x32_S8704x32_S8704x64_d1) shapeCasts_S8704x64_S1x8704x1x64 i)
      shapeCasts_S1x8704x2x64_S8704x128 (ix2 r (⟨64 * b.val + 32 * e.val + q.val, by omega⟩ : Fin 128))
      = if e.val = 0 then x (ix2 r q) else y (ix2 r q) := by
  pointwise
  by_cases he : e.val = 0
  · have k : (64 * b.val + 32 * e.val + q.val) % 64 = q.val := by omega
    simp only [k, dif_pos q.isLt, if_pos he]
  · have k : (64 * b.val + 32 * e.val + q.val) % 64 = 32 + q.val := by omega
    have k1 : 32 + q.val - 32 = q.val := by omega
    simp only [k, k1, dif_neg (show ¬ 32 + q.val < 32 by omega), if_neg he]

/-- The cosines that the kernel is given, -/
theorem cosines (r : Fin 8704) (b : Fin 2) (e : Fin 2) (q : Fin 32) :
    V m c main_v27 (ix2 r (⟨64 * b.val + 32 * e.val + q.val, by omega⟩ : Fin 128)) = Ideal.cos (ang (ix2 r q)) := by
  entry_read
  exact (table (Host.cos ang) (Host.cos ang) r b e q).trans (ite_self _)

/-- and the sines, the first half's negated. -/
theorem sines (r : Fin 8704) (b : Fin 2) (e : Fin 2) (q : Fin 32) :
    V m c main_v30 (ix2 r (⟨64 * b.val + 32 * e.val + q.val, by omega⟩ : Fin 128)) = if e.val = 0 then - Ideal.sin (ang (ix2 r q)) else Ideal.sin (ang (ix2 r q)) := by
  entry_read
  exact table (Host.negf (Host.sin ang)) (Host.sin ang) r b e q

/-- Which half of a head a lane is in, in words. -/
theorem half : ∀ (a : Fin 16) (e : Fin 2) (q : Fin 32), IntOp.cmpi .slt (IntOp.andi (BitVec.ofNat 32 (64 * a.val + 32 * e.val + q.val)) 63#32) 32#32 = if e.val = 0 then 1#1 else 0#1 := by
  decide +kernel

/-- A table of two heads, eight times side by side. -/
def wide (x : Vec Ideal S512x128 .f32) : FVec Ideal S512x1024 .f32 :=
  concatenate S512x1024 1 (List.replicate 8 (⟨S512x128, shapeCast S512x128 x shapeCasts_S512x128_S512x128⟩ : (s : Shape) × (s.Idx → Ideal .f32))) concatenates_S512x128_S512x128_S512x128_S512x128_S512x128_S512x128_S512x128_S512x128_S512x1024_d1

/-- At a lane: the table at the lane modulo two heads. -/
theorem wide_at (x : Vec Ideal S512x128 .f32) (r : Fin 512) (j : Fin 1024) : wide x (ix2 r j) = x (ix2 r (⟨j.val % 128, by omega⟩ : Fin 128)) := by
  unfold wide
  rw [concatenate_replicate_apply (t := S512x1024) (s₁ := S512x128) 1 8 _ _ rfl (ix2 r j) (ix2 r (⟨j.val % 128, by omega⟩ : Fin 128)) rfl
    (fun b hb => by match b with | ⟨0, _⟩ => rfl | ⟨1, _⟩ => exact absurd rfl hb)]
  pointwise

/-- A row tile's product. -/
def product (h : FVec Ideal S512x4096 .bf16) (w : FVec Ideal S4096x1024 .bf16) : FVec Ideal S512x1024 .f32 :=
  matmul dot_S512x4096_S4096x1024_S512x1024_1_0_0_1_n_n none (shapeCast S512x4096 h shapeCasts_S512x4096_S512x4096 : FVec Ideal S512x4096 .bf16) w (constant S512x1024 .f32 0x00000000#32)

/-- What the kernel stores: the product, each lane times its cosine, and its partner's times its sine. -/
theorem pay2_eq (h : Vec Ideal S512x4096 .bf16) (w : Vec Ideal S4096x1024 .bf16) (x3 x4 : Vec Ideal S512x128 .f32) :
    k0_pay2 h w x3 x4 = truncf (F := Ideal) .bf16 (addf (mulf (product h w) (wide x3)) (mulf (select (cmpi .slt (andi (iota .tc S512x1024 32 [1] iota_S512x1024_d1_w32) (broadcast S512x1024 63#32)) (broadcast S512x1024 32#32))
      (dynamicRotate 1 992#32 none (product h w) rotates_S512x1024_d1) (dynamicRotate 1 32#32 none (product h w) rotates_S512x1024_d1)) (wide x4))) bitsLt_bf16_f32 := rfl

/-- A lane of a head, turned by the kernel: its own product and that of its partner in the other half. -/
theorem pay2 (h : Vec Ideal S512x4096 .bf16) (w : Vec Ideal S4096x1024 .bf16) (x3 x4 : Vec Ideal S512x128 .f32) (r : Fin 512) (a : Fin 16) (e : Fin 2) (q : Fin 32) :
    k0_pay2 h w x3 x4 (ix2 r (⟨64 * a.val + 32 * e.val + q.val, by omega⟩ : Fin 1024))
      = product h w (ix2 r (⟨64 * a.val + 32 * e.val + q.val, by omega⟩ : Fin 1024)) * x3 (ix2 r (⟨64 * (a.val % 2) + 32 * e.val + q.val, by omega⟩ : Fin 128))
        + product h w (ix2 r (⟨64 * a.val + 32 * (1 - e.val) + q.val, by omega⟩ : Fin 1024)) * x4 (ix2 r (⟨64 * (a.val % 2) + 32 * e.val + q.val, by omega⟩ : Fin 128)) := by
  rw [pay2_eq]
  generalize product h w = x
  have hw : ∀ z : Vec Ideal S512x128 .f32, wide z (ix2 r (⟨64 * a.val + 32 * e.val + q.val, by omega⟩ : Fin 1024)) = z (ix2 r (⟨64 * (a.val % 2) + 32 * e.val + q.val, by omega⟩ : Fin 128)) :=
    fun z => (wide_at z r _).trans (congrArg (fun l : Fin 128 => z (ix2 r l)) (Fin.ext (by dsimp only; omega)))
  have h3 := hw x3
  have h4 := hw x4
  generalize wide x3 = w3 at h3 ⊢
  generalize wide x4 = w4 at h4 ⊢
  pointwise
  rw [half, h3, h4]
  have hx : ∀ i j : Fin 1024, i.val = j.val → x (ix2 r i) = x (ix2 r j) := fun i j h => by rw [Fin.ext h]
  refine congrArg₂ (· + ·) rfl (congrArg (· * _) ?_)
  by_cases he : e.val = 0
  · rw [if_pos he]
    exact hx _ _ (by dsimp only; omega)
  · rw [if_neg he]
    exact hx _ _ (by dsimp only; omega)

/-- The row tile's blocks of the two tables, -/
theorem cosines_block (t : Fin cfg0.N) (y : Fin 512) (l : Fin 128) :
    iblk m c 3 t (ix2 y l) = V m c main_v27 (ix2 (⟨512 * (t.val % 17) + y.val, by omega⟩ : Fin 8704) l) := by
  blk_ext [iblk, idx t]
/-- of sines too, -/
theorem sines_block (t : Fin cfg0.N) (y : Fin 512) (l : Fin 128) :
    iblk m c 4 t (ix2 y l) = V m c main_v30 (ix2 (⟨512 * (t.val % 17) + y.val, by omega⟩ : Fin 8704) l) := by
  blk_ext [iblk, idx t]

/-- The column tiles are two. -/
theorem col_lt (t : Fin cfg0.N) : t.val / 17 < 2 := by
  have h : t.val < 34 := lt_of_lt_of_eq t.isLt N_0
  omega

/-- and its product: lane `l` of head `a` of a column tile is the queries' lane `l` of head `a / 2` of the tile's first half,
or of its second, as `a` is even or odd. -/
theorem product_at (t : Fin cfg0.N) (y : Fin 512) (a : Fin 16) (l : Fin 64) :
    product (iblk m c 0 t) (mixed (iblk m c 1 t) (iblk m c 2 t)) (ix2 y (⟨64 * a.val + l.val, by omega⟩ : Fin 1024))
      = part (m ((c : Thread nD τ).loc main_arg0)) (m ((c : Thread nD τ).loc main_arg1))
          (ix2 (⟨512 * (t.val % 17) + y.val, by omega⟩ : Fin 8704) (⟨64 * (16 * (t.val / 17) + 8 * (a.val % 2) + a.val / 2) + l.val, by have := col_lt t; omega⟩ : Fin 2048)) := by
  have hc := col_lt t
  unfold product part
  have hm : ∀ k : Fin 4096, mixed (iblk m c 1 t) (iblk m c 2 t) (ix2 k (⟨64 * a.val + l.val, by omega⟩ : Fin 1024))
      = (m ((c : Thread nD τ).loc main_arg1) : FVec Ideal S4096x14848 .f32) (ix2 k (⟨64 * (16 * (t.val / 17) + 8 * (a.val % 2) + a.val / 2) + l.val, by omega⟩ : Fin 14848)) := by
    intro k
    unfold mixed
    have e1 : (64 * a.val + l.val) / 128 = a.val / 2 := by omega
    have e2 : (64 * a.val + l.val) % 64 = l.val := by omega
    by_cases ha : a.val % 2 = 0
    · refine (if_pos (show (64 * a.val + l.val) % 128 < 64 by omega)).trans ?_
      dsimp only
      blk_ext [iblk, V, idx t]
    · refine (if_neg (show ¬ (64 * a.val + l.val) % 128 < 64 by omega)).trans ?_
      dsimp only
      blk_ext [iblk, V, idx t]
  generalize mixed (iblk m c 1 t) (iblk m c 2 t) = z at hm ⊢
  pointwise
  simp only [hm]
  blk_point [iblk, V, idx t]

/-- To add the product with the opposite is to subtract the product. -/
theorem add_mul_neg (x y z : EReal) : x + y * -z = x - y * z := by
  rw [mul_neg, sub_eq_add_neg]

/-- The queries with their heads in the order in which the kernel leaves them: in each column tile of 16 heads those of its
first half and of its second alternate. -/
def placed (z : FVec Ideal S8704x2048 .bf16) : FVec Ideal S8704x2048 .bf16 := fun y =>
  z (ix2 (y 0) (⟨1024 * ((y 1).val / 1024) + 512 * ((y 1).val % 128 / 64) + 64 * ((y 1).val % 1024 / 128) + (y 1).val % 64,
    by have : (y 1).val < 2048 := (y 1).isLt; omega⟩ : Fin 2048))

/-- At an index. -/
theorem placed_at (z : FVec Ideal S8704x2048 .bf16) (r : Fin 8704) (j : Fin 2048) :
    placed z (ix2 r j) = z (ix2 r (⟨1024 * (j.val / 1024) + 512 * (j.val % 128 / 64) + 64 * (j.val % 1024 / 128) + j.val % 64, by omega⟩ : Fin 2048)) := rfl

/-- The array of window 5 after the run. -/
theorem final : (dats m 0 c).arrAt 5 cfg0.N = placed (queries (m ((c : Thread nD τ).loc main_arg0)) (m ((c : Thread nD τ).loc main_arg1))) := by
  refine (dats m 0 c).arrAt_eq_of_covers 5 _ (by decide +kernel) fun t hf y => ?_
  blk_simp
  rw [after0_5, out m c t.val t.isLt]
  idx_vars y
  have hcol := col_lt t
  have ht : (((View.whole main_v32).slice (win0_5.rect t)).emb (ix2 y0 y1)) = (ix2 (⟨512 * (t.val % 17) + y0.val, by omega⟩ : Fin 8704) (⟨1024 * (t.val / 17) + y1.val, by omega⟩ : Fin 2048)) := by
    blk_ext [idx t]
  rw [ht]
  obtain ⟨a, e, q, rfl⟩ : ∃ (a : Fin 16) (e : Fin 2) (q : Fin 32), y1 = (⟨64 * a.val + 32 * e.val + q.val, by omega⟩ : Fin 1024) :=
    ⟨⟨y1.val / 64, by omega⟩, ⟨y1.val % 64 / 32, by omega⟩, ⟨y1.val % 32, by omega⟩, Fin.ext (by show y1.val = 64 * (y1.val / 64) + 32 * (y1.val % 64 / 32) + y1.val % 32; omega)⟩
  rw [pay2, cosines_block, sines_block]
  have c1 := cosines m c (⟨512 * (t.val % 17) + y0.val, by omega⟩ : Fin 8704) ⟨a.val % 2, by omega⟩ e q
  have c2 := sines m c (⟨512 * (t.val % 17) + y0.val, by omega⟩ : Fin 8704) ⟨a.val % 2, by omega⟩ e q
  have hl : ∀ (f : Fin 2) (i : Fin 1024) (j : Fin 2048), i.val = 64 * a.val + 32 * f.val + q.val → j.val = 64 * (16 * (t.val / 17) + 8 * (a.val % 2) + a.val / 2) + 32 * f.val + q.val →
      product (iblk m c 0 t) (mixed (iblk m c 1 t) (iblk m c 2 t)) (ix2 y0 i)
        = part (m ((c : Thread nD τ).loc main_arg0)) (m ((c : Thread nD τ).loc main_arg1)) (ix2 (⟨512 * (t.val % 17) + y0.val, by omega⟩ : Fin 8704) j) := by
    intro f i j hi hj
    have h := product_at m c t y0 a (⟨32 * f.val + q.val, by omega⟩ : Fin 64)
    refine (congrArg (fun i : Fin 1024 => product (iblk m c 0 t) (mixed (iblk m c 1 t) (iblk m c 2 t)) (ix2 y0 i)) (Fin.ext ?_)).trans (h.trans (congrArg (fun j : Fin 2048 => part (m ((c : Thread nD τ).loc main_arg0)) (m ((c : Thread nD τ).loc main_arg1)) (ix2 (⟨512 * (t.val % 17) + y0.val, by omega⟩ : Fin 8704) j)) (Fin.ext ?_)))
    · dsimp only; omega
    · dsimp only; omega
  have p1 := hl e (⟨64 * a.val + 32 * e.val + q.val, by omega⟩ : Fin 1024) (⟨64 * (16 * (t.val / 17) + 8 * (a.val % 2) + a.val / 2) + 32 * e.val + q.val, by omega⟩ : Fin 2048) rfl rfl
  have p2 := hl ⟨1 - e.val, by omega⟩ (⟨64 * a.val + 32 * (1 - e.val) + q.val, by omega⟩ : Fin 1024) (⟨64 * (16 * (t.val / 17) + 8 * (a.val % 2) + a.val / 2) + 32 * (1 - e.val) + q.val, by omega⟩ : Fin 2048) rfl rfl
  refine (congrArg₂ (· + ·) (congrArg₂ (· * ·) p1 c1) (congrArg₂ (· * ·) p2 c2)).trans ?_
  have hp : placed (queries (m ((c : Thread nD τ).loc main_arg0)) (m ((c : Thread nD τ).loc main_arg1))) (ix2 (⟨512 * (t.val % 17) + y0.val, by omega⟩ : Fin 8704) (⟨1024 * (t.val / 17) + (64 * a.val + 32 * e.val + q.val), by omega⟩ : Fin 2048))
      = turned (part (m ((c : Thread nD τ).loc main_arg0)) (m ((c : Thread nD τ).loc main_arg1))) (ix2 (⟨512 * (t.val % 17) + y0.val, by omega⟩ : Fin 8704) (⟨64 * (⟨16 * (t.val / 17) + 8 * (a.val % 2) + a.val / 2, by omega⟩ : Fin 32).val + 32 * e.val + q.val, by dsimp only; omega⟩ : Fin 2048)) :=
    (placed_at _ _ _).trans <| congrArg (fun j : Fin 2048 => queries (m ((c : Thread nD τ).loc main_arg0)) (m ((c : Thread nD τ).loc main_arg1)) (ix2 (⟨512 * (t.val % 17) + y0.val, by omega⟩ : Fin 8704) j)) (Fin.ext (by dsimp only; omega))
  refine Eq.trans ?_ hp.symm
  rw [turned_at]
  by_cases he : e.val = 0
  · rw [if_pos he, if_pos he]
    exact add_mul_neg _ _ _
  · rw [if_neg he, if_neg he]

/-! ## After the call -/

/-- The host's lines after the call put the heads back in their order. -/
def heads (x : FVec Ideal S8704x2048 .bf16) : FVec Ideal S8704x2048 .bf16 :=
  shapeCast S8704x2048 (transpose S8704x2x2x8x64 [0, 1, 3, 2, 4] (shapeCast S8704x2x8x2x64 x shapeCasts_S8704x2048_S8704x2x8x2x64) transposes_S8704x2x8x2x64_S8704x2x2x8x64_0_1_3_2_4) shapeCasts_S8704x2x2x8x64_S8704x2048

/-- The two orders are each other's inverse. -/
theorem back : ∀ n : Fin 2048,
    1024 * ((n.val / 1024 * 1024 + n.val / 64 % 8 * 128 + n.val / 512 % 2 * 64 + n.val % 64) / 1024) + 512 * ((n.val / 1024 * 1024 + n.val / 64 % 8 * 128 + n.val / 512 % 2 * 64 + n.val % 64) % 128 / 64)
      + 64 * ((n.val / 1024 * 1024 + n.val / 64 % 8 * 128 + n.val / 512 % 2 * 64 + n.val % 64) % 1024 / 128) + (n.val / 1024 * 1024 + n.val / 64 % 8 * 128 + n.val / 512 % 2 * 64 + n.val % 64) % 64 = n.val := by
  decide +kernel

/-- They undo the kernel's order. -/
theorem heads_placed (z : FVec Ideal S8704x2048 .bf16) : heads (placed z) = z := by
  funext y
  idx_vars y
  unfold heads placed
  pointwise
  exact congrArg (fun j : Fin 2048 => z (ix2 y0 j)) (Fin.ext (back y1))

/-- The result after those lines. -/
theorem tail : Pipeline.afterTail₀ cfgs (dats m) 0 (V0 m) [hostOps1] c main_v35 = queries (m ((c : Thread nD τ).loc main_arg0)) (m ((c : Thread nD τ).loc main_arg1)) := by
  have e := (dats m 0 c).withArrays_arrAt sharedIn0 (V0 m c) (A_eq m c) 5
  have h : Pipeline.afterTail₀ cfgs (dats m) 0 (V0 m) [hostOps1] c main_v35 = heads ((dats m 0 c).arrAt 5 cfg0.N) := by
    unfold Pipeline.afterTail₀
    rw [← e]
    simp only [hostOps1, List.flatten_cons, List.flatten_nil, List.append_nil]
    after_results_simp
    rfl
  rw [h, final, heads_placed]

/-- The run: the queries, and the arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v35) = queries (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v35 (Pipeline.mem_restRefs_of main_v35 (by decide) (by decide))).trans (tail m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c)))⟩) (run_main m ρ)

end Cert.ProjQIdeal.Sums

end
-- ==== Proof.AttnSample.lean ====
/- Hand-written. The sample's new windows of keys and values: the old window without its four oldest rows, and the four
   new rows after it. -/
module

public import proofs.«01_k».proof.Defs
public import proofs.«01_k».proof.Proof.Gen.AttnSampleIdeal.Value
public import proofs.«01_k».proof.Proof.Gen.AttnSampleReferenceIdeal.Run
public import Idealize.ShloMosaic.Lib.Pipeline.ValueKit
public import Idealize.ShloMosaic.Lib.Pointwise
public import Idealize.ShloMosaic.Lib.Claim

@[expose] public section

noncomputable section

/-! ## What the reference computes, as a function of its arguments -/

namespace Cert.AttnSampleReferenceIdeal.Sums

open Cert.AttnSampleReferenceIdeal Cert.AttnSampleReferenceIdeal.Gen Idealize.ShloMosaic Idealize.ShloMosaic.TcCoe

/-- The last 128 rows of each sequence's old window and its four new rows, which are rows of `x` from 8192 on. -/
def window (cache : FVec Ideal S128x128x4x64 .f32) (x : FVec Ideal S8704x256 .f32) : FVec Ideal S128x128x256 .f32 :=
  shapeCast S128x128x256 (extractStridedSlice S128x128x4x64 ![0, 4, 0, 0] (concatenate S128x132x4x64 1 [⟨S128x128x4x64, cache⟩, ⟨S128x4x4x64, (shapeCast S128x4x4x64 (extractStridedSlice S512x256 ![8192, 0] x slices_S8704x256_S512x256_8192_0) shapeCasts_S512x256_S128x4x4x64)⟩] concatenates_S128x128x4x64_S128x4x4x64_S128x132x4x64_d1) slices_S128x132x4x64_S128x128x4x64_0_4_0_0) shapeCasts_S128x128x4x64_S128x128x256

/-- Its first 124 rows are the old window's from row 4 on, -/
theorem window_old (cache : FVec Ideal S128x128x4x64 .f32) (x : FVec Ideal S8704x256 .f32) (s : Fin 128) (r : Fin 124) (g : Fin 4) (q : Fin 64) :
    window cache x (ix3 s (⟨r.val, by omega⟩ : Fin 128) (⟨64 * g.val + q.val, by omega⟩ : Fin 256)) = cache (ix4 s (⟨r.val + 4, by omega⟩ : Fin 128) g q) := by
  unfold window
  pointwise
  refine (dif_pos (by omega)).trans ?_
  exact congrArg cache (congrArg (ix4 s · g q) (Fin.ext (Nat.add_comm 4 r.val)))

/-- the last four the sequence's new ones. -/
theorem window_new (cache : FVec Ideal S128x128x4x64 .f32) (x : FVec Ideal S8704x256 .f32) (s : Fin 128) (r : Fin 4) (g : Fin 4) (q : Fin 64) :
    window cache x (ix3 s (⟨124 + r.val, by omega⟩ : Fin 128) (⟨64 * g.val + q.val, by omega⟩ : Fin 256)) = x (ix2 (⟨8192 + 4 * s.val + r.val, by omega⟩ : Fin 8704) (⟨64 * g.val + q.val, by omega⟩ : Fin 256)) := by
  unfold window
  pointwise
  refine (dif_neg (by omega)).trans ?_
  exact congrArg x (congrArg₂ ix2 (Fin.ext (by show 8192 + (s.val * 4 + (4 + (124 + r.val) - 128)) = 8192 + 4 * s.val + r.val; omega))
    (Fin.ext (by show g.val * 64 + q.val = 64 * g.val + q.val; omega)))

end Cert.AttnSampleReferenceIdeal.Sums

/-! ## What the call leaves -/

namespace Cert.AttnSampleIdeal.Sums

open Cert.AttnSampleIdeal Cert.AttnSampleIdeal.Gen Idealize.ShloMosaic Idealize.ShloMosaic.TcCoe Idealize.SL.Sem
open Cert.AttnSampleReferenceIdeal.Sums (window window_old window_new)

/-- A block of eight windows moved on by four rows: rows 4 to 127 of the old one, then the sequence's four new rows. -/
def moved (old : Vec Ideal S8x128x256 .f32) (new : Vec Ideal S32x256 .f32) : Vec Ideal S8x128x256 .f32 := fun y =>
  if h : (y 1).val < 124 then old (ix3 (⟨(y 0).val, (y 0).isLt⟩ : Fin 8) (⟨(y 1).val + 4, by omega⟩ : Fin 128) (⟨(y 2).val, (y 2).isLt⟩ : Fin 256))
  else new (ix2 (⟨4 * (y 0).val + ((y 1).val - 124), by have h0 : (y 0).val < 8 := (y 0).isLt; have h1 : (y 1).val < 128 := (y 1).isLt; omega⟩ : Fin 32) (⟨(y 2).val, (y 2).isLt⟩ : Fin 256))

/-- Taken as a matrix and back, rows are themselves; -/
theorem twice (v : Vec Ideal S1x124x256 .f32) (x : S1x124x256.Idx) :
    (shapeCast S1x124x256 (shapeCast S124x256 v shapeCasts_S1x124x256_S124x256 : Vec Ideal S124x256 .f32) shapeCasts_S124x256_S1x124x256 : Vec Ideal S1x124x256 .f32) x = v x := by
  idx_vars x
  pointwise

/-- a matrix taken as the rows of one sequence is read at its row and column. -/
theorem once (v : Vec Ideal S4x256 .f32) (x : S1x4x256.Idx) :
    (shapeCast S1x4x256 v shapeCasts_S4x256_S1x4x256 : Vec Ideal S1x4x256 .f32) x
      = v (ix2 (⟨(x 1).val, (x 1).isLt⟩ : Fin 4) (⟨(x 2).val, (x 2).isLt⟩ : Fin 256)) := by
  idx_vars x
  pointwise

/-- The old rows a sequence keeps are a block of the moved windows. -/
theorem kept (old : Vec Ideal S8x128x256 .f32) (new : Vec Ideal S32x256 .f32) (b : ℕ)
    (h : ∀ a, (![b, 4, 0] : Fin 3 → ℕ) a + (![1, 124, 256] : Fin 3 → ℕ) a ≤ S8x128x256.size a)
    (h' : ∀ a, (![b, 0, 0] : Fin 3 → ℕ) a + (![1, 124, 256] : Fin 3 → ℕ) a ≤ S8x128x256.size a) (x : S1x124x256.Idx) :
    (shapeCast S1x124x256 (shapeCast S124x256 (View.ld old (Rect.unit (s := S8x128x256) ![b, 4, 0] ![1, 124, 256] h) : Vec Ideal S1x124x256 .f32) shapeCasts_S1x124x256_S124x256 : Vec Ideal S124x256 .f32) shapeCasts_S124x256_S1x124x256 : Vec Ideal S1x124x256 .f32) x
      = moved old new ((Rect.unit (s := S8x128x256) ![b, 0, 0] ![1, 124, 256] h').emb x) := by
  rw [twice _ x]
  have r1 : (x 1).val < 124 := (x 1).isLt
  have y0 : ((Rect.unit (s := S8x128x256) ![b, 0, 0] ![1, 124, 256] h').emb x 0).val = b + 1 * (x 0).val := rfl
  have y1 : ((Rect.unit (s := S8x128x256) ![b, 0, 0] ![1, 124, 256] h').emb x 1).val = 0 + 1 * (x 1).val := rfl
  have y2 : ((Rect.unit (s := S8x128x256) ![b, 0, 0] ![1, 124, 256] h').emb x 2).val = 0 + 1 * (x 2).val := rfl
  unfold moved
  rw [dif_pos (by rw [y1]; omega)]
  refine congrArg old (funext fun a => Fin.ext ?_)
  match a with
  | ⟨0, _⟩ => exact y0.symm
  | ⟨1, _⟩ => show 4 + 1 * (x 1).val = _ + 4; rw [y1]; omega
  | ⟨2, _⟩ => exact y2.symm

/-- and so are its new rows. -/
theorem added (old : Vec Ideal S8x128x256 .f32) (new : Vec Ideal S32x256 .f32) (b r : ℕ) (hr : r = 4 * b)
    (h : ∀ a, (![r, 0] : Fin 2 → ℕ) a + (![4, 256] : Fin 2 → ℕ) a ≤ S32x256.size a)
    (h' : ∀ a, (![b, 124, 0] : Fin 3 → ℕ) a + (![1, 4, 256] : Fin 3 → ℕ) a ≤ S8x128x256.size a) (x : S1x4x256.Idx) :
    (shapeCast S1x4x256 (View.ld new (Rect.unit (s := S32x256) ![r, 0] ![4, 256] h) : Vec Ideal S4x256 .f32) shapeCasts_S4x256_S1x4x256 : Vec Ideal S1x4x256 .f32) x
      = moved old new ((Rect.unit (s := S8x128x256) ![b, 124, 0] ![1, 4, 256] h').emb x) := by
  have r0 : (x 0).val < 1 := (x 0).isLt
  have r1 : (x 1).val < 4 := (x 1).isLt
  rw [once _ x]
  have y0 : ((Rect.unit (s := S8x128x256) ![b, 124, 0] ![1, 4, 256] h').emb x 0).val = b + 1 * (x 0).val := rfl
  have y1 : ((Rect.unit (s := S8x128x256) ![b, 124, 0] ![1, 4, 256] h').emb x 1).val = 124 + 1 * (x 1).val := rfl
  have y2 : ((Rect.unit (s := S8x128x256) ![b, 124, 0] ![1, 4, 256] h').emb x 2).val = 0 + 1 * (x 2).val := rfl
  unfold moved
  rw [dif_neg (by rw [y1]; omega)]
  refine congrArg new (funext fun a => Fin.ext ?_)
  match a with
  | ⟨0, _⟩ => show r + 1 * (x 1).val = 4 * _ + (_ - 124); rw [y0, y1]; omega
  | ⟨1, _⟩ => exact y2.symm

/-- Eight windows stored one after the other, each as its kept and its new rows, are the moved windows. -/
theorem stored (old : Vec Ideal S8x128x256 .f32) (new : Vec Ideal S32x256 .f32) (L : List (View.Piece (Elt Ideal) S8x128x256 .f32))
    (hL : ∀ p ∈ L, ∀ x : p.1.shape.Idx, p.2 x = moved old new (p.1.emb x)) (hc : View.Piece.tiledBy L ![1, 4, 256] = true) :
    View.canon L = moved old new :=
  funext fun y => View.canon_apply_of_pieces _ L hL y (View.cover_of_tiledBy L ![1, 4, 256] hc y)

variable (m : (ℓ : Loc nD τ sig) → Buf (Elt Ideal) ℓ) (c : Dev nD)

/-- Point `t` leaves the keys of eight sequences moved on, -/
theorem keys_block (t : Fin cfg0.N) : (outsAt0 m c t).2.1 = moved (iblk m c 4 t) (iblk m c 2 t) := by
  unfold outsAt0
  dsimp only
  frame_out
  refine stored _ _ _ (
    List.forall_mem_cons.mpr ⟨fun x => added (iblk m c 4 t) (iblk m c 2 t) 7 28 rfl (by decide) (by decide) x, List.forall_mem_cons.mpr ⟨fun x => kept (iblk m c 4 t) (iblk m c 2 t) 7 (by decide) (by decide) x,
    List.forall_mem_cons.mpr ⟨fun x => added (iblk m c 4 t) (iblk m c 2 t) 6 24 rfl (by decide) (by decide) x, List.forall_mem_cons.mpr ⟨fun x => kept (iblk m c 4 t) (iblk m c 2 t) 6 (by decide) (by decide) x,
    List.forall_mem_cons.mpr ⟨fun x => added (iblk m c 4 t) (iblk m c 2 t) 5 20 rfl (by decide) (by decide) x, List.forall_mem_cons.mpr ⟨fun x => kept (iblk m c 4 t) (iblk m c 2 t) 5 (by decide) (by decide) x,
    List.forall_mem_cons.mpr ⟨fun x => added (iblk m c 4 t) (iblk m c 2 t) 4 16 rfl (by decide) (by decide) x, List.forall_mem_cons.mpr ⟨fun x => kept (iblk m c 4 t) (iblk m c 2 t) 4 (by decide) (by decide) x,
    List.forall_mem_cons.mpr ⟨fun x => added (iblk m c 4 t) (iblk m c 2 t) 3 12 rfl (by decide) (by decide) x, List.forall_mem_cons.mpr ⟨fun x => kept (iblk m c 4 t) (iblk m c 2 t) 3 (by decide) (by decide) x,
    List.forall_mem_cons.mpr ⟨fun x => added (iblk m c 4 t) (iblk m c 2 t) 2 8 rfl (by decide) (by decide) x, List.forall_mem_cons.mpr ⟨fun x => kept (iblk m c 4 t) (iblk m c 2 t) 2 (by decide) (by decide) x,
    List.forall_mem_cons.mpr ⟨fun x => added (iblk m c 4 t) (iblk m c 2 t) 1 4 rfl (by decide) (by decide) x, List.forall_mem_cons.mpr ⟨fun x => kept (iblk m c 4 t) (iblk m c 2 t) 1 (by decide) (by decide) x,
    List.forall_mem_cons.mpr ⟨fun x => added (iblk m c 4 t) (iblk m c 2 t) 0 0 rfl (by decide) (by decide) x, List.forall_mem_cons.mpr ⟨fun x => kept (iblk m c 4 t) (iblk m c 2 t) 0 (by decide) (by decide) x,
    fun _ h => absurd h List.not_mem_nil⟩⟩⟩⟩⟩⟩⟩⟩⟩⟩⟩⟩⟩⟩⟩⟩) (by sl_kernel_rfl)

/-- and their values. -/
theorem values_block (t : Fin cfg0.N) : (outsAt0 m c t).2.2 = moved (iblk m c 5 t) (iblk m c 3 t) := by
  unfold outsAt0
  dsimp only
  frame_out
  refine stored _ _ _ (
    List.forall_mem_cons.mpr ⟨fun x => added (iblk m c 5 t) (iblk m c 3 t) 7 28 rfl (by decide) (by decide) x, List.forall_mem_cons.mpr ⟨fun x => kept (iblk m c 5 t) (iblk m c 3 t) 7 (by decide) (by decide) x,
    List.forall_mem_cons.mpr ⟨fun x => added (iblk m c 5 t) (iblk m c 3 t) 6 24 rfl (by decide) (by decide) x, List.forall_mem_cons.mpr ⟨fun x => kept (iblk m c 5 t) (iblk m c 3 t) 6 (by decide) (by decide) x,
    List.forall_mem_cons.mpr ⟨fun x => added (iblk m c 5 t) (iblk m c 3 t) 5 20 rfl (by decide) (by decide) x, List.forall_mem_cons.mpr ⟨fun x => kept (iblk m c 5 t) (iblk m c 3 t) 5 (by decide) (by decide) x,
    List.forall_mem_cons.mpr ⟨fun x => added (iblk m c 5 t) (iblk m c 3 t) 4 16 rfl (by decide) (by decide) x, List.forall_mem_cons.mpr ⟨fun x => kept (iblk m c 5 t) (iblk m c 3 t) 4 (by decide) (by decide) x,
    List.forall_mem_cons.mpr ⟨fun x => added (iblk m c 5 t) (iblk m c 3 t) 3 12 rfl (by decide) (by decide) x, List.forall_mem_cons.mpr ⟨fun x => kept (iblk m c 5 t) (iblk m c 3 t) 3 (by decide) (by decide) x,
    List.forall_mem_cons.mpr ⟨fun x => added (iblk m c 5 t) (iblk m c 3 t) 2 8 rfl (by decide) (by decide) x, List.forall_mem_cons.mpr ⟨fun x => kept (iblk m c 5 t) (iblk m c 3 t) 2 (by decide) (by decide) x,
    List.forall_mem_cons.mpr ⟨fun x => added (iblk m c 5 t) (iblk m c 3 t) 1 4 rfl (by decide) (by decide) x, List.forall_mem_cons.mpr ⟨fun x => kept (iblk m c 5 t) (iblk m c 3 t) 1 (by decide) (by decide) x,
    List.forall_mem_cons.mpr ⟨fun x => added (iblk m c 5 t) (iblk m c 3 t) 0 0 rfl (by decide) (by decide) x, List.forall_mem_cons.mpr ⟨fun x => kept (iblk m c 5 t) (iblk m c 3 t) 0 (by decide) (by decide) x,
    fun _ h => absurd h List.not_mem_nil⟩⟩⟩⟩⟩⟩⟩⟩⟩⟩⟩⟩⟩⟩⟩⟩) (by sl_kernel_rfl)

/-- There are 16 points. -/
theorem count (t : Fin cfg0.N) : t.val < 16 := t.isLt

/-- Where the windows' blocks lie. -/
theorem idx : ∀ t : Fin cfg0.N, win0_2.index t = ![256 + t.val, 0] ∧ win0_3.index t = ![256 + t.val, 0]
    ∧ win0_4.index t = ![t.val, 0, 0] ∧ win0_5.index t = ![t.val, 0, 0] ∧ win0_7.index t = ![t.val, 0, 0]
    ∧ win0_8.index t = ![t.val, 0, 0] := by decide +kernel

/-- A block of old keys is eight sequences of them, -/
theorem old_keys_block_at (t : Fin cfg0.N) (s : Fin 8) (r : Fin 128) (g : Fin 4) (q : Fin 64) :
    iblk m c 4 t (ix3 s r (⟨64 * g.val + q.val, by omega⟩ : Fin 256))
      = m ((c : Thread nD τ).loc main_arg3) (ix4 (⟨8 * t.val + s.val, by have := count t; omega⟩ : Fin 128) r g q) := by
  have e : iblk m c 4 t (ix3 s r (⟨64 * g.val + q.val, by omega⟩ : Fin 256))
      = V m c main_v1 (ix3 (⟨8 * t.val + s.val, by have := count t; omega⟩ : Fin 128) r (⟨64 * g.val + q.val, by omega⟩ : Fin 256)) := by
    blk_ext [iblk, idx t]
  rw [e]
  entry_read
  pointwise

/-- and a block of old values. -/
theorem old_values_block_at (t : Fin cfg0.N) (s : Fin 8) (r : Fin 128) (g : Fin 4) (q : Fin 64) :
    iblk m c 5 t (ix3 s r (⟨64 * g.val + q.val, by omega⟩ : Fin 256))
      = m ((c : Thread nD τ).loc main_arg4) (ix4 (⟨8 * t.val + s.val, by have := count t; omega⟩ : Fin 128) r g q) := by
  have e : iblk m c 5 t (ix3 s r (⟨64 * g.val + q.val, by omega⟩ : Fin 256))
      = V m c main_v2 (ix3 (⟨8 * t.val + s.val, by have := count t; omega⟩ : Fin 128) r (⟨64 * g.val + q.val, by omega⟩ : Fin 256)) := by
    blk_ext [iblk, idx t]
  rw [e]
  entry_read
  pointwise

/-- The array of the new windows of keys after the run, -/
theorem final_keys : (dats m 0 c).arrAt 7 cfg0.N = window (m ((c : Thread nD τ).loc main_arg3)) (m ((c : Thread nD τ).loc main_arg1)) := by
  refine (dats m 0 c).arrAt_eq_of_covers 7 _ (by decide +kernel) fun t hf y => ?_
  have ht : t.val < 16 := t.isLt
  have h4 : ∀ r : Fin 4, 124 + r.val < 128 := fun r => by omega
  blk_simp
  rw [after0_7, keys_block m c t]
  idx_vars y
  have hy : (((View.whole main_v8_1).slice (win0_7.rect t)).emb (ix3 y0 y1 y2)) = (ix3 (⟨8 * t.val + y0.val, by omega⟩ : Fin 128) y1 y2) := by
    blk_ext [idx t]
  rw [hy]
  obtain ⟨g, q, rfl⟩ : ∃ (g : Fin 4) (q : Fin 64), y2 = (⟨64 * g.val + q.val, by omega⟩ : Fin 256) :=
    ⟨⟨y2.val / 64, by omega⟩, ⟨y2.val % 64, by omega⟩, Fin.ext (by show y2.val = 64 * (y2.val / 64) + y2.val % 64; omega)⟩
  unfold moved
  by_cases h : y1.val < 124
  · refine (dif_pos h).trans ?_
    refine (old_keys_block_at m c t y0 (⟨y1.val + 4, by omega⟩ : Fin 128) g q).trans ?_
    exact (window_old _ _ (⟨8 * t.val + y0.val, by omega⟩ : Fin 128) (⟨y1.val, h⟩ : Fin 124) g q).symm
  · refine (dif_neg h).trans ?_
    obtain ⟨r, rfl⟩ : ∃ r : Fin 4, y1 = (⟨124 + r.val, h4 r⟩ : Fin 128) :=
      ⟨⟨y1.val - 124, by omega⟩, Fin.ext (by show y1.val = 124 + (y1.val - 124); omega)⟩
    refine Eq.trans ?_ (window_new _ _ (⟨8 * t.val + y0.val, by omega⟩ : Fin 128) r g q).symm
    blk_ext [iblk, V, idx t]

/-- and that of values. -/
theorem final_values : (dats m 0 c).arrAt 8 cfg0.N = window (m ((c : Thread nD τ).loc main_arg4)) (m ((c : Thread nD τ).loc main_arg2)) := by
  refine (dats m 0 c).arrAt_eq_of_covers 8 _ (by decide +kernel) fun t hf y => ?_
  have ht : t.val < 16 := t.isLt
  have h4 : ∀ r : Fin 4, 124 + r.val < 128 := fun r => by omega
  blk_simp
  rw [after0_8, values_block m c t]
  idx_vars y
  have hy : (((View.whole main_v8_2).slice (win0_8.rect t)).emb (ix3 y0 y1 y2)) = (ix3 (⟨8 * t.val + y0.val, by omega⟩ : Fin 128) y1 y2) := by
    blk_ext [idx t]
  rw [hy]
  obtain ⟨g, q, rfl⟩ : ∃ (g : Fin 4) (q : Fin 64), y2 = (⟨64 * g.val + q.val, by omega⟩ : Fin 256) :=
    ⟨⟨y2.val / 64, by omega⟩, ⟨y2.val % 64, by omega⟩, Fin.ext (by show y2.val = 64 * (y2.val / 64) + y2.val % 64; omega)⟩
  unfold moved
  by_cases h : y1.val < 124
  · refine (dif_pos h).trans ?_
    refine (old_values_block_at m c t y0 (⟨y1.val + 4, by omega⟩ : Fin 128) g q).trans ?_
    exact (window_old _ _ (⟨8 * t.val + y0.val, by omega⟩ : Fin 128) (⟨y1.val, h⟩ : Fin 124) g q).symm
  · refine (dif_neg h).trans ?_
    obtain ⟨r, rfl⟩ : ∃ r : Fin 4, y1 = (⟨124 + r.val, h4 r⟩ : Fin 128) :=
      ⟨⟨y1.val - 124, by omega⟩, Fin.ext (by show y1.val = 124 + (y1.val - 124); omega)⟩
    refine Eq.trans ?_ (window_new _ _ (⟨8 * t.val + y0.val, by omega⟩ : Fin 128) r g q).symm
    blk_ext [iblk, V, idx t]

end Cert.AttnSampleIdeal.Sums

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import proofs.«01_k».proof.Proof.Gen.FfnOut
public import proofs.«01_k».proof.Proof.Gen.FfnOutIdeal
public import proofs.«01_k».proof.Proof.Gen.FfnOutReferenceIdeal
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnOutReferenceIdeal.Run
public import proofs.«01_k».proof.Proof.FfnOut
public import proofs.«01_k».proof.Proof.Gen.NormPrompt
public import proofs.«01_k».proof.Proof.Gen.NormPromptIdeal
public import proofs.«01_k».proof.Proof.Gen.NormPromptReferenceIdeal
public import proofs.«01_k».proof.Proof.Gen.NormPrompt.Frame
public import proofs.«01_k».proof.Proof.Gen.NormPromptIdeal.Frame
public import proofs.«01_k».proof.Proof.Gen.NormPromptIdeal.Value
public import proofs.«01_k».proof.Proof.Gen.NormPromptReferenceIdeal.Run
public import proofs.«01_k».proof.Proof.NormPrompt
public import proofs.«01_k».proof.Proof.Gen.NormSample
public import proofs.«01_k».proof.Proof.Gen.NormSampleIdeal
public import proofs.«01_k».proof.Proof.Gen.NormSampleReferenceIdeal
public import proofs.«01_k».proof.Proof.Gen.NormSample.Frame
public import proofs.«01_k».proof.Proof.Gen.NormSampleIdeal.Frame
public import proofs.«01_k».proof.Proof.Gen.NormSampleIdeal.Value
public import proofs.«01_k».proof.Proof.Gen.NormSampleReferenceIdeal.Run
public import proofs.«01_k».proof.Proof.NormSample
public import proofs.«01_k».proof.Proof.Gen.Gates
public import proofs.«01_k».proof.Proof.Gen.GatesIdeal
public import proofs.«01_k».proof.Proof.Gen.GatesReferenceIdeal
public import proofs.«01_k».proof.Proof.Gen.Gates.Frame
public import proofs.«01_k».proof.Proof.Gen.GatesIdeal.Frame
public import proofs.«01_k».proof.Proof.Gen.GatesIdeal.Value
public import proofs.«01_k».proof.Proof.Gen.GatesReferenceIdeal.Run
public import proofs.«01_k».proof.Proof.Gates
public import proofs.«01_k».proof.Proof.Gen.Merge
public import proofs.«01_k».proof.Proof.Gen.MergeIdeal
public import proofs.«01_k».proof.Proof.Gen.MergeReferenceIdeal
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Merge
public import proofs.«01_k».proof.Proof.Gen.OutProj
public import proofs.«01_k».proof.Proof.Gen.OutProjIdeal
public import proofs.«01_k».proof.Proof.Gen.OutProjReferenceIdeal
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal.Run
public import proofs.«01_k».proof.Proof.OutProj
public import proofs.«01_k».proof.Proof.Gen.ProjKv
public import proofs.«01_k».proof.Proof.Gen.ProjKvIdeal
public import proofs.«01_k».proof.Proof.Gen.ProjKvReferenceIdeal
public import proofs.«01_k».proof.Proof.Gen.ProjKv.Frame
public import proofs.«01_k».proof.Proof.Gen.ProjKvIdeal.Frame
public import proofs.«01_k».proof.Proof.Gen.ProjKvIdeal.Value
public import proofs.«01_k».proof.Proof.Gen.ProjKvReferenceIdeal.Run
public import proofs.«01_k».proof.Proof.ProjKv
public import proofs.«01_k».proof.Proof.Gen.ProjGlu
public import proofs.«01_k».proof.Proof.Gen.ProjGluIdeal
public import proofs.«01_k».proof.Proof.Gen.ProjGluReferenceIdeal
public import proofs.«01_k».proof.Proof.Gen.ProjGlu.Frame
public import proofs.«01_k».proof.Proof.Gen.ProjGluIdeal.Frame
public import proofs.«01_k».proof.Proof.Gen.ProjGluIdeal.Value
public import proofs.«01_k».proof.Proof.Gen.ProjGluReferenceIdeal.Run
public import proofs.«01_k».proof.Proof.ProjGlu
public import proofs.«01_k».proof.Proof.Gen.ConvSample
public import proofs.«01_k».proof.Proof.Gen.ConvSampleIdeal
public import proofs.«01_k».proof.Proof.Gen.ConvSampleReferenceIdeal
public import proofs.«01_k».proof.Proof.Gen.ConvSample.Frame
public import proofs.«01_k».proof.Proof.Gen.ConvSampleIdeal.Frame
public import proofs.«01_k».proof.Proof.Gen.ConvSampleIdeal.Value
public import proofs.«01_k».proof.Proof.Gen.ConvSampleReferenceIdeal.Run
public import proofs.«01_k».proof.Proof.ConvSample
public import proofs.«01_k».proof.Proof.Gen.ProjQ
public import proofs.«01_k».proof.Proof.Gen.ProjQIdeal
public import proofs.«01_k».proof.Proof.Gen.ProjQReferenceIdeal
public import proofs.«01_k».proof.Proof.Gen.ProjQ.Frame
public import proofs.«01_k».proof.Proof.Gen.ProjQIdeal.Frame
public import proofs.«01_k».proof.Proof.Gen.ProjQReferenceIdeal.Run
public import proofs.«01_k».proof.Proof.ProjQ
public import proofs.«01_k».proof.Proof.Gen.AttnSample
public import proofs.«01_k».proof.Proof.Gen.AttnSampleIdeal
public import proofs.«01_k».proof.Proof.Gen.AttnSampleReferenceIdeal
public import proofs.«01_k».proof.Proof.Gen.AttnSample.Frame
public import proofs.«01_k».proof.Proof.Gen.AttnSampleIdeal.Frame
public import proofs.«01_k».proof.Proof.Gen.AttnSampleIdeal.Value
public import proofs.«01_k».proof.Proof.Gen.AttnSampleReferenceIdeal.Run
public import proofs.«01_k».proof.Proof.AttnSample

@[expose] public section

noncomputable section

namespace Cert.Proof

open Idealize.ShloMosaic Idealize.ShloMosaic.TcCoe Idealize.SL.Sem

/-- The kernel as printed, over float words: it ends, its arguments unchanged, every counter at zero. -/
theorem frame_kernel : Cert.quiescent_Kernel := fun m ρ _ =>
  (θ_run Cert.KernelIdeal.defs _ _).mono (fun _ h => ⟨fun c => ⟨(h.1 c).arg0, (h.1 c).arg1, (h.1 c).arg2⟩, h.2⟩)
    (Cert.KernelIdeal.Pipe.run_main (F := Bits) m ρ)
/-- The same of the ideal kernel. -/
theorem frame_ideal : Cert.quiescent_KernelIdeal := fun m ρ _ =>
  (θ_run Cert.KernelIdeal.defs _ _).mono (fun _ h => ⟨fun c => ⟨(h.1 c).arg0, (h.1 c).arg1, (h.1 c).arg2⟩, h.2⟩)
    (Cert.KernelIdeal.Pipe.run_main (F := Ideal) m ρ)
/-- The same of the reference. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- Over the extended reals kernel and reference, of the same arguments, end with the same two arrays: the gated
    product of the activations and the weights, and the cast of the output weights. -/
theorem algebraic : Cert.algebraic_KernelIdeal_ReferenceIdeal := fun m ρ m' ρ' _ e =>
  ⟨fun c => Cert.KernelIdeal.Pipe.gated (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Pipe.casted (m ((c.tc : Thread Cert.KernelIdeal.nD Cert.KernelIdeal.τ).loc Cert.KernelIdeal.main_arg2)),
    (θ_run Cert.KernelIdeal.defs _ _).mono
      (fun _ h c => ⟨Cert.KernelIdeal.Pipe.out0_eq m c (h.1 c), Cert.KernelIdeal.Pipe.out1_eq m c (h.1 c), (h.1 c).arg0, (h.1 c).arg1, (h.1 c).arg2⟩)
      (Cert.KernelIdeal.Pipe.run_main (F := Ideal) m ρ),
    (θ_run Cert.ReferenceIdeal.defs _ _).mono
      (fun _ h c => ⟨(h c).1.trans ((Cert.KernelIdeal.Pipe.ref_gated _ _).trans (congrArg₂ Cert.KernelIdeal.Pipe.gated (e c).1 (e c).2.1)),
        (h c).2.1.trans (congrArg Cert.KernelIdeal.Pipe.casted (e c).2.2), (h c).2.2⟩)
      (Cert.ReferenceIdeal.Value.run m' ρ')⟩

/-! ### FfnOut: the residual and the product of the gated activations with the output weights -/

/-- FfnOut as printed, over float words, ends, its arguments unchanged, every counter at zero. -/
theorem frame_ffn_out : Cert.quiescent_FfnOut := fun m ρ _ => Cert.FfnOut.Gen.frame m ρ
/-- The same of the ideal FfnOut. -/
theorem frame_ffn_out_ideal : Cert.quiescent_FfnOutIdeal := fun m ρ _ => Cert.FfnOutIdeal.Gen.frame m ρ
/-- The same of its reference. -/
theorem frame_ffn_out_reference : Cert.quiescent_FfnOutReferenceIdeal := fun m ρ _ =>
  (θ_run Cert.FfnOutReferenceIdeal.defs _ _).mono (fun r h => ⟨fun c => (h c).2, sem_eq_zero_of_no_sems (by decide) r.2⟩)
    (Cert.FfnOutReferenceIdeal.Value.run m ρ)

/-- Kernel and reference end with the same: the residual and the product of the gated activations with the output weights. -/
theorem algebraic_ffn_out : Cert.algebraic_FfnOutIdeal_FfnOutReferenceIdeal := fun m ρ m' ρ' _ e =>
  ⟨fun c => Cert.FfnOutIdeal.Sums.sums (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2)),
    (θ_run Cert.FfnOutIdeal.defs _ _).mono
      (fun _ h c => ⟨(h c).1.trans (Cert.FfnOutIdeal.Sums.final m c), (h c).2⟩)
      (Cert.FfnOutIdeal.Value.run_blocks m ρ),
    (θ_run Cert.FfnOutReferenceIdeal.defs _ _).mono
      (fun _ h c => by
        obtain ⟨e0, e1, e2⟩ := e c
        exact ⟨(h c).1.trans (((Cert.FfnOutIdeal.Sums.ref_sums _ _ _).trans (by rw [e0, e1, e2] <;> rfl))), (h c).2⟩)
      (Cert.FfnOutReferenceIdeal.Value.run m' ρ')⟩

/-! ### NormPrompt: the normalised rows of the prompt -/

/-- NormPrompt as printed, over float words, ends, its arguments unchanged, every counter at zero. -/
theorem frame_norm_prompt : Cert.quiescent_NormPrompt := fun m ρ _ => Cert.NormPrompt.Gen.frame m ρ
/-- The same of the ideal NormPrompt. -/
theorem frame_norm_prompt_ideal : Cert.quiescent_NormPromptIdeal := fun m ρ _ => Cert.NormPromptIdeal.Gen.frame m ρ
/-- The same of its reference. -/
theorem frame_norm_prompt_reference : Cert.quiescent_NormPromptReferenceIdeal := fun m ρ _ =>
  (θ_run Cert.NormPromptReferenceIdeal.defs _ _).mono (fun r h => ⟨fun c => (h c).2, sem_eq_zero_of_no_sems (by decide) r.2⟩)
    (Cert.NormPromptReferenceIdeal.Value.run m ρ)

/-- Kernel and reference end with the same: the normalised rows of the prompt. -/
theorem algebraic_norm_prompt : Cert.algebraic_NormPromptIdeal_NormPromptReferenceIdeal := fun m ρ m' ρ' _ e =>
  ⟨fun c => Cert.NormPromptIdeal.Sums.normed (m ((c.tc : Thread Cert.NormPromptIdeal.nD Cert.NormPromptIdeal.τ).loc Cert.NormPromptIdeal.main_arg0)) (m ((c.tc : Thread Cert.NormPromptIdeal.nD Cert.NormPromptIdeal.τ).loc Cert.NormPromptIdeal.main_arg1)),
    (θ_run Cert.NormPromptIdeal.defs _ _).mono
      (fun _ h c => ⟨(h c).1.trans (Cert.NormPromptIdeal.Sums.final m c), (h c).2⟩)
      (Cert.NormPromptIdeal.Value.run_blocks m ρ),
    (θ_run Cert.NormPromptReferenceIdeal.defs _ _).mono
      (fun _ h c => by
        obtain ⟨e0, e1⟩ := e c
        exact ⟨(h c).1.trans (by rw [e0, e1] <;> rfl), (h c).2⟩)
      (Cert.NormPromptReferenceIdeal.Value.run m' ρ')⟩

/-! ### NormSample: the normalised rows of the sample -/

/-- NormSample as printed, over float words, ends, its arguments unchanged, every counter at zero. -/
theorem frame_norm_sample : Cert.quiescent_NormSample := fun m ρ _ => Cert.NormSample.Gen.frame m ρ
/-- The same of the ideal NormSample. -/
theorem frame_norm_sample_ideal : Cert.quiescent_NormSampleIdeal := fun m ρ _ => Cert.NormSampleIdeal.Gen.frame m ρ
/-- The same of its reference. -/
theorem frame_norm_sample_reference : Cert.quiescent_NormSampleReferenceIdeal := fun m ρ _ =>
  (θ_run Cert.NormSampleReferenceIdeal.defs _ _).mono (fun r h => ⟨fun c => (h c).2, sem_eq_zero_of_no_sems (by decide) r.2⟩)
    (Cert.NormSampleReferenceIdeal.Value.run m ρ)

/-- Kernel and reference end with the same: the normalised rows of the sample. -/
theorem algebraic_norm_sample : Cert.algebraic_NormSampleIdeal_NormSampleReferenceIdeal := fun m ρ m' ρ' _ e =>
  ⟨fun c => Cert.NormSampleIdeal.Sums.normed (m ((c.tc : Thread Cert.NormSampleIdeal.nD Cert.NormSampleIdeal.τ).loc Cert.NormSampleIdeal.main_arg0)) (m ((c.tc : Thread Cert.NormSampleIdeal.nD Cert.NormSampleIdeal.τ).loc Cert.NormSampleIdeal.main_arg1)),
    (θ_run Cert.NormSampleIdeal.defs _ _).mono
      (fun _ h c => ⟨(h c).1.trans (Cert.NormSampleIdeal.Sums.final m c), (h c).2⟩)
      (Cert.NormSampleIdeal.Value.run_blocks m ρ),
    (θ_run Cert.NormSampleReferenceIdeal.defs _ _).mono
      (fun _ h c => by
        obtain ⟨e0, e1⟩ := e c
        exact ⟨(h c).1.trans (by rw [e0, e1] <;> rfl), (h c).2⟩)
      (Cert.NormSampleReferenceIdeal.Value.run m' ρ')⟩

/-! ### Gates: the gates, and the casts of two output weights -/

/-- Gates as printed, over float words, ends, its arguments unchanged, every counter at zero. -/
theorem frame_gates : Cert.quiescent_Gates := fun m ρ _ => Cert.Gates.Gen.frame m ρ
/-- The same of the ideal Gates. -/
theorem frame_gates_ideal : Cert.quiescent_GatesIdeal := fun m ρ _ => Cert.GatesIdeal.Gen.frame m ρ
/-- The same of its reference. -/
theorem frame_gates_reference : Cert.quiescent_GatesReferenceIdeal := fun m ρ _ =>
  (θ_run Cert.GatesReferenceIdeal.defs _ _).mono (fun r h => ⟨fun c => (h c).2.2.2, sem_eq_zero_of_no_sems (by decide) r.2⟩)
    (Cert.GatesReferenceIdeal.Value.run m ρ)

/-- Kernel and reference end with the same: the gates, and the casts of two output weights. -/
theorem algebraic_gates : Cert.algebraic_GatesIdeal_GatesReferenceIdeal := fun m ρ m' ρ' _ e =>
  ⟨fun c => Cert.GatesReferenceIdeal.Sums.gates (m ((c.tc : Thread Cert.GatesIdeal.nD Cert.GatesIdeal.τ).loc Cert.GatesIdeal.main_arg0)) (m ((c.tc : Thread Cert.GatesIdeal.nD Cert.GatesIdeal.τ).loc Cert.GatesIdeal.main_arg1)),
    fun c => Cert.GatesReferenceIdeal.Sums.conv_weights (m ((c.tc : Thread Cert.GatesIdeal.nD Cert.GatesIdeal.τ).loc Cert.GatesIdeal.main_arg3)),
    fun c => Cert.GatesReferenceIdeal.Sums.out_weights (m ((c.tc : Thread Cert.GatesIdeal.nD Cert.GatesIdeal.τ).loc Cert.GatesIdeal.main_arg4)),
    (θ_run Cert.GatesIdeal.defs _ _).mono
      (fun _ h c => ⟨(h c).1.trans (Cert.GatesIdeal.Sums.final_gates m c), (h c).2.2.1.trans (Cert.GatesIdeal.Sums.final_conv_weights m c), (h c).2.2.2.1.trans (Cert.GatesIdeal.Sums.final_out_weights m c), (h c).2.2.2.2⟩)
      (Cert.GatesIdeal.Value.run_blocks m ρ),
    (θ_run Cert.GatesReferenceIdeal.defs _ _).mono
      (fun _ h c => by
        obtain ⟨e0, e1, e2, e3, e4⟩ := e c
        exact ⟨(h c).1.trans (by rw [e0, e1] <;> rfl),
          (h c).2.1.trans (by rw [e3] <;> rfl),
          (h c).2.2.1.trans (by rw [e4] <;> rfl), (h c).2.2.2⟩)
      (Cert.GatesReferenceIdeal.Value.run m' ρ')⟩

/-! ### Merge: the two branches gated and added, and the cast of half of the FFN's input weights -/

/-- Merge as printed, over float words, ends, its arguments unchanged, every counter at zero. -/
theorem frame_merge : Cert.quiescent_Merge := fun m ρ _ => Cert.Merge.Gen.frame m ρ
/-- The same of the ideal Merge. -/
theorem frame_merge_ideal : Cert.quiescent_MergeIdeal := fun m ρ _ => Cert.MergeIdeal.Gen.frame m ρ
/-- The same of its reference. -/
theorem frame_merge_reference : Cert.quiescent_MergeReferenceIdeal := fun m ρ _ =>
  (θ_run Cert.MergeReferenceIdeal.defs _ _).mono (fun r h => ⟨fun c => (h c).2.2, sem_eq_zero_of_no_sems (by decide) r.2⟩)
    (Cert.MergeReferenceIdeal.Value.run m ρ)

/-- Kernel and reference end with the same: the two branches gated and added, and the cast of half of the FFN's input weights. -/
theorem algebraic_merge : Cert.algebraic_MergeIdeal_MergeReferenceIdeal := fun m ρ m' ρ' _ e =>
  ⟨fun c => Cert.MergeReferenceIdeal.Sums.merged (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)),
    fun c => Cert.MergeReferenceIdeal.Sums.gate_weights (m ((c.tc : Thread Cert.MergeIdeal.nD Cert.MergeIdeal.τ).loc Cert.MergeIdeal.main_arg7)),
    (θ_run Cert.MergeIdeal.defs _ _).mono
      (fun _ h c => ⟨(h c).1.trans (Cert.MergeIdeal.Sums.final_merged m c), (h c).2.1.trans (Cert.MergeIdeal.Sums.final_gate_weights m c), (h c).2.2⟩)
      (Cert.MergeIdeal.Value.run_blocks m ρ),
    (θ_run Cert.MergeReferenceIdeal.defs _ _).mono
      (fun _ h c => by
        obtain ⟨e0, e1, e2, e3, e4, e5, e6, e7⟩ := e c
        exact ⟨(h c).1.trans (by rw [e0, e1, e2, e3, e4, e5, e6] <;> rfl),
          (h c).2.1.trans (by rw [e7] <;> rfl), (h c).2.2⟩)
      (Cert.MergeReferenceIdeal.Value.run m' ρ')⟩

/-! ### OutProj: the residual and the mixers' output product, and the cast of the other half of the FFN's input weights -/

/-- OutProj as printed, over float words, ends, its arguments unchanged, every counter at zero. -/
theorem frame_out_proj : Cert.quiescent_OutProj := fun m ρ _ => Cert.OutProj.Gen.frame m ρ
/-- The same of the ideal OutProj. -/
theorem frame_out_proj_ideal : Cert.quiescent_OutProjIdeal := fun m ρ _ => Cert.OutProjIdeal.Gen.frame m ρ
/-- The same of its reference. -/
theorem frame_out_proj_reference : Cert.quiescent_OutProjReferenceIdeal := fun m ρ _ =>
  (θ_run Cert.OutProjReferenceIdeal.defs _ _).mono (fun r h => ⟨fun c => (h c).2.2, sem_eq_zero_of_no_sems (by decide) r.2⟩)
    (Cert.OutProjReferenceIdeal.Value.run m ρ)

/-- Kernel and reference end with the same: the residual and the mixers' output product, and the cast of the other half of the FFN's input weights. -/
theorem algebraic_out_proj : Cert.algebraic_OutProjIdeal_OutProjReferenceIdeal := fun m ρ m' ρ' _ e =>
  ⟨fun c => Cert.OutProjReferenceIdeal.Sums.projected (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)),
    fun c => Cert.OutProjReferenceIdeal.Sums.up_weights (m ((c.tc : Thread Cert.OutProjIdeal.nD Cert.OutProjIdeal.τ).loc Cert.OutProjIdeal.main_arg4)),
    (θ_run Cert.OutProjIdeal.defs _ _).mono
      (fun _ h c => ⟨(h c).1.trans (Cert.OutProjIdeal.Sums.final_projected m c), (h c).2.1.trans (Cert.OutProjIdeal.Sums.final_up_weights m c), (h c).2.2⟩)
      (Cert.OutProjIdeal.Value.run_blocks m ρ),
    (θ_run Cert.OutProjReferenceIdeal.defs _ _).mono
      (fun _ h c => by
        obtain ⟨e0, e1, e2, e3, e4⟩ := e c
        exact ⟨(h c).1.trans (by rw [e0, e1, e2, e3] <;> rfl),
          (h c).2.1.trans (by rw [e4] <;> rfl), (h c).2.2⟩)
      (Cert.OutProjReferenceIdeal.Value.run m' ρ')⟩

/-! ### ProjKv: the rotated keys and the values -/

/-- ProjKv as printed, over float words, ends, its arguments unchanged, every counter at zero. -/
theorem frame_proj_kv : Cert.quiescent_ProjKv := fun m ρ _ => Cert.ProjKv.Gen.frame m ρ
/-- The same of the ideal ProjKv. -/
theorem frame_proj_kv_ideal : Cert.quiescent_ProjKvIdeal := fun m ρ _ => Cert.ProjKvIdeal.Gen.frame m ρ
/-- The same of its reference. -/
theorem frame_proj_kv_reference : Cert.quiescent_ProjKvReferenceIdeal := fun m ρ _ =>
  (θ_run Cert.ProjKvReferenceIdeal.defs _ _).mono (fun r h => ⟨fun c => (h c).2.2, sem_eq_zero_of_no_sems (by decide) r.2⟩)
    (Cert.ProjKvReferenceIdeal.Value.run m ρ)

/-- Kernel and reference end with the same: the rotated keys and the values. -/
theorem algebraic_proj_kv : Cert.algebraic_ProjKvIdeal_ProjKvReferenceIdeal := fun m ρ m' ρ' _ e =>
  ⟨fun c => Cert.ProjKvReferenceIdeal.Sums.keys (m ((c.tc : Thread Cert.ProjKvIdeal.nD Cert.ProjKvIdeal.τ).loc Cert.ProjKvIdeal.main_arg0)) (m ((c.tc : Thread Cert.ProjKvIdeal.nD Cert.ProjKvIdeal.τ).loc Cert.ProjKvIdeal.main_arg1)),
    fun c => Cert.ProjKvReferenceIdeal.Sums.values (m ((c.tc : Thread Cert.ProjKvIdeal.nD Cert.ProjKvIdeal.τ).loc Cert.ProjKvIdeal.main_arg0)) (m ((c.tc : Thread Cert.ProjKvIdeal.nD Cert.ProjKvIdeal.τ).loc Cert.ProjKvIdeal.main_arg1)),
    (θ_run Cert.ProjKvIdeal.defs _ _).mono
      (fun _ h c => ⟨(h c).1.trans (Cert.ProjKvIdeal.Sums.final_keys m c), (h c).2.1.trans (Cert.ProjKvIdeal.Sums.final_values m c), (h c).2.2⟩)
      (Cert.ProjKvIdeal.Value.run_blocks m ρ),
    (θ_run Cert.ProjKvReferenceIdeal.defs _ _).mono
      (fun _ h c => by
        obtain ⟨e0, e1⟩ := e c
        exact ⟨(h c).1.trans (((Cert.ProjKvReferenceIdeal.Sums.ref_keys _ _).trans (by rw [e0, e1] <;> rfl))),
          (h c).2.1.trans (by rw [e0, e1] <;> rfl), (h c).2.2⟩)
      (Cert.ProjKvReferenceIdeal.Value.run m' ρ')⟩

/-! ### ProjGlu: the gated input of the convolution -/

/-- ProjGlu as printed, over float words, ends, its arguments unchanged, every counter at zero. -/
theorem frame_proj_glu : Cert.quiescent_ProjGlu := fun m ρ _ => Cert.ProjGlu.Gen.frame m ρ
/-- The same of the ideal ProjGlu. -/
theorem frame_proj_glu_ideal : Cert.quiescent_ProjGluIdeal := fun m ρ _ => Cert.ProjGluIdeal.Gen.frame m ρ
/-- The same of its reference. -/
theorem frame_proj_glu_reference : Cert.quiescent_ProjGluReferenceIdeal := fun m ρ _ =>
  (θ_run Cert.ProjGluReferenceIdeal.defs _ _).mono (fun r h => ⟨fun c => (h c).2, sem_eq_zero_of_no_sems (by decide) r.2⟩)
    (Cert.ProjGluReferenceIdeal.Value.run m ρ)

/-- Kernel and reference end with the same: the gated input of the convolution. -/
theorem algebraic_proj_glu : Cert.algebraic_ProjGluIdeal_ProjGluReferenceIdeal := fun m ρ m' ρ' _ e =>
  ⟨fun c => Cert.ProjGluReferenceIdeal.Sums.glu (m ((c.tc : Thread Cert.ProjGluIdeal.nD Cert.ProjGluIdeal.τ).loc Cert.ProjGluIdeal.main_arg0)) (m ((c.tc : Thread Cert.ProjGluIdeal.nD Cert.ProjGluIdeal.τ).loc Cert.ProjGluIdeal.main_arg1)),
    (θ_run Cert.ProjGluIdeal.defs _ _).mono
      (fun _ h c => ⟨(h c).1.trans (Cert.ProjGluIdeal.Sums.final m c), (h c).2⟩)
      (Cert.ProjGluIdeal.Value.run_blocks m ρ),
    (θ_run Cert.ProjGluReferenceIdeal.defs _ _).mono
      (fun _ h c => by
        obtain ⟨e0, e1⟩ := e c
        exact ⟨(h c).1.trans (by rw [e0, e1] <;> rfl), (h c).2⟩)
      (Cert.ProjGluReferenceIdeal.Value.run m' ρ')⟩

/-! ### ConvSample: the sample's new state of the convolution -/

/-- ConvSample as printed, over float words, ends, its arguments unchanged, every counter at zero. -/
theorem frame_conv_sample : Cert.quiescent_ConvSample := fun m ρ _ => Cert.ConvSample.Gen.frame m ρ
/-- The same of the ideal ConvSample. -/
theorem frame_conv_sample_ideal : Cert.quiescent_ConvSampleIdeal := fun m ρ _ => Cert.ConvSampleIdeal.Gen.frame m ρ
/-- The same of its reference. -/
theorem frame_conv_sample_reference : Cert.quiescent_ConvSampleReferenceIdeal := fun m ρ _ =>
  (θ_run Cert.ConvSampleReferenceIdeal.defs _ _).mono (fun r h => ⟨fun c => (h c).2, sem_eq_zero_of_no_sems (by decide) r.2⟩)
    (Cert.ConvSampleReferenceIdeal.Value.run m ρ)

/-- Kernel and reference end with the same: the sample's new state of the convolution. -/
theorem algebraic_conv_sample : Cert.algebraic_ConvSampleIdeal_ConvSampleReferenceIdeal := fun m ρ m' ρ' _ e =>
  ⟨fun c => Cert.ConvSampleReferenceIdeal.Sums.state (m ((c.tc : Thread Cert.ConvSampleIdeal.nD Cert.ConvSampleIdeal.τ).loc Cert.ConvSampleIdeal.main_arg1)) (m ((c.tc : Thread Cert.ConvSampleIdeal.nD Cert.ConvSampleIdeal.τ).loc Cert.ConvSampleIdeal.main_arg0)),
    (θ_run Cert.ConvSampleIdeal.defs _ _).mono
      (fun _ h c => ⟨(h c).2.1.trans (Cert.ConvSampleIdeal.Sums.final_state m c), (h c).2.2⟩)
      (Cert.ConvSampleIdeal.Value.run_blocks m ρ),
    (θ_run Cert.ConvSampleReferenceIdeal.defs _ _).mono
      (fun _ h c => by
        obtain ⟨e0, e1, e2, e3, e4, e5⟩ := e c
        exact ⟨(h c).1.trans (by rw [e1, e0] <;> rfl), (h c).2⟩)
      (Cert.ConvSampleReferenceIdeal.Value.run m' ρ')⟩

/-! ### AttnSample: the sample's new windows of keys and values -/

/-- AttnSample as printed, over float words, ends, its arguments unchanged, every counter at zero. -/
theorem frame_attn_sample : Cert.quiescent_AttnSample := fun m ρ _ => Cert.AttnSample.Gen.frame m ρ
/-- The same of the ideal AttnSample. -/
theorem frame_attn_sample_ideal : Cert.quiescent_AttnSampleIdeal := fun m ρ _ => Cert.AttnSampleIdeal.Gen.frame m ρ
/-- The same of its reference. -/
theorem frame_attn_sample_reference : Cert.quiescent_AttnSampleReferenceIdeal := fun m ρ _ =>
  (θ_run Cert.AttnSampleReferenceIdeal.defs _ _).mono (fun r h => ⟨fun c => (h c).2.2, sem_eq_zero_of_no_sems (by decide) r.2⟩)
    (Cert.AttnSampleReferenceIdeal.Value.run m ρ)

/-- Kernel and reference end with the same: the sample's new windows of keys and values. -/
theorem algebraic_attn_sample : Cert.algebraic_AttnSampleIdeal_AttnSampleReferenceIdeal := fun m ρ m' ρ' _ e =>
  ⟨fun c => Cert.AttnSampleReferenceIdeal.Sums.window (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg1)),
    fun c => Cert.AttnSampleReferenceIdeal.Sums.window (m ((c.tc : Thread Cert.AttnSampleIdeal.nD Cert.AttnSampleIdeal.τ).loc Cert.AttnSampleIdeal.main_arg4)) (m ((c.tc : Thread Cert.AttnSampleIdeal.nD Cert.AttnSampleIdeal.τ).loc Cert.AttnSampleIdeal.main_arg2)),
    (θ_run Cert.AttnSampleIdeal.defs _ _).mono
      (fun _ h c => ⟨(h c).2.1.trans (Cert.AttnSampleIdeal.Sums.final_keys m c), (h c).2.2.1.trans (Cert.AttnSampleIdeal.Sums.final_values m c), (h c).2.2.2⟩)
      (Cert.AttnSampleIdeal.Value.run_blocks m ρ),
    (θ_run Cert.AttnSampleReferenceIdeal.defs _ _).mono
      (fun _ h c => by
        obtain ⟨e0, e1, e2, e3, e4, e5⟩ := e c
        exact ⟨(h c).1.trans (by rw [e3, e1] <;> rfl),
          (h c).2.1.trans (by rw [e4, e2] <;> rfl), (h c).2.2⟩)
      (Cert.AttnSampleReferenceIdeal.Value.run m' ρ')⟩

/-! ### ProjQ: the rotated queries -/

/-- ProjQ as printed, over float words, ends, its arguments unchanged, every counter at zero. -/
theorem frame_proj_q : Cert.quiescent_ProjQ := fun m ρ _ => Cert.ProjQ.Gen.frame m ρ
/-- The same of the ideal ProjQ. -/
theorem frame_proj_q_ideal : Cert.quiescent_ProjQIdeal := fun m ρ _ => Cert.ProjQIdeal.Gen.frame m ρ
/-- The same of its reference. -/
theorem frame_proj_q_reference : Cert.quiescent_ProjQReferenceIdeal := fun m ρ _ =>
  (θ_run Cert.ProjQReferenceIdeal.defs _ _).mono (fun r h => ⟨fun c => (h c).2, sem_eq_zero_of_no_sems (by decide) r.2⟩)
    (Cert.ProjQReferenceIdeal.Value.run m ρ)

/-- Kernel and reference end with the same: the rotated queries. -/
theorem algebraic_proj_q : Cert.algebraic_ProjQIdeal_ProjQReferenceIdeal := fun m ρ m' ρ' _ e =>
  ⟨fun c => Cert.ProjQReferenceIdeal.Sums.queries (m ((c.tc : Thread Cert.ProjQIdeal.nD Cert.ProjQIdeal.τ).loc Cert.ProjQIdeal.main_arg0)) (m ((c.tc : Thread Cert.ProjQIdeal.nD Cert.ProjQIdeal.τ).loc Cert.ProjQIdeal.main_arg1)),
    Cert.ProjQIdeal.Sums.run m ρ,
    (θ_run Cert.ProjQReferenceIdeal.defs _ _).mono
      (fun _ h c => by
        obtain ⟨e0, e1⟩ := e c
        exact ⟨(h c).1.trans ((Cert.ProjQReferenceIdeal.Sums.ref_queries _ _).trans (by rw [e0, e1] <;> rfl)), (h c).2⟩)
      (Cert.ProjQReferenceIdeal.Value.run m' ρ')⟩

theorem claim : Cert.Claim :=
  ⟨Cert.Kernel.Gen.facts, Cert.KernelIdeal.Gen.facts, Cert.ReferenceIdeal.Gen.facts,
    Cert.FfnOut.Gen.facts, Cert.FfnOutIdeal.Gen.facts, Cert.FfnOutReferenceIdeal.Gen.facts,
    Cert.NormPrompt.Gen.facts, Cert.NormPromptIdeal.Gen.facts, Cert.NormPromptReferenceIdeal.Gen.facts,
    Cert.NormSample.Gen.facts, Cert.NormSampleIdeal.Gen.facts, Cert.NormSampleReferenceIdeal.Gen.facts,
    Cert.Gates.Gen.facts, Cert.GatesIdeal.Gen.facts, Cert.GatesReferenceIdeal.Gen.facts,
    Cert.Merge.Gen.facts, Cert.MergeIdeal.Gen.facts, Cert.MergeReferenceIdeal.Gen.facts,
    Cert.OutProj.Gen.facts, Cert.OutProjIdeal.Gen.facts, Cert.OutProjReferenceIdeal.Gen.facts,
    Cert.ProjKv.Gen.facts, Cert.ProjKvIdeal.Gen.facts, Cert.ProjKvReferenceIdeal.Gen.facts,
    Cert.ProjGlu.Gen.facts, Cert.ProjGluIdeal.Gen.facts, Cert.ProjGluReferenceIdeal.Gen.facts,
    Cert.ConvSample.Gen.facts, Cert.ConvSampleIdeal.Gen.facts, Cert.ConvSampleReferenceIdeal.Gen.facts,
    Cert.AttnSample.Gen.facts, Cert.AttnSampleIdeal.Gen.facts, Cert.AttnSampleReferenceIdeal.Gen.facts,
    Cert.ProjQ.Gen.facts, Cert.ProjQIdeal.Gen.facts, Cert.ProjQReferenceIdeal.Gen.facts,
    frame_kernel, frame_ideal, frame_reference,
    frame_ffn_out, frame_ffn_out_ideal, frame_ffn_out_reference,
    frame_norm_prompt, frame_norm_prompt_ideal, frame_norm_prompt_reference,
    frame_norm_sample, frame_norm_sample_ideal, frame_norm_sample_reference,
    frame_gates, frame_gates_ideal, frame_gates_reference,
    frame_merge, frame_merge_ideal, frame_merge_reference,
    frame_out_proj, frame_out_proj_ideal, frame_out_proj_reference,
    frame_proj_kv, frame_proj_kv_ideal, frame_proj_kv_reference,
    frame_proj_glu, frame_proj_glu_ideal, frame_proj_glu_reference,
    frame_conv_sample, frame_conv_sample_ideal, frame_conv_sample_reference,
    frame_attn_sample, frame_attn_sample_ideal, frame_attn_sample_reference,
    frame_proj_q, frame_proj_q_ideal, frame_proj_q_reference,
    trivial, algebraic,
    trivial, algebraic_ffn_out,
    trivial, algebraic_norm_prompt,
    trivial, algebraic_norm_sample,
    trivial, algebraic_gates,
    trivial, algebraic_merge,
    trivial, algebraic_out_proj,
    trivial, algebraic_proj_kv,
    trivial, algebraic_proj_glu,
    trivial, algebraic_conv_sample,
    trivial, algebraic_attn_sample,
    trivial, algebraic_proj_q⟩

end Cert.Proof

end
